-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_q_k [hPre_finite_q_k : Cert.Pre_finite_q_k.Facts] (m : (ℓ : Loc Cert.KernelIdeal.nD Cert.KernelIdeal.τ Cert.KernelIdeal.sig) → Buf (Elt Ideal) ℓ) : Prop :=
  ∀ c : Dev Cert.KernelIdeal.nD,
    (Cert.Pre_finite_q_k.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_q_k [hPre_finite_q_k : Cert.Pre_finite_q_k.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_q_k.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_Experts [hPre_tables_in_range : Cert.Pre_tables_in_range.Facts] (m : (ℓ : Loc Cert.Experts.nD Cert.Experts.τ Cert.Experts.sig) → Buf (Elt Bits) ℓ) : Prop :=
  ∀ c : Dev Cert.Experts.nD,
    (Cert.Pre_tables_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))) = (fun _ => 1#1)

def Pre_ExpertsIdeal [hPre_tables_in_range : Cert.Pre_tables_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))) = (fun _ => 1#1)

def Pre_ReferenceExpertsIdeal (m : (ℓ : Loc Cert.ReferenceExpertsIdeal.nD Cert.ReferenceExpertsIdeal.τ Cert.ReferenceExpertsIdeal.sig) → Buf (Elt Ideal) ℓ) : Prop :=
  True

def Pre_ReferenceExpertsIdeal_tables_in_range [hPre_tables_in_range : Cert.Pre_tables_in_range.Facts] (m : (ℓ : Loc Cert.ReferenceExpertsIdeal.nD Cert.ReferenceExpertsIdeal.τ Cert.ReferenceExpertsIdeal.sig) → Buf (Elt Ideal) ℓ) : Prop :=
  ∀ c : Dev Cert.ReferenceExpertsIdeal.nD,
    (Cert.Pre_tables_in_range.fn (F := Ideal) (m ((c.tc : Thread Cert.ReferenceExpertsIdeal.nD Cert.ReferenceExpertsIdeal.τ).loc Cert.ReferenceExpertsIdeal.main_arg0)) (m ((c.tc : Thread Cert.ReferenceExpertsIdeal.nD Cert.ReferenceExpertsIdeal.τ).loc Cert.ReferenceExpertsIdeal.main_arg1)) (m ((c.tc : Thread Cert.ReferenceExpertsIdeal.nD Cert.ReferenceExpertsIdeal.τ).loc Cert.ReferenceExpertsIdeal.main_arg2)) (m ((c.tc : Thread Cert.ReferenceExpertsIdeal.nD Cert.ReferenceExpertsIdeal.τ).loc Cert.ReferenceExpertsIdeal.main_arg3)) (m ((c.tc : Thread Cert.ReferenceExpertsIdeal.nD Cert.ReferenceExpertsIdeal.τ).loc Cert.ReferenceExpertsIdeal.main_arg4)) (m ((c.tc : Thread Cert.ReferenceExpertsIdeal.nD Cert.ReferenceExpertsIdeal.τ).loc Cert.ReferenceExpertsIdeal.main_arg5)) (m ((c.tc : Thread Cert.ReferenceExpertsIdeal.nD Cert.ReferenceExpertsIdeal.τ).loc Cert.ReferenceExpertsIdeal.main_arg6)) (m ((c.tc : Thread Cert.ReferenceExpertsIdeal.nD Cert.ReferenceExpertsIdeal.τ).loc Cert.ReferenceExpertsIdeal.main_arg7)) (m ((c.tc : Thread Cert.ReferenceExpertsIdeal.nD Cert.ReferenceExpertsIdeal.τ).loc Cert.ReferenceExpertsIdeal.main_arg8))) = (fun _ => 1#1)

def Pre_Tails [hPre_tails_in_range : Cert.Pre_tails_in_range.Facts] (m : (ℓ : Loc Cert.Tails.nD Cert.Tails.τ Cert.Tails.sig) → Buf (Elt Bits) ℓ) : Prop :=
  ∀ c : Dev Cert.Tails.nD,
    (Cert.Pre_tails_in_range.fn (F := Bits) (m ((c.tc : Thread Cert.Tails.nD Cert.Tails.τ).loc Cert.Tails.main_arg0)) (m ((c.tc : Thread Cert.Tails.nD Cert.Tails.τ).loc Cert.Tails.main_arg1)) (m ((c.tc : Thread Cert.Tails.nD Cert.Tails.τ).loc Cert.Tails.main_arg2)) (m ((c.tc : Thread Cert.Tails.nD Cert.Tails.τ).loc Cert.Tails.main_arg3)) (m ((c.tc : Thread Cert.Tails.nD Cert.Tails.τ).loc Cert.Tails.main_arg4)) (m ((c.tc : Thread Cert.Tails.nD Cert.Tails.τ).loc Cert.Tails.main_arg5))) = (fun _ => 1#1)

def Pre_TailsIdeal [hPre_tails_in_range : Cert.Pre_tails_in_range.Facts] (m : (ℓ : Loc Cert.TailsIdeal.nD Cert.TailsIdeal.τ Cert.TailsIdeal.sig) → Buf (Elt Ideal) ℓ) : Prop :=
  ∀ c : Dev Cert.TailsIdeal.nD,
    (Cert.Pre_tails_in_range.fn (F := Ideal) (m ((c.tc : Thread Cert.TailsIdeal.nD Cert.TailsIdeal.τ).loc Cert.TailsIdeal.main_arg0)) (m ((c.tc : Thread Cert.TailsIdeal.nD Cert.TailsIdeal.τ).loc Cert.TailsIdeal.main_arg1)) (m ((c.tc : Thread Cert.TailsIdeal.nD Cert.TailsIdeal.τ).loc Cert.TailsIdeal.main_arg2)) (m ((c.tc : Thread Cert.TailsIdeal.nD Cert.TailsIdeal.τ).loc Cert.TailsIdeal.main_arg3)) (m ((c.tc : Thread Cert.TailsIdeal.nD Cert.TailsIdeal.τ).loc Cert.TailsIdeal.main_arg4)) (m ((c.tc : Thread Cert.TailsIdeal.nD Cert.TailsIdeal.τ).loc Cert.TailsIdeal.main_arg5))) = (fun _ => 1#1)

def Pre_ReferenceTailsIdeal (m : (ℓ : Loc Cert.ReferenceTailsIdeal.nD Cert.ReferenceTailsIdeal.τ Cert.ReferenceTailsIdeal.sig) → Buf (Elt Ideal) ℓ) : Prop :=
  True

def Pre_ReferenceTailsIdeal_tails_in_range [hPre_tails_in_range : Cert.Pre_tails_in_range.Facts] (m : (ℓ : Loc Cert.ReferenceTailsIdeal.nD Cert.ReferenceTailsIdeal.τ Cert.ReferenceTailsIdeal.sig) → Buf (Elt Ideal) ℓ) : Prop :=
  ∀ c : Dev Cert.ReferenceTailsIdeal.nD,
    (Cert.Pre_tails_in_range.fn (F := Ideal) (m ((c.tc : Thread Cert.ReferenceTailsIdeal.nD Cert.ReferenceTailsIdeal.τ).loc Cert.ReferenceTailsIdeal.main_arg0)) (m ((c.tc : Thread Cert.ReferenceTailsIdeal.nD Cert.ReferenceTailsIdeal.τ).loc Cert.ReferenceTailsIdeal.main_arg1)) (m ((c.tc : Thread Cert.ReferenceTailsIdeal.nD Cert.ReferenceTailsIdeal.τ).loc Cert.ReferenceTailsIdeal.main_arg2)) (m ((c.tc : Thread Cert.ReferenceTailsIdeal.nD Cert.ReferenceTailsIdeal.τ).loc Cert.ReferenceTailsIdeal.main_arg3)) (m ((c.tc : Thread Cert.ReferenceTailsIdeal.nD Cert.ReferenceTailsIdeal.τ).loc Cert.ReferenceTailsIdeal.main_arg4)) (m ((c.tc : Thread Cert.ReferenceTailsIdeal.nD Cert.ReferenceTailsIdeal.τ).loc Cert.ReferenceTailsIdeal.main_arg5))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_q_k [hKernelIdeal : Cert.KernelIdeal.Facts] [hPre_finite_q_k : Cert.Pre_finite_q_k.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_q_k m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_q_k [hReferenceIdeal : Cert.ReferenceIdeal.Facts] [hPre_finite_q_k : Cert.Pre_finite_q_k.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_q_k m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6))
      ∧ r.2.sem = fun _ => 0)

def quiescent_Experts [hExperts : Cert.Experts.Facts] [hPre_tables_in_range : Cert.Pre_tables_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] [hPre_tables_in_range : Cert.Pre_tables_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ReferenceExpertsIdeal [hReferenceExpertsIdeal : Cert.ReferenceExpertsIdeal.Facts] : Prop :=
  ∀ (m : (ℓ : Loc Cert.ReferenceExpertsIdeal.nD Cert.ReferenceExpertsIdeal.τ Cert.ReferenceExpertsIdeal.sig) → Buf (Elt Ideal) ℓ) (g : Dev Cert.ReferenceExpertsIdeal.nD → PrngReg), Pre_ReferenceExpertsIdeal m →
    θ_run (Cert.ReferenceExpertsIdeal.defs (F := Ideal)) (onTc (τ := Cert.ReferenceExpertsIdeal.τ) (Cert.ReferenceExpertsIdeal.main (F := Ideal))) ⟨m, fun _ => 0, g⟩ (fun r => (∀ c : Dev Cert.ReferenceExpertsIdeal.nD,
      r.2.mem ((c.tc : Thread Cert.ReferenceExpertsIdeal.nD Cert.ReferenceExpertsIdeal.τ).loc Cert.ReferenceExpertsIdeal.main_arg0) = m ((c.tc : Thread Cert.ReferenceExpertsIdeal.nD Cert.ReferenceExpertsIdeal.τ).loc Cert.ReferenceExpertsIdeal.main_arg0)
      ∧ r.2.mem ((c.tc : Thread Cert.ReferenceExpertsIdeal.nD Cert.ReferenceExpertsIdeal.τ).loc Cert.ReferenceExpertsIdeal.main_arg1) = m ((c.tc : Thread Cert.ReferenceExpertsIdeal.nD Cert.ReferenceExpertsIdeal.τ).loc Cert.ReferenceExpertsIdeal.main_arg1)
      ∧ r.2.mem ((c.tc : Thread Cert.ReferenceExpertsIdeal.nD Cert.ReferenceExpertsIdeal.τ).loc Cert.ReferenceExpertsIdeal.main_arg2) = m ((c.tc : Thread Cert.ReferenceExpertsIdeal.nD Cert.ReferenceExpertsIdeal.τ).loc Cert.ReferenceExpertsIdeal.main_arg2)
      ∧ r.2.mem ((c.tc : Thread Cert.ReferenceExpertsIdeal.nD Cert.ReferenceExpertsIdeal.τ).loc Cert.ReferenceExpertsIdeal.main_arg3) = m ((c.tc : Thread Cert.ReferenceExpertsIdeal.nD Cert.ReferenceExpertsIdeal.τ).loc Cert.ReferenceExpertsIdeal.main_arg3)
      ∧ r.2.mem ((c.tc : Thread Cert.ReferenceExpertsIdeal.nD Cert.ReferenceExpertsIdeal.τ).loc Cert.ReferenceExpertsIdeal.main_arg4) = m ((c.tc : Thread Cert.ReferenceExpertsIdeal.nD Cert.ReferenceExpertsIdeal.τ).loc Cert.ReferenceExpertsIdeal.main_arg4)
      ∧ r.2.mem ((c.tc : Thread Cert.ReferenceExpertsIdeal.nD Cert.ReferenceExpertsIdeal.τ).loc Cert.ReferenceExpertsIdeal.main_arg5) = m ((c.tc : Thread Cert.ReferenceExpertsIdeal.nD Cert.ReferenceExpertsIdeal.τ).loc Cert.ReferenceExpertsIdeal.main_arg5)
      ∧ r.2.mem ((c.tc : Thread Cert.ReferenceExpertsIdeal.nD Cert.ReferenceExpertsIdeal.τ).loc Cert.ReferenceExpertsIdeal.main_arg6) = m ((c.tc : Thread Cert.ReferenceExpertsIdeal.nD Cert.ReferenceExpertsIdeal.τ).loc Cert.ReferenceExpertsIdeal.main_arg6)
      ∧ r.2.mem ((c.tc : Thread Cert.ReferenceExpertsIdeal.nD Cert.ReferenceExpertsIdeal.τ).loc Cert.ReferenceExpertsIdeal.main_arg7) = m ((c.tc : Thread Cert.ReferenceExpertsIdeal.nD Cert.ReferenceExpertsIdeal.τ).loc Cert.ReferenceExpertsIdeal.main_arg7)
      ∧ r.2.mem ((c.tc : Thread Cert.ReferenceExpertsIdeal.nD Cert.ReferenceExpertsIdeal.τ).loc Cert.ReferenceExpertsIdeal.main_arg8) = m ((c.tc : Thread Cert.ReferenceExpertsIdeal.nD Cert.ReferenceExpertsIdeal.τ).loc Cert.ReferenceExpertsIdeal.main_arg8))
      ∧ r.2.sem = fun _ => 0)

def quiescent_ReferenceExpertsIdeal_pre_tables_in_range [hReferenceExpertsIdeal : Cert.ReferenceExpertsIdeal.Facts] [hPre_tables_in_range : Cert.Pre_tables_in_range.Facts] : Prop :=
  ∀ (m : (ℓ : Loc Cert.ReferenceExpertsIdeal.nD Cert.ReferenceExpertsIdeal.τ Cert.ReferenceExpertsIdeal.sig) → Buf (Elt Ideal) ℓ) (g : Dev Cert.ReferenceExpertsIdeal.nD → PrngReg), Pre_ReferenceExpertsIdeal_tables_in_range m →
    θ_run (Cert.ReferenceExpertsIdeal.defs (F := Ideal)) (onTc (τ := Cert.ReferenceExpertsIdeal.τ) (Cert.ReferenceExpertsIdeal.main (F := Ideal))) ⟨m, fun _ => 0, g⟩ (fun r => (∀ c : Dev Cert.ReferenceExpertsIdeal.nD,
      r.2.mem ((c.tc : Thread Cert.ReferenceExpertsIdeal.nD Cert.ReferenceExpertsIdeal.τ).loc Cert.ReferenceExpertsIdeal.main_arg0) = m ((c.tc : Thread Cert.ReferenceExpertsIdeal.nD Cert.ReferenceExpertsIdeal.τ).loc Cert.ReferenceExpertsIdeal.main_arg0)
      ∧ r.2.mem ((c.tc : Thread Cert.ReferenceExpertsIdeal.nD Cert.ReferenceExpertsIdeal.τ).loc Cert.ReferenceExpertsIdeal.main_arg1) = m ((c.tc : Thread Cert.ReferenceExpertsIdeal.nD Cert.ReferenceExpertsIdeal.τ).loc Cert.ReferenceExpertsIdeal.main_arg1)
      ∧ r.2.mem ((c.tc : Thread Cert.ReferenceExpertsIdeal.nD Cert.ReferenceExpertsIdeal.τ).loc Cert.ReferenceExpertsIdeal.main_arg2) = m ((c.tc : Thread Cert.ReferenceExpertsIdeal.nD Cert.ReferenceExpertsIdeal.τ).loc Cert.ReferenceExpertsIdeal.main_arg2)
      ∧ r.2.mem ((c.tc : Thread Cert.ReferenceExpertsIdeal.nD Cert.ReferenceExpertsIdeal.τ).loc Cert.ReferenceExpertsIdeal.main_arg3) = m ((c.tc : Thread Cert.ReferenceExpertsIdeal.nD Cert.ReferenceExpertsIdeal.τ).loc Cert.ReferenceExpertsIdeal.main_arg3)
      ∧ r.2.mem ((c.tc : Thread Cert.ReferenceExpertsIdeal.nD Cert.ReferenceExpertsIdeal.τ).loc Cert.ReferenceExpertsIdeal.main_arg4) = m ((c.tc : Thread Cert.ReferenceExpertsIdeal.nD Cert.ReferenceExpertsIdeal.τ).loc Cert.ReferenceExpertsIdeal.main_arg4)
      ∧ r.2.mem ((c.tc : Thread Cert.ReferenceExpertsIdeal.nD Cert.ReferenceExpertsIdeal.τ).loc Cert.ReferenceExpertsIdeal.main_arg5) = m ((c.tc : Thread Cert.ReferenceExpertsIdeal.nD Cert.ReferenceExpertsIdeal.τ).loc Cert.ReferenceExpertsIdeal.main_arg5)
      ∧ r.2.mem ((c.tc : Thread Cert.ReferenceExpertsIdeal.nD Cert.ReferenceExpertsIdeal.τ).loc Cert.ReferenceExpertsIdeal.main_arg6) = m ((c.tc : Thread Cert.ReferenceExpertsIdeal.nD Cert.ReferenceExpertsIdeal.τ).loc Cert.ReferenceExpertsIdeal.main_arg6)
      ∧ r.2.mem ((c.tc : Thread Cert.ReferenceExpertsIdeal.nD Cert.ReferenceExpertsIdeal.τ).loc Cert.ReferenceExpertsIdeal.main_arg7) = m ((c.tc : Thread Cert.ReferenceExpertsIdeal.nD Cert.ReferenceExpertsIdeal.τ).loc Cert.ReferenceExpertsIdeal.main_arg7)
      ∧ r.2.mem ((c.tc : Thread Cert.ReferenceExpertsIdeal.nD Cert.ReferenceExpertsIdeal.τ).loc Cert.ReferenceExpertsIdeal.main_arg8) = m ((c.tc : Thread Cert.ReferenceExpertsIdeal.nD Cert.ReferenceExpertsIdeal.τ).loc Cert.ReferenceExpertsIdeal.main_arg8))
      ∧ r.2.sem = fun _ => 0)

def quiescent_Tails [hTails : Cert.Tails.Facts] [hPre_tails_in_range : Cert.Pre_tails_in_range.Facts] : Prop :=
  ∀ (m : (ℓ : Loc Cert.Tails.nD Cert.Tails.τ Cert.Tails.sig) → Buf (Elt Bits) ℓ) (g : Dev Cert.Tails.nD → PrngReg), Pre_Tails m →
    θ_run (Cert.Tails.defs (F := Bits)) (onTc (τ := Cert.Tails.τ) (Cert.Tails.main (F := Bits))) ⟨m, fun _ => 0, g⟩ (fun r => (∀ c : Dev Cert.Tails.nD,
      r.2.mem ((c.tc : Thread Cert.Tails.nD Cert.Tails.τ).loc Cert.Tails.main_arg0) = m ((c.tc : Thread Cert.Tails.nD Cert.Tails.τ).loc Cert.Tails.main_arg0)
      ∧ r.2.mem ((c.tc : Thread Cert.Tails.nD Cert.Tails.τ).loc Cert.Tails.main_arg1) = m ((c.tc : Thread Cert.Tails.nD Cert.Tails.τ).loc Cert.Tails.main_arg1)
      ∧ r.2.mem ((c.tc : Thread Cert.Tails.nD Cert.Tails.τ).loc Cert.Tails.main_arg2) = m ((c.tc : Thread Cert.Tails.nD Cert.Tails.τ).loc Cert.Tails.main_arg2)
      ∧ r.2.mem ((c.tc : Thread Cert.Tails.nD Cert.Tails.τ).loc Cert.Tails.main_arg3) = m ((c.tc : Thread Cert.Tails.nD Cert.Tails.τ).loc Cert.Tails.main_arg3)
      ∧ r.2.mem ((c.tc : Thread Cert.Tails.nD Cert.Tails.τ).loc Cert.Tails.main_arg4) = m ((c.tc : Thread Cert.Tails.nD Cert.Tails.τ).loc Cert.Tails.main_arg4)
      ∧ r.2.mem ((c.tc : Thread Cert.Tails.nD Cert.Tails.τ).loc Cert.Tails.main_arg5) = m ((c.tc : Thread Cert.Tails.nD Cert.Tails.τ).loc Cert.Tails.main_arg5))
      ∧ r.2.sem = fun _ => 0)

def quiescent_TailsIdeal [hTailsIdeal : Cert.TailsIdeal.Facts] [hPre_tails_in_range : Cert.Pre_tails_in_range.Facts] : Prop :=
  ∀ (m : (ℓ : Loc Cert.TailsIdeal.nD Cert.TailsIdeal.τ Cert.TailsIdeal.sig) → Buf (Elt Ideal) ℓ) (g : Dev Cert.TailsIdeal.nD → PrngReg), Pre_TailsIdeal m →
    θ_run (Cert.TailsIdeal.defs (F := Ideal)) (onTc (τ := Cert.TailsIdeal.τ) (Cert.TailsIdeal.main (F := Ideal))) ⟨m, fun _ => 0, g⟩ (fun r => (∀ c : Dev Cert.TailsIdeal.nD,
      r.2.mem ((c.tc : Thread Cert.TailsIdeal.nD Cert.TailsIdeal.τ).loc Cert.TailsIdeal.main_arg0) = m ((c.tc : Thread Cert.TailsIdeal.nD Cert.TailsIdeal.τ).loc Cert.TailsIdeal.main_arg0)
      ∧ r.2.mem ((c.tc : Thread Cert.TailsIdeal.nD Cert.TailsIdeal.τ).loc Cert.TailsIdeal.main_arg1) = m ((c.tc : Thread Cert.TailsIdeal.nD Cert.TailsIdeal.τ).loc Cert.TailsIdeal.main_arg1)
      ∧ r.2.mem ((c.tc : Thread Cert.TailsIdeal.nD Cert.TailsIdeal.τ).loc Cert.TailsIdeal.main_arg2) = m ((c.tc : Thread Cert.TailsIdeal.nD Cert.TailsIdeal.τ).loc Cert.TailsIdeal.main_arg2)
      ∧ r.2.mem ((c.tc : Thread Cert.TailsIdeal.nD Cert.TailsIdeal.τ).loc Cert.TailsIdeal.main_arg3) = m ((c.tc : Thread Cert.TailsIdeal.nD Cert.TailsIdeal.τ).loc Cert.TailsIdeal.main_arg3)
      ∧ r.2.mem ((c.tc : Thread Cert.TailsIdeal.nD Cert.TailsIdeal.τ).loc Cert.TailsIdeal.main_arg4) = m ((c.tc : Thread Cert.TailsIdeal.nD Cert.TailsIdeal.τ).loc Cert.TailsIdeal.main_arg4)
      ∧ r.2.mem ((c.tc : Thread Cert.TailsIdeal.nD Cert.TailsIdeal.τ).loc Cert.TailsIdeal.main_arg5) = m ((c.tc : Thread Cert.TailsIdeal.nD Cert.TailsIdeal.τ).loc Cert.TailsIdeal.main_arg5))
      ∧ r.2.sem = fun _ => 0)

def quiescent_ReferenceTailsIdeal [hReferenceTailsIdeal : Cert.ReferenceTailsIdeal.Facts] : Prop :=
  ∀ (m : (ℓ : Loc Cert.ReferenceTailsIdeal.nD Cert.ReferenceTailsIdeal.τ Cert.ReferenceTailsIdeal.sig) → Buf (Elt Ideal) ℓ) (g : Dev Cert.ReferenceTailsIdeal.nD → PrngReg), Pre_ReferenceTailsIdeal m →
    θ_run (Cert.ReferenceTailsIdeal.defs (F := Ideal)) (onTc (τ := Cert.ReferenceTailsIdeal.τ) (Cert.ReferenceTailsIdeal.main (F := Ideal))) ⟨m, fun _ => 0, g⟩ (fun r => (∀ c : Dev Cert.ReferenceTailsIdeal.nD,
      r.2.mem ((c.tc : Thread Cert.ReferenceTailsIdeal.nD Cert.ReferenceTailsIdeal.τ).loc Cert.ReferenceTailsIdeal.main_arg0) = m ((c.tc : Thread Cert.ReferenceTailsIdeal.nD Cert.ReferenceTailsIdeal.τ).loc Cert.ReferenceTailsIdeal.main_arg0)
      ∧ r.2.mem ((c.tc : Thread Cert.ReferenceTailsIdeal.nD Cert.ReferenceTailsIdeal.τ).loc Cert.ReferenceTailsIdeal.main_arg1) = m ((c.tc : Thread Cert.ReferenceTailsIdeal.nD Cert.ReferenceTailsIdeal.τ).loc Cert.ReferenceTailsIdeal.main_arg1)
      ∧ r.2.mem ((c.tc : Thread Cert.ReferenceTailsIdeal.nD Cert.ReferenceTailsIdeal.τ).loc Cert.ReferenceTailsIdeal.main_arg2) = m ((c.tc : Thread Cert.ReferenceTailsIdeal.nD Cert.ReferenceTailsIdeal.τ).loc Cert.ReferenceTailsIdeal.main_arg2)
      ∧ r.2.mem ((c.tc : Thread Cert.ReferenceTailsIdeal.nD Cert.ReferenceTailsIdeal.τ).loc Cert.ReferenceTailsIdeal.main_arg3) = m ((c.tc : Thread Cert.ReferenceTailsIdeal.nD Cert.ReferenceTailsIdeal.τ).loc Cert.ReferenceTailsIdeal.main_arg3)
      ∧ r.2.mem ((c.tc : Thread Cert.ReferenceTailsIdeal.nD Cert.ReferenceTailsIdeal.τ).loc Cert.ReferenceTailsIdeal.main_arg4) = m ((c.tc : Thread Cert.ReferenceTailsIdeal.nD Cert.ReferenceTailsIdeal.τ).loc Cert.ReferenceTailsIdeal.main_arg4)
      ∧ r.2.mem ((c.tc : Thread Cert.ReferenceTailsIdeal.nD Cert.ReferenceTailsIdeal.τ).loc Cert.ReferenceTailsIdeal.main_arg5) = m ((c.tc : Thread Cert.ReferenceTailsIdeal.nD Cert.ReferenceTailsIdeal.τ).loc Cert.ReferenceTailsIdeal.main_arg5))
      ∧ r.2.sem = fun _ => 0)

def quiescent_ReferenceTailsIdeal_pre_tails_in_range [hReferenceTailsIdeal : Cert.ReferenceTailsIdeal.Facts] [hPre_tails_in_range : Cert.Pre_tails_in_range.Facts] : Prop :=
  ∀ (m : (ℓ : Loc Cert.ReferenceTailsIdeal.nD Cert.ReferenceTailsIdeal.τ Cert.ReferenceTailsIdeal.sig) → Buf (Elt Ideal) ℓ) (g : Dev Cert.ReferenceTailsIdeal.nD → PrngReg), Pre_ReferenceTailsIdeal_tails_in_range m →
    θ_run (Cert.ReferenceTailsIdeal.defs (F := Ideal)) (onTc (τ := Cert.ReferenceTailsIdeal.τ) (Cert.ReferenceTailsIdeal.main (F := Ideal))) ⟨m, fun _ => 0, g⟩ (fun r => (∀ c : Dev Cert.ReferenceTailsIdeal.nD,
      r.2.mem ((c.tc : Thread Cert.ReferenceTailsIdeal.nD Cert.ReferenceTailsIdeal.τ).loc Cert.ReferenceTailsIdeal.main_arg0) = m ((c.tc : Thread Cert.ReferenceTailsIdeal.nD Cert.ReferenceTailsIdeal.τ).loc Cert.ReferenceTailsIdeal.main_arg0)
      ∧ r.2.mem ((c.tc : Thread Cert.ReferenceTailsIdeal.nD Cert.ReferenceTailsIdeal.τ).loc Cert.ReferenceTailsIdeal.main_arg1) = m ((c.tc : Thread Cert.ReferenceTailsIdeal.nD Cert.ReferenceTailsIdeal.τ).loc Cert.ReferenceTailsIdeal.main_arg1)
      ∧ r.2.mem ((c.tc : Thread Cert.ReferenceTailsIdeal.nD Cert.ReferenceTailsIdeal.τ).loc Cert.ReferenceTailsIdeal.main_arg2) = m ((c.tc : Thread Cert.ReferenceTailsIdeal.nD Cert.ReferenceTailsIdeal.τ).loc Cert.ReferenceTailsIdeal.main_arg2)
      ∧ r.2.mem ((c.tc : Thread Cert.ReferenceTailsIdeal.nD Cert.ReferenceTailsIdeal.τ).loc Cert.ReferenceTailsIdeal.main_arg3) = m ((c.tc : Thread Cert.ReferenceTailsIdeal.nD Cert.ReferenceTailsIdeal.τ).loc Cert.ReferenceTailsIdeal.main_arg3)
      ∧ r.2.mem ((c.tc : Thread Cert.ReferenceTailsIdeal.nD Cert.ReferenceTailsIdeal.τ).loc Cert.ReferenceTailsIdeal.main_arg4) = m ((c.tc : Thread Cert.ReferenceTailsIdeal.nD Cert.ReferenceTailsIdeal.τ).loc Cert.ReferenceTailsIdeal.main_arg4)
      ∧ r.2.mem ((c.tc : Thread Cert.ReferenceTailsIdeal.nD Cert.ReferenceTailsIdeal.τ).loc Cert.ReferenceTailsIdeal.main_arg5) = m ((c.tc : Thread Cert.ReferenceTailsIdeal.nD Cert.ReferenceTailsIdeal.τ).loc Cert.ReferenceTailsIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_q_k [hKernelIdeal : Cert.KernelIdeal.Facts] [hReferenceIdeal : Cert.ReferenceIdeal.Facts] [hPre_finite_q_k : Cert.Pre_finite_q_k.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_q_k m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_ReferenceFfnIdeal [hFfnIdeal : Cert.FfnIdeal.Facts] [hReferenceFfnIdeal : Cert.ReferenceFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_FfnIdeal m →
    (∀ c : Dev Cert.FfnIdeal.nD,
      m' ((c.tc : Thread Cert.ReferenceFfnIdeal.nD Cert.ReferenceFfnIdeal.τ).loc Cert.ReferenceFfnIdeal.main_arg0) = m ((c.tc : Thread Cert.FfnIdeal.nD Cert.FfnIdeal.τ).loc Cert.FfnIdeal.main_arg0)
      ∧ m' ((c.tc : Thread Cert.ReferenceFfnIdeal.nD Cert.ReferenceFfnIdeal.τ).loc Cert.ReferenceFfnIdeal.main_arg1) = m ((c.tc : Thread Cert.FfnIdeal.nD Cert.FfnIdeal.τ).loc Cert.FfnIdeal.main_arg1)
      ∧ m' ((c.tc : Thread Cert.ReferenceFfnIdeal.nD Cert.ReferenceFfnIdeal.τ).loc Cert.ReferenceFfnIdeal.main_arg2) = m ((c.tc : Thread Cert.FfnIdeal.nD Cert.FfnIdeal.τ).loc Cert.FfnIdeal.main_arg2)
      ∧ m' ((c.tc : Thread Cert.ReferenceFfnIdeal.nD Cert.ReferenceFfnIdeal.τ).loc Cert.ReferenceFfnIdeal.main_arg3) = m ((c.tc : Thread Cert.FfnIdeal.nD Cert.FfnIdeal.τ).loc Cert.FfnIdeal.main_arg3)
      ∧ m' ((c.tc : Thread Cert.ReferenceFfnIdeal.nD Cert.ReferenceFfnIdeal.τ).loc Cert.ReferenceFfnIdeal.main_arg4) = m ((c.tc : Thread Cert.FfnIdeal.nD Cert.FfnIdeal.τ).loc Cert.FfnIdeal.main_arg4)
      ∧ m' ((c.tc : Thread Cert.ReferenceFfnIdeal.nD Cert.ReferenceFfnIdeal.τ).loc Cert.ReferenceFfnIdeal.main_arg5) = m ((c.tc : Thread Cert.FfnIdeal.nD Cert.FfnIdeal.τ).loc Cert.FfnIdeal.main_arg5)
      ∧ m' ((c.tc : Thread Cert.ReferenceFfnIdeal.nD Cert.ReferenceFfnIdeal.τ).loc Cert.ReferenceFfnIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v1_0)) (v1 : (c : Dev Cert.FfnIdeal.nD) → Buf (Elt Ideal) ((c.tc : Thread Cert.FfnIdeal.nD Cert.FfnIdeal.τ).loc Cert.FfnIdeal.main_v1_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1_0) = v0 c
          ∧ r.2.mem ((c.tc : Thread Cert.FfnIdeal.nD Cert.FfnIdeal.τ).loc Cert.FfnIdeal.main_v1_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v43) = v0 c
          ∧ r.2.mem ((c.tc : Thread Cert.ReferenceFfnIdeal.nD Cert.ReferenceFfnIdeal.τ).loc Cert.ReferenceFfnIdeal.main_v45) = v1 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6))

def preserves_Experts_ExpertsIdeal : Prop :=
  True

def algebraic_ExpertsIdeal_ReferenceExpertsIdeal [hExpertsIdeal : Cert.ExpertsIdeal.Facts] [hReferenceExpertsIdeal : Cert.ReferenceExpertsIdeal.Facts] [hPre_tables_in_range : Cert.Pre_tables_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ReferenceExpertsIdeal.nD Cert.ReferenceExpertsIdeal.τ Cert.ReferenceExpertsIdeal.sig) → Buf (Elt Ideal) ℓ) (g' : Dev Cert.ReferenceExpertsIdeal.nD → PrngReg), Pre_ExpertsIdeal m →
    (∀ c : Dev Cert.ExpertsIdeal.nD,
      m' ((c.tc : Thread Cert.ReferenceExpertsIdeal.nD Cert.ReferenceExpertsIdeal.τ).loc Cert.ReferenceExpertsIdeal.main_arg0) = m ((c.tc : Thread Cert.ExpertsIdeal.nD Cert.ExpertsIdeal.τ).loc Cert.ExpertsIdeal.main_arg0)
      ∧ m' ((c.tc : Thread Cert.ReferenceExpertsIdeal.nD Cert.ReferenceExpertsIdeal.τ).loc Cert.ReferenceExpertsIdeal.main_arg1) = m ((c.tc : Thread Cert.ExpertsIdeal.nD Cert.ExpertsIdeal.τ).loc Cert.ExpertsIdeal.main_arg1)
      ∧ m' ((c.tc : Thread Cert.ReferenceExpertsIdeal.nD Cert.ReferenceExpertsIdeal.τ).loc Cert.ReferenceExpertsIdeal.main_arg2) = m ((c.tc : Thread Cert.ExpertsIdeal.nD Cert.ExpertsIdeal.τ).loc Cert.ExpertsIdeal.main_arg2)
      ∧ m' ((c.tc : Thread Cert.ReferenceExpertsIdeal.nD Cert.ReferenceExpertsIdeal.τ).loc Cert.ReferenceExpertsIdeal.main_arg3) = m ((c.tc : Thread Cert.ExpertsIdeal.nD Cert.ExpertsIdeal.τ).loc Cert.ExpertsIdeal.main_arg3)
      ∧ m' ((c.tc : Thread Cert.ReferenceExpertsIdeal.nD Cert.ReferenceExpertsIdeal.τ).loc Cert.ReferenceExpertsIdeal.main_arg4) = m ((c.tc : Thread Cert.ExpertsIdeal.nD Cert.ExpertsIdeal.τ).loc Cert.ExpertsIdeal.main_arg4)
      ∧ m' ((c.tc : Thread Cert.ReferenceExpertsIdeal.nD Cert.ReferenceExpertsIdeal.τ).loc Cert.ReferenceExpertsIdeal.main_arg5) = m ((c.tc : Thread Cert.ExpertsIdeal.nD Cert.ExpertsIdeal.τ).loc Cert.ExpertsIdeal.main_arg5)
      ∧ m' ((c.tc : Thread Cert.ReferenceExpertsIdeal.nD Cert.ReferenceExpertsIdeal.τ).loc Cert.ReferenceExpertsIdeal.main_arg6) = m ((c.tc : Thread Cert.ExpertsIdeal.nD Cert.ExpertsIdeal.τ).loc Cert.ExpertsIdeal.main_arg6)
      ∧ m' ((c.tc : Thread Cert.ReferenceExpertsIdeal.nD Cert.ReferenceExpertsIdeal.τ).loc Cert.ReferenceExpertsIdeal.main_arg7) = m ((c.tc : Thread Cert.ExpertsIdeal.nD Cert.ExpertsIdeal.τ).loc Cert.ExpertsIdeal.main_arg7)
      ∧ m' ((c.tc : Thread Cert.ReferenceExpertsIdeal.nD Cert.ReferenceExpertsIdeal.τ).loc Cert.ReferenceExpertsIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ReferenceExpertsIdeal.defs (F := Ideal)) (onTc (τ := Cert.ReferenceExpertsIdeal.τ) (Cert.ReferenceExpertsIdeal.main (F := Ideal))) ⟨m', fun _ => 0, g'⟩ (fun r => ∀ c : Dev Cert.ReferenceExpertsIdeal.nD,
          r.2.mem ((c.tc : Thread Cert.ReferenceExpertsIdeal.nD Cert.ReferenceExpertsIdeal.τ).loc Cert.ReferenceExpertsIdeal.main_v52) = v0 c
          ∧ r.2.mem ((c.tc : Thread Cert.ReferenceExpertsIdeal.nD Cert.ReferenceExpertsIdeal.τ).loc Cert.ReferenceExpertsIdeal.main_arg0) = m' ((c.tc : Thread Cert.ReferenceExpertsIdeal.nD Cert.ReferenceExpertsIdeal.τ).loc Cert.ReferenceExpertsIdeal.main_arg0)
          ∧ r.2.mem ((c.tc : Thread Cert.ReferenceExpertsIdeal.nD Cert.ReferenceExpertsIdeal.τ).loc Cert.ReferenceExpertsIdeal.main_arg1) = m' ((c.tc : Thread Cert.ReferenceExpertsIdeal.nD Cert.ReferenceExpertsIdeal.τ).loc Cert.ReferenceExpertsIdeal.main_arg1)
          ∧ r.2.mem ((c.tc : Thread Cert.ReferenceExpertsIdeal.nD Cert.ReferenceExpertsIdeal.τ).loc Cert.ReferenceExpertsIdeal.main_arg2) = m' ((c.tc : Thread Cert.ReferenceExpertsIdeal.nD Cert.ReferenceExpertsIdeal.τ).loc Cert.ReferenceExpertsIdeal.main_arg2)
          ∧ r.2.mem ((c.tc : Thread Cert.ReferenceExpertsIdeal.nD Cert.ReferenceExpertsIdeal.τ).loc Cert.ReferenceExpertsIdeal.main_arg3) = m' ((c.tc : Thread Cert.ReferenceExpertsIdeal.nD Cert.ReferenceExpertsIdeal.τ).loc Cert.ReferenceExpertsIdeal.main_arg3)
          ∧ r.2.mem ((c.tc : Thread Cert.ReferenceExpertsIdeal.nD Cert.ReferenceExpertsIdeal.τ).loc Cert.ReferenceExpertsIdeal.main_arg4) = m' ((c.tc : Thread Cert.ReferenceExpertsIdeal.nD Cert.ReferenceExpertsIdeal.τ).loc Cert.ReferenceExpertsIdeal.main_arg4)
          ∧ r.2.mem ((c.tc : Thread Cert.ReferenceExpertsIdeal.nD Cert.ReferenceExpertsIdeal.τ).loc Cert.ReferenceExpertsIdeal.main_arg5) = m' ((c.tc : Thread Cert.ReferenceExpertsIdeal.nD Cert.ReferenceExpertsIdeal.τ).loc Cert.ReferenceExpertsIdeal.main_arg5)
          ∧ r.2.mem ((c.tc : Thread Cert.ReferenceExpertsIdeal.nD Cert.ReferenceExpertsIdeal.τ).loc Cert.ReferenceExpertsIdeal.main_arg6) = m' ((c.tc : Thread Cert.ReferenceExpertsIdeal.nD Cert.ReferenceExpertsIdeal.τ).loc Cert.ReferenceExpertsIdeal.main_arg6)
          ∧ r.2.mem ((c.tc : Thread Cert.ReferenceExpertsIdeal.nD Cert.ReferenceExpertsIdeal.τ).loc Cert.ReferenceExpertsIdeal.main_arg7) = m' ((c.tc : Thread Cert.ReferenceExpertsIdeal.nD Cert.ReferenceExpertsIdeal.τ).loc Cert.ReferenceExpertsIdeal.main_arg7)
          ∧ r.2.mem ((c.tc : Thread Cert.ReferenceExpertsIdeal.nD Cert.ReferenceExpertsIdeal.τ).loc Cert.ReferenceExpertsIdeal.main_arg8) = m' ((c.tc : Thread Cert.ReferenceExpertsIdeal.nD Cert.ReferenceExpertsIdeal.τ).loc Cert.ReferenceExpertsIdeal.main_arg8))

def preserves_Tails_TailsIdeal : Prop :=
  True

def algebraic_TailsIdeal_ReferenceTailsIdeal [hTailsIdeal : Cert.TailsIdeal.Facts] [hReferenceTailsIdeal : Cert.ReferenceTailsIdeal.Facts] [hPre_tails_in_range : Cert.Pre_tails_in_range.Facts] : Prop :=
  ∀ (m : (ℓ : Loc Cert.TailsIdeal.nD Cert.TailsIdeal.τ Cert.TailsIdeal.sig) → Buf (Elt Ideal) ℓ) (g : Dev Cert.TailsIdeal.nD → PrngReg)
    (m' : (ℓ : Loc Cert.ReferenceTailsIdeal.nD Cert.ReferenceTailsIdeal.τ Cert.ReferenceTailsIdeal.sig) → Buf (Elt Ideal) ℓ) (g' : Dev Cert.ReferenceTailsIdeal.nD → PrngReg), Pre_TailsIdeal m →
    (∀ c : Dev Cert.TailsIdeal.nD,
      m' ((c.tc : Thread Cert.ReferenceTailsIdeal.nD Cert.ReferenceTailsIdeal.τ).loc Cert.ReferenceTailsIdeal.main_arg0) = m ((c.tc : Thread Cert.TailsIdeal.nD Cert.TailsIdeal.τ).loc Cert.TailsIdeal.main_arg0)
      ∧ m' ((c.tc : Thread Cert.ReferenceTailsIdeal.nD Cert.ReferenceTailsIdeal.τ).loc Cert.ReferenceTailsIdeal.main_arg1) = m ((c.tc : Thread Cert.TailsIdeal.nD Cert.TailsIdeal.τ).loc Cert.TailsIdeal.main_arg1)
      ∧ m' ((c.tc : Thread Cert.ReferenceTailsIdeal.nD Cert.ReferenceTailsIdeal.τ).loc Cert.ReferenceTailsIdeal.main_arg2) = m ((c.tc : Thread Cert.TailsIdeal.nD Cert.TailsIdeal.τ).loc Cert.TailsIdeal.main_arg2)
      ∧ m' ((c.tc : Thread Cert.ReferenceTailsIdeal.nD Cert.ReferenceTailsIdeal.τ).loc Cert.ReferenceTailsIdeal.main_arg3) = m ((c.tc : Thread Cert.TailsIdeal.nD Cert.TailsIdeal.τ).loc Cert.TailsIdeal.main_arg3)
      ∧ m' ((c.tc : Thread Cert.ReferenceTailsIdeal.nD Cert.ReferenceTailsIdeal.τ).loc Cert.ReferenceTailsIdeal.main_arg4) = m ((c.tc : Thread Cert.TailsIdeal.nD Cert.TailsIdeal.τ).loc Cert.TailsIdeal.main_arg4)
      ∧ m' ((c.tc : Thread Cert.ReferenceTailsIdeal.nD Cert.ReferenceTailsIdeal.τ).loc Cert.ReferenceTailsIdeal.main_arg5) = m ((c.tc : Thread Cert.TailsIdeal.nD Cert.TailsIdeal.τ).loc Cert.TailsIdeal.main_arg5)) →
    ∃ (v0 : (c : Dev Cert.TailsIdeal.nD) → Buf (Elt Ideal) ((c.tc : Thread Cert.TailsIdeal.nD Cert.TailsIdeal.τ).loc Cert.TailsIdeal.main_v0_0)) (v1 : (c : Dev Cert.TailsIdeal.nD) → Buf (Elt Ideal) ((c.tc : Thread Cert.TailsIdeal.nD Cert.TailsIdeal.τ).loc Cert.TailsIdeal.main_v0_1)) (v2 : (c : Dev Cert.TailsIdeal.nD) → Buf (Elt Ideal) ((c.tc : Thread Cert.TailsIdeal.nD Cert.TailsIdeal.τ).loc Cert.TailsIdeal.main_v0_2)) (v3 : (c : Dev Cert.TailsIdeal.nD) → Buf (Elt Ideal) ((c.tc : Thread Cert.TailsIdeal.nD Cert.TailsIdeal.τ).loc Cert.TailsIdeal.main_v0_3)),
      θ_run (Cert.TailsIdeal.defs (F := Ideal)) (onTc (τ := Cert.TailsIdeal.τ) (Cert.TailsIdeal.main (F := Ideal))) ⟨m, fun _ => 0, g⟩ (fun r => ∀ c : Dev Cert.TailsIdeal.nD,
          r.2.mem ((c.tc : Thread Cert.TailsIdeal.nD Cert.TailsIdeal.τ).loc Cert.TailsIdeal.main_v0_0) = v0 c
          ∧ r.2.mem ((c.tc : Thread Cert.TailsIdeal.nD Cert.TailsIdeal.τ).loc Cert.TailsIdeal.main_v0_1) = v1 c
          ∧ r.2.mem ((c.tc : Thread Cert.TailsIdeal.nD Cert.TailsIdeal.τ).loc Cert.TailsIdeal.main_v0_2) = v2 c
          ∧ r.2.mem ((c.tc : Thread Cert.TailsIdeal.nD Cert.TailsIdeal.τ).loc Cert.TailsIdeal.main_v0_3) = v3 c
          ∧ r.2.mem ((c.tc : Thread Cert.TailsIdeal.nD Cert.TailsIdeal.τ).loc Cert.TailsIdeal.main_arg0) = m ((c.tc : Thread Cert.TailsIdeal.nD Cert.TailsIdeal.τ).loc Cert.TailsIdeal.main_arg0)
          ∧ r.2.mem ((c.tc : Thread Cert.TailsIdeal.nD Cert.TailsIdeal.τ).loc Cert.TailsIdeal.main_arg1) = m ((c.tc : Thread Cert.TailsIdeal.nD Cert.TailsIdeal.τ).loc Cert.TailsIdeal.main_arg1)
          ∧ r.2.mem ((c.tc : Thread Cert.TailsIdeal.nD Cert.TailsIdeal.τ).loc Cert.TailsIdeal.main_arg2) = m ((c.tc : Thread Cert.TailsIdeal.nD Cert.TailsIdeal.τ).loc Cert.TailsIdeal.main_arg2)
          ∧ r.2.mem ((c.tc : Thread Cert.TailsIdeal.nD Cert.TailsIdeal.τ).loc Cert.TailsIdeal.main_arg3) = m ((c.tc : Thread Cert.TailsIdeal.nD Cert.TailsIdeal.τ).loc Cert.TailsIdeal.main_arg3)
          ∧ r.2.mem ((c.tc : Thread Cert.TailsIdeal.nD Cert.TailsIdeal.τ).loc Cert.TailsIdeal.main_arg4) = m ((c.tc : Thread Cert.TailsIdeal.nD Cert.TailsIdeal.τ).loc Cert.TailsIdeal.main_arg4)
          ∧ r.2.mem ((c.tc : Thread Cert.TailsIdeal.nD Cert.TailsIdeal.τ).loc Cert.TailsIdeal.main_arg5) = m ((c.tc : Thread Cert.TailsIdeal.nD Cert.TailsIdeal.τ).loc Cert.TailsIdeal.main_arg5))
      ∧ θ_run (Cert.ReferenceTailsIdeal.defs (F := Ideal)) (onTc (τ := Cert.ReferenceTailsIdeal.τ) (Cert.ReferenceTailsIdeal.main (F := Ideal))) ⟨m', fun _ => 0, g'⟩ (fun r => ∀ c : Dev Cert.ReferenceTailsIdeal.nD,
          r.2.mem ((c.tc : Thread Cert.ReferenceTailsIdeal.nD Cert.ReferenceTailsIdeal.τ).loc Cert.ReferenceTailsIdeal.main_v25) = v0 c
          ∧ r.2.mem ((c.tc : Thread Cert.ReferenceTailsIdeal.nD Cert.ReferenceTailsIdeal.τ).loc Cert.ReferenceTailsIdeal.main_v26) = v1 c
          ∧ r.2.mem ((c.tc : Thread Cert.ReferenceTailsIdeal.nD Cert.ReferenceTailsIdeal.τ).loc Cert.ReferenceTailsIdeal.main_v27) = v2 c
          ∧ r.2.mem ((c.tc : Thread Cert.ReferenceTailsIdeal.nD Cert.ReferenceTailsIdeal.τ).loc Cert.ReferenceTailsIdeal.main_v28) = v3 c
          ∧ r.2.mem ((c.tc : Thread Cert.ReferenceTailsIdeal.nD Cert.ReferenceTailsIdeal.τ).loc Cert.ReferenceTailsIdeal.main_arg0) = m' ((c.tc : Thread Cert.ReferenceTailsIdeal.nD Cert.ReferenceTailsIdeal.τ).loc Cert.ReferenceTailsIdeal.main_arg0)
          ∧ r.2.mem ((c.tc : Thread Cert.ReferenceTailsIdeal.nD Cert.ReferenceTailsIdeal.τ).loc Cert.ReferenceTailsIdeal.main_arg1) = m' ((c.tc : Thread Cert.ReferenceTailsIdeal.nD Cert.ReferenceTailsIdeal.τ).loc Cert.ReferenceTailsIdeal.main_arg1)
          ∧ r.2.mem ((c.tc : Thread Cert.ReferenceTailsIdeal.nD Cert.ReferenceTailsIdeal.τ).loc Cert.ReferenceTailsIdeal.main_arg2) = m' ((c.tc : Thread Cert.ReferenceTailsIdeal.nD Cert.ReferenceTailsIdeal.τ).loc Cert.ReferenceTailsIdeal.main_arg2)
          ∧ r.2.mem ((c.tc : Thread Cert.ReferenceTailsIdeal.nD Cert.ReferenceTailsIdeal.τ).loc Cert.ReferenceTailsIdeal.main_arg3) = m' ((c.tc : Thread Cert.ReferenceTailsIdeal.nD Cert.ReferenceTailsIdeal.τ).loc Cert.ReferenceTailsIdeal.main_arg3)
          ∧ r.2.mem ((c.tc : Thread Cert.ReferenceTailsIdeal.nD Cert.ReferenceTailsIdeal.τ).loc Cert.ReferenceTailsIdeal.main_arg4) = m' ((c.tc : Thread Cert.ReferenceTailsIdeal.nD Cert.ReferenceTailsIdeal.τ).loc Cert.ReferenceTailsIdeal.main_arg4)
          ∧ r.2.mem ((c.tc : Thread Cert.ReferenceTailsIdeal.nD Cert.ReferenceTailsIdeal.τ).loc Cert.ReferenceTailsIdeal.main_arg5) = m' ((c.tc : Thread Cert.ReferenceTailsIdeal.nD Cert.ReferenceTailsIdeal.τ).loc Cert.ReferenceTailsIdeal.main_arg5))

def preserves_Conv_ConvIdeal : Prop :=
  True

def algebraic_ConvIdeal_ReferenceConvIdeal [hConvIdeal : Cert.ConvIdeal.Facts] [hReferenceConvIdeal : Cert.ReferenceConvIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_ConvIdeal m →
    (∀ c : Dev Cert.ConvIdeal.nD,
      m' ((c.tc : Thread Cert.ReferenceConvIdeal.nD Cert.ReferenceConvIdeal.τ).loc Cert.ReferenceConvIdeal.main_arg0) = m ((c.tc : Thread Cert.ConvIdeal.nD Cert.ConvIdeal.τ).loc Cert.ConvIdeal.main_arg0)
      ∧ m' ((c.tc : Thread Cert.ReferenceConvIdeal.nD Cert.ReferenceConvIdeal.τ).loc Cert.ReferenceConvIdeal.main_arg1) = m ((c.tc : Thread Cert.ConvIdeal.nD Cert.ConvIdeal.τ).loc Cert.ConvIdeal.main_arg1)
      ∧ m' ((c.tc : Thread Cert.ReferenceConvIdeal.nD Cert.ReferenceConvIdeal.τ).loc Cert.ReferenceConvIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v31) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hReferenceFfnIdeal : Cert.ReferenceFfnIdeal.Facts) (hExperts : Cert.Experts.Facts) (hExpertsIdeal : Cert.ExpertsIdeal.Facts) (hReferenceExpertsIdeal : Cert.ReferenceExpertsIdeal.Facts) (hTails : Cert.Tails.Facts) (hTailsIdeal : Cert.TailsIdeal.Facts) (hReferenceTailsIdeal : Cert.ReferenceTailsIdeal.Facts) (hConv : Cert.Conv.Facts) (hConvIdeal : Cert.ConvIdeal.Facts) (hReferenceConvIdeal : Cert.ReferenceConvIdeal.Facts) (hPre_finite_q_k : Cert.Pre_finite_q_k.Facts) (hPre_tables_in_range : Cert.Pre_tables_in_range.Facts) (hPre_tails_in_range : Cert.Pre_tails_in_range.Facts),
    quiescent_Kernel (hKernel := hKernel)
    ∧ quiescent_KernelIdeal (hKernelIdeal := hKernelIdeal)
    ∧ quiescent_KernelIdeal_pre_finite_q_k (hKernelIdeal := hKernelIdeal) (hPre_finite_q_k := hPre_finite_q_k)
    ∧ quiescent_ReferenceIdeal (hReferenceIdeal := hReferenceIdeal)
    ∧ quiescent_ReferenceIdeal_pre_finite_q_k (hReferenceIdeal := hReferenceIdeal) (hPre_finite_q_k := hPre_finite_q_k)
    ∧ quiescent_Ffn (hFfn := hFfn)
    ∧ quiescent_FfnIdeal (hFfnIdeal := hFfnIdeal)
    ∧ quiescent_ReferenceFfnIdeal (hReferenceFfnIdeal := hReferenceFfnIdeal)
    ∧ quiescent_Experts (hExperts := hExperts) (hPre_tables_in_range := hPre_tables_in_range)
    ∧ quiescent_ExpertsIdeal (hExpertsIdeal := hExpertsIdeal) (hPre_tables_in_range := hPre_tables_in_range)
    ∧ quiescent_ReferenceExpertsIdeal (hReferenceExpertsIdeal := hReferenceExpertsIdeal)
    ∧ quiescent_ReferenceExpertsIdeal_pre_tables_in_range (hReferenceExpertsIdeal := hReferenceExpertsIdeal) (hPre_tables_in_range := hPre_tables_in_range)
    ∧ quiescent_Tails (hTails := hTails) (hPre_tails_in_range := hPre_tails_in_range)
    ∧ quiescent_TailsIdeal (hTailsIdeal := hTailsIdeal) (hPre_tails_in_range := hPre_tails_in_range)
    ∧ quiescent_ReferenceTailsIdeal (hReferenceTailsIdeal := hReferenceTailsIdeal)
    ∧ quiescent_ReferenceTailsIdeal_pre_tails_in_range (hReferenceTailsIdeal := hReferenceTailsIdeal) (hPre_tails_in_range := hPre_tails_in_range)
    ∧ quiescent_Conv (hConv := hConv)
    ∧ quiescent_ConvIdeal (hConvIdeal := hConvIdeal)
    ∧ quiescent_ReferenceConvIdeal (hReferenceConvIdeal := hReferenceConvIdeal)
    ∧ preserves_Kernel_KernelIdeal
    ∧ algebraic_KernelIdeal_ReferenceIdeal_pre_finite_q_k (hKernelIdeal := hKernelIdeal) (hReferenceIdeal := hReferenceIdeal) (hPre_finite_q_k := hPre_finite_q_k)
    ∧ preserves_Ffn_FfnIdeal
    ∧ algebraic_FfnIdeal_ReferenceFfnIdeal (hFfnIdeal := hFfnIdeal) (hReferenceFfnIdeal := hReferenceFfnIdeal)
    ∧ preserves_Experts_ExpertsIdeal
    ∧ algebraic_ExpertsIdeal_ReferenceExpertsIdeal (hExpertsIdeal := hExpertsIdeal) (hReferenceExpertsIdeal := hReferenceExpertsIdeal) (hPre_tables_in_range := hPre_tables_in_range)
    ∧ preserves_Tails_TailsIdeal
    ∧ algebraic_TailsIdeal_ReferenceTailsIdeal (hTailsIdeal := hTailsIdeal) (hReferenceTailsIdeal := hReferenceTailsIdeal) (hPre_tails_in_range := hPre_tails_in_range)
    ∧ preserves_Conv_ConvIdeal
    ∧ algebraic_ConvIdeal_ReferenceConvIdeal (hConvIdeal := hConvIdeal) (hReferenceConvIdeal := hReferenceConvIdeal)
-- ==== Pre_finite_q_k.lean ====
abbrev S16384x2048 : Shape := ⟨2, ![16384, 2048]⟩
abbrev S_ : Shape := ⟨0, ![]⟩
abbrev S1 : Shape := ⟨1, ![1]⟩
abbrev S2 : Shape := ⟨1, ![2]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1 : S_.BroadcastsInDim S1 (![] : Fin 0 → Fin S1.rank)
  concatenates_S1_S1_S2_d0 : Shape.Concatenates [S1, S1] S2 0

variable [Facts]

def fn {F : FTy → Type} [FloatOps F] (main_arg0 : FVec F S16384x2048 .bf16) (main_arg1 : FVec F S16384x2048 .bf16) (main_arg2 : FVec F S16384x2048 .bf16) : IVec S2 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S16384x2048 .f32 := (extf .f32 · bitsLt_bf16_f32) main_arg1
  let main_v6 : FVec F S16384x2048 .f32 := Host.absf main_v5
  let main_cst_0 : FVec F S_ .f32 := constant S_ .f32 0x7F800000#32
  let main_v7 : FVec F S16384x2048 .f32 := broadcastInDim S16384x2048 ![] bcast_S_S16384x2048 main_cst_0
  let main_v8 : IVec S16384x2048 1 := cmpf .olt main_v6 main_v7
  let main_c_1 : IVec S_ 1 := constantI S_ 1 1#1
  let main_v9 : IVec S_ 1 := (fun x v => Host.reduce IntOp.andi x v reducesTo_S16384x2048_S_d0_1 h_S_) main_v8 main_c_1
  let main_v10 : IVec S1 1 := broadcastInDim S1 ![] bcast_S_S1 main_v4
  let main_v11 : IVec S1 1 := broadcastInDim S1 ![] bcast_S_S1 main_v9
  let main_v12 : IVec S2 1 := (fun a b => concatenate S2 0 [⟨S1, a⟩, ⟨S1, b⟩] concatenates_S1_S1_S2_d0) main_v10 main_v11
  main_v12
-- ==== Pre_tables_in_range.lean ====
abbrev S72 : Shape := ⟨1, ![72]⟩
abbrev S36864x2048 : Shape := ⟨2, ![36864, 2048]⟩
abbrev S8x2048x7168 : Shape := ⟨3, ![8, 2048, 7168]⟩
abbrev S8x7168x2048 : Shape := ⟨3, ![8, 7168, 2048]⟩
abbrev S8192x2048 : Shape := ⟨2, ![8192, 2048]⟩
abbrev S_ : Shape := ⟨0, ![]⟩
abbrev S1x72 : Shape := ⟨2, ![1, 72]⟩
abbrev S4x72 : Shape := ⟨2, ![4, 72]⟩

class Facts : Prop where
  bcast_S_S72 : S_.BroadcastsInDim S72 (![] : Fin 0 → Fin S72.rank)
  bcast_S72_S1x72_1 : S72.BroadcastsInDim S1x72 (![1] : Fin 1 → Fin S1x72.rank)
  concatenates_S1x72_S1x72_S1x72_S1x72_S4x72_d0 : Shape.Concatenates [S1x72, S1x72, S1x72, S1x72] S4x72 0

variable [Facts]

def fn_part1 {F : FTy → Type} [FloatOps F] (main_arg3 : IVec S72 32) (main_v4 : IVec S72 1) (main_v9 : IVec S72 1) (main_v14 : IVec S72 1) (main_v16 : IVec S72 1) : IVec S4x72 1 :=
  let main_c_6 : IVec S_ 32 := constantI S_ 32 16#32
  let main_v17 : IVec S72 32 := broadcastInDim S72 ![] bcast_S_S72 main_c_6
  let main_v18 : IVec S72 1 := cmpi .slt main_arg3 main_v17
  let main_v19 : IVec S72 1 := andi main_v16 main_v18
  let main_v20 : IVec S1x72 1 := broadcastInDim S1x72 ![1] bcast_S72_S1x72_1 main_v4
  let main_v21 : IVec S1x72 1 := broadcastInDim S1x72 ![1] bcast_S72_S1x72_1 main_v9
  let main_v22 : IVec S1x72 1 := broadcastInDim S1x72 ![1] bcast_S72_S1x72_1 main_v14
  let main_v23 : IVec S1x72 1 := broadcastInDim S1x72 ![1] bcast_S72_S1x72_1 main_v19
  let main_v24 : IVec S4x72 1 := concatenate S4x72 0 [⟨S1x72, main_v20⟩, ⟨S1x72, main_v21⟩, ⟨S1x72, main_v22⟩, ⟨S1x72, main_v23⟩] concatenates_S1x72_S1x72_S1x72_S1x72_S4x72_d0
  main_v24

def fn {F : FTy → Type} [FloatOps F] (main_arg0 : IVec S72 32) (main_arg1 : IVec S72 32) (main_arg2 : IVec S72 32) (main_arg3 : IVec S72 32) (main_arg4 : FVec F S36864x2048 .f32) (main_arg5 : FVec F S8x2048x7168 .bf16) (main_arg6 : FVec F S8x2048x7168 .bf16) (main_arg7 : FVec F S8x7168x2048 .bf16) (main_arg8 : FVec F S8192x2048 .f32) : IVec S4x72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 3#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 32 := constantI S_ 32 0#32
  let main_v5 : IVec S72 32 := broadcastInDim S72 ![] bcast_S_S72 main_c_1
  let main_v6 : IVec S72 1 := cmpi .sge main_arg1 main_v5
  let main_c_2 : IVec S_ 32 := constantI S_ 32 72#32
  let main_v7 : IVec S72 32 := broadcastInDim S72 ![] bcast_S_S72 main_c_2
  let main_v8 : IVec S72 1 := cmpi .slt main_arg1 main_v7
  let main_v9 : IVec S72 1 := andi main_v6 main_v8
  let main_c_3 : IVec S_ 32 := constantI S_ 32 0#32
  let main_v10 : IVec S72 32 := broadcastInDim S72 ![] bcast_S_S72 main_c_3
  let main_v11 : IVec S72 1 := cmpi .sge main_arg2 main_v10
  let main_c_4 : IVec S_ 32 := constantI S_ 32 8#32
  let main_v12 : IVec S72 32 := broadcastInDim S72 ![] bcast_S_S72 main_c_4
  let main_v13 : IVec S72 1 := cmpi .slt main_arg2 main_v12
  let main_v14 : IVec S72 1 := andi main_v11 main_v13
  let main_c_5 : IVec S_ 32 := constantI S_ 32 0#32
  let main_v15 : IVec S72 32 := broadcastInDim S72 ![] bcast_S_S72 main_c_5
  let main_v16 : IVec S72 1 := cmpi .sge main_arg3 main_v15
  fn_part1 (F := F) main_arg3 main_v4 main_v9 main_v14 main_v16
-- ==== Pre_tails_in_range.lean ====
abbrev S16 : Shape := ⟨1, ![16]⟩
abbrev S8 : Shape := ⟨1, ![8]⟩
abbrev S36864x2048 : Shape := ⟨2, ![36864, 2048]⟩
abbrev S8x2048x7168 : Shape := ⟨3, ![8, 2048, 7168]⟩
abbrev S8x7168x2048 : Shape := ⟨3, ![8, 7168, 2048]⟩
abbrev S_ : Shape := ⟨0, ![]⟩

class Facts : Prop where
  bcast_S_S16 : S_.BroadcastsInDim S16 (![] : Fin 0 → Fin S16.rank)

variable [Facts]

def fn {F : FTy → Type} [FloatOps F] (main_arg0 : IVec S16 32) (main_arg1 : IVec S8 32) (main_arg2 : FVec F S36864x2048 .f32) (main_arg3 : FVec F S8x2048x7168 .f32) (main_arg4 : FVec F S8x2048x7168 .f32) (main_arg5 : FVec F S8x7168x2048 .f32) : IVec S16 1 :=
  let main_c : IVec S_ 32 := constantI S_ 32 0#32
  let main_v0 : IVec S16 32 := broadcastInDim S16 ![] bcast_S_S16 main_c
  let main_v1 : IVec S16 1 := cmpi .sge main_arg0 main_v0
  let main_c_0 : IVec S_ 32 := constantI S_ 32 72#32
  let main_v2 : IVec S16 32 := broadcastInDim S16 ![] bcast_S_S16 main_c_0
  let main_v3 : IVec S16 1 := cmpi .slt main_arg0 main_v2
  let main_v4 : IVec S16 1 := andi main_v1 main_v3
  main_v4
-- ==== Kernel.lean ====
abbrev S16384x2048 : Shape := ⟨2, ![16384, 2048]⟩
abbrev S_ : Shape := ⟨0, ![]⟩
abbrev S2048x256 : Shape := ⟨2, ![2048, 256]⟩
abbrev S2x8x144x256 : Shape := ⟨4, ![2, 8, 144, 256]⟩
abbrev S2x2x8x256x256 : Shape := ⟨5, ![2, 2, 8, 256, 256]⟩
abbrev S256x128 : Shape := ⟨2, ![256, 128]⟩
abbrev S128x256 : Shape := ⟨2, ![128, 256]⟩
abbrev S1x1x128x256 : Shape := ⟨4, ![1, 1, 128, 256]⟩
abbrev S16x256 : Shape := ⟨2, ![16, 256]⟩
abbrev S1x1x16x256 : Shape := ⟨4, ![1, 1, 16, 256]⟩
abbrev S128 : Shape := ⟨1, ![128]⟩
abbrev S1x128 : Shape := ⟨2, ![1, 128]⟩
abbrev S8x128 : Shape := ⟨2, ![8, 128]⟩
abbrev S32x128 : Shape := ⟨2, ![32, 128]⟩
abbrev S256x256 : Shape := ⟨2, ![256, 256]⟩
abbrev S1x1x1x256x256 : Shape := ⟨5, ![1, 1, 1, 256, 256]⟩
abbrev S256 : Shape := ⟨1, ![256]⟩
abbrev S1x256 : Shape := ⟨2, ![1, 256]⟩
abbrev S1x1x144x256 : Shape := ⟨4, ![1, 1, 144, 256]⟩
abbrev S144x256 : Shape := ⟨2, ![144, 256]⟩
abbrev S32x256 : Shape := ⟨2, ![32, 256]⟩
abbrev S8x256 : Shape := ⟨2, ![8, 256]⟩

abbrev nBuf : Space → Nat
  | .hbm => 13
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S16384x2048, .bf16⟩
  | .hbm, ⟨12, _⟩ => ⟨S16384x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2x8x144x256, .bf16⟩
  | .local _ .vmem, ⟨9, _⟩ => ⟨S2x2x8x256x256, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x2048 : Shape := ⟨2, ![16384, 2048]⟩
abbrev S_ : Shape := ⟨0, ![]⟩
abbrev S8x8x256x16x128 : Shape := ⟨5, ![8, 8, 256, 16, 128]⟩
abbrev S8x16x8x256x128 : Shape := ⟨5, ![8, 16, 8, 256, 128]⟩
abbrev S8x16x8x128 : Shape := ⟨4, ![8, 16, 8, 128]⟩
abbrev S8 : Shape := ⟨1, ![8]⟩
abbrev S8x1 : Shape := ⟨2, ![8, 1]⟩
abbrev S8x16x8x256x256 : Shape := ⟨5, ![8, 16, 8, 256, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S8x16x8x256x8 : Shape := ⟨5, ![8, 16, 8, 256, 8]⟩
abbrev S1x1x8 : Shape := ⟨3, ![1, 1, 8]⟩
abbrev S8x1x1 : Shape := ⟨3, ![8, 1, 1]⟩
abbrev S8x1x8 : Shape := ⟨3, ![8, 1, 8]⟩
abbrev S8x16x8x256x3 : Shape := ⟨5, ![8, 16, 8, 256, 3]⟩
abbrev S1x1x8x1x1 : Shape := ⟨5, ![1, 1, 8, 1, 1]⟩
abbrev S8x1x1x1x1 : Shape := ⟨5, ![8, 1, 1, 1, 1]⟩
abbrev S16 : Shape := ⟨1, ![16]⟩
abbrev S1x16x1x1x1 : Shape := ⟨5, ![1, 16, 1, 1, 1]⟩
abbrev S8x16x8x256x3x1 : Shape := ⟨6, ![8, 16, 8, 256, 3, 1]⟩
abbrev S8x16x8x256x3x3 : Shape := ⟨6, ![8, 16, 8, 256, 3, 3]⟩
abbrev S8x16x8x256x3x256x128 : Shape := ⟨7, ![8, 16, 8, 256, 3, 256, 128]⟩
abbrev S8x16x8x256x3x256 : Shape := ⟨6, ![8, 16, 8, 256, 3, 256]⟩
abbrev S8x16x8x256x768 : Shape := ⟨5, ![8, 16, 8, 256, 768]⟩
abbrev S8x16x8x256x1024 : Shape := ⟨5, ![8, 16, 8, 256, 1024]⟩
abbrev S8x16x8x256 : Shape := ⟨4, ![8, 16, 8, 256]⟩
abbrev S8x16x8x256x1 : Shape := ⟨5, ![8, 16, 8, 256, 1]⟩

abbrev nBuf : Space → Nat
  | .hbm => 149
  | .vmem => 0
  | .smem => 0
  | _ => 0

abbrev hbmTy0_0 (i : Nat) : BufTy := match i % 128 with
  | 0 => ⟨S16384x2048, .bf16⟩
  | 1 => ⟨S16384x2048, .bf16⟩
  | 2 => ⟨S16384x2048, .bf16⟩
  | 3 => ⟨S_, .f32⟩
  | 4 => ⟨S_, .f32⟩
  | 5 => ⟨S_, .f32⟩
  | 6 => ⟨S_, .f32⟩
  | 7 => ⟨S16384x2048, .f32⟩
  | 8 => ⟨S8x8x256x16x128, .f32⟩
  | 9 => ⟨S8x16x8x256x128, .f32⟩
  | 10 => ⟨S16384x2048, .f32⟩
  | 11 => ⟨S8x8x256x16x128, .f32⟩
  | 12 => ⟨S8x16x8x256x128, .f32⟩
  | 13 => ⟨S16384x2048, .f32⟩
  | 14 => ⟨S8x8x256x16x128, .f32⟩
  | 15 => ⟨S8x16x8x256x128, .f32⟩
  | 16 => ⟨S_, .f32⟩
  | 17 => ⟨S8x16x8x128, .f32⟩
  | 18 => ⟨S_, .f32⟩
  | 19 => ⟨S8x16x8x128, .f32⟩
  | 20 => ⟨S8x16x8x128, .f32⟩
  | 21 => ⟨S8, .i32⟩
  | 22 => ⟨S8x1, .i32⟩
  | 23 => ⟨S8x16x8x256x256, .f32⟩
  | 24 => ⟨S8x16x8x256x256, .f32⟩
  | 25 => ⟨S8x16x8x256x256, .f32⟩
  | 26 => ⟨S256, .i32⟩
  | 27 => ⟨S1x256, .i32⟩
  | 28 => ⟨S256x1, .i32⟩
  | 29 => ⟨S256x256, .i32⟩
  | 30 => ⟨S256x256, .i32⟩
  | 31 => ⟨S256x256, .i1⟩
  | 32 => ⟨S_, .f32⟩
  | 33 => ⟨S_, .f32⟩
  | 34 => ⟨S8x16x8x256x256, .i1⟩
  | 35 => ⟨S8x16x8x256x256, .f32⟩
  | 36 => ⟨S8x16x8x256x256, .f32⟩
  | 37 => ⟨S8x16x8x256x8, .f32⟩
  | 38 => ⟨S8, .i32⟩
  | 39 => ⟨S1x1x8, .i32⟩
  | 40 => ⟨S8x1x1, .i32⟩
  | 41 => ⟨S8x1x8, .i32⟩
  | 42 => ⟨S8x1x8, .i32⟩
  | 43 => ⟨S8x1x8, .i1⟩
  | 44 => ⟨S_, .f32⟩
  | 45 => ⟨S_, .f32⟩
  | 46 => ⟨S8x16x8x256x8, .i1⟩
  | 47 => ⟨S8x16x8x256x8, .f32⟩
  | 48 => ⟨S8x16x8x256x8, .f32⟩
  | 49 => ⟨S8x16x8x256x3, .f32⟩
  | 50 => ⟨S8x16x8x256x3, .i32⟩
  | 51 => ⟨S8x1x1, .i32⟩
  | 52 => ⟨S1x1x8x1x1, .i32⟩
  | 53 => ⟨S8x16x8x256x3, .i32⟩
  | 54 => ⟨S8x16x8x256x3, .i1⟩
  | 55 => ⟨S8, .i32⟩
  | 56 => ⟨S8x1x1x1x1, .i32⟩
  | 57 => ⟨S16, .i32⟩
  | 58 => ⟨S1x16x1x1x1, .i32⟩
  | 59 => ⟨S_, .i32⟩
  | 60 => ⟨S8x1x1x1x1, .i32⟩
  | 61 => ⟨S8x1x1x1x1, .i1⟩
  | 62 => ⟨S_, .i32⟩
  | 63 => ⟨S8x1x1x1x1, .i32⟩
  | 64 => ⟨S8x1x1x1x1, .i32⟩
  | 65 => ⟨S8x1x1x1x1, .i32⟩
  | 66 => ⟨S_, .i32⟩
  | 67 => ⟨S1x16x1x1x1, .i32⟩
  | 68 => ⟨S1x16x1x1x1, .i1⟩
  | 69 => ⟨S_, .i32⟩
  | 70 => ⟨S1x16x1x1x1, .i32⟩
  | 71 => ⟨S1x16x1x1x1, .i32⟩
  | 72 => ⟨S1x16x1x1x1, .i32⟩
  | 73 => ⟨S_, .i32⟩
  | 74 => ⟨S8x16x8x256x3, .i32⟩
  | 75 => ⟨S8x16x8x256x3, .i1⟩
  | 76 => ⟨S_, .i32⟩
  | 77 => ⟨S8x16x8x256x3, .i32⟩
  | 78 => ⟨S8x16x8x256x3, .i32⟩
  | 79 => ⟨S8x16x8x256x3, .i32⟩
  | 80 => ⟨S8x16x8x256x3, .i32⟩
  | 81 => ⟨S8x16x8x256x3, .i32⟩
  | 82 => ⟨S8x16x8x256x3x1, .i32⟩
  | 83 => ⟨S8x16x8x256x3x1, .i32⟩
  | 84 => ⟨S8x16x8x256x3x1, .i32⟩
  | 85 => ⟨S8x16x8x256x3x3, .i32⟩
  | 86 => ⟨S8x16x8x256x3x256x128, .f32⟩
  | 87 => ⟨S_, .i32⟩
  | 88 => ⟨S8x1x1x1x1, .i32⟩
  | 89 => ⟨S8x1x1x1x1, .i1⟩
  | 90 => ⟨S_, .i32⟩
  | 91 => ⟨S8x1x1x1x1, .i32⟩
  | 92 => ⟨S8x1x1x1x1, .i32⟩
  | 93 => ⟨S8x1x1x1x1, .i32⟩
  | 94 => ⟨S_, .i32⟩
  | 95 => ⟨S1x16x1x1x1, .i32⟩
  | 96 => ⟨S1x16x1x1x1, .i1⟩
  | 97 => ⟨S_, .i32⟩
  | 98 => ⟨S1x16x1x1x1, .i32⟩
  | 99 => ⟨S1x16x1x1x1, .i32⟩
  | 100 => ⟨S1x16x1x1x1, .i32⟩
  | 101 => ⟨S_, .i32⟩
  | 102 => ⟨S8x16x8x256x3, .i32⟩
  | 103 => ⟨S8x16x8x256x3, .i1⟩
  | 104 => ⟨S_, .i32⟩
  | 105 => ⟨S8x16x8x256x3, .i32⟩
  | 106 => ⟨S8x16x8x256x3, .i32⟩
  | 107 => ⟨S8x16x8x256x3, .i32⟩
  | 108 => ⟨S8x16x8x256x3, .i32⟩
  | 109 => ⟨S8x16x8x256x3, .i32⟩
  | 110 => ⟨S8x16x8x256x3x1, .i32⟩
  | 111 => ⟨S8x16x8x256x3x1, .i32⟩
  | 112 => ⟨S8x16x8x256x3x1, .i32⟩
  | 113 => ⟨S8x16x8x256x3x3, .i32⟩
  | 114 => ⟨S8x16x8x256x3x256x128, .f32⟩
  | 115 => ⟨S8x16x8x256x3x256, .f32⟩
  | 116 => ⟨S8x16x8x256x3x256, .f32⟩
  | 117 => ⟨S8x16x8x256x3x256, .f32⟩
  | 118 => ⟨S8x16x8x256x3x1, .i1⟩
  | 119 => ⟨S_, .f32⟩
  | 120 => ⟨S_, .f32⟩
  | 121 => ⟨S8x16x8x256x3x256, .i1⟩
  | 122 => ⟨S8x16x8x256x3x256, .f32⟩
  | 123 => ⟨S8x16x8x256x3x256, .f32⟩
  | 124 => ⟨S8x16x8x256x768, .f32⟩
  | 125 => ⟨S8x16x8x256x1024, .f32⟩
  | 126 => ⟨S_, .f32⟩
  | 127 => ⟨S8x16x8x256, .f32⟩
  | _ => ⟨S16384x2048, .bf16⟩

abbrev hbmTy0_1 (i : Nat) : BufTy := match i % 128 with
  | 0 => ⟨S_, .f32⟩
  | 1 => ⟨S8x16x8x256, .f32⟩
  | 2 => ⟨S8x16x8x256, .f32⟩
  | 3 => ⟨S8x16x8x256x1, .f32⟩
  | 4 => ⟨S8x16x8x256x1024, .f32⟩
  | 5 => ⟨S8x16x8x256x1024, .f32⟩
  | 6 => ⟨S8x16x8x256x1024, .f32⟩
  | 7 => ⟨S_, .f32⟩
  | 8 => ⟨S8x16x8x256, .f32⟩
  | 9 => ⟨S8x16x8x256x1, .f32⟩
  | 10 => ⟨S8x16x8x256x1024, .f32⟩
  | 11 => ⟨S8x16x8x256x1024, .f32⟩
  | 12 => ⟨S8x16x8x256x768, .f32⟩
  | 13 => ⟨S8x16x8x256x3x256, .f32⟩
  | 14 => ⟨S8x16x8x256x256, .f32⟩
  | 15 => ⟨S8x16x8x256x128, .f32⟩
  | 16 => ⟨S8x16x8x256x128, .f32⟩
  | 17 => ⟨S8x16x8x256x128, .f32⟩
  | 18 => ⟨S8x8x256x16x128, .f32⟩
  | 19 => ⟨S16384x2048, .f32⟩
  | 20 => ⟨S16384x2048, .bf16⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v33 : Ref sig .tc := ⟨.hbm, 48, rfl⟩
abbrev main_values : Ref sig .tc := ⟨.hbm, 49, rfl⟩
abbrev main_indices : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c : Ref sig .tc := ⟨.hbm, 59, rfl⟩
abbrev main_v42 : Ref sig .tc := ⟨.hbm, 60, rfl⟩
abbrev main_v43 : Ref sig .tc := ⟨.hbm, 61, rfl⟩
abbrev main_c_5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_6 : Ref sig .tc := ⟨.hbm, 66, rfl⟩
abbrev main_v47 : Ref sig .tc := ⟨.hbm, 67, rfl⟩
abbrev main_v48 : Ref sig .tc := ⟨.hbm, 68, rfl⟩
abbrev main_c_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_8 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_10 : Ref sig .tc := ⟨.hbm, 87, rfl⟩
abbrev main_v64 : Ref sig .tc := ⟨.hbm, 88, rfl⟩
abbrev main_v65 : Ref sig .tc := ⟨.hbm, 89, rfl⟩
abbrev main_c_11 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_12 : Ref sig .tc := ⟨.hbm, 94, rfl⟩
abbrev main_v69 : Ref sig .tc := ⟨.hbm, 95, rfl⟩
abbrev main_v70 : Ref sig .tc := ⟨.hbm, 96, rfl⟩
abbrev main_c_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_14 : Ref sig .tc := ⟨.hbm, 101, rfl⟩
abbrev main_v74 : Ref sig .tc := ⟨.hbm, 102, rfl⟩
abbrev main_v75 : Ref sig .tc := ⟨.hbm, 103, rfl⟩
abbrev main_c_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_16 : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_17 : Ref sig .tc := ⟨.hbm, 126, rfl⟩
abbrev main_v93 : Ref sig .tc := ⟨.hbm, 127, rfl⟩
abbrev main_cst_18 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_19 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩

abbrev nD : Nat := 1
abbrev τ : Topo := Topo.v7x

variable {F : FTy → Type} [FloatOps F]
-- ==== Ffn.lean ====
abbrev S16384x2048 : Shape := ⟨2, ![16384, 2048]⟩
abbrev S2048x5632 : Shape := ⟨2, ![2048, 5632]⟩
abbrev S5632x2048 : Shape := ⟨2, ![5632, 2048]⟩
abbrev S16x1x12288 : Shape := ⟨3, ![16, 1, 12288]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S1x1x2048 : Shape := ⟨3, ![1, 1, 2048]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 21
  | .smem => 0
  | _ => 0

abbrev bufTy : (tb : Table) → Fin (tcTables nBuf tb) → BufTy
  | .hbm, ⟨0, _⟩ => ⟨S16384x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S16384x2048, .f32⟩
  | .hbm, ⟨5, _⟩ => ⟨S16x1x12288, .f32⟩
  | .hbm, ⟨6, _⟩ => ⟨S2048, .f32⟩
  | .hbm, ⟨7, _⟩ => ⟨S1x2048, .f32⟩
  | .hbm, ⟨8, _⟩ => ⟨S16384x2048, .f32⟩
  | .hbm, ⟨9, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .bf16⟩
  | .local _ .vmem, ⟨20, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c10_i32 : BitVec 32 := 10#32
  let v24 : BitVec 1 := Scalar.cmpi .eq arg1 c10_i32
  let v25 : BitVec 32 := Scalar.extui v24
  let c0_i32_17 : BitVec 32 := 0#32
  let v26 : BitVec 1 := Scalar.cmpi .ne v25 c0_i32_17
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c5_i32 : BitVec 32 := 5#32
  let c0_i32_6 : BitVec 32 := 0#32
  ![v17.toNat, c0_i32_5.toNat, c5_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.addi c8_i32 v16
  let c0_i32_4 : BitVec 32 := 0#32
  let c1_i32_5 : BitVec 32 := 1#32
  let c0_i32_6 : BitVec 32 := 0#32
  ![v17.toNat, c0_i32_4.toNat, c1_i32_5.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.addi c8_i32 v16
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceFfnIdeal.lean ====
abbrev S16384x2048 : Shape := ⟨2, ![16384, 2048]⟩
abbrev S2048x5632 : Shape := ⟨2, ![2048, 5632]⟩
abbrev S5632x2048 : Shape := ⟨2, ![5632, 2048]⟩
abbrev S16x1x12288 : Shape := ⟨3, ![16, 1, 12288]⟩
abbrev S2048 : Shape := ⟨1, ![2048]⟩
abbrev S16384x5632 : Shape := ⟨2, ![16384, 5632]⟩
abbrev S_ : Shape := ⟨0, ![]⟩
abbrev S8x2048x2048 : Shape := ⟨3, ![8, 2048, 2048]⟩
abbrev S2x8x6x2048 : Shape := ⟨4, ![2, 8, 6, 2048]⟩
abbrev S1x8x1x2048 : Shape := ⟨4, ![1, 8, 1, 2048]⟩
abbrev S8x2048 : Shape := ⟨2, ![8, 2048]⟩
abbrev S8x1x2048 : Shape := ⟨3, ![8, 1, 2048]⟩
abbrev S8x2048x1 : Shape := ⟨3, ![8, 2048, 1]⟩
abbrev S1x1x2048 : Shape := ⟨3, ![1, 1, 2048]⟩

abbrev nBuf : Space → Nat
  | .hbm => 65
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S16384x2048, .f32⟩
  | .hbm, ⟨5, _⟩ => ⟨S16x1x12288, .f32⟩
  | .hbm, ⟨6, _⟩ => ⟨S2048, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S16384x2048, .f32⟩
  | .hbm, ⟨11, _⟩ => ⟨S16384x5632, .f32⟩
  | .hbm, ⟨12, _⟩ => ⟨S16384x5632, .f32⟩
  | .hbm, ⟨13, _⟩ => ⟨S16384x5632, .f32⟩
  | .hbm, ⟨14, _⟩ => ⟨S_, .f32⟩
  | .hbm, ⟨15, _⟩ => ⟨S16384x5632, .f32⟩
  | .hbm, ⟨16, _⟩ => ⟨S16384x5632, .f32⟩
  | .hbm, ⟨17, _⟩ => ⟨S_, .f32⟩
  | .hbm, ⟨18, _⟩ => ⟨S16384x5632, .f32⟩
  | .hbm, ⟨19, _⟩ => ⟨S16384x5632, .f32⟩
  | .hbm, ⟨20, _⟩ => ⟨S16384x5632, .f32⟩
  | .hbm, ⟨21, _⟩ => ⟨S16384x5632, .f32⟩
  | .hbm, ⟨22, _⟩ => ⟨S16384x5632, .f32⟩
  | .hbm, ⟨23, _⟩ => ⟨S16384x2048, .f32⟩
  | .hbm, ⟨24, _⟩ => ⟨S8x2048x2048, .f32⟩
  | .hbm, ⟨25, _⟩ => ⟨S2x8x6x2048, .f32⟩
  | .hbm, ⟨26, _⟩ => ⟨S1x8x1x2048, .f32⟩
  | .hbm, ⟨27, _⟩ => ⟨S8x2048, .f32⟩
  | .hbm, ⟨28, _⟩ => ⟨S1x8x1x2048, .f32⟩
  | .hbm, ⟨29, _⟩ => ⟨S8x2048, .f32⟩
  | .hbm, ⟨30, _⟩ => ⟨S1x8x1x2048, .f32⟩
  | .hbm, ⟨31, _⟩ => ⟨S8x2048, .f32⟩
  | .hbm, ⟨32, _⟩ => ⟨S8x2048x2048, .f32⟩
  | .hbm, ⟨33, _⟩ => ⟨S8x1x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S8x2048x1, .f32⟩
  | .hbm, ⟨48, _⟩ => ⟨S8x2048x2048, .f32⟩
  | .hbm, ⟨49, _⟩ => ⟨S8x2048x2048, .f32⟩
  | .hbm, ⟨50, _⟩ => ⟨S1x1x2048, .f32⟩
  | .hbm, ⟨51, _⟩ => ⟨S8x2048x2048, .f32⟩
  | .hbm, ⟨52, _⟩ => ⟨S8x2048x2048, .f32⟩
  | .hbm, ⟨53, _⟩ => ⟨S8x1x2048, .f32⟩
  | .hbm, ⟨54, _⟩ => ⟨S_, .f32⟩
  | .hbm, ⟨55, _⟩ => ⟨S8x1x2048, .f32⟩
  | .hbm, ⟨56, _⟩ => ⟨S8x1x2048, .f32⟩
  | .hbm, ⟨57, _⟩ => ⟨S8x2048x2048, .f32⟩
  | .hbm, ⟨58, _⟩ => ⟨S8x2048x2048, .f32⟩
  | .hbm, ⟨59, _⟩ => ⟨S8x1x2048, .f32⟩
  | .hbm, ⟨60, _⟩ => ⟨S8x2048x2048, .f32⟩
  | .hbm, ⟨61, _⟩ => ⟨S8x2048x2048, .f32⟩
  | .hbm, ⟨62, _⟩ => ⟨S16384x2048, .f32⟩
  | .hbm, ⟨63, _⟩ => ⟨S16384x2048, .f32⟩
  | .hbm, ⟨64, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_cst_0 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_2 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Experts.lean ====
abbrev S72 : Shape := ⟨1, ![72]⟩
abbrev S36864x2048 : Shape := ⟨2, ![36864, 2048]⟩
abbrev S8x2048x7168 : Shape := ⟨3, ![8, 2048, 7168]⟩
abbrev S8x7168x2048 : Shape := ⟨3, ![8, 7168, 2048]⟩
abbrev S8192x2048 : Shape := ⟨2, ![8192, 2048]⟩
abbrev S512x2048 : Shape := ⟨2, ![512, 2048]⟩
abbrev S1 : Shape := ⟨1, ![1]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 6
  | .vmem => 12
  | .smem => 4
  | _ => 0

abbrev bufTy : (tb : Table) → Fin (tcTables nBuf tb) → BufTy
  | .hbm, ⟨0, _⟩ => ⟨S36864x2048, .f32⟩
  | .hbm, ⟨1, _⟩ => ⟨S8x2048x7168, .bf16⟩
  | .hbm, ⟨2, _⟩ => ⟨S8x2048x7168, .bf16⟩
  | .hbm, ⟨3, _⟩ => ⟨S8x7168x2048, .bf16⟩
  | .hbm, ⟨4, _⟩ => ⟨S8192x2048, .f32⟩
  | .hbm, ⟨5, _⟩ => ⟨S36864x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .smem, ⟨0, _⟩ => ⟨S72, .i32⟩
  | .local _ .smem, ⟨1, _⟩ => ⟨S72, .i32⟩
  | .local _ .smem, ⟨2, _⟩ => ⟨S72, .i32⟩
  | .local _ .smem, ⟨3, _⟩ => ⟨S72, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![72, 7], ![false, false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v1 : BitVec 32) : BitVec 1 :=
  let c2_i32 : BitVec 32 := 2#32
  let v2 : BitVec 1 := Scalar.cmpi .eq v1 c2_i32
  let arg1 : BitVec 32 := BitVec.ofNat 32 (i 1).val
  let c0_i32 : BitVec 32 := 0#32
  let v3 : BitVec 1 := Scalar.cmpi .eq arg1 c0_i32
  let v4 : BitVec 1 := Scalar.andi v2 v3
  let v5 : BitVec 32 := Scalar.extui v4
  let c0_i32_0 : BitVec 32 := 0#32
  let v6 : BitVec 1 := Scalar.cmpi .ne v5 c0_i32_0
  v6

def k0_cond2 (i : grid0.Coords) (v1 : BitVec 32) : BitVec 1 :=
  let c1_i32 : BitVec 32 := 1#32
  let v7 : BitVec 1 := Scalar.cmpi .eq v1 c1_i32
  let arg1 : BitVec 32 := BitVec.ofNat 32 (i 1).val
  let c0_i32_1 : BitVec 32 := 0#32
  let v8 : BitVec 1 := Scalar.cmpi .eq arg1 c0_i32_1
  let v9 : BitVec 1 := Scalar.andi v7 v8
  let v10 : BitVec 32 := Scalar.extui v9
  let c0_i32_2 : BitVec 32 := 0#32
  let v11 : BitVec 1 := Scalar.cmpi .ne v10 c0_i32_2
  v11

def k0_cond3 (v1 : BitVec 32) : BitVec 1 :=
  let c0_i32_3 : BitVec 32 := 0#32
  let v12 : BitVec 1 := Scalar.cmpi .eq v1 c0_i32_3
  let v13 : BitVec 32 := Scalar.extui v12
  let c0_i32_4 : BitVec 32 := 0#32
  let v14 : BitVec 1 := Scalar.cmpi .ne v13 c0_i32_4
  v14

def cc0_transform_0 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S72) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S72) ![v0.toNat] S1.size (k0_off1_inb i)) numel1_S1
  let v2 : Index := Scalar.indexCast arg0
  let v3 : BitVec 32 := pf.at 0 (Rect.unit (s := S72) ![v2.toNat] S1.size (k0_off1_inb i)) numel1_S1
  let c0_i32 : BitVec 32 := 0#32
  let v4 : BitVec 1 := Scalar.cmpi .eq v3 c0_i32
  let c6_i32 : BitVec 32 := 6#32
  let v5 : BitVec 32 := Scalar.select v4 arg1 c6_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S72) ![v0.toNat] S1.size (k0_off1_inb i)) numel1_S1
  let v2 : Index := Scalar.indexCast arg0
  let v3 : BitVec 32 := pf.at 0 (Rect.unit (s := S72) ![v2.toNat] S1.size (k0_off1_inb i)) numel1_S1
  let c0_i32 : BitVec 32 := 0#32
  let v4 : BitVec 1 := Scalar.cmpi .eq v3 c0_i32
  let c6_i32 : BitVec 32 := 6#32
  let v5 : BitVec 32 := Scalar.select v4 arg1 c6_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S72) ![v0.toNat] S1.size (k0_off1_inb i)) numel1_S1
  let v2 : Index := Scalar.indexCast arg0
  let v3 : BitVec 32 := pf.at 0 (Rect.unit (s := S72) ![v2.toNat] S1.size (k0_off1_inb i)) numel1_S1
  let c0_i32 : BitVec 32 := 0#32
  let v4 : BitVec 1 := Scalar.cmpi .eq v3 c0_i32
  let c6_i32 : BitVec 32 := 6#32
  let v5 : BitVec 32 := Scalar.select v4 arg1 c6_i32
  let c0_i32_0 : BitVec 32 := 0#32
  let c0_i32_1 : BitVec 32 := 0#32
  ![v1.toNat, v5.toNat, c0_i32_0.toNat]

def cc0_transform_4 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 3 (Rect.unit (s := S72) ![v0.toNat] S1.size (k0_off1_inb i)) numel1_S1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceExpertsIdeal.lean ====
abbrev S72 : Shape := ⟨1, ![72]⟩
abbrev S36864x2048 : Shape := ⟨2, ![36864, 2048]⟩
abbrev S8x2048x7168 : Shape := ⟨3, ![8, 2048, 7168]⟩
abbrev S8x7168x2048 : Shape := ⟨3, ![8, 7168, 2048]⟩
abbrev S8192x2048 : Shape := ⟨2, ![8192, 2048]⟩
abbrev S72x512x2048 : Shape := ⟨3, ![72, 512, 2048]⟩
abbrev S_ : Shape := ⟨0, ![]⟩
abbrev S72x1 : Shape := ⟨2, ![72, 1]⟩
abbrev S72x2048x7168 : Shape := ⟨3, ![72, 2048, 7168]⟩
abbrev S72x7168x2048 : Shape := ⟨3, ![72, 7168, 2048]⟩
abbrev S72x512x7168 : Shape := ⟨3, ![72, 512, 7168]⟩
abbrev S72x1x1 : Shape := ⟨3, ![72, 1, 1]⟩
abbrev S16x512x2048 : Shape := ⟨3, ![16, 512, 2048]⟩

abbrev nBuf : Space → Nat
  | .hbm => 87
  | .vmem => 0
  | .smem => 0
  | _ => 0

abbrev bufTy : (tb : Table) → Fin (tcTables nBuf tb) → BufTy
  | .hbm, ⟨0, _⟩ => ⟨S72, .i32⟩
  | .hbm, ⟨1, _⟩ => ⟨S72, .i32⟩
  | .hbm, ⟨2, _⟩ => ⟨S72, .i32⟩
  | .hbm, ⟨3, _⟩ => ⟨S72, .i32⟩
  | .hbm, ⟨4, _⟩ => ⟨S36864x2048, .f32⟩
  | .hbm, ⟨5, _⟩ => ⟨S8x2048x7168, .bf16⟩
  | .hbm, ⟨6, _⟩ => ⟨S8x2048x7168, .bf16⟩
  | .hbm, ⟨7, _⟩ => ⟨S8x7168x2048, .bf16⟩
  | .hbm, ⟨8, _⟩ => ⟨S8192x2048, .f32⟩
  | .hbm, ⟨9, _⟩ => ⟨S72x512x2048, .f32⟩
  | .hbm, ⟨10, _⟩ => ⟨S_, .i32⟩
  | .hbm, ⟨11, _⟩ => ⟨S72, .i32⟩
  | .hbm, ⟨12, _⟩ => ⟨S72, .i1⟩
  | .hbm, ⟨13, _⟩ => ⟨S_, .i32⟩
  | .hbm, ⟨14, _⟩ => ⟨S72, .i32⟩
  | .hbm, ⟨15, _⟩ => ⟨S72, .i32⟩
  | .hbm, ⟨16, _⟩ => ⟨S72, .i32⟩
  | .hbm, ⟨17, _⟩ => ⟨S72x1, .i32⟩
  | .hbm, ⟨18, _⟩ => ⟨S72x512x2048, .f32⟩
  | .hbm, ⟨19, _⟩ => ⟨S8x2048x7168, .f32⟩
  | .hbm, ⟨20, _⟩ => ⟨S_, .i32⟩
  | .hbm, ⟨21, _⟩ => ⟨S72, .i32⟩
  | .hbm, ⟨22, _⟩ => ⟨S72, .i1⟩
  | .hbm, ⟨23, _⟩ => ⟨S_, .i32⟩
  | .hbm, ⟨24, _⟩ => ⟨S72, .i32⟩
  | .hbm, ⟨25, _⟩ => ⟨S72, .i32⟩
  | .hbm, ⟨26, _⟩ => ⟨S72, .i32⟩
  | .hbm, ⟨27, _⟩ => ⟨S72x1, .i32⟩
  | .hbm, ⟨28, _⟩ => ⟨S72x2048x7168, .f32⟩
  | .hbm, ⟨29, _⟩ => ⟨S8x2048x7168, .f32⟩
  | .hbm, ⟨30, _⟩ => ⟨S_, .i32⟩
  | .hbm, ⟨31, _⟩ => ⟨S72, .i32⟩
  | .hbm, ⟨32, _⟩ => ⟨S72, .i1⟩
  | .hbm, ⟨33, _⟩ => ⟨S_, .i32⟩
  | .hbm, ⟨34, _⟩ => ⟨S72, .i32⟩
  | .hbm, ⟨35, _⟩ => ⟨S72, .i32⟩
  | .hbm, ⟨36, _⟩ => ⟨S72, .i32⟩
  | .hbm, ⟨37, _⟩ => ⟨S72x1, .i32⟩
  | .hbm, ⟨38, _⟩ => ⟨S72x2048x7168, .f32⟩
  | .hbm, ⟨39, _⟩ => ⟨S8x7168x2048, .f32⟩
  | .hbm, ⟨40, _⟩ => ⟨S_, .i32⟩
  | .hbm, ⟨41, _⟩ => ⟨S72, .i32⟩
  | .hbm, ⟨42, _⟩ => ⟨S72, .i1⟩
  | .hbm, ⟨43, _⟩ => ⟨S_, .i32⟩
  | .hbm, ⟨44, _⟩ => ⟨S72, .i32⟩
  | .hbm, ⟨45, _⟩ => ⟨S72, .i32⟩
  | .hbm, ⟨46, _⟩ => ⟨S72, .i32⟩
  | .hbm, ⟨47, _⟩ => ⟨S72x1, .i32⟩
  | .hbm, ⟨48, _⟩ => ⟨S72x7168x2048, .f32⟩
  | .hbm, ⟨49, _⟩ => ⟨S72x512x7168, .f32⟩
  | .hbm, ⟨50, _⟩ => ⟨S72x512x7168, .f32⟩
  | .hbm, ⟨51, _⟩ => ⟨S72x512x7168, .f32⟩
  | .hbm, ⟨52, _⟩ => ⟨S_, .f32⟩
  | .hbm, ⟨53, _⟩ => ⟨S72x512x7168, .f32⟩
  | .hbm, ⟨54, _⟩ => ⟨S72x512x7168, .f32⟩
  | .hbm, ⟨55, _⟩ => ⟨S_, .f32⟩
  | .hbm, ⟨56, _⟩ => ⟨S72x512x7168, .f32⟩
  | .hbm, ⟨57, _⟩ => ⟨S72x512x7168, .f32⟩
  | .hbm, ⟨58, _⟩ => ⟨S72x512x7168, .f32⟩
  | .hbm, ⟨59, _⟩ => ⟨S72x512x7168, .f32⟩
  | .hbm, ⟨60, _⟩ => ⟨S72x512x7168, .f32⟩
  | .hbm, ⟨61, _⟩ => ⟨S72x512x2048, .f32⟩
  | .hbm, ⟨62, _⟩ => ⟨S72x1x1, .i32⟩
  | .hbm, ⟨63, _⟩ => ⟨S_, .i32⟩
  | .hbm, ⟨64, _⟩ => ⟨S72x1x1, .i32⟩
  | .hbm, ⟨65, _⟩ => ⟨S72x1x1, .i1⟩
  | .hbm, ⟨66, _⟩ => ⟨S_, .i32⟩
  | .hbm, ⟨67, _⟩ => ⟨S72x1x1, .i32⟩
  | .hbm, ⟨68, _⟩ => ⟨S72x1x1, .i1⟩
  | .hbm, ⟨69, _⟩ => ⟨S16x512x2048, .f32⟩
  | .hbm, ⟨70, _⟩ => ⟨S_, .i32⟩
  | .hbm, ⟨71, _⟩ => ⟨S72, .i32⟩
  | .hbm, ⟨72, _⟩ => ⟨S72, .i1⟩
  | .hbm, ⟨73, _⟩ => ⟨S_, .i32⟩
  | .hbm, ⟨74, _⟩ => ⟨S72, .i32⟩
  | .hbm, ⟨75, _⟩ => ⟨S72, .i32⟩
  | .hbm, ⟨76, _⟩ => ⟨S72, .i32⟩
  | .hbm, ⟨77, _⟩ => ⟨S72x1, .i32⟩
  | .hbm, ⟨78, _⟩ => ⟨S72x512x2048, .f32⟩
  | .hbm, ⟨79, _⟩ => ⟨S_, .f32⟩
  | .hbm, ⟨80, _⟩ => ⟨S_, .f32⟩
  | .hbm, ⟨81, _⟩ => ⟨S72x512x2048, .i1⟩
  | .hbm, ⟨82, _⟩ => ⟨S72x512x2048, .f32⟩
  | .hbm, ⟨83, _⟩ => ⟨S72x512x2048, .f32⟩
  | .hbm, ⟨84, _⟩ => ⟨S72x512x2048, .i1⟩
  | .hbm, ⟨85, _⟩ => ⟨S72x512x2048, .f32⟩
  | .hbm, ⟨86, _⟩ => ⟨S36864x2048, .f32⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_7 : Ref sig .tc := ⟨.hbm, 63, rfl⟩
abbrev main_v38 : Ref sig .tc := ⟨.hbm, 64, rfl⟩
abbrev main_v39 : Ref sig .tc := ⟨.hbm, 65, rfl⟩
abbrev main_c_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_9 : Ref sig .tc := ⟨.hbm, 70, rfl⟩
abbrev main_v43 : Ref sig .tc := ⟨.hbm, 71, rfl⟩
abbrev main_v44 : Ref sig .tc := ⟨.hbm, 72, rfl⟩
abbrev main_c_10 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v50 : Ref sig .tc := ⟨.hbm, 83, rfl⟩
abbrev main_call2_v0 : Ref sig .tc := ⟨.hbm, 84, rfl⟩
abbrev main_v51 : Ref sig .tc := ⟨.hbm, 85, rfl⟩
abbrev main_v52 : Ref sig .tc := ⟨.hbm, 86, rfl⟩

abbrev nD : Nat := 1
abbrev τ : Topo := Topo.v7x

variable {F : FTy → Type} [FloatOps F]
-- ==== Tails.lean ====
abbrev S16 : Shape := ⟨1, ![16]⟩
abbrev S8 : Shape := ⟨1, ![8]⟩
abbrev S36864x2048 : Shape := ⟨2, ![36864, 2048]⟩
abbrev S8x2048x7168 : Shape := ⟨3, ![8, 2048, 7168]⟩
abbrev S8x7168x2048 : Shape := ⟨3, ![8, 7168, 2048]⟩
abbrev S8192x2048 : Shape := ⟨2, ![8192, 2048]⟩
abbrev S512x2048 : Shape := ⟨2, ![512, 2048]⟩
abbrev S1 : Shape := ⟨1, ![1]⟩
abbrev S1x2048x256 : Shape := ⟨3, ![1, 2048, 256]⟩
abbrev S1x256x2048 : Shape := ⟨3, ![1, 256, 2048]⟩
abbrev S1024x2048 : Shape := ⟨2, ![1024, 2048]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 8
  | .vmem => 19
  | .smem => 2
  | _ => 0

abbrev bufTy : (tb : Table) → Fin (tcTables nBuf tb) → BufTy
  | .hbm, ⟨0, _⟩ => ⟨S36864x2048, .f32⟩
  | .hbm, ⟨1, _⟩ => ⟨S8x2048x7168, .f32⟩
  | .hbm, ⟨2, _⟩ => ⟨S8x2048x7168, .f32⟩
  | .hbm, ⟨3, _⟩ => ⟨S8x7168x2048, .f32⟩
  | .hbm, ⟨4, _⟩ => ⟨S8192x2048, .f32⟩
  | .hbm, ⟨5, _⟩ => ⟨S8x2048x7168, .bf16⟩
  | .hbm, ⟨6, _⟩ => ⟨S8x2048x7168, .bf16⟩
  | .hbm, ⟨7, _⟩ => ⟨S8x7168x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x256x2048, .f32⟩
  | .local _ .vmem, ⟨9, _⟩ => ⟨S1x256x2048, .f32⟩
  | .local _ .vmem, ⟨10, _⟩ => ⟨S1024x2048, .f32⟩
  | .local _ .vmem, ⟨11, _⟩ => ⟨S1024x2048, .f32⟩
  | .local _ .vmem, ⟨12, _⟩ => ⟨S1x2048x256, .bf16⟩
  | .local _ .vmem, ⟨13, _⟩ => ⟨S1x2048x256, .bf16⟩
  | .local _ .vmem, ⟨14, _⟩ => ⟨S1x2048x256, .bf16⟩
  | .local _ .vmem, ⟨15, _⟩ => ⟨S1x2048x256, .bf16⟩
  | .local _ .vmem, ⟨16, _⟩ => ⟨S1x256x2048, .bf16⟩
  | .local _ .vmem, ⟨17, _⟩ => ⟨S1x256x2048, .bf16⟩
  | .local _ .vmem, ⟨18, _⟩ => ⟨S1024x2048, .bf16⟩
  | .local _ .smem, ⟨0, _⟩ => ⟨S16, .i32⟩
  | .local _ .smem, ⟨1, _⟩ => ⟨S8, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 28], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32 : BitVec 32) : Fin 1 → Nat :=
  let c2_i32 : BitVec 32 := 2#32
  let arg0 : BitVec 32 := BitVec.ofNat 32 (i 0).val
  let v0 : BitVec 32 := Scalar.muli c2_i32 arg0
  let v1 : BitVec 32 := Scalar.addi v0 c0_i32
  let v2 : Index := Scalar.indexCast v1
  ![v2.toNat]
def k0_off2 (i : grid0.Coords) : Fin 1 → Nat :=
  let arg0 : BitVec 32 := BitVec.ofNat 32 (i 0).val
  let v28 : Index := Scalar.indexCast arg0
  ![v28.toNat]
def cc0_transform_0 (k0_off1_inb : ∀ i : grid0.Coords, ∀ (r : Fin 2), ∀ a, (k0_off1 i (BitVec.ofNat 32 r.val)) a + S1.size a ≤ S16.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let v2 : Index := Scalar.indexCast v1
  let v3 : BitVec 32 := pf.at 0 (Rect.unit (s := S16) ![v2.toNat] S1.size (k0_off1_inb i 0)) numel1_S1
  let c0_i32_0 : BitVec 32 := 0#32
  let c0_i32_1 : BitVec 32 := 0#32
  ![v3.toNat, c0_i32_0.toNat]

def cc0_transform_1 (k0_off1_inb : ∀ i : grid0.Coords, ∀ (r : Fin 2), ∀ a, (k0_off1 i (BitVec.ofNat 32 r.val)) a + S1.size a ≤ S16.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S16) ![v2.toNat] S1.size (k0_off1_inb i 1)) numel1_S1
  let c0_i32 : BitVec 32 := 0#32
  let c0_i32_0 : BitVec 32 := 0#32
  ![v3.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceTailsIdeal.lean ====
abbrev S16 : Shape := ⟨1, ![16]⟩
abbrev S8 : Shape := ⟨1, ![8]⟩
abbrev S36864x2048 : Shape := ⟨2, ![36864, 2048]⟩
abbrev S8x2048x7168 : Shape := ⟨3, ![8, 2048, 7168]⟩
abbrev S8x7168x2048 : Shape := ⟨3, ![8, 7168, 2048]⟩
abbrev S72x512x2048 : Shape := ⟨3, ![72, 512, 2048]⟩
abbrev S_ : Shape := ⟨0, ![]⟩
abbrev S16x1 : Shape := ⟨2, ![16, 1]⟩
abbrev S16x512x2048 : Shape := ⟨3, ![16, 512, 2048]⟩
abbrev S8x1024x2048 : Shape := ⟨3, ![8, 1024, 2048]⟩
abbrev S8x1024x7168 : Shape := ⟨3, ![8, 1024, 7168]⟩
abbrev S8x2x512x2048 : Shape := ⟨4, ![8, 2, 512, 2048]⟩
abbrev S8x1 : Shape := ⟨2, ![8, 1]⟩
abbrev S2 : Shape := ⟨1, ![2]⟩
abbrev S1x2 : Shape := ⟨2, ![1, 2]⟩
abbrev S8x2 : Shape := ⟨2, ![8, 2]⟩
abbrev S8x2x1x1 : Shape := ⟨4, ![8, 2, 1, 1]⟩
abbrev S8192x2048 : Shape := ⟨2, ![8192, 2048]⟩

abbrev nBuf : Space → Nat
  | .hbm => 50
  | .vmem => 0
  | .smem => 0
  | _ => 0

abbrev bufTy : (tb : Table) → Fin (tcTables nBuf tb) → BufTy
  | .hbm, ⟨0, _⟩ => ⟨S16, .i32⟩
  | .hbm, ⟨1, _⟩ => ⟨S8, .i32⟩
  | .hbm, ⟨2, _⟩ => ⟨S36864x2048, .f32⟩
  | .hbm, ⟨3, _⟩ => ⟨S8x2048x7168, .f32⟩
  | .hbm, ⟨4, _⟩ => ⟨S8x2048x7168, .f32⟩
  | .hbm, ⟨5, _⟩ => ⟨S8x7168x2048, .f32⟩
  | .hbm, ⟨6, _⟩ => ⟨S72x512x2048, .f32⟩
  | .hbm, ⟨7, _⟩ => ⟨S_, .i32⟩
  | .hbm, ⟨8, _⟩ => ⟨S16, .i32⟩
  | .hbm, ⟨9, _⟩ => ⟨S16, .i1⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S16, .i32⟩
  | .hbm, ⟨14, _⟩ => ⟨S16x1, .i32⟩
  | .hbm, ⟨15, _⟩ => ⟨S16x512x2048, .f32⟩
  | .hbm, ⟨16, _⟩ => ⟨S8x1024x2048, .f32⟩
  | .hbm, ⟨17, _⟩ => ⟨S8x1024x7168, .f32⟩
  | .hbm, ⟨18, _⟩ => ⟨S8x1024x7168, .f32⟩
  | .hbm, ⟨19, _⟩ => ⟨S8x1024x7168, .f32⟩
  | .hbm, ⟨20, _⟩ => ⟨S_, .f32⟩
  | .hbm, ⟨21, _⟩ => ⟨S8x1024x7168, .f32⟩
  | .hbm, ⟨22, _⟩ => ⟨S8x1024x7168, .f32⟩
  | .hbm, ⟨23, _⟩ => ⟨S_, .f32⟩
  | .hbm, ⟨24, _⟩ => ⟨S8x1024x7168, .f32⟩
  | .hbm, ⟨25, _⟩ => ⟨S8x1024x7168, .f32⟩
  | .hbm, ⟨26, _⟩ => ⟨S8x1024x7168, .f32⟩
  | .hbm, ⟨27, _⟩ => ⟨S8x1024x7168, .f32⟩
  | .hbm, ⟨28, _⟩ => ⟨S8x1024x7168, .f32⟩
  | .hbm, ⟨29, _⟩ => ⟨S8x1024x2048, .f32⟩
  | .hbm, ⟨30, _⟩ => ⟨S8x2x512x2048, .f32⟩
  | .hbm, ⟨31, _⟩ => ⟨S8x1, .i32⟩
  | .hbm, ⟨32, _⟩ => ⟨S2, .i32⟩
  | .hbm, ⟨33, _⟩ => ⟨S_, .i32⟩
  | .hbm, ⟨34, _⟩ => ⟨S2, .i32⟩
  | .hbm, ⟨35, _⟩ => ⟨S2, .i32⟩
  | .hbm, ⟨36, _⟩ => ⟨S1x2, .i32⟩
  | .hbm, ⟨37, _⟩ => ⟨S8x2, .i32⟩
  | .hbm, ⟨38, _⟩ => ⟨S8x2, .i32⟩
  | .hbm, ⟨39, _⟩ => ⟨S8x2, .i1⟩
  | .hbm, ⟨40, _⟩ => ⟨S8x2x1x1, .i1⟩
  | .hbm, ⟨41, _⟩ => ⟨S_, .f32⟩
  | .hbm, ⟨42, _⟩ => ⟨S_, .f32⟩
  | .hbm, ⟨43, _⟩ => ⟨S8x2x512x2048, .i1⟩
  | .hbm, ⟨44, _⟩ => ⟨S8x2x512x2048, .f32⟩
  | .hbm, ⟨45, _⟩ => ⟨S8x2x512x2048, .f32⟩
  | .hbm, ⟨46, _⟩ => ⟨S8192x2048, .f32⟩
  | .hbm, ⟨47, _⟩ => ⟨S8x2048x7168, .bf16⟩
  | .hbm, ⟨48, _⟩ => ⟨S8x2048x7168, .bf16⟩
  | .hbm, ⟨49, _⟩ => ⟨S8x7168x2048, .bf16⟩
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩

abbrev nD : Nat := 1
abbrev τ : Topo := Topo.v7x

variable {F : FTy → Type} [FloatOps F]
-- ==== Conv.lean ====
abbrev S16384x2048 : Shape := ⟨2, ![16384, 2048]⟩
abbrev S2048x6144 : Shape := ⟨2, ![2048, 6144]⟩
abbrev S3x2048 : Shape := ⟨2, ![3, 2048]⟩
abbrev S2048x2048 : Shape := ⟨2, ![2048, 2048]⟩
abbrev S2048x256 : Shape := ⟨2, ![2048, 256]⟩
abbrev S3x256 : Shape := ⟨2, ![3, 256]⟩
abbrev S2056x256 : Shape := ⟨2, ![2056, 256]⟩
abbrev S8x256 : Shape := ⟨2, ![8, 256]⟩
abbrev S1x256 : Shape := ⟨2, ![1, 256]⟩

abbrev nBuf : Space → Nat
  | .hbm => 4
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S2048x6144, .f32⟩
  | .hbm, ⟨2, _⟩ => ⟨S3x2048, .f32⟩
  | .hbm, ⟨3, _⟩ => ⟨S16384x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S3x256, .f32⟩
  | .local _ .vmem, ⟨9, _⟩ => ⟨S3x256, .f32⟩
  | .local _ .vmem, ⟨10, _⟩ => ⟨S2048x256, .bf16⟩
  | .local _ .vmem, ⟨11, _⟩ => ⟨S2048x256, .bf16⟩
  | .local _ .vmem, ⟨12, _⟩ => ⟨S2056x256, .f32⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceConvIdeal.lean ====
abbrev S16384x2048 : Shape := ⟨2, ![16384, 2048]⟩
abbrev S2048x6144 : Shape := ⟨2, ![2048, 6144]⟩
abbrev S3x2048 : Shape := ⟨2, ![3, 2048]⟩
abbrev S8x2048x2048 : Shape := ⟨3, ![8, 2048, 2048]⟩
abbrev S8x2048x6144 : Shape := ⟨3, ![8, 2048, 6144]⟩
abbrev S_ : Shape := ⟨0, ![]⟩
abbrev S8x2x2048 : Shape := ⟨3, ![8, 2, 2048]⟩
abbrev S8x2050x2048 : Shape := ⟨3, ![8, 2050, 2048]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x6144, .f32⟩
  | .hbm, ⟨2, _⟩ => ⟨S3x2048, .f32⟩
  | .hbm, ⟨3, _⟩ => ⟨S16384x2048, .f32⟩
  | .hbm, ⟨4, _⟩ => ⟨S8x2048x2048, .f32⟩
  | .hbm, ⟨5, _⟩ => ⟨S8x2048x6144, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S_, .f32⟩
  | .hbm, ⟨10, _⟩ => ⟨S8x2x2048, .f32⟩
  | .hbm, ⟨11, _⟩ => ⟨S8x2048x2048, .f32⟩
  | .hbm, ⟨12, _⟩ => ⟨S8x2050x2048, .f32⟩
  | .hbm, ⟨13, _⟩ => ⟨S1x2048, .f32⟩
  | .hbm, ⟨14, _⟩ => ⟨S2048, .f32⟩
  | .hbm, ⟨15, _⟩ => ⟨S8x2048x2048, .f32⟩
  | .hbm, ⟨16, _⟩ => ⟨S1x1x2048, .f32⟩
  | .hbm, ⟨17, _⟩ => ⟨S8x2048x2048, .f32⟩
  | .hbm, ⟨18, _⟩ => ⟨S8x2048x2048, .f32⟩
  | .hbm, ⟨19, _⟩ => ⟨S1x2048, .f32⟩
  | .hbm, ⟨20, _⟩ => ⟨S2048, .f32⟩
  | .hbm, ⟨21, _⟩ => ⟨S8x2048x2048, .f32⟩
  | .hbm, ⟨22, _⟩ => ⟨S1x1x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S1x2048, .f32⟩
  | .hbm, ⟨27, _⟩ => ⟨S2048, .f32⟩
  | .hbm, ⟨28, _⟩ => ⟨S8x2048x2048, .f32⟩
  | .hbm, ⟨29, _⟩ => ⟨S1x1x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S16384x2048, .f32⟩
  | .hbm, ⟨35, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== Proof.Frames.lean ====
/- The frames of the three programs, cited from their generated modules, and the one named constant. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The mask's literal, named −∞. -/
theorem preserves : Cert.preserves_Kernel_KernelIdeal :=
  IdealRules.named_const.statement Cert.KernelIdeal.κ "mask" .f32 0xF149F2CA#32 ⊥ rfl

end Cert.Proof

end
-- ==== Proof.KV.lean ====
module
public import proofs.«01_k».proof.Proof.Gen.KernelIdeal.Value
public import proofs.«01_k».proof.Proof.Gen.ReferenceIdeal.Read
@[expose] public section
end
-- ==== Proof.Consts.lean ====
/-
  The real numbers the programs' constants are.
-/
module

public import proofs.«01_k».proof.Defs
public import Idealize.ShloMosaic.Lib.Pointwise

@[expose] public section

noncomputable section

namespace Cert.KernelIdeal.Att

open Idealize.ShloMosaic

theorem ofBits_inv256 : Ideal.ofBits .f32 0x3B800000#32 = ((1 / 256 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_three : Ideal.ofBits .f32 0x40400000#32 = ((3 : ℕ) : EReal) := by
  have h : Ideal.ofBits .f32 0x40400000#32 = ((3 : ℝ) : EReal) := by
    simp [Ideal.ofBits, Ideal.ieee, -EReal.coe_mul]; norm_num
  rw [h]; norm_cast

theorem ofBits_bot : Ideal.ofBits .f32 0xFF800000#32 = (⊥ : EReal) := by
  simp [Ideal.ofBits, Ideal.ieee]

theorem ofBits_top : Ideal.ofBits .f32 0x7F800000#32 = (⊤ : EReal) := by
  simp [Ideal.ofBits, Ideal.ieee]

theorem ofBits_bf16_one : Ideal.ofBits .bf16 0x3F80#16 = ((1 : ℝ) : EReal) := by
  simp [Ideal.ofBits, Ideal.ieee, -EReal.coe_mul]; norm_num

end Cert.KernelIdeal.Att
-- ==== Proof.Finite.lean ====
/-
  The precondition read: every query and every key is a real number.
-/
module

public import proofs.«01_k».proof.Pre_finite_q_k
public import proofs.«01_k».proof.Proof.Consts
public import Idealize.ShloMosaic.Lib.Pointwise
public import Idealize.ShloMosaic.Lib.ReduceAll

@[expose] public section

noncomputable section

namespace Cert.Pre_finite_q_k

open Idealize.ShloMosaic Facts

instance facts : Facts := by
  constructor <;> decide

/-- The first of two flags laid side by side. -/
theorem left_apply (a b : IVec S_ 1) :
    concatenate S2 0 [⟨S1, (broadcastInDim S1 ![] bcast_S_S1 a : IVec S1 1)⟩, ⟨S1, (broadcastInDim S1 ![] bcast_S_S1 b : IVec S1 1)⟩] concatenates_S1_S1_S2_d0 (ix1 0)
      = a ix0 := by
  pointwise

/-- The second of two flags laid side by side. -/
theorem right_apply (a b : IVec S_ 1) :
    concatenate S2 0 [⟨S1, (broadcastInDim S1 ![] bcast_S_S1 a : IVec S1 1)⟩, ⟨S1, (broadcastInDim S1 ![] bcast_S_S1 b : IVec S1 1)⟩] concatenates_S1_S1_S2_d0 (ix1 1)
      = b ix0 := by
  pointwise

/-- One argument's test passed: its elements are real. -/
theorem real_of (x : FVec Ideal S16384x2048 .bf16) (j : S_.Idx)
    (h : Host.reduce IntOp.andi (cmpf .olt (Host.absf (extf .f32 x bitsLt_bf16_f32 : FVec Ideal S16384x2048 .f32))
      (broadcastInDim S16384x2048 ![] bcast_S_S16384x2048 (constant S_ .f32 0x7F800000#32))) (constantI S_ 1 1#1) reducesTo_S16384x2048_S_d0_1 h_S_ j = 1#1)
    (a : Fin 16384) (e : Fin 2048) : x (ix2 a e) = (((x (ix2 a e)).toReal : ℝ) : EReal) := by
  haveI : Subsingleton S_.Idx := ⟨fun u v => funext fun k => k.elim0⟩
  have h1 := Host.reduce_andi_all _ _ _ _ j h (ix2 a e)
  have h2 : BitVec.ofBool (decide (max (x (ix2 a e) : EReal) (-(x (ix2 a e) : EReal)) < Ideal.ofBits .f32 0x7F800000#32)) = 1#1 := h1
  rw [Cert.KernelIdeal.Att.ofBits_top] at h2
  have h3 : max (x (ix2 a e) : EReal) (-(x (ix2 a e) : EReal)) < ⊤ := by
    by_contra hn
    rw [decide_eq_false hn] at h2
    exact absurd h2 (by decide)
  have h4 := max_lt_iff.mp h3
  refine (EReal.coe_toReal h4.1.ne ?_).symm
  intro hb
  rw [hb] at h4
  exact absurd h4.2 (by simp)

/-- The precondition makes every query and every key real. -/
theorem finite (q k v : FVec Ideal S16384x2048 .bf16) (h : fn (F := Ideal) q k v = fun _ => 1#1) (a : Fin 16384) (e : Fin 2048) :
    q (ix2 a e) = (((q (ix2 a e)).toReal : ℝ) : EReal) ∧ k (ix2 a e) = (((k (ix2 a e)).toReal : ℝ) : EReal) := by
  unfold fn at h
  dsimp only at h
  refine ⟨real_of q ix0 ?_ a e, real_of k ix0 ?_ a e⟩
  · exact (left_apply _ _).symm.trans (congrFun h (ix1 0))
  · exact (right_apply _ _).symm.trans (congrFun h (ix1 1))

end Cert.Pre_finite_q_k
-- ==== Proof.Comb.lean ====
/-
  The kernel's body at one grid point, as a short list of named vector functions: the raw and the masked scores of a
  block of keys against a block of queries, the gate rows, the pairwise ranks, the running maximum, the accumulated
  weighted values, and one finished output block.
-/
module

public import proofs.«01_k».proof.Proof.Gen.KernelIdeal.Value

@[expose] public section

set_option maxRecDepth 16384

noncomputable section

namespace Cert.KernelIdeal.Att

open Idealize.ShloMosaic Idealize.ShloMosaic.TcCoe Idealize.ShloMosaic.Tactic
open Cert.KernelIdeal Cert.KernelIdeal.Gen

variable {F : FTy → Type} [FloatOps F] [Named F]

/-- The scores of a block of keys (rows) against a block of queries (columns). -/
def raw (k q : Vec F S256x128 .bf16) : FVec F S256x256 .f32 :=
  matmul dot_S256x128_S256x128_S256x256_1_1_0_0_n_n none k (shapeCast S256x128 q shapeCasts_S256x128_S256x128)
    (constant S256x256 .f32 0x00000000#32)

/-- The mask's value on every key and query of a block. -/
def maskV : FVec F S256x256 .f32 := broadcast S256x256 (Named.named κ "mask" 0xF149F2CA#32)

/-- The mean of a block's keys, as a row. -/
def kmRow (k : Vec F S256x128 .bf16) : FVec F S1x128 .f32 :=
  mulf (shapeCast S1x128 (multiReduction .add [0] S128 (extf .f32 k bitsLt_bf16_f32) 0x00000000#32 reduces_S256x128_S128 (.inl rfl) rfl)
    shapeCasts_S128_S1x128) (broadcast S1x128 (Scalar.ofBits .f32 0x3B800000#32))

/-- The eight means split into three addends and a block of zeros. -/
def kmParts (ks : Fin 8 → Vec F S256x128 .bf16) : FVec F S32x128 .bf16 :=
  k0_pay55 (kmRow (ks 0)) (kmRow (ks 1)) (kmRow (ks 2)) (kmRow (ks 3)) (kmRow (ks 4)) (kmRow (ks 5)) (kmRow (ks 6)) (ks 7)

/-- The products of the split means with the queries. -/
def gate3 (km : FVec F S32x128 .bf16) (q : Vec F S256x128 .bf16) : FVec F S32x256 .f32 :=
  matmul dot_S32x128_S256x128_S32x256_1_1_0_0_n_n none km (shapeCast S256x128 q shapeCasts_S256x128_S256x128)
    (constant S32x256 .f32 0x00000000#32)

/-- The three addends summed: the gate of each block. -/
def gate8 (g : FVec F S32x256 .f32) : FVec F S8x256 .f32 :=
  addf (addf (extractStridedSlice S8x256 ![0, 0] g slices_S32x256_o0_0_S8x256)
    (extractStridedSlice S8x256 ![8, 0] g slices_S32x256_o8_0_S8x256))
    (extractStridedSlice S8x256 ![16, 0] g slices_S32x256_o16_0_S8x256)

theorem slices_row (n : Fin 8) : S8x256.Slices ![n.val, 0] S1x256 := by revert n; decide

/-- The gate of block `n`, as a row. -/
def gateRow (km : FVec F S32x128 .bf16) (q : Vec F S256x128 .bf16) (n : Nat) : FVec F S1x256 .f32 :=
  extractStridedSlice S1x256 ![(Fin.ofNat 8 n).val, 0] (gate8 (gate3 km q)) (slices_row (Fin.ofNat 8 n))

/-- `1` where the first row is at least the second, `0` elsewhere. -/
def first (a b : FVec F S1x256 .f32) : FVec F S1x256 .f32 := sitofp .f32 (extui 32 (cmpf .oge a b) natLt_1_32)

/-- How many of the blocks `0 … a-1` come before block `n`. -/
def rankLo (g : Nat → FVec F S1x256 .f32) (n : Nat) : Nat → FVec F S1x256 .f32
  | 0 => broadcast S1x256 (Scalar.ofBits .f32 0x00000000#32)
  | a + 1 => addf (rankLo g n a) (first (g a) (g n))

/-- … and with them the blocks `n+1 … n+b` that come before it. -/
def rank (g : Nat → FVec F S1x256 .f32) (n : Nat) : Nat → FVec F S1x256 .f32
  | 0 => rankLo g n n
  | b + 1 => addf (rank g n b) (subf (broadcast S1x256 (Scalar.ofBits .f32 0x3F800000#32)) (first (g n) (g (n + 1 + b))))

/-- Whether block `n` is among the three first of the `qi` past blocks. -/
def sel (g : Nat → FVec F S1x256 .f32) (qi n : Nat) : IVec S1x256 1 :=
  cmpf .olt (rank g n (qi - 1 - n)) (broadcast S1x256 (Scalar.ofBits .f32 0x40400000#32))

/-- The masked scores of key block `n` for query block `qi`. -/
def score (ks : Fin 8 → Vec F S256x128 .bf16) (q : Vec F S256x128 .bf16) (qi n : Nat) : FVec F S256x256 .f32 :=
  bif Nat.beq n qi then select k0_pay56 (raw (ks (Fin.ofNat 8 n)) q) maskV
  else bif Nat.ble 4 qi then
    select (broadcastTo S256x256 (shapeCast S1x256 (sel (gateRow (kmParts ks) q) qi n) shapeCasts_S1x256_S1x256) broadcasts_S1x256_S256x256)
      (raw (ks (Fin.ofNat 8 n)) q) maskV
  else raw (ks (Fin.ofNat 8 n)) q

/-- The greatest score of each query in one block. -/
def colMax (s : FVec F S256x256 .f32) : FVec F S1x256 .f32 :=
  shapeCast S1x256 (multiReduction .maximumf [0] S256 s 0xFF800000#32 reduces_S256x256_S256 (.inl rfl) rfl) shapeCasts_S256_S1x256

/-- The running maximum over the blocks `0 … n`. -/
def runMax (s : Nat → FVec F S256x256 .f32) : Nat → FVec F S1x256 .f32
  | 0 => colMax (s 0)
  | n + 1 => maximumf (runMax s n) (colMax (s (n + 1)))

/-- One block's weighted values, and below them its weights' sum. -/
def weighted (vt : Vec F S1x1x144x256 .bf16) (s : Vec F S1x1x1x256x256 .f32) (m : FVec F S1x256 .f32) : FVec F S144x256 .f32 :=
  matmul dot_S144x256_S256x256_S144x256_1_0_0_1_n_n none (shapeCast S144x256 vt shapeCasts_S1x1x144x256_S144x256)
    (truncf .bf16 (exp2 (subf (shapeCast S256x256 s shapeCasts_S1x1x1x256x256_S256x256)
      (broadcastTo S256x256 m broadcasts_S1x256_S256x256))) bitsLt_bf16_f32)
    (constant S144x256 .f32 0x00000000#32)

/-- The blocks `0 … n` accumulated. -/
def accum (vt : Nat → Vec F S1x1x144x256 .bf16) (s : Nat → Vec F S1x1x1x256x256 .f32) (m : FVec F S1x256 .f32) : Nat → FVec F S144x256 .f32
  | 0 => weighted (vt 0) (s 0) m
  | n + 1 => addf (accum vt s m n) (weighted (vt (n + 1)) (s (n + 1)) m)

/-- The accumulated values divided by the accumulated weights, turned back to rows of queries. -/
def finish (a : FVec F S144x256 .f32) : FVec F S256x128 .bf16 :=
  truncf .bf16 (transpose S256x128 [1, 0] (mulf (extractStridedSlice S128x256 ![0, 0] a slices_S144x256_o0_0_S128x256)
    (broadcastTo S128x256 (divf (broadcast S1x256 (Scalar.ofBits .f32 0x3F800000#32))
      (extractStridedSlice S1x256 ![128, 0] a slices_S144x256_o128_0_S1x256)) broadcasts_S1x256_S128x256))
    transposes_S128x256_p1_0_S256x128) bitsLt_bf16_f32

theorem inb_blk (n : Fin 8) (hh : Fin 2) : ∀ a, (![n.val * 256, hh.val * 128] : Fin 2 → Nat) a + S256x128.size a ≤ S2048x256.size a := by
  revert n hh; decide

/-- The block of rows `n` and head `hh` of an input's window. -/
def blkRect (n : Fin 8) (hh : Fin 2) : Rect S2048x256 := Rect.unit ![n.val * 256, hh.val * 128] S256x128.size (inb_blk n hh)

theorem inb_s (hh p : Fin 2) (n : Fin 8) :
    ∀ a, (![hh.val, p.val, n.val, 0, 0] : Fin 5 → Nat) a + S1x1x1x256x256.size a ≤ S2x2x8x256x256.size a := by
  revert n hh p; decide

/-- The slot of head `hh`, parity `p` and block `n` in the scratch of scores. -/
def sRect (hh p : Fin 2) (n : Fin 8) : Rect S2x2x8x256x256 :=
  Rect.unit (s := S2x2x8x256x256) ![hh.val, p.val, n.val, 0, 0] S1x1x1x256x256.size (inb_s hh p n)

theorem inb_vt (hh : Fin 2) (n : Fin 8) :
    ∀ a, (![hh.val, n.val, 0, 0] : Fin 4 → Nat) a + S1x1x144x256.size a ≤ S2x8x144x256.size a := by
  revert n hh; decide

/-- The slot of head `hh` and block `n` in the scratch of values. -/
def vtRect (hh : Fin 2) (n : Fin 8) : Rect S2x8x144x256 :=
  Rect.unit (s := S2x8x144x256) ![hh.val, n.val, 0, 0] S1x1x144x256.size (inb_vt hh n)

end Cert.KernelIdeal.Att
-- ==== Proof.Pieces.lean ====
module

public import proofs.«01_k».proof.Proof.Comb

@[expose] public section

set_option maxRecDepth 16384

noncomputable section

namespace Cert.KernelIdeal.Att

open Idealize.ShloMosaic Idealize.ShloMosaic.TcCoe Idealize.ShloMosaic.Tactic
open Cert.KernelIdeal Cert.KernelIdeal.Gen

variable {F : FTy → Type} [FloatOps F] [Named F]

variable (c : Dev nD) (i : grid0.Coords) (arg2 : Memref sig .tc .vmem S2048x256 .bf16) (harg2 : arg2.IsWhole)
  (arg3 : Memref sig .tc .vmem S2048x256 .bf16) (harg3 : arg3.IsWhole) (arg4 : Memref sig .tc .vmem S2048x256 .bf16) (harg4 : arg4.IsWhole)
  (arg5 : Memref sig .tc .vmem S2048x256 .bf16) (harg5 : arg5.IsWhole) (arg6 : Memref sig .tc .vmem S2x8x144x256 .bf16) (harg6 : arg6.IsWhole)
  (arg7 : Memref sig .tc .vmem S2x2x8x256x256 .f32) (harg7 : arg7.IsWhole) (x0 x1 x2 : Vec F S2048x256 .bf16)

/-- The blocks a head reads of a window. -/
def ld (a : Memref sig .tc .vmem S2048x256 .bf16) (ha : a.IsWhole) (x : Vec F S2048x256 .bf16) (hh : Fin 2) (n : Fin 8) : Vec F S256x128 .bf16 :=
  View.readAt (Elt F) a.view (blkRect n hh).toLoadRect (ha.unread x)

/-- A block of values turned to columns. -/
def vtTop (v : Vec F S256x128 .bf16) : Vec F S1x1x128x256 .bf16 :=
  shapeCast S1x1x128x256 (truncf .bf16 (transpose S128x256 [1, 0] (extf .f32 v bitsLt_bf16_f32) transposes_S256x128_p1_0_S128x256) bitsLt_bf16_f32)
    shapeCasts_S128x256_S1x1x128x256

/-- The rows of ones below them. -/
def onesV : Vec F S1x1x16x256 .bf16 :=
  shapeCast S1x1x16x256 (broadcast S16x256 (Scalar.ofBits .bf16 0x3F80#16)) shapeCasts_S16x256_S1x1x16x256

theorem inb_top (hh : Fin 2) (n : Fin 8) : ∀ a, (![hh.val, n.val, 0, 0] : Fin 4 → Nat) a + S1x1x128x256.size a ≤ S2x8x144x256.size a := by
  revert n hh; decide

theorem inb_ones (hh : Fin 2) (n : Fin 8) : ∀ a, (![hh.val, n.val, 128, 0] : Fin 4 → Nat) a + S1x1x16x256.size a ≤ S2x8x144x256.size a := by
  revert n hh; decide

def topRect (hh : Fin 2) (n : Fin 8) : Rect S2x8x144x256 :=
  Rect.unit (s := S2x8x144x256) ![hh.val, n.val, 0, 0] S1x1x128x256.size (inb_top hh n)

def onesRect (hh : Fin 2) (n : Fin 8) : Rect S2x8x144x256 :=
  Rect.unit (s := S2x8x144x256) ![hh.val, n.val, 128, 0] S1x1x16x256.size (inb_ones hh n)

/-- The scratch of values after every store. -/
def vtHist : List (View.Piece (Elt F) S2x8x144x256 .bf16) :=
  ([1, 0] : List (Fin 2)).flatMap fun hh => ([7, 6, 5, 4, 3, 2, 1, 0] : List (Fin 8)).flatMap fun n =>
    [⟨onesRect hh n, onesV⟩, ⟨topRect hh n, vtTop (ld arg4 harg4 x2 hh n)⟩]

def vtL (hh : Fin 2) (n : Nat) : Vec F S1x1x144x256 .bf16 :=
  arg6.view.readCov (vtHist arg4 harg4 x2) (vtRect hh (Fin.ofNat 8 n)).toLoadRect

def sL (L : List (View.Piece (Elt F) S2x2x8x256x256 .f32)) (hh p : Fin 2) (n : Nat) : Vec F S1x1x1x256x256 .f32 :=
  arg7.view.readCov L (sRect hh p (Fin.ofNat 8 n)).toLoadRect

/-- The piece the scores of query block `q` against key block `n` leave in the scratch. -/
def piece (hh : Fin 2) (q n : Nat) : View.Piece (Elt F) S2x2x8x256x256 .f32 :=
  ⟨sRect hh (Fin.ofNat 2 q) (Fin.ofNat 8 n), shapeCast S1x1x1x256x256
    (score (ld arg3 harg3 x1 hh) (ld arg2 harg2 x0 hh (Fin.ofNat 8 q)) q n) shapeCasts_S256x256_S1x1x1x256x256⟩

def outL (L : List (View.Piece (Elt F) S2x2x8x256x256 .f32)) (hh p : Fin 2) (qi : Nat) : FVec F S256x128 .bf16 :=
  finish (accum (vtL arg4 harg4 arg6 x2 hh) (sL arg7 L hh p)
    (runMax (score (ld arg3 harg3 x1 hh) (ld arg2 harg2 x0 hh (Fin.ofNat 8 qi)) qi) qi) qi)

/-- The pieces the scores of query block `q` and head `hh` leave: blocks `0 … m`, last first. -/
def col (hh : Fin 2) (q : Nat) (L : List (View.Piece (Elt F) S2x2x8x256x256 .f32)) : Nat → List (View.Piece (Elt F) S2x2x8x256x256 .f32)
  | 0 => piece arg2 harg2 arg3 harg3 x0 x1 hh q 0 :: L
  | m + 1 => piece arg2 harg2 arg3 harg3 x0 x1 hh q (m + 1) :: col hh q L m

/-- The scratch of scores after the scores of the query blocks `0 … q`. -/
def hist : Nat → List (View.Piece (Elt F) S2x2x8x256x256 .f32)
  | 0 => col arg2 harg2 arg3 harg3 x0 x1 1 0 (col arg2 harg2 arg3 harg3 x0 x1 0 0 [] 0) 0
  | q + 1 => col arg2 harg2 arg3 harg3 x0 x1 1 (q + 1) (col arg2 harg2 arg3 harg3 x0 x1 0 (q + 1) (hist q) (q + 1)) (q + 1)

theorem inb_o (n : Fin 8) (hh : Fin 2) : ∀ a, (![n.val * 256, hh.val * 128] : Fin 2 → Nat) a + S256x128.size a ≤ S2048x256.size a :=
  inb_blk n hh

/-- The piece of query block `q` and head `hh` in the output's window. -/
def outP (hh : Fin 2) (q : Nat) : View.Piece (Elt F) S2048x256 .bf16 :=
  ⟨blkRect (Fin.ofNat 8 q) hh, outL arg2 harg2 arg3 harg3 arg4 harg4 arg6 arg7 x0 x1 x2
    (hist arg2 harg2 arg3 harg3 x0 x1 (bif Nat.ble q 6 then q + 1 else q)) hh (Fin.ofNat 2 q) q⟩

/-- The run's stores to the output's window are these sixteen pieces. -/
theorem run_pieces : (kernelRun0_A c i arg2 harg2 arg3 harg3 arg4 harg4 arg5 harg5 arg6 harg6 arg7 harg7 x0 x1 x2).1
    = [7, 6, 5, 4, 3, 2, 1, 0].flatMap fun q => [outP arg2 harg2 arg3 harg3 arg4 harg4 arg6 arg7 x0 x1 x2 1 q,
        outP arg2 harg2 arg3 harg3 arg4 harg4 arg6 arg7 x0 x1 x2 0 q] := rfl

end Cert.KernelIdeal.Att
-- ==== Proof.Elem.lean ====
module

public import proofs.«01_k».proof.Proof.Comb
public import proofs.«01_k».proof.Proof.Consts
public import Idealize.ShloMosaic.Lib.Pointwise

@[expose] public section

set_option maxRecDepth 16384

noncomputable section

namespace Cert.KernelIdeal.Att

open Idealize.ShloMosaic Idealize.ShloMosaic.TcCoe Idealize.ShloMosaic.Tactic
open Cert.KernelIdeal Cert.KernelIdeal.Gen

theorem mask_eq : Named.named (F := Ideal) κ "mask" (φ := .f32) 0xF149F2CA#32 = (⊥ : EReal) :=
  IdealRules.named_const.ideal_named_scalar _ _ _ _ rfl

theorem raw_apply (k q : Vec Ideal S256x128 .bf16) (a b : Fin 256) :
    raw (F := Ideal) k q (ix2 a b) = ∑ d : Fin 128, k (ix2 a d) * q (ix2 b d) := by
  pointwise [raw]

theorem own_apply (r : FVec Ideal S256x256 .f32) (a b : Fin 256) :
    select k0_pay56 r (maskV (F := Ideal)) (ix2 a b) = if a ≤ b then r (ix2 a b) else ⊥ := by
  pointwise [maskV, k0_pay56]
  rw [mask_eq]
  by_cases h : a ≤ b
  · rw [if_pos h]
    have : IntOp.cmpi CmpIPredicate.sle (BitVec.ofNat 32 a.val) (BitVec.ofNat 32 b.val) = 1#1 := by
      rw [WordCmp.cmpi_sle_ofNat (by have := a.isLt; norm_num; omega) (by have := b.isLt; norm_num; omega), decide_eq_true (by exact h)]; rfl
    rw [this]; rfl
  · rw [if_neg h]
    have : IntOp.cmpi CmpIPredicate.sle (BitVec.ofNat 32 a.val) (BitVec.ofNat 32 b.val) = 0#1 := by
      rw [WordCmp.cmpi_sle_ofNat (by have := a.isLt; norm_num; omega) (by have := b.isLt; norm_num; omega), decide_eq_false (by exact h)]; rfl
    rw [this]; rfl

theorem kmRow_apply (k : Vec Ideal S256x128 .bf16) (d : Fin 128) :
    kmRow (F := Ideal) k (ix2 0 d) = (∑ r : Fin 256, k (ix2 r d)) * ((1 / 256 : ℝ) : EReal) := by
  pointwise [kmRow]
  rw [ofBits_inv256]

theorem gate8_apply (g : FVec Ideal S32x256 .f32) (n : Fin 8) (j : Fin 256) :
    gate8 (F := Ideal) g (ix2 n j) = g (ix2 ⟨n.val, by omega⟩ j) + g (ix2 ⟨8 + n.val, by omega⟩ j) + g (ix2 ⟨16 + n.val, by omega⟩ j) := by
  pointwise [gate8]

theorem gate3_apply (km : FVec Ideal S32x128 .bf16) (q : Vec Ideal S256x128 .bf16) (n : Fin 32) (j : Fin 256) :
    gate3 (F := Ideal) km q (ix2 n j) = ∑ d : Fin 128, km (ix2 n d) * q (ix2 j d) := by
  pointwise [gate3]

theorem kmParts_a (ks : Fin 8 → Vec Ideal S256x128 .bf16) (n : Fin 8) (d : Fin 128) :
    kmParts (F := Ideal) ks (ix2 ⟨n.val, by omega⟩ d) = kmRow (F := Ideal) (ks n) (ix2 0 d) := by
  pointwise [kmParts, k0_pay55, kmRow]
  fin_cases n <;> rfl

theorem kmParts_b (ks : Fin 8 → Vec Ideal S256x128 .bf16) (n : Fin 8) (d : Fin 128) :
    kmParts (F := Ideal) ks (ix2 ⟨8 + n.val, by omega⟩ d) = kmRow (F := Ideal) (ks n) (ix2 0 d) - kmRow (F := Ideal) (ks n) (ix2 0 d) := by
  pointwise [kmParts, k0_pay55, kmRow]
  fin_cases n <;> rfl

theorem kmParts_c (ks : Fin 8 → Vec Ideal S256x128 .bf16) (n : Fin 8) (d : Fin 128) :
    kmParts (F := Ideal) ks (ix2 ⟨16 + n.val, by omega⟩ d) = (kmRow (F := Ideal) (ks n) (ix2 0 d) - kmRow (F := Ideal) (ks n) (ix2 0 d))
      - (kmRow (F := Ideal) (ks n) (ix2 0 d) - kmRow (F := Ideal) (ks n) (ix2 0 d)) := by
  pointwise [kmParts, k0_pay55, kmRow]
  fin_cases n <;> rfl

theorem gateRow_apply (km : FVec Ideal S32x128 .bf16) (q : Vec Ideal S256x128 .bf16) (n : Nat) (j : Fin 256) :
    gateRow (F := Ideal) km q n (ix2 0 j) = gate8 (F := Ideal) (gate3 (F := Ideal) km q) (ix2 (Fin.ofNat 8 n) j) := by
  unfold gateRow
  generalize gate8 (F := Ideal) (gate3 (F := Ideal) km q) = G
  pointwise

theorem first_apply (a b : FVec Ideal S1x256 .f32) (j : Fin 256) :
    first (F := Ideal) a b (ix2 0 j) = if b (ix2 0 j) ≤ a (ix2 0 j) then 1 else 0 := by
  pointwise [first]
  by_cases h : b (ix2 0 j) ≤ a (ix2 0 j)
  · rw [if_pos h, decide_eq_true h]
    show (((BitVec.setWidth 32 (BitVec.ofBool true)).toInt : ℝ) : EReal) = 1
    simp
  · rw [if_neg h, decide_eq_false h]
    show (((BitVec.setWidth 32 (BitVec.ofBool false)).toInt : ℝ) : EReal) = 0
    simp

theorem past_apply (s : IVec S1x256 1) (r : FVec Ideal S256x256 .f32) (a b : Fin 256) :
    select (broadcastTo S256x256 (shapeCast S1x256 s shapeCasts_S1x256_S1x256) broadcasts_S1x256_S256x256) r (maskV (F := Ideal)) (ix2 a b)
     = if s (ix2 0 b) = 1#1 then r (ix2 a b) else ⊥ := by
  pointwise [maskV]
  rw [mask_eq]
  rfl

theorem colMax_apply (s : FVec Ideal S256x256 .f32) (b : Fin 256) :
    colMax (F := Ideal) s (ix2 0 b) = Finset.univ.fold max ⊥ fun a : Fin 256 => s (ix2 a b) := by
  pointwise [colMax]
  rw [ofBits_bot]

theorem weighted_apply (vt : Vec Ideal S1x1x144x256 .bf16) (s : Vec Ideal S1x1x1x256x256 .f32) (m : FVec Ideal S1x256 .f32)
    (d : Fin 144) (b : Fin 256) :
    weighted (F := Ideal) vt s m (ix2 d b) = ∑ j : Fin 256, vt (ix4 0 0 d j) * Ideal.exp2 (s (ix5 0 0 0 j b) - m (ix2 0 b)) := by
  pointwise [weighted]
  rfl

theorem finish_apply (a : FVec Ideal S144x256 .f32) (i : Fin 256) (d : Fin 128) :
    finish (F := Ideal) a (ix2 i d) = a (ix2 ⟨d.val, by omega⟩ i) * Ideal.div 1 (a (ix2 128 i)) := by
  pointwise [finish]

theorem rankLo_apply (g : Nat → FVec Ideal S1x256 .f32) (n k : Nat) (j : Fin 256) :
    rankLo (F := Ideal) g n k (ix2 0 j)
      = ((∑ a ∈ Finset.range k, if g n (ix2 0 j) ≤ g a (ix2 0 j) then 1 else 0 : ℕ) : EReal) := by
  induction k with
  | zero => pointwise [rankLo]; simp
  | succ k ih =>
    have e : rankLo (F := Ideal) g n (k + 1) (ix2 0 j) = rankLo (F := Ideal) g n k (ix2 0 j) + first (F := Ideal) (g k) (g n) (ix2 0 j) := rfl
    rw [e, ih, first_apply, Finset.sum_range_succ]
    push_cast
    rfl

theorem rank_apply (g : Nat → FVec Ideal S1x256 .f32) (n k : Nat) (j : Fin 256) :
    rank (F := Ideal) g n k (ix2 0 j)
      = (((∑ a ∈ Finset.range n, if g n (ix2 0 j) ≤ g a (ix2 0 j) then 1 else 0)
          + ∑ a ∈ Finset.range k, if g (n + 1 + a) (ix2 0 j) ≤ g n (ix2 0 j) then 0 else 1 : ℕ) : EReal) := by
  induction k with
  | zero => exact (rankLo_apply g n n j).trans (by simp)
  | succ k ih =>
    have e : rank (F := Ideal) g n (k + 1) (ix2 0 j) = rank (F := Ideal) g n k (ix2 0 j)
        + (Ideal.ofBits .f32 0x3F800000#32 - first (F := Ideal) (g n) (g (n + 1 + k)) (ix2 0 j)) := rfl
    rw [e, ih, first_apply, Finset.sum_range_succ, ofBits_one, ← add_assoc, Nat.cast_add (_ + _)]
    congr 1
    by_cases h : g (n + 1 + k) (ix2 0 j) ≤ g n (ix2 0 j)
    · rw [if_pos h, if_pos h]; norm_cast
    · rw [if_neg h, if_neg h]; norm_cast

theorem sel_apply (g : Nat → FVec Ideal S1x256 .f32) (qi n : Nat) (j : Fin 256) :
    sel (F := Ideal) g qi n (ix2 0 j) = 1#1 ↔
      (∑ a ∈ Finset.range n, if g n (ix2 0 j) ≤ g a (ix2 0 j) then 1 else 0)
          + (∑ a ∈ Finset.range (qi - 1 - n), if g (n + 1 + a) (ix2 0 j) ≤ g n (ix2 0 j) then 0 else 1) < 3 := by
  have e : sel (F := Ideal) g qi n (ix2 0 j)
      = BitVec.ofBool (decide (rank (F := Ideal) g n (qi - 1 - n) (ix2 0 j) < Ideal.ofBits .f32 0x40400000#32)) := by
    unfold sel
    generalize rank (F := Ideal) g n (qi - 1 - n) = R
    pointwise
  rw [e, rank_apply, ofBits_three]
  simp only [EReal.natCast_lt_iff]
  constructor
  · intro h'
    by_contra hn
    rw [decide_eq_false hn] at h'
    exact absurd h' (by decide)
  · intro h
    rw [decide_eq_true h]
    rfl

end Cert.KernelIdeal.Att
-- ==== Proof.Slots.lean ====
/-
  What the two scratch buffers hold where the output's blocks read them, and the output's window read at an index.
-/
module

public import proofs.«01_k».proof.Proof.Pieces
public import proofs.«01_k».proof.Proof.Elem
public import Idealize.ShloMosaic.Lib.WholeRead

@[expose] public section

set_option maxRecDepth 16384

noncomputable section

namespace Cert.KernelIdeal.Att

open Idealize.ShloMosaic Idealize.ShloMosaic.TcCoe Idealize.ShloMosaic.Tactic
open Cert.KernelIdeal Cert.KernelIdeal.Gen

section Scores

variable {F : FTy → Type} [FloatOps F] [Named F]
variable (arg2 : Memref sig .tc .vmem S2048x256 .bf16) (harg2 : arg2.IsWhole)
  (arg3 : Memref sig .tc .vmem S2048x256 .bf16) (harg3 : arg3.IsWhole)
  (arg7 : Memref sig .tc .vmem S2x2x8x256x256 .f32) (x0 x1 : Vec F S2048x256 .bf16)

/-- Two slots of the scratch of scores that differ in head, parity or block have no place in common. -/
theorem sRect_disjoint (hh p : Fin 2) (n : Fin 8) (hh' p' : Fin 2) (n' : Fin 8) (h : hh ≠ hh' ∨ p ≠ p' ∨ n ≠ n') :
    Disjoint (sRect hh p n).set (sRect hh' p' n').set := by
  rcases h with h | h | h
  · refine Rect.unit_disjoint (s := S2x2x8x256x256) 0 ?_
    have := Fin.val_ne_of_ne h
    show hh.val + 1 ≤ hh'.val ∨ hh'.val + 1 ≤ hh.val
    omega
  · refine Rect.unit_disjoint (s := S2x2x8x256x256) 1 ?_
    have := Fin.val_ne_of_ne h
    show p.val + 1 ≤ p'.val ∨ p'.val + 1 ≤ p.val
    omega
  · refine Rect.unit_disjoint (s := S2x2x8x256x256) 2 ?_
    have := Fin.val_ne_of_ne h
    show n.val + 1 ≤ n'.val ∨ n'.val + 1 ≤ n.val
    omega

theorem sL_col_miss (hh : Fin 2) (q : Nat) (L : List (View.Piece (Elt F) S2x2x8x256x256 .f32)) (hh' p : Fin 2) (n m : Nat)
    (h : hh ≠ hh' ∨ Fin.ofNat 2 q ≠ p) :
    sL arg7 (col arg2 harg2 arg3 harg3 x0 x1 hh q L m) hh' p n = sL arg7 L hh' p n := by
  have d : ∀ k, Disjoint (piece arg2 harg2 arg3 harg3 x0 x1 hh q k).1.set (sRect hh' p (Fin.ofNat 8 n)).toLoadRect.set := fun k =>
    sRect_disjoint hh (Fin.ofNat 2 q) (Fin.ofNat 8 k) hh' p (Fin.ofNat 8 n) (h.imp_right Or.inl)
  induction m with
  | zero => exact View.readCov_cons_of_disjoint _ _ _ _ (d 0)
  | succ m ih => exact (View.readCov_cons_of_disjoint _ _ _ _ (d (m + 1))).trans ih

theorem sL_col_hit (hh : Fin 2) (q : Nat) (L : List (View.Piece (Elt F) S2x2x8x256x256 .f32)) (n m : Nat) (hn : n ≤ m) (hm : m < 8) :
    sL arg7 (col arg2 harg2 arg3 harg3 x0 x1 hh q L m) hh (Fin.ofNat 2 q) n
      = shapeCast S1x1x1x256x256 (score (ld arg3 harg3 x1 hh) (ld arg2 harg2 x0 hh (Fin.ofNat 8 q)) q n) shapeCasts_S256x256_S1x1x1x256x256 := by
  induction m with
  | zero =>
    obtain rfl : n = 0 := by omega
    exact View.readCov_cons_toLoadRect _ _ _ _
  | succ m ih =>
    rcases Nat.lt_or_ge m n with h | h
    · obtain rfl : n = m + 1 := by omega
      exact View.readCov_cons_toLoadRect _ _ _ _
    · refine (View.readCov_cons_of_disjoint _ _ _ _ ?_).trans (ih h (by omega))
      refine sRect_disjoint _ _ _ _ _ _ (Or.inr (Or.inr fun e => ?_))
      have := congrArg Fin.val e
      simp only [Fin.ofNat] at this
      omega

theorem sL_hist (hh : Fin 2) (q n : Nat) (hn : n ≤ q) (hq : q < 8) :
    sL arg7 (hist arg2 harg2 arg3 harg3 x0 x1 q) hh (Fin.ofNat 2 q) n
      = shapeCast S1x1x1x256x256 (score (ld arg3 harg3 x1 hh) (ld arg2 harg2 x0 hh (Fin.ofNat 8 q)) q n) shapeCasts_S256x256_S1x1x1x256x256 := by
  match q, hh with
  | 0, 0 => exact (sL_col_miss _ _ _ _ _ _ _ _ _ _ _ _ _ _ (Or.inl (by decide))).trans (sL_col_hit _ _ _ _ _ _ _ _ _ _ _ _ hn hq)
  | 0, 1 => exact sL_col_hit _ _ _ _ _ _ _ _ _ _ _ _ hn hq
  | q + 1, 0 => exact (sL_col_miss _ _ _ _ _ _ _ _ _ _ _ _ _ _ (Or.inl (by decide))).trans (sL_col_hit _ _ _ _ _ _ _ _ _ _ _ _ hn hq)
  | q + 1, 1 => exact sL_col_hit _ _ _ _ _ _ _ _ _ _ _ _ hn hq

/-- When block `q`'s output is computed the scratch holds its scores, the next block's beside them. -/
theorem sL_out (hh : Fin 2) (q n : Nat) (hn : n ≤ q) (hq : q < 8) :
    sL arg7 (hist arg2 harg2 arg3 harg3 x0 x1 (bif Nat.ble q 6 then q + 1 else q)) hh (Fin.ofNat 2 q) n
      = shapeCast S1x1x1x256x256 (score (ld arg3 harg3 x1 hh) (ld arg2 harg2 x0 hh (Fin.ofNat 8 q)) q n) shapeCasts_S256x256_S1x1x1x256x256 := by
  cases hb : Nat.ble q 6 with
  | false => exact sL_hist _ _ _ _ _ _ _ _ _ _ hn hq
  | true =>
    have hp : Fin.ofNat 2 (q + 1) ≠ Fin.ofNat 2 q := fun e => by
      have := congrArg Fin.val e
      simp only [Fin.ofNat] at this
      omega
    exact (sL_col_miss _ _ _ _ _ _ _ _ _ _ _ _ _ _ (Or.inr hp)).trans
      ((sL_col_miss _ _ _ _ _ _ _ _ _ _ _ _ _ _ (Or.inr hp)).trans (sL_hist _ _ _ _ _ _ _ _ _ _ hn hq))

end Scores

section Values

variable (arg4 : Memref sig .tc .vmem S2048x256 .bf16) (harg4 : arg4.IsWhole) (arg6 : Memref sig .tc .vmem S2x8x144x256 .bf16)
  (x : Vec Ideal S2048x256 .bf16)

/-- A block's element is the window's. -/
theorem ld_apply (hh : Fin 2) (n : Fin 8) (i : Fin 256) (d : Fin 128) :
    ld (F := Ideal) arg4 harg4 x hh n (ix2 i d) = x (ix2 ⟨n.val * 256 + i.val, by omega⟩ ⟨hh.val * 128 + d.val, by omega⟩) := by
  unfold ld
  refine (Memref.IsWhole.readAt_unread (Val := Elt Ideal) harg4 x _ _).trans (congrArg x ?_)
  funext a
  apply Fin.ext
  match a with
  | 0 => show n.val * 256 + 1 * i.val = _; rw [Nat.one_mul]; rfl
  | 1 => show hh.val * 128 + 1 * d.val = _; rw [Nat.one_mul]; rfl

theorem vtTop_apply (v : Vec Ideal S256x128 .bf16) (a b : Fin 1) (d : Fin 128) (i : Fin 256) :
    vtTop (F := Ideal) v (ix4 a b d i) = v (ix2 i d) := by
  pointwise [vtTop]

theorem onesV_apply (j : S1x1x16x256.Idx) : onesV (F := Ideal) j = ((1 : ℝ) : EReal) := by
  idx_vars j
  pointwise [onesV]
  norm_cast

/-- What the scratch of values holds: the transposed values above, ones below. -/
def vtG (y : S2x8x144x256.Idx) : EReal :=
  if h : (y 2).val < 128 then
    x (ix2 ⟨(y 1).val * 256 + (y 3).val, by have h1 : (y 1).val < 8 := (y 1).isLt; have h3 : (y 3).val < 256 := (y 3).isLt; omega⟩
      ⟨(y 0).val * 128 + (y 2).val, by have h0 : (y 0).val < 2 := (y 0).isLt; omega⟩)
  else ((1 : ℝ) : EReal)

theorem vtG_top (hh : Fin 2) (n : Fin 8) (r : Fin 144) (i : Fin 256) (h : r.val < 128) :
    vtG x (ix4 hh n r i) = x (ix2 ⟨n.val * 256 + i.val, by omega⟩ ⟨hh.val * 128 + r.val, by omega⟩) := by
  unfold vtG
  exact dif_pos h

theorem vtG_ones (y : S2x8x144x256.Idx) (h : ¬ (y 2).val < 128) : vtG x y = ((1 : ℝ) : EReal) := by
  unfold vtG
  exact dif_neg h

theorem vtHist_pieces (p : View.Piece (Elt Ideal) S2x8x144x256 .bf16) (hp : p ∈ vtHist arg4 harg4 x) (j : p.1.shape.Idx) :
    p.2 j = vtG x (p.1.emb j) := by
  simp only [vtHist, List.mem_flatMap] at hp
  obtain ⟨hh, _, n, _, hp⟩ := hp
  simp only [List.mem_cons, List.not_mem_nil, or_false] at hp
  rcases hp with rfl | rfl
  · refine (onesV_apply j).trans ?_
    have : ¬ ((onesRect hh n).emb j 2).val < 128 := by
      show ¬ (128 + 1 * (j 2).val < 128)
      omega
    exact (vtG_ones x _ this).symm
  · change S1x1x128x256.Idx at j
    obtain ⟨a, b, d, i, rfl⟩ : ∃ (a b : Fin 1) (d : Fin 128) (i : Fin 256), j = ix4 a b d i := ⟨j 0, j 1, j 2, j 3, by funext t; fin_cases t <;> rfl⟩
    refine (vtTop_apply _ a b d i).trans ?_
    rw [ld_apply]
    have e : (topRect hh n).emb (ix4 a b d i) = ix4 hh n ⟨d.val, by omega⟩ i :=
      Rect.emb_eq_of_coords _ _ _ fun t => by
        have ha := a.isLt
        have hb := b.isLt
        match t with
        | 0 => show hh.val = hh.val + 1 * a.val; omega
        | 1 => show n.val = n.val + 1 * b.val; omega
        | 2 => show d.val = 0 + 1 * d.val; omega
        | 3 => show i.val = 0 + 1 * i.val; omega
    show _ = vtG x ((topRect hh n).emb (ix4 a b d i))
    rw [e]
    exact (vtG_top x hh n ⟨d.val, by omega⟩ i d.isLt).symm

theorem mem_heads (hh : Fin 2) : hh ∈ ([1, 0] : List (Fin 2)) := by revert hh; decide

theorem mem_blocks (n : Fin 8) : n ∈ ([7, 6, 5, 4, 3, 2, 1, 0] : List (Fin 8)) := by revert n; decide

theorem vtHist_cover (hh : Fin 2) (n : Fin 8) (r : Fin 144) (i : Fin 256) :
    ∃ p ∈ vtHist arg4 harg4 x, ix4 hh n r i ∈ p.1.set := by
  have hmem : ∀ p, p ∈ ([⟨onesRect hh n, onesV⟩, ⟨topRect hh n, vtTop (ld arg4 harg4 x hh n)⟩] : List (View.Piece (Elt Ideal) S2x8x144x256 .bf16)) →
      p ∈ vtHist arg4 harg4 x := fun p hp =>
    List.mem_flatMap.2 ⟨hh, mem_heads hh, List.mem_flatMap.2 ⟨n, mem_blocks n, hp⟩⟩
  rcases Nat.lt_or_ge r.val 128 with h | h
  · refine ⟨_, hmem _ (List.mem_cons_of_mem _ (List.mem_cons_self ..)), (Rect.mem_set_unit (inb := inb_top hh n)).2 fun t => ?_⟩
    match t with
    | 0 => exact ⟨Nat.le_refl _, Nat.lt_succ_self _⟩
    | 1 => exact ⟨Nat.le_refl _, Nat.lt_succ_self _⟩
    | 2 => exact ⟨Nat.zero_le _, by show r.val < 0 + 128; omega⟩
    | 3 => exact ⟨Nat.zero_le _, by show i.val < 0 + 256; omega⟩
  · refine ⟨_, hmem _ (List.mem_cons_self ..), (Rect.mem_set_unit (inb := inb_ones hh n)).2 fun t => ?_⟩
    match t with
    | 0 => exact ⟨Nat.le_refl _, Nat.lt_succ_self _⟩
    | 1 => exact ⟨Nat.le_refl _, Nat.lt_succ_self _⟩
    | 2 => exact ⟨h, by show r.val < 128 + 16; omega⟩
    | 3 => exact ⟨Nat.zero_le _, by show i.val < 0 + 256; omega⟩

theorem vtL_apply (hh : Fin 2) (n : Nat) (r : Fin 144) (i : Fin 256) :
    vtL (F := Ideal) arg4 harg4 arg6 x hh n (ix4 0 0 r i) = vtG x (ix4 hh (Fin.ofNat 8 n) r i) := by
  unfold vtL
  rw [View.readCov_eq_canon']
  have e : (vtRect hh (Fin.ofNat 8 n)).toLoadRect.idx (ix4 0 0 r i) = ix4 hh (Fin.ofNat 8 n) r i := by
    funext t
    apply Fin.ext
    match t with
    | 0 => rfl
    | 1 => rfl
    | 2 => show 0 + 1 * r.val = r.val; omega
    | 3 => show 0 + 1 * i.val = i.val; omega
  show View.canon _ _ = _
  rw [e]
  exact View.canon_apply_of_pieces (vtG x) _ (vtHist_pieces arg4 harg4 x) _ (vtHist_cover arg4 harg4 x hh (Fin.ofNat 8 n) r i)

end Values

section Output

variable (arg2 : Memref sig .tc .vmem S2048x256 .bf16) (harg2 : arg2.IsWhole)
  (arg3 : Memref sig .tc .vmem S2048x256 .bf16) (harg3 : arg3.IsWhole) (arg4 : Memref sig .tc .vmem S2048x256 .bf16) (harg4 : arg4.IsWhole)
  (arg6 : Memref sig .tc .vmem S2x8x144x256 .bf16)
  (arg7 : Memref sig .tc .vmem S2x2x8x256x256 .f32) (x0 x1 x2 : Vec Ideal S2048x256 .bf16)

/-- The greatest element of the rows `0 … n`. -/
def rmax (f : Nat → Fin 256 → EReal) : Nat → EReal
  | 0 => Finset.univ.fold max ⊥ (f 0)
  | n + 1 => max (rmax f n) (Finset.univ.fold max ⊥ (f (n + 1)))

theorem runMax_apply (s : Nat → FVec Ideal S256x256 .f32) (n : Nat) (b : Fin 256) :
    runMax (F := Ideal) s n (ix2 0 b) = rmax (fun k j => s k (ix2 j b)) n := by
  induction n with
  | zero => exact colMax_apply _ _
  | succ n ih =>
    show max (runMax (F := Ideal) s n (ix2 0 b)) (colMax (F := Ideal) (s (n + 1)) (ix2 0 b)) = _
    rw [ih, colMax_apply]
    rfl

theorem accum_apply (vt : Nat → Vec Ideal S1x1x144x256 .bf16) (s : Nat → Vec Ideal S1x1x1x256x256 .f32) (m : FVec Ideal S1x256 .f32)
    (n : Nat) (d : Fin 144) (b : Fin 256) :
    accum (F := Ideal) vt s m n (ix2 d b)
      = ∑ k ∈ Finset.range (n + 1), ∑ j : Fin 256, vt k (ix4 0 0 d j) * Ideal.exp2 (s k (ix5 0 0 0 j b) - m (ix2 0 b)) := by
  induction n with
  | zero => rw [Finset.sum_range_one]; exact weighted_apply _ _ _ _ _
  | succ n ih =>
    rw [Finset.sum_range_succ, ← ih, ← weighted_apply]
    rfl

theorem slot_apply (x : FVec Ideal S256x256 .f32) (j b : Fin 256) :
    shapeCast S1x1x1x256x256 x shapeCasts_S256x256_S1x1x1x256x256 (ix5 0 0 0 j b) = x (ix2 j b) := by
  pointwise

/-- The block of query block `q` and head `hh` in the output. -/
def outB (hh : Fin 2) (q : Nat) : FVec Ideal S256x128 .bf16 :=
  outL (F := Ideal) arg2 harg2 arg3 harg3 arg4 harg4 arg6 arg7 x0 x1 x2
    (hist arg2 harg2 arg3 harg3 x0 x1 (bif Nat.ble q 6 then q + 1 else q)) hh (Fin.ofNat 2 q) q

/-- The masked scores of key block `n` for query block `q`, head `hh`. -/
def scr (hh : Fin 2) (q n : Nat) (j i : Fin 256) : EReal :=
  score (F := Ideal) (ld arg3 harg3 x1 hh) (ld arg2 harg2 x0 hh (Fin.ofNat 8 q)) q n (ix2 j i)

/-- One weighted sum over the keys of the blocks `0 … q`. -/
def wsum (S : Nat → Fin 256 → EReal) (V : Nat → Fin 256 → EReal) (q : Nat) : EReal :=
  ∑ n ∈ Finset.range (q + 1), ∑ j : Fin 256, V n j * Ideal.exp2 (S n j - rmax S q)

theorem out_of (vt : Nat → Vec Ideal S1x1x144x256 .bf16) (s : Nat → Vec Ideal S1x1x1x256x256 .f32) (m : FVec Ideal S1x256 .f32)
    (S V : Nat → Fin 256 → EReal) (q : Nat) (i : Fin 256) (d : Fin 128) (hm : m (ix2 0 i) = rmax S q)
    (hs : ∀ n ≤ q, ∀ j, s n (ix5 0 0 0 j i) = S n j) (hv : ∀ n j, vt n (ix4 0 0 ⟨d.val, by omega⟩ j) = V n j)
    (h1 : ∀ n j, vt n (ix4 0 0 128 j) = ((1 : ℝ) : EReal)) :
    finish (F := Ideal) (accum (F := Ideal) vt s m q) (ix2 i d) = wsum S V q * Ideal.div 1 (wsum S (fun _ _ => ((1 : ℝ) : EReal)) q) := by
  rw [finish_apply, accum_apply, accum_apply, hm]
  have e1 : ∀ n ∈ Finset.range (q + 1), n ≤ q := fun n hn => by have := Finset.mem_range.1 hn; omega
  congr 1
  · exact Finset.sum_congr rfl fun n hn => Finset.sum_congr rfl fun j _ => by rw [hs n (e1 n hn) j, hv]
  · exact congrArg (Ideal.div 1) (Finset.sum_congr rfl fun n hn => Finset.sum_congr rfl fun j _ => by rw [hs n (e1 n hn) j, h1])

theorem outB_apply (hh : Fin 2) (q : Nat) (hq : q < 8) (i : Fin 256) (d : Fin 128) :
    outB arg2 harg2 arg3 harg3 arg4 harg4 arg6 arg7 x0 x1 x2 hh q (ix2 i d)
      = wsum (fun n j => scr arg2 harg2 arg3 harg3 x0 x1 hh q n j i)
          (fun n j => x2 (ix2 ⟨(Fin.ofNat 8 n).val * 256 + j.val, by have := (Fin.ofNat 8 n).isLt; omega⟩ ⟨hh.val * 128 + d.val, by omega⟩)) q
        * Ideal.div 1 (wsum (fun n j => scr arg2 harg2 arg3 harg3 x0 x1 hh q n j i) (fun _ _ => ((1 : ℝ) : EReal)) q) := by
  refine out_of _ _ _ _ _ q i d (runMax_apply _ _ _) (fun n hn j => ?_) (fun n j => ?_) (fun n j => ?_)
  · exact (congrFun (sL_out arg2 harg2 arg3 harg3 arg7 x0 x1 hh q n hn hq) (ix5 0 0 0 j i)).trans (slot_apply _ j i)
  · exact (vtL_apply arg4 harg4 arg6 x2 hh n ⟨d.val, by omega⟩ j).trans (vtG_top x2 hh (Fin.ofNat 8 n) ⟨d.val, by omega⟩ j d.isLt)
  · exact (vtL_apply arg4 harg4 arg6 x2 hh n 128 j).trans (vtG_ones x2 _ (by show ¬ (128 < 128); omega))

/-- The output's window, by its blocks. -/
def outG (y : S2048x256.Idx) : EReal :=
  outB arg2 harg2 arg3 harg3 arg4 harg4 arg6 arg7 x0 x1 x2 ⟨(y 1).val / 128, by have h : (y 1).val < 256 := (y 1).isLt; omega⟩ ((y 0).val / 256)
    (ix2 ⟨(y 0).val % 256, Nat.mod_lt _ (by omega)⟩ ⟨(y 1).val % 128, Nat.mod_lt _ (by omega)⟩)

theorem outG_apply (hh : Fin 2) (q : Fin 8) (i : Fin 256) (d : Fin 128) :
    outG arg2 harg2 arg3 harg3 arg4 harg4 arg6 arg7 x0 x1 x2 (ix2 ⟨q.val * 256 + i.val, by omega⟩ ⟨hh.val * 128 + d.val, by omega⟩)
      = outB arg2 harg2 arg3 harg3 arg4 harg4 arg6 arg7 x0 x1 x2 hh q.val (ix2 i d) := by
  have h1 : ∀ h, (⟨(hh.val * 128 + d.val) / 128, h⟩ : Fin 2) = hh := fun h => Fin.ext (by show (hh.val * 128 + d.val) / 128 = hh.val; omega)
  have h2 : (q.val * 256 + i.val) / 256 = q.val := by omega
  have h3 : ∀ h, (⟨(q.val * 256 + i.val) % 256, h⟩ : Fin 256) = i := fun h => Fin.ext (by show (q.val * 256 + i.val) % 256 = i.val; omega)
  have h4 : ∀ h, (⟨(hh.val * 128 + d.val) % 128, h⟩ : Fin 128) = d := fun h => Fin.ext (by show (hh.val * 128 + d.val) % 128 = d.val; omega)
  have key : ∀ hh' q' i' d', hh' = hh → q' = q.val → i' = i → d' = d →
      outB arg2 harg2 arg3 harg3 arg4 harg4 arg6 arg7 x0 x1 x2 hh' q' (ix2 i' d')
        = outB arg2 harg2 arg3 harg3 arg4 harg4 arg6 arg7 x0 x1 x2 hh q.val (ix2 i d) := by
    rintro _ _ _ _ rfl rfl rfl rfl
    rfl
  exact key _ _ _ _ (h1 _) h2 (h3 _) (h4 _)

theorem emb_blk (hh : Fin 2) (q : Fin 8) (i : Fin 256) (d : Fin 128) :
    (blkRect q hh).emb (ix2 i d) = ix2 ⟨q.val * 256 + i.val, by omega⟩ ⟨hh.val * 128 + d.val, by omega⟩ :=
  Rect.emb_eq_of_coords _ _ _ fun t => by
    match t with
    | 0 => show q.val * 256 + i.val = q.val * 256 + 1 * i.val; omega
    | 1 => show hh.val * 128 + d.val = hh.val * 128 + 1 * d.val; omega

variable (c : Dev nD) (g : grid0.Coords) (arg5 : Memref sig .tc .vmem S2048x256 .bf16) (harg5 : arg5.IsWhole) (harg6 : arg6.IsWhole)
  (harg7 : arg7.IsWhole)

/-- The body's stores, read back at an index of the output's window. -/
theorem canon_run (hh : Fin 2) (q : Fin 8) (i : Fin 256) (d : Fin 128) :
    View.canon (kernelRun0_A (F := Ideal) c g arg2 harg2 arg3 harg3 arg4 harg4 arg5 harg5 arg6 harg6 arg7 harg7 x0 x1 x2).1
      (ix2 ⟨q.val * 256 + i.val, by omega⟩ ⟨hh.val * 128 + d.val, by omega⟩)
      = outB arg2 harg2 arg3 harg3 arg4 harg4 arg6 arg7 x0 x1 x2 hh q.val (ix2 i d) := by
  rw [run_pieces, ← outG_apply]
  have hm : ∀ p, p ∈ ([7, 6, 5, 4, 3, 2, 1, 0] : List Nat).flatMap (fun q => [outP (F := Ideal) arg2 harg2 arg3 harg3 arg4 harg4 arg6 arg7 x0 x1 x2 1 q,
        outP arg2 harg2 arg3 harg3 arg4 harg4 arg6 arg7 x0 x1 x2 0 q]) ↔
      ∃ (q : Fin 8) (hh : Fin 2), p = outP arg2 harg2 arg3 harg3 arg4 harg4 arg6 arg7 x0 x1 x2 hh q.val := fun p => by
    rw [List.mem_flatMap]
    constructor
    · rintro ⟨q, hq, hp⟩
      have hq8 : q < 8 := by revert hq; simp only [List.mem_cons, List.not_mem_nil, or_false]; omega
      simp only [List.mem_cons, List.not_mem_nil, or_false] at hp
      rcases hp with rfl | rfl
      · exact ⟨⟨q, hq8⟩, 1, rfl⟩
      · exact ⟨⟨q, hq8⟩, 0, rfl⟩
    · rintro ⟨q, hh, rfl⟩
      refine ⟨q.val, by revert q; decide, ?_⟩
      match hh with
      | 0 => exact List.mem_cons_of_mem _ (List.mem_cons_self ..)
      | 1 => exact List.mem_cons_self ..
  have ho : ∀ q : Fin 8, Fin.ofNat 8 q.val = q := by decide
  refine View.canon_apply_of_pieces (outG arg2 harg2 arg3 harg3 arg4 harg4 arg6 arg7 x0 x1 x2) _ (fun p hp j => ?_) _
    ⟨outP arg2 harg2 arg3 harg3 arg4 harg4 arg6 arg7 x0 x1 x2 hh q.val, (hm _).2 ⟨q, hh, rfl⟩, ?_⟩
  · obtain ⟨q, hh, rfl⟩ := (hm p).1 hp
    change S256x128.Idx at j
    obtain ⟨i, d, rfl⟩ : ∃ (i : Fin 256) (d : Fin 128), j = ix2 i d := ⟨j 0, j 1, by funext t; fin_cases t <;> rfl⟩
    show outB arg2 harg2 arg3 harg3 arg4 harg4 arg6 arg7 x0 x1 x2 hh q.val (ix2 i d)
      = outG arg2 harg2 arg3 harg3 arg4 harg4 arg6 arg7 x0 x1 x2 ((blkRect (Fin.ofNat 8 q.val) hh).emb (ix2 i d))
    rw [ho, emb_blk, outG_apply]
  · show _ ∈ (blkRect (Fin.ofNat 8 q.val) hh).set
    rw [ho, ← emb_blk]
    exact LoadRect.idx_mem _ _

end Output

end Cert.KernelIdeal.Att
-- ==== Proof.Rank.lean ====
/-
  The three first positions of a stable sort by the greatest key are the positions with fewer than three before them.
-/
module

public import proofs.«01_k».proof.Defs
public import Idealize.ShloMosaic.Lib.SortFacts

@[expose] public section

namespace Cert.Att

open Idealize.ShloMosaic

/-- The sort's order with ties told apart by position: a greater key, or an equal one and a smaller position. -/
def Ahead {n : Nat} (g : Fin n → EReal) (a b : Fin n) : Prop := g b < g a ∨ (g a = g b ∧ a < b)

theorem Ahead.le {n : Nat} {g : Fin n → EReal} {a b : Fin n} (h : Ahead g a b) : g b ≤ g a := by
  rcases h with h | ⟨h, _⟩
  · exact h.le
  · exact h.ge

theorem Ahead.asymm {n : Nat} {g : Fin n → EReal} {a b : Fin n} (h : Ahead g a b) : ¬ Ahead g b a := by
  rcases h with h | ⟨h, hl⟩
  · rintro (h' | ⟨h', _⟩)
    · exact lt_asymm h h'
    · exact absurd h' h.ne
  · rintro (h' | ⟨_, h'⟩)
    · exact absurd h h'.ne
    · exact lt_asymm hl h'

theorem pairwise_insert {n : Nat} (g : Fin n → EReal) (B : Fin n → Fin n → Bool) (hB : ∀ a b, B a b = true ↔ g b < g a) (a : Fin n)
    (l : List (Fin n)) (hl : l.Pairwise (Ahead g)) (ha : ∀ x ∈ l, a < x) : (insertBefore B a l).Pairwise (Ahead g) := by
  induction l with
  | nil => exact List.pairwise_singleton _ _
  | cons b l ih =>
    rw [List.pairwise_cons] at hl
    show List.Pairwise _ (if B b a = true then b :: insertBefore B a l else a :: b :: l)
    split
    · rename_i h
      rw [List.pairwise_cons]
      refine ⟨fun x hx => ?_, ih hl.2 fun x hx => ha x (List.mem_cons_of_mem _ hx)⟩
      rcases List.mem_cons.1 ((perm_insertBefore B a l).mem_iff.1 hx) with rfl | hx
      · exact Or.inl ((hB _ _).1 h)
      · exact hl.1 x hx
    · rename_i h
      have hba : g b ≤ g a := not_lt.1 fun h' => h ((hB _ _).2 h')
      refine List.pairwise_cons.2 ⟨fun x hx => ?_, List.pairwise_cons.2 hl⟩
      have hx' : g x ≤ g a := by
        rcases List.mem_cons.1 hx with rfl | hx'
        · exact hba
        · exact (hl.1 x hx').le.trans hba
      rcases hx'.lt_or_eq with h' | h'
      · exact Or.inl h'
      · exact Or.inr ⟨h'.symm, ha x hx⟩

theorem pairwise_sort {n : Nat} (g : Fin n → EReal) (B : Fin n → Fin n → Bool) (hB : ∀ a b, B a b = true ↔ g b < g a)
    (l : List (Fin n)) (hl : l.Pairwise (· < ·)) : (stableSort B l).Pairwise (Ahead g) := by
  induction l with
  | nil => exact List.Pairwise.nil
  | cons a l ih =>
    rw [List.pairwise_cons] at hl
    exact pairwise_insert g B hB a _ (ih hl.2) fun x hx => hl.1 x ((perm_stableSort B l).mem_iff.1 hx)

theorem sortedFrom_ahead {n : Nat} (g : Fin n → EReal) (B : Fin n → Fin n → Bool) (hB : ∀ a b, B a b = true ↔ g b < g a)
    (i k : Fin n) (h : i < k) : Ahead g (sortedFrom B i) (sortedFrom B k) :=
  List.pairwise_iff_get.1 (pairwise_sort g B hB (List.finRange n) (List.pairwise_lt_finRange n)) _ _ h

open Classical in
/-- The position sorted to place `k` has exactly `k` positions ahead of it. -/
theorem card_ahead {n : Nat} (g : Fin n → EReal) (B : Fin n → Fin n → Bool) (hB : ∀ a b, B a b = true ↔ g b < g a) (k : Fin n) :
    (Finset.univ.filter fun m => Ahead g m (sortedFrom B k)).card = k.val := by
  have e : (Finset.univ.filter fun m => Ahead g m (sortedFrom B k)) = (Finset.Iio k).image (sortedFrom B) := by
    ext m
    simp only [Finset.mem_filter, Finset.mem_univ, true_and, Finset.mem_image, Finset.mem_Iio]
    constructor
    · intro h
      obtain ⟨i, rfl⟩ := sortedFrom_surjective B m
      refine ⟨i, ?_, rfl⟩
      rcases lt_trichotomy i k with h' | rfl | h'
      · exact h'
      · exact absurd h h.asymm
      · exact absurd h (sortedFrom_ahead g B hB _ _ h').asymm
    · rintro ⟨i, hi, rfl⟩
      exact sortedFrom_ahead g B hB _ _ hi
  rw [e, Finset.card_image_of_injective _ (sortedFrom_injective B), Fin.card_Iio]

open Classical in
theorem mem_first_iff {n : Nat} (g : Fin n → EReal) (B : Fin n → Fin n → Bool) (hB : ∀ a b, B a b = true ↔ g b < g a) (m : Fin n)
    (r : Nat) (hr : r ≤ n) :
    (∃ t : Fin r, sortedFrom B (t.castLE hr) = m) ↔ (Finset.univ.filter fun a => Ahead g a m).card < r := by
  constructor
  · rintro ⟨t, rfl⟩
    rw [card_ahead g B hB]
    exact t.isLt
  · intro h
    obtain ⟨k, rfl⟩ := sortedFrom_surjective B m
    rw [card_ahead g B hB] at h
    exact ⟨⟨k.val, h⟩, rfl⟩

/-- The count a program keeps: earlier blocks with at least block `m`'s key, later ones (`b` of them) with a greater. -/
noncomputable def cnt (G : Nat → EReal) (m b : Nat) : Nat :=
  (∑ a ∈ Finset.range m, if G m ≤ G a then 1 else 0) + ∑ a ∈ Finset.range b, if G (m + 1 + a) ≤ G m then 0 else 1

open Classical in
/-- Where only the first `N` keys are real, the others the least, that count is the number of positions ahead. -/
theorem cnt_eq (G : Nat → EReal) (g : Fin 8 → EReal) (N : Fin 8) (hg : ∀ n : Fin 8, g n = if n < N then G n.val else ⊥)
    (hG : ∀ n : Fin 8, G n.val ≠ ⊥) (m : Fin 8) (hm : m < N) :
    cnt G m.val (N.val - 1 - m.val) = (Finset.univ.filter fun a => Ahead g a m).card := by
  have hm' : m.val < N.val := hm
  have e1 : ∀ a : Fin 8, Ahead g a m ↔
      (a.val < m.val ∧ G m.val ≤ G a.val) ∨ (m.val < a.val ∧ a.val < N.val ∧ ¬ G a.val ≤ G m.val) := by
    intro a
    unfold Ahead
    rw [hg m, hg a, if_pos hm]
    have hb : (⊥ : EReal) < G m.val := bot_lt_iff_ne_bot.2 (hG m)
    by_cases ha : a < N
    · have ha' : a.val < N.val := ha
      rw [if_pos ha]
      rcases lt_trichotomy a.val m.val with h | h | h
      · have h' : a < m := h
        constructor
        · rintro (h1 | ⟨h1, _⟩)
          · exact Or.inl ⟨h, h1.le⟩
          · exact Or.inl ⟨h, h1.ge⟩
        · rintro (⟨_, h1⟩ | ⟨h1, _⟩)
          · rcases h1.lt_or_eq with h2 | h2
            · exact Or.inl h2
            · exact Or.inr ⟨h2.symm, h'⟩
          · omega
      · have h' : a = m := Fin.ext h
        subst h'
        constructor
        · rintro (h1 | ⟨_, h1⟩)
          · exact absurd h1 (lt_irrefl _)
          · exact absurd h1 (lt_irrefl _)
        · rintro (⟨h1, _⟩ | ⟨h1, _⟩) <;> omega
      · have h' : ¬ a < m := fun h2 => by have : a.val < m.val := h2; omega
        constructor
        · rintro (h1 | ⟨_, h1⟩)
          · exact Or.inr ⟨h, ha', not_le.2 h1⟩
          · exact absurd h1 h'
        · rintro (⟨h1, _⟩ | ⟨_, _, h1⟩)
          · omega
          · exact Or.inl (not_le.1 h1)
    · have ha' : ¬ a.val < N.val := ha
      rw [if_neg ha]
      constructor
      · rintro (h1 | ⟨h1, _⟩)
        · exact absurd h1 (not_lt.2 bot_le)
        · exact absurd h1 hb.ne
      · rintro (⟨h1, _⟩ | ⟨_, h1, _⟩) <;> omega
  have e2 : (Finset.univ.filter fun a => Ahead g a m) = Finset.univ.filter fun a : Fin 8 =>
      (a.val < m.val ∧ G m.val ≤ G a.val) ∨ (m.val < a.val ∧ a.val < N.val ∧ ¬ G a.val ≤ G m.val) :=
    Finset.filter_congr fun a _ => e1 a
  rw [e2, Finset.filter_or, Finset.card_union_of_disjoint]
  · unfold cnt
    congr 1
    · rw [← Finset.card_filter]
      refine Finset.card_bij' (fun a _ => (Fin.ofNat 8 a)) (fun a _ => a.val) ?_ ?_ ?_ ?_
      · intro a ha
        have h := (Finset.mem_filter.1 ha)
        have h1 := Finset.mem_range.1 h.1
        have e : (Fin.ofNat 8 a).val = a := Nat.mod_eq_of_lt (by omega)
        simp only [Finset.mem_filter, Finset.mem_univ, true_and, e]
        exact ⟨h1, h.2⟩
      · intro a ha
        have h := (Finset.mem_filter.1 ha).2
        exact Finset.mem_filter.2 ⟨Finset.mem_range.2 h.1, h.2⟩
      · intro a ha
        have h1 := Finset.mem_range.1 (Finset.mem_filter.1 ha).1
        exact Nat.mod_eq_of_lt (by omega)
      · intro a ha
        exact Fin.ext (Nat.mod_eq_of_lt a.isLt)
    · have e3 : (∑ a ∈ Finset.range (N.val - 1 - m.val), if G (m.val + 1 + a) ≤ G m.val then 0 else 1)
          = ∑ a ∈ Finset.range (N.val - 1 - m.val), if ¬ G (m.val + 1 + a) ≤ G m.val then 1 else 0 :=
        Finset.sum_congr rfl fun a _ => by by_cases h : G (m.val + 1 + a) ≤ G m.val <;> simp [h]
      rw [e3, ← Finset.card_filter]
      refine Finset.card_bij' (fun a _ => (Fin.ofNat 8 (m.val + 1 + a))) (fun a _ => a.val - (m.val + 1)) ?_ ?_ ?_ ?_
      · intro a ha
        have h := (Finset.mem_filter.1 ha)
        have h1 := Finset.mem_range.1 h.1
        have e : (Fin.ofNat 8 (m.val + 1 + a)).val = m.val + 1 + a := Nat.mod_eq_of_lt (by omega)
        simp only [Finset.mem_filter, Finset.mem_univ, true_and, e]
        exact ⟨by omega, by omega, h.2⟩
      · intro a ha
        have h := (Finset.mem_filter.1 ha).2
        have e : m.val + 1 + (a.val - (m.val + 1)) = a.val := by omega
        refine Finset.mem_filter.2 ⟨Finset.mem_range.2 (by omega), ?_⟩
        rw [e]
        exact h.2.2
      · intro a ha
        have h1 := Finset.mem_range.1 (Finset.mem_filter.1 ha).1
        have e : (Fin.ofNat 8 (m.val + 1 + a)).val = m.val + 1 + a := Nat.mod_eq_of_lt (by omega)
        show (Fin.ofNat 8 (m.val + 1 + a)).val - (m.val + 1) = a
        omega
      · intro a ha
        have h := (Finset.mem_filter.1 ha).2
        have e : m.val + 1 + (a.val - (m.val + 1)) = a.val := by omega
        show Fin.ofNat 8 (m.val + 1 + (a.val - (m.val + 1))) = a
        rw [e]
        exact Fin.ext (Nat.mod_eq_of_lt a.isLt)
  · rw [Finset.disjoint_left]
    intro a h1 h2
    have h1 := (Finset.mem_filter.1 h1).2.1
    have h2 := (Finset.mem_filter.1 h2).2.1
    omega

/-- With at most three blocks past, fewer than three are ahead of any. -/
theorem cnt_lt (G : Nat → EReal) (N m : Nat) (hN : N < 4) (hm : m < N) : cnt G m (N - 1 - m) < 3 := by
  have h1 : (∑ a ∈ Finset.range m, if G m ≤ G a then 1 else 0) ≤ m := by
    refine (Finset.sum_le_card_nsmul _ _ 1 fun a _ => ?_).trans (by simp)
    split <;> omega
  have h2 : (∑ a ∈ Finset.range (N - 1 - m), if G (m + 1 + a) ≤ G m then 0 else 1) ≤ N - 1 - m := by
    refine (Finset.sum_le_card_nsmul _ _ 1 fun a _ => ?_).trans (by simp)
    split <;> omega
  unfold cnt
  omega

end Cert.Att
-- ==== Proof.Math.lean ====
/-
  The attention of one query over the chosen blocks and its own, as a weighted mean: the running-block form with a base-two exponential
  and one division at the end, and the softmax over gathered blocks, are both this mean.
-/
module

public import proofs.«01_k».proof.Proof.Slots
public import proofs.«01_k».proof.Proof.Rank

@[expose] public section

noncomputable section

namespace Cert.Att

open Idealize.ShloMosaic Cert.KernelIdeal.Att

/-! ## Sums of extended reals -/

theorem sum_coe {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

theorem sum_mul_coe {ι : Type} (s : Finset ι) (f : ι → EReal) (r : ℝ) (hr : 0 ≤ r) : (∑ x ∈ s, f x) * (r : EReal) = ∑ x ∈ s, f x * (r : EReal) := by
  classical
  induction s using Finset.induction_on with
  | empty => simp
  | insert a s ha ih =>
    rw [Finset.sum_insert ha, Finset.sum_insert ha, ← ih,
      EReal.right_distrib_of_nonneg_of_ne_top (by exact_mod_cast hr) (EReal.coe_ne_top r)]

/-! ## The weights -/

section Weights

variable (c : ℝ) (s : Fin 8 → Fin 256 → ℝ) (P : Fin 8 → Prop) (N : Fin 8) (i : Fin 256)

/-- Which keys of which blocks the query attends to. -/
def Att (n : Fin 8) (j : Fin 256) : Prop := (n < N ∧ P n) ∨ (n = N ∧ j ≤ i)

open Classical in
/-- The weight of key `j` of block `n`, not normalised. -/
def wt (n : Fin 8) (j : Fin 256) : ℝ := if Att P N i n j then Real.exp (c * s n j) else 0

/-- The weights' sum. -/
def tot : ℝ := ∑ n : Fin 8, ∑ j : Fin 256, wt c s P N i n j

theorem wt_nonneg (n : Fin 8) (j : Fin 256) : 0 ≤ wt c s P N i n j := by
  unfold wt
  split
  · exact (Real.exp_pos _).le
  · exact le_refl _

theorem tot_pos : 0 < tot c s P N i := by
  have h1 : 0 < wt c s P N i N i := by
    unfold wt
    rw [if_pos (show Att P N i N i from Or.inr ⟨rfl, le_refl _⟩)]
    exact Real.exp_pos _
  refine lt_of_lt_of_le h1 (le_trans ?_ (Finset.single_le_sum (f := fun n => ∑ j : Fin 256, wt c s P N i n j)
    (fun n _ => Finset.sum_nonneg fun j _ => wt_nonneg c s P N i n j) (Finset.mem_univ N)))
  exact Finset.single_le_sum (f := fun j => wt c s P N i N j) (fun j _ => wt_nonneg c s P N i N j) (Finset.mem_univ i)

/-- The weighted mean of the values. -/
def mean (V : Fin 8 → Fin 256 → EReal) : EReal :=
  ∑ n : Fin 8, ∑ j : Fin 256, V n j * ((wt c s P N i n j / tot c s P N i : ℝ) : EReal)

end Weights

/-! ## The running-block form -/

theorem rmax_lt (f : Nat → Fin 256 → EReal) (n : Nat) (b : EReal) (hb : ⊥ < b) (h : ∀ k ≤ n, ∀ j, f k j < b) : rmax f n < b := by
  induction n with
  | zero => exact (Finset.fold_max_lt _).2 ⟨hb, fun j _ => h 0 (le_refl _) j⟩
  | succ n ih =>
    exact max_lt (ih fun k hk => h k (by omega)) ((Finset.fold_max_lt _).2 ⟨hb, fun j _ => h (n + 1) (le_refl _) j⟩)

theorem lt_rmax (f : Nat → Fin 256 → EReal) (n k : Nat) (hk : k ≤ n) (j : Fin 256) (b : EReal) (h : b < f k j) : b < rmax f n := by
  induction n with
  | zero =>
    obtain rfl : k = 0 := by omega
    exact (Finset.lt_fold_max _).2 (Or.inr ⟨j, Finset.mem_univ _, h⟩)
  | succ n ih =>
    rcases Nat.lt_or_ge n k with h' | h'
    · obtain rfl : k = n + 1 := by omega
      exact lt_max_of_lt_right ((Finset.lt_fold_max _).2 (Or.inr ⟨j, Finset.mem_univ _, h⟩))
    · exact lt_max_of_lt_left (ih h')

theorem exists_real {x : EReal} (h1 : ⊥ < x) (h2 : x < ⊤) : ∃ r : ℝ, x = (r : EReal) :=
  ⟨x.toReal, (EReal.coe_toReal h2.ne h1.ne').symm⟩

theorem sum_range_fin (N : Fin 8) {M : Type} [AddCommMonoid M] (f : Nat → M) :
    ∑ n ∈ Finset.range (N.val + 1), f n = ∑ n : Fin 8, if n ≤ N then f n.val else 0 := by
  have e : ∑ n : Fin 8, (if n ≤ N then f n.val else 0) = ∑ n ∈ Finset.range 8, if n ≤ N.val then f n else 0 := by
    rw [Finset.sum_range]
    rfl
  rw [e, ← Finset.sum_filter]
  refine Finset.sum_congr ?_ fun _ _ => rfl
  ext n
  have := N.isLt
  simp only [Finset.mem_range, Finset.mem_filter]
  omega

section Kernel

variable (c a : ℝ) (hc : a * Real.log 2 = c) (s : Fin 8 → Fin 256 → ℝ) (P : Fin 8 → Prop) (N : Fin 8) (i : Fin 256)

open Classical in
theorem wsum_eq (hc : a * Real.log 2 = c) (S : Nat → Fin 256 → EReal)
    (hS : ∀ n : Fin 8, n ≤ N → ∀ j, S n.val j = if Att P N i n j then ((a * s n j : ℝ) : EReal) else ⊥) :
    ∃ e : ℝ, 0 < e ∧ ∀ V : Nat → Fin 256 → EReal, wsum S V N.val
      = ∑ n : Fin 8, ∑ j : Fin 256, V n.val j * ((e * wt c s P N i n j : ℝ) : EReal) := by
  have hlt : rmax S N.val < ⊤ := rmax_lt S N.val ⊤ bot_lt_top fun k hk j => by
    rw [show k = (⟨k, by omega⟩ : Fin 8).val from rfl, hS ⟨k, by omega⟩ (by exact hk) j]
    split
    · exact EReal.coe_lt_top _
    · exact bot_lt_top
  have hgt : ⊥ < rmax S N.val := lt_rmax S N.val N.val (le_refl _) i ⊥ (by
    rw [hS N (le_refl _) i, if_pos (show Att P N i N i from Or.inr ⟨rfl, le_refl _⟩)]
    exact EReal.bot_lt_coe _)
  obtain ⟨m, hm⟩ := exists_real hgt hlt
  refine ⟨Real.exp (-(m * Real.log 2)), Real.exp_pos _, fun V => ?_⟩
  unfold wsum
  rw [sum_range_fin N (fun n => ∑ j : Fin 256, V n j * Ideal.exp2 (S n j - rmax S N.val)), hm]
  refine Finset.sum_congr rfl fun n _ => ?_
  by_cases hn : n ≤ N
  · rw [if_pos hn]
    refine Finset.sum_congr rfl fun j _ => ?_
    rw [hS n hn j]
    unfold wt
    split
    · rw [← EReal.coe_sub, Ideal.exp2_coe]
      congr 2
      show (2 : ℝ) ^ (a * s n j - m) = _
      rw [Real.rpow_def_of_pos (by norm_num), ← Real.exp_add, ← hc]
      congr 1
      ring
    · rw [EReal.bot_sub, Ideal.exp2_bot, mul_zero, mul_zero, EReal.coe_zero, mul_zero]
  · rw [if_neg hn]
    refine (Finset.sum_eq_zero fun j _ => ?_).symm
    have : ¬ Att P N i n j := by
      rintro (⟨h, _⟩ | ⟨h, _⟩)
      · exact hn h.le
      · exact hn h.le
    unfold wt
    rw [if_neg this, mul_zero, EReal.coe_zero, mul_zero]

open Classical in
theorem kernel_eq (hc : a * Real.log 2 = c) (S : Nat → Fin 256 → EReal)
    (hS : ∀ n : Fin 8, n ≤ N → ∀ j, S n.val j = if Att P N i n j then ((a * s n j : ℝ) : EReal) else ⊥) (V : Nat → Fin 256 → EReal) :
    wsum S V N.val * Ideal.div 1 (wsum S (fun _ _ => ((1 : ℝ) : EReal)) N.val) = mean c s P N i fun n j => V n.val j := by
  obtain ⟨e, he, h⟩ := wsum_eq c a s P N i hc S hS
  have hz := tot_pos c s P N i
  have h1 : wsum S (fun _ _ => ((1 : ℝ) : EReal)) N.val = ((e * tot c s P N i : ℝ) : EReal) := by
    rw [h]
    unfold tot
    rw [Finset.mul_sum, sum_coe]
    refine Finset.sum_congr rfl fun n _ => ?_
    rw [Finset.mul_sum, sum_coe]
    refine Finset.sum_congr rfl fun j _ => ?_
    rw [← EReal.coe_mul, one_mul]
  have hpos : 0 < e * tot c s P N i := mul_pos he hz
  rw [h1, h, Ideal.div_coe hpos.ne', one_mul, sum_mul_coe _ _ _ (one_div_pos.2 hpos).le]
  unfold mean
  refine Finset.sum_congr rfl fun n _ => ?_
  rw [sum_mul_coe _ _ _ (one_div_pos.2 hpos).le]
  refine Finset.sum_congr rfl fun j _ => ?_
  rw [mul_assoc, ← EReal.coe_mul]
  congr 2
  field_simp

end Kernel

/-! ## The softmax over gathered blocks -/

theorem sum_1024 {M : Type} [AddCommMonoid M] (f : Fin 1024 → M) :
    ∑ k, f k = (∑ t : Fin 3, ∑ j : Fin 256, f ⟨t.val * 256 + j.val, by omega⟩) + ∑ j : Fin 256, f ⟨768 + j.val, by omega⟩ := by
  obtain ⟨F, hF⟩ : ∃ F : Nat → M, ∀ k : Fin 1024, f k = F k.val :=
    ⟨fun k => if h : k < 1024 then f ⟨k, h⟩ else 0, fun k => by simp⟩
  simp only [hF]
  have key : ∀ a : Nat, ∑ k ∈ Finset.range (a + a + a + a), F k
      = (∑ k ∈ Finset.range a, F k + ∑ k ∈ Finset.range a, F (a + k) + ∑ k ∈ Finset.range a, F (a + a + k))
        + ∑ k ∈ Finset.range a, F (a + a + a + k) := fun a => by
    rw [Finset.sum_range_add, Finset.sum_range_add, Finset.sum_range_add]
  rw [← Finset.sum_range (fun k => F k), Fin.sum_univ_three]
  refine (key 256).trans ?_
  simp only [Finset.sum_range]
  refine congrArg₂ _ (congrArg₂ _ (congrArg₂ _ ?_ rfl) rfl) rfl
  refine Finset.sum_congr rfl fun j _ => congrArg F ?_
  show j.val = 0 * 256 + j.val
  omega

section Reference

variable (c : ℝ) (s : Fin 8 → Fin 256 → ℝ) (σ : Fin 3 → Fin 8) (N : Fin 8) (i : Fin 256)

/-- The blocks the places name. -/
def Named' (n : Fin 8) : Prop := ∃ t, σ t = n

open Classical in
/-- A sum over the chosen past blocks and one more term, as one sum over the blocks. -/
theorem sum_chosen {M : Type} [AddCommMonoid M] (hσ : Function.Injective σ) (f : Fin 8 → M) (h : M) :
    (∑ t : Fin 3, if σ t < N then f (σ t) else 0) + h
      = ∑ n : Fin 8, if n < N ∧ Named' σ n then f n else if n = N then h else 0 := by
  have e1 : (∑ t : Fin 3, if σ t < N then f (σ t) else 0) = ∑ n : Fin 8, if n < N ∧ Named' σ n then f n else 0 := by
    rw [← Finset.sum_image (s := Finset.univ) (g := σ) (f := fun n => if n < N then f n else 0) (fun x _ y _ e => hσ e)]
    rw [← Finset.sum_subset (Finset.subset_univ (Finset.univ.image σ))
      (f := fun n => if n < N ∧ Named' σ n then f n else 0) (fun n _ hn => if_neg fun h => hn (by
        obtain ⟨t, rfl⟩ := h.2
        exact Finset.mem_image_of_mem _ (Finset.mem_univ _)))]
    refine Finset.sum_congr rfl fun n hn => ?_
    obtain ⟨t, _, rfl⟩ := Finset.mem_image.1 hn
    have : Named' σ (σ t) := ⟨t, rfl⟩
    simp only [this, and_true]
  have e2 : h = ∑ n : Fin 8, if n = N then h else 0 := by
    rw [Finset.sum_ite_eq' Finset.univ N (fun _ => h), if_pos (Finset.mem_univ _)]
  rw [e1]
  conv_lhs => rw [e2]
  rw [← Finset.sum_add_distrib]
  refine Finset.sum_congr rfl fun n _ => ?_
  by_cases hn : n < N ∧ Named' σ n
  · rw [if_pos hn, if_pos hn, if_neg hn.1.ne, add_zero]
  · rw [if_neg hn, if_neg hn, zero_add]

open Classical in
theorem sum_wt {M : Type} [AddCommMonoid M] (hσ : Function.Injective σ) (F : Fin 8 → Fin 256 → ℝ → M) (hF : ∀ n j, F n j 0 = 0) :
    (∑ t : Fin 3, ∑ j : Fin 256, F (σ t) j (if σ t < N then Real.exp (c * s (σ t) j) else 0))
      + ∑ j : Fin 256, F N j (if j ≤ i then Real.exp (c * s N j) else 0)
      = ∑ n : Fin 8, ∑ j : Fin 256, F n j (wt c s (Named' σ) N i n j) := by
  have e : ∀ t : Fin 3, (∑ j : Fin 256, F (σ t) j (if σ t < N then Real.exp (c * s (σ t) j) else 0))
      = if σ t < N then ∑ j : Fin 256, F (σ t) j (Real.exp (c * s (σ t) j)) else 0 := by
    intro t
    by_cases h : σ t < N
    · simp only [if_pos h]
    · simp only [if_neg h]
      exact Finset.sum_eq_zero fun j _ => hF _ _
  rw [Finset.sum_congr rfl fun t _ => e t,
    sum_chosen σ N hσ (fun n => ∑ j : Fin 256, F n j (Real.exp (c * s n j))) (∑ j : Fin 256, F N j (if j ≤ i then Real.exp (c * s N j) else 0))]
  refine Finset.sum_congr rfl fun n _ => ?_
  by_cases hn : n < N ∧ Named' σ n
  · rw [if_pos hn]
    refine Finset.sum_congr rfl fun j _ => ?_
    unfold wt
    rw [if_pos (show Att (Named' σ) N i n j from Or.inl hn)]
  · rw [if_neg hn]
    by_cases hN : n = N
    · subst hN
      rw [if_pos rfl]
      refine Finset.sum_congr rfl fun j _ => ?_
      unfold wt Att
      simp only [lt_irrefl, false_and, true_and, false_or]
    · rw [if_neg hN]
      refine (Finset.sum_eq_zero fun j _ => ?_).symm
      unfold wt
      rw [if_neg (fun h => h.elim hn fun h => hN h.1), hF]

open Classical in
theorem reference_eq (hσ : Function.Injective σ) (C : Fin 1024 → EReal)
    (hA : ∀ (t : Fin 3) (j : Fin 256), C ⟨t.val * 256 + j.val, by omega⟩ = if σ t < N then ((c * s (σ t) j : ℝ) : EReal) else ⊥)
    (hO : ∀ j : Fin 256, C ⟨768 + j.val, by omega⟩ = if j ≤ i then ((c * s N j : ℝ) : EReal) else ⊥) (M : EReal)
    (hM : M = max ⊥ (Finset.univ.fold max ⊥ C)) (V : Fin 8 → Fin 256 → EReal) :
    (∑ j : Fin 256, ∑ t : Fin 3, Ideal.div (Ideal.exp (C ⟨t.val * 256 + j.val, by omega⟩ - M)) (∑ k, Ideal.exp (C k - M)) * V (σ t) j)
      + (∑ j : Fin 256, Ideal.div (Ideal.exp (C ⟨768 + j.val, by omega⟩ - M)) (∑ k, Ideal.exp (C k - M)) * V N j)
      = mean c s (Named' σ) N i V := by
  have hC : ∀ k, C k < ⊤ := by
    intro k
    rcases Nat.lt_or_ge k.val 768 with h | h
    · have e := hA ⟨k.val / 256, by omega⟩ ⟨k.val % 256, Nat.mod_lt _ (by omega)⟩
      rw [show (⟨(⟨k.val / 256, by omega⟩ : Fin 3).val * 256 + (⟨k.val % 256, Nat.mod_lt _ (by omega)⟩ : Fin 256).val, by
        show k.val / 256 * 256 + k.val % 256 < 1024; omega⟩ : Fin 1024) = k from Fin.ext (by show k.val / 256 * 256 + k.val % 256 = k.val; omega)] at e
      rw [e]
      split
      · exact EReal.coe_lt_top _
      · exact bot_lt_top
    · have e := hO ⟨k.val - 768, by omega⟩
      rw [show (⟨768 + (⟨k.val - 768, by omega⟩ : Fin 256).val, by show 768 + (k.val - 768) < 1024; omega⟩ : Fin 1024) = k from
        Fin.ext (by show 768 + (k.val - 768) = k.val; omega)] at e
      rw [e]
      split
      · exact EReal.coe_lt_top _
      · exact bot_lt_top
  have hlt : M < ⊤ := by
    rw [hM]
    exact max_lt bot_lt_top ((Finset.fold_max_lt _).2 ⟨bot_lt_top, fun k _ => hC k⟩)
  have hgt : ⊥ < M := by
    rw [hM]
    refine lt_max_of_lt_right ((Finset.lt_fold_max _).2 (Or.inr ⟨⟨768 + i.val, by omega⟩, Finset.mem_univ _, ?_⟩))
    rw [hO, if_pos (le_refl _)]
    exact EReal.bot_lt_coe _
  obtain ⟨m, rfl⟩ := exists_real hgt hlt
  have hexp : ∀ (p : Prop) [Decidable p] (x : ℝ), Ideal.exp ((if p then (x : EReal) else ⊥) - (m : EReal))
      = ((Real.exp (-m) * (if p then Real.exp x else 0) : ℝ) : EReal) := by
    intro p _ x
    split
    · rw [← EReal.coe_sub, Ideal.exp_coe, ← Real.exp_add]
      congr 2
      ring
    · rw [EReal.bot_sub, Ideal.exp_bot, mul_zero, EReal.coe_zero]
  have hZ : (∑ k, Ideal.exp (C k - (m : EReal))) = ((Real.exp (-m) * tot c s (Named' σ) N i : ℝ) : EReal) := by
    rw [sum_1024]
    simp only [hA, hO, hexp]
    unfold tot
    rw [← sum_wt c s σ N i hσ (fun _ _ x => x) fun _ _ => rfl]
    rw [mul_add, EReal.coe_add, Finset.mul_sum, Finset.mul_sum, sum_coe, sum_coe]
    simp only [Finset.mul_sum, sum_coe]
  have hpos : 0 < Real.exp (-m) * tot c s (Named' σ) N i := mul_pos (Real.exp_pos _) (tot_pos _ _ _ _ _)
  have hterm : ∀ (p : Prop) [Decidable p] (x : ℝ) (v : EReal), Ideal.div (Ideal.exp ((if p then (x : EReal) else ⊥) - (m : EReal)))
      ((Real.exp (-m) * tot c s (Named' σ) N i : ℝ) : EReal) * v
      = v * (((if p then Real.exp x else 0) / tot c s (Named' σ) N i : ℝ) : EReal) := by
    intro p _ x v
    have := Real.exp_pos (-m)
    have := tot_pos c s (Named' σ) N i
    rw [hexp, Ideal.div_coe hpos.ne', ← EReal.coe_mul, mul_comm]
    congr 2
    field_simp
  rw [hZ, Finset.sum_comm]
  simp only [hA, hO, hterm]
  exact sum_wt c s σ N i hσ (fun n j x => V n j * ((x / tot c s (Named' σ) N i : ℝ) : EReal)) fun n j => by
    rw [zero_div, EReal.coe_zero, mul_zero]

end Reference

end Cert.Att
-- ==== Proof.Spec.lean ====
/-
  The block-sparse attention of one head and one query, over real queries and keys.
-/
module

public import proofs.«01_k».proof.Proof.Math

@[expose] public section

noncomputable section

namespace Cert.Att

open Idealize.ShloMosaic Cert.KernelIdeal.Att

/-- Position `i` of block `n` of sequence `b`, as a row of the flat arrays. -/
def row (b n : Fin 8) (i : Fin 256) : Fin 16384 := ⟨b.val * 2048 + n.val * 256 + i.val, by omega⟩

/-- Feature `d` of head `h`, as a column of the flat arrays. -/
def col (h : Fin 16) (d : Fin 128) : Fin 2048 := ⟨h.val * 128 + d.val, by omega⟩

variable (c : ℝ) (Q K : Fin 16384 → Fin 2048 → ℝ) (V : Fin 16384 → Fin 2048 → EReal) (b : Fin 8) (h : Fin 16) (N : Fin 8) (i : Fin 256)

/-- The score of a query against key `j` of block `n`, not scaled. -/
def sc (n : Fin 8) (j : Fin 256) : ℝ := ∑ d : Fin 128, Q (row b N i) (col h d) * K (row b n j) (col h d)

/-- The gate of a query on block `n`: its product with the mean of the block's keys. -/
def gt (n : Fin 8) : ℝ := ∑ d : Fin 128, Q (row b N i) (col h d) * ((∑ r : Fin 256, K (row b n r) (col h d)) / 256)

/-- A block is chosen when fewer than three of the past blocks come before it by gate. -/
def Chosen (n : Fin 8) : Prop := cnt (fun a => ((gt Q K b h N i (Fin.ofNat 8 a) : ℝ) : EReal)) n.val (N.val - 1 - n.val) < 3

/-- The attention: the weighted mean of the values over the chosen past blocks and the query's own block up to the query. -/
def spec (d : Fin 128) : EReal :=
  mean c (sc Q K b h N i) (Chosen Q K b h N i) N i fun n j => V (row b n j) (col h d)

theorem mean_congr (s : Fin 8 → Fin 256 → ℝ) (P P' : Fin 8 → Prop) (W : Fin 8 → Fin 256 → EReal) (hP : ∀ n, n < N → (P n ↔ P' n)) :
    mean c s P N i W = mean c s P' N i W := by
  have e : Att P N i = Att P' N i := by
    funext n j
    unfold Att
    refine propext (or_congr (and_congr_right fun hn => hP n hn) Iff.rfl)
  unfold mean tot wt
  rw [e]

theorem cnt_scale (a : ℝ) (ha : 0 < a) (g : Nat → ℝ) (m k : Nat) :
    cnt (fun n => ((a * g n : ℝ) : EReal)) m k = cnt (fun n => ((g n : ℝ) : EReal)) m k := by
  unfold cnt
  simp only [EReal.coe_le_coe_iff, mul_le_mul_iff_right₀ ha]

end Cert.Att
-- ==== Proof.KerVal.lean ====
/-
  The kernel's scores and finished blocks over real queries and keys: the block-sparse attention.
-/
module

public import proofs.«01_k».proof.Proof.Spec

@[expose] public section

noncomputable section

namespace Cert.KernelIdeal.Att

open Idealize.ShloMosaic Idealize.ShloMosaic.TcCoe Idealize.ShloMosaic.Tactic
open Cert.KernelIdeal Cert.KernelIdeal.Gen
open Cert.Att (row sc gt sum_coe spec Chosen mean mean_congr cnt cnt_scale cnt_lt kernel_eq)

variable (a : ℝ) (Q K : Fin 16384 → Fin 2048 → ℝ) (b : Fin 8) (h : Fin 16) (N : Fin 8) (i : Fin 256)
variable (ks : Fin 8 → Vec Ideal S256x128 .bf16) (q : Vec Ideal S256x128 .bf16)
variable (hk : ∀ n r d, ks n (ix2 r d) = ((K (row b n r) (Cert.Att.col h d) : ℝ) : EReal))
variable (hq : ∀ r d, q (ix2 r d) = ((a * Q (row b N r) (Cert.Att.col h d) : ℝ) : EReal))

include hk hq in
theorem raw_real (n : Fin 8) (j : Fin 256) : raw (F := Ideal) (ks n) q (ix2 j i) = ((a * sc Q K b h N i n j : ℝ) : EReal) := by
  rw [raw_apply]
  simp only [hk, hq, ← EReal.coe_mul]
  rw [← sum_coe]
  congr 1
  unfold sc
  rw [Finset.mul_sum]
  exact Finset.sum_congr rfl fun d _ => by ring

include hk in
theorem km_real (n : Fin 8) (d : Fin 128) :
    kmRow (F := Ideal) (ks n) (ix2 0 d) = (((∑ r : Fin 256, K (row b n r) (Cert.Att.col h d)) / 256 : ℝ) : EReal) := by
  rw [kmRow_apply]
  simp only [hk]
  rw [← sum_coe, ← EReal.coe_mul, mul_one_div]

include hk hq in
theorem gate_real (n : Nat) :
    gateRow (F := Ideal) (kmParts (F := Ideal) ks) q n (ix2 0 i) = ((a * gt Q K b h N i (Fin.ofNat 8 n) : ℝ) : EReal) := by
  rw [gateRow_apply, gate8_apply, gate3_apply, gate3_apply, gate3_apply]
  simp only [kmParts_a, kmParts_b, kmParts_c, km_real K b h ks hk, hq, ← EReal.coe_sub, sub_self, EReal.coe_zero, sub_zero, zero_mul, Finset.sum_const_zero,
    add_zero, ← EReal.coe_mul]
  rw [← sum_coe]
  congr 1
  unfold gt
  rw [Finset.mul_sum]
  exact Finset.sum_congr rfl fun d _ => by ring

include hk hq in
theorem sel_real (ha : 0 < a) (n : Fin 8) :
    sel (F := Ideal) (gateRow (F := Ideal) (kmParts (F := Ideal) ks) q) N.val n.val (ix2 0 i) = 1#1 ↔ Chosen Q K b h N i n := by
  rw [sel_apply]
  simp only [gate_real a Q K b h N i ks q hk hq]
  unfold Chosen
  rw [← cnt_scale a ha]
  exact Iff.rfl

open Classical in
include hk hq in
theorem score_real (ha : 0 < a) (n : Fin 8) (hn : n ≤ N) (j : Fin 256) :
    score (F := Ideal) ks q N.val n.val (ix2 j i)
      = if Cert.Att.Att (Chosen Q K b h N i) N i n j then ((a * sc Q K b h N i n j : ℝ) : EReal) else ⊥ := by
  have en : Fin.ofNat 8 n.val = n := Fin.ext (Nat.mod_eq_of_lt n.isLt)
  unfold score Cert.Att.Att
  rw [en]
  by_cases h1 : n = N
  · subst h1
    rw [show Nat.beq n.val n.val = true from Nat.beq_refl _, cond_true, own_apply, raw_real a Q K b h n i ks q hk hq]
    simp only [lt_irrefl, false_and, true_and, false_or]
  · have h2 : n < N := lt_of_le_of_ne hn h1
    rw [show Nat.beq n.val N.val = false from Bool.eq_false_iff.2 fun e => h1 (Fin.ext (Nat.eq_of_beq_eq_true e)), cond_false]
    simp only [h1, h2, false_and, true_and, or_false]
    by_cases h4 : 4 ≤ N.val
    · rw [show Nat.ble 4 N.val = true from by rw [Nat.ble_eq]; exact h4, cond_true, past_apply, raw_real a Q K b h N i ks q hk hq]
      exact if_congr (sel_real a Q K b h N i ks q hk hq ha n) rfl rfl
    · rw [show Nat.ble 4 N.val = false from Bool.eq_false_iff.2 fun e => h4 (by rw [Nat.ble_eq] at e; exact e), cond_false, raw_real a Q K b h N i ks q hk hq]
      exact (if_pos (cnt_lt _ N.val n.val (by omega) h2)).symm

variable (arg2 : Memref sig .tc .vmem S2048x256 .bf16) (harg2 : arg2.IsWhole)
  (arg3 : Memref sig .tc .vmem S2048x256 .bf16) (harg3 : arg3.IsWhole) (arg4 : Memref sig .tc .vmem S2048x256 .bf16) (harg4 : arg4.IsWhole)
  (arg6 : Memref sig .tc .vmem S2x8x144x256 .bf16)
  (arg7 : Memref sig .tc .vmem S2x2x8x256x256 .f32) (x0 x1 x2 : Vec Ideal S2048x256 .bf16) (V : Fin 16384 → Fin 2048 → EReal)

/-- A finished block of the output is the attention. -/
theorem outB_real (hh : Fin 2) (ha : 0 < a)
    (h0 : ∀ (n : Fin 8) (r : Fin 256) (d : Fin 128), x0 (ix2 ⟨n.val * 256 + r.val, by omega⟩ ⟨hh.val * 128 + d.val, by omega⟩)
      = ((a * Q (row b n r) (Cert.Att.col h d) : ℝ) : EReal))
    (h1 : ∀ (n : Fin 8) (r : Fin 256) (d : Fin 128), x1 (ix2 ⟨n.val * 256 + r.val, by omega⟩ ⟨hh.val * 128 + d.val, by omega⟩)
      = ((K (row b n r) (Cert.Att.col h d) : ℝ) : EReal))
    (h2 : ∀ (n : Fin 8) (r : Fin 256) (d : Fin 128), x2 (ix2 ⟨n.val * 256 + r.val, by omega⟩ ⟨hh.val * 128 + d.val, by omega⟩)
      = V (row b n r) (Cert.Att.col h d)) (d : Fin 128) :
    outB arg2 harg2 arg3 harg3 arg4 harg4 arg6 arg7 x0 x1 x2 hh N.val (ix2 i d) = spec (a * Real.log 2) Q K V b h N i d := by
  rw [outB_apply _ _ _ _ _ _ _ _ _ _ _ hh N.val N.isLt]
  have eN : Fin.ofNat 8 N.val = N := Fin.ext (Nat.mod_eq_of_lt N.isLt)
  refine (kernel_eq (a * Real.log 2) a (sc Q K b h N i) (Chosen Q K b h N i) N i rfl _ (fun n hn j => ?_) _).trans ?_
  · exact score_real a Q K b h N i _ _ (fun n r d => (ld_apply arg3 harg3 x1 hh n r d).trans (h1 n r d))
      (fun r d => (ld_apply arg2 harg2 x0 hh _ r d).trans (by rw [h0, eN])) ha n hn j
  · unfold spec
    refine congrArg (mean _ _ _ _ _) (funext fun n => funext fun j => ?_)
    exact (h2 (Fin.ofNat 8 n.val) j d).trans (by rw [show Fin.ofNat 8 n.val = n from Fin.ext (Nat.mod_eq_of_lt n.isLt)])

end Cert.KernelIdeal.Att
-- ==== Proof.KerOut.lean ====
/-
  The kernel's result array after the run: any array that is the attention at every row and column.
-/
module

public import proofs.«01_k».proof.Proof.KerVal

@[expose] public section

set_option maxRecDepth 16384

noncomputable section

namespace Cert.KernelIdeal.Att

open Idealize.ShloMosaic Idealize.ShloMosaic.TcCoe Idealize.ShloMosaic.Tactic
open Cert.KernelIdeal Cert.KernelIdeal.Gen Cert.KernelIdeal.Value
open Cert.Att (row spec)

/-- What the queries are multiplied by before the call. -/
def qscale : ℝ := 1 / (Real.sqrt 128 * Real.log 2)

theorem qscale_pos : 0 < qscale := by
  unfold qscale
  have := Real.log_pos (show (1 : ℝ) < 2 by norm_num)
  positivity

theorem qscale_log : qscale * Real.log 2 = 1 / Real.sqrt 128 := by
  unfold qscale
  have := Real.log_pos (show (1 : ℝ) < 2 by norm_num)
  field_simp

/-- The scaled queries, as one function of the queries. -/
def scaled (x : FVec Ideal S16384x2048 .bf16) : FVec Ideal S16384x2048 .bf16 :=
  truncf .bf16 (Host.divf (extf .f32 x bitsLt_bf16_f32) (broadcastInDim S16384x2048 ![] bcast_S_S16384x2048
    (mulf (Host.sqrt (constant S_ .f32 0x43000000#32)) (Host.log (constant S_ .f32 0x40000000#32))))) bitsLt_bf16_f32

theorem scaled_apply (x : FVec Ideal S16384x2048 .bf16) (e : S16384x2048.Idx) (r : ℝ) (hr : x e = (r : EReal)) :
    scaled x e = ((qscale * r : ℝ) : EReal) := by
  show Ideal.div (x e) (Ideal.sqrt (Ideal.ofBits .f32 0x43000000#32) * Ideal.log (Ideal.ofBits .f32 0x40000000#32)) = _
  have hl := Real.log_pos (show (1 : ℝ) < 2 by norm_num)
  rw [hr, ofBits_128, ofBits_two, Ideal.sqrt_coe, if_neg (by norm_num), Ideal.log_coe, if_neg (by norm_num), ← EReal.coe_mul,
    Ideal.div_coe (by positivity), ← EReal.coe_mul, mul_comm]
  rfl

variable (m : (ℓ : Loc nD τ sig) → Buf (Elt Ideal) ℓ) (c : Dev nD)

theorem V_scaled : V m c main_v6 = scaled (m ((c : Thread nD τ).loc main_arg0)) := by
  show StableHlo.after hostOps0 (fun b => m (c, b)) (main_v6 : DevRef τ sig) = _
  unfold hostOps0
  after_results_simp
  rfl

theorem index0 : ∀ t : Fin cfg0.N, win0_0.index t (0 : Fin 2) = t.val / 8 ∧ win0_0.index t (1 : Fin 2) = t.val % 8 :=
  (by decide +kernel : ∀ t : Fin grid0.N, _)
theorem index1 : ∀ t : Fin cfg0.N, win0_1.index t (0 : Fin 2) = t.val / 8 ∧ win0_1.index t (1 : Fin 2) = t.val % 8 :=
  (by decide +kernel : ∀ t : Fin grid0.N, _)
theorem index2 : ∀ t : Fin cfg0.N, win0_2.index t (0 : Fin 2) = t.val / 8 ∧ win0_2.index t (1 : Fin 2) = t.val % 8 :=
  (by decide +kernel : ∀ t : Fin grid0.N, _)
theorem index3 : ∀ t : Fin cfg0.N, win0_3.index t (0 : Fin 2) = t.val / 8 ∧ win0_3.index t (1 : Fin 2) = t.val % 8 :=
  (by decide +kernel : ∀ t : Fin grid0.N, _)

theorem lt_N (t : Fin cfg0.N) : t.val < 64 := t.isLt.trans_eq N_0

/-- The sequence of a grid point. -/
def seqOf (t : Fin cfg0.N) : Fin 8 := ⟨t.val / 8, by have := lt_N t; omega⟩

/-- The head of a grid point's half. -/
def headOf (t : Fin cfg0.N) (hh : Fin 2) : Fin 16 := ⟨t.val % 8 * 2 + hh.val, by omega⟩

section Emb

variable (t : Fin cfg0.N) (hh : Fin 2) (n : Fin 8) (i : Fin 256) (d : Fin 128)

theorem emb0 : ((cfg0.win 0).blk t).view.emb (ix2 ⟨n.val * 256 + i.val, by omega⟩ ⟨hh.val * 128 + d.val, by omega⟩ : S2048x256.Idx)
    = (ix2 (row (seqOf t) n i) (Cert.Att.col (headOf t hh) d) : S16384x2048.Idx) := by
  obtain ⟨e0, e1⟩ := index0 t
  funext a
  apply Fin.ext
  match a with
  | 0 => show win0_0.index t (0 : Fin 2) * 2048 + 1 * (n.val * 256 + i.val) = t.val / 8 * 2048 + n.val * 256 + i.val; omega
  | 1 => show win0_0.index t (1 : Fin 2) * 256 + 1 * (hh.val * 128 + d.val) = (t.val % 8 * 2 + hh.val) * 128 + d.val; omega

theorem emb1 : ((cfg0.win 1).blk t).view.emb (ix2 ⟨n.val * 256 + i.val, by omega⟩ ⟨hh.val * 128 + d.val, by omega⟩ : S2048x256.Idx)
    = (ix2 (row (seqOf t) n i) (Cert.Att.col (headOf t hh) d) : S16384x2048.Idx) := by
  obtain ⟨e0, e1⟩ := index1 t
  funext a
  apply Fin.ext
  match a with
  | 0 => show win0_1.index t (0 : Fin 2) * 2048 + 1 * (n.val * 256 + i.val) = t.val / 8 * 2048 + n.val * 256 + i.val; omega
  | 1 => show win0_1.index t (1 : Fin 2) * 256 + 1 * (hh.val * 128 + d.val) = (t.val % 8 * 2 + hh.val) * 128 + d.val; omega

theorem emb2 : ((cfg0.win 2).blk t).view.emb (ix2 ⟨n.val * 256 + i.val, by omega⟩ ⟨hh.val * 128 + d.val, by omega⟩ : S2048x256.Idx)
    = (ix2 (row (seqOf t) n i) (Cert.Att.col (headOf t hh) d) : S16384x2048.Idx) := by
  obtain ⟨e0, e1⟩ := index2 t
  funext a
  apply Fin.ext
  match a with
  | 0 => show win0_2.index t (0 : Fin 2) * 2048 + 1 * (n.val * 256 + i.val) = t.val / 8 * 2048 + n.val * 256 + i.val; omega
  | 1 => show win0_2.index t (1 : Fin 2) * 256 + 1 * (hh.val * 128 + d.val) = (t.val % 8 * 2 + hh.val) * 128 + d.val; omega

theorem emb3 : ((cfg0.win 3).blk t).view.emb (ix2 ⟨n.val * 256 + i.val, by omega⟩ ⟨hh.val * 128 + d.val, by omega⟩ : S2048x256.Idx)
    = (ix2 (row (seqOf t) n i) (Cert.Att.col (headOf t hh) d) : S16384x2048.Idx) := by
  obtain ⟨e0, e1⟩ := index3 t
  funext a
  apply Fin.ext
  match a with
  | 0 => show win0_3.index t (0 : Fin 2) * 2048 + 1 * (n.val * 256 + i.val) = t.val / 8 * 2048 + n.val * 256 + i.val; omega
  | 1 => show win0_3.index t (1 : Fin 2) * 256 + 1 * (hh.val * 128 + d.val) = (t.val % 8 * 2 + hh.val) * 128 + d.val; omega

end Emb

variable (Q K : Fin 16384 → Fin 2048 → ℝ)
variable (hQ : ∀ a e, (m ((c : Thread nD τ).loc main_arg0) : FVec Ideal S16384x2048 .bf16) (ix2 a e) = ((Q a e : ℝ) : EReal))
variable (hK : ∀ a e, (m ((c : Thread nD τ).loc main_arg1) : FVec Ideal S16384x2048 .bf16) (ix2 a e) = ((K a e : ℝ) : EReal))

/-- The values. -/
def vals (a : Fin 16384) (e : Fin 2048) : EReal := (m ((c : Thread nD τ).loc main_arg2) : FVec Ideal S16384x2048 .bf16) (ix2 a e)

section Blocks

variable (t : Fin cfg0.N) (hh : Fin 2) (n : Fin 8) (i : Fin 256) (d : Fin 128)

include hQ in
theorem iblk0_apply : (iblk m c 0 t : Vec Ideal S2048x256 .bf16) (ix2 ⟨n.val * 256 + i.val, by omega⟩ ⟨hh.val * 128 + d.val, by omega⟩)
    = ((qscale * Q (row (seqOf t) n i) (Cert.Att.col (headOf t hh) d) : ℝ) : EReal) := by
  show (V m c main_v6 : FVec Ideal S16384x2048 .bf16) (((cfg0.win 0).blk t).view.emb (ix2 ⟨n.val * 256 + i.val, by omega⟩ ⟨hh.val * 128 + d.val, by omega⟩)) = _
  rw [emb0, V_scaled]
  exact scaled_apply _ _ _ (hQ _ _)

include hK in
theorem iblk1_apply : (iblk m c 1 t : Vec Ideal S2048x256 .bf16) (ix2 ⟨n.val * 256 + i.val, by omega⟩ ⟨hh.val * 128 + d.val, by omega⟩)
    = ((K (row (seqOf t) n i) (Cert.Att.col (headOf t hh) d) : ℝ) : EReal) := by
  show (V m c main_arg1 : FVec Ideal S16384x2048 .bf16) (((cfg0.win 1).blk t).view.emb (ix2 ⟨n.val * 256 + i.val, by omega⟩ ⟨hh.val * 128 + d.val, by omega⟩)) = _
  rw [emb1, V_main_arg1]
  exact hK _ _

theorem iblk2_apply : (iblk m c 2 t : Vec Ideal S2048x256 .bf16) (ix2 ⟨n.val * 256 + i.val, by omega⟩ ⟨hh.val * 128 + d.val, by omega⟩)
    = vals m c (row (seqOf t) n i) (Cert.Att.col (headOf t hh) d) := by
  show (V m c main_arg2 : FVec Ideal S16384x2048 .bf16) (((cfg0.win 2).blk t).view.emb (ix2 ⟨n.val * 256 + i.val, by omega⟩ ⟨hh.val * 128 + d.val, by omega⟩)) = _
  rw [emb2, V_main_arg2]
  rfl

include hQ hK in
/-- What a grid point writes back, read at an index. -/
theorem out_apply : (outsAt0 m c t : Vec Ideal S2048x256 .bf16) (ix2 ⟨n.val * 256 + i.val, by omega⟩ ⟨hh.val * 128 + d.val, by omega⟩)
    = spec (1 / Real.sqrt 128) Q K (vals m c) (seqOf t) (headOf t hh) n i d := by
  unfold outsAt0 out0_A_3
  rw [View.read_writes_junk_eq_canon, canon_run, ← qscale_log]
  exact outB_real qscale Q K (seqOf t) (headOf t hh) n i _ _ _ _ _ _ _ _ _ _ _ (vals m c) hh qscale_pos
    (fun n r d => iblk0_apply m c Q hQ t hh n r d) (fun n r d => iblk1_apply m c K hK t hh n r d) (fun n r d => iblk2_apply m c t hh n r d) d

end Blocks

variable (G : FVec Ideal S16384x2048 .bf16)
variable (hG : ∀ b h n i d, G (ix2 (row b n i) (Cert.Att.col h d)) = spec (1 / Real.sqrt 128) Q K (vals m c) b h n i d)

/-- Every index of a window's block is a row of a block and a column of a half. -/
theorem split_idx (j : S2048x256.Idx) : ∃ (hh : Fin 2) (n : Fin 8) (i : Fin 256) (d : Fin 128),
    j = ix2 ⟨n.val * 256 + i.val, by omega⟩ ⟨hh.val * 128 + d.val, by omega⟩ := by
  have h0 : (j 0).val < 2048 := (j 0).isLt
  have h1 : (j 1).val < 256 := (j 1).isLt
  refine ⟨⟨(j 1).val / 128, by omega⟩, ⟨(j 0).val / 256, by omega⟩, ⟨(j 0).val % 256, by omega⟩, ⟨(j 1).val % 128, by omega⟩, ?_⟩
  funext a
  apply Fin.ext
  match a with
  | 0 => show (j 0).val = (j 0).val / 256 * 256 + (j 0).val % 256; omega
  | 1 => show (j 1).val = (j 1).val / 128 * 128 + (j 1).val % 128; omega

include hQ hK hG in
theorem flushed_eq (t : Fin cfg0.N) : (dats m 0 c).flushed 3 t = ((cfg0.win 3).blk t).view.read (Elt Ideal) G := by
  rw [flushed3]
  funext j
  obtain ⟨hh, n, i, d, rfl⟩ := split_idx j
  refine (out_apply m c Q K hQ hK t hh n i d).trans ?_
  refine (hG _ _ _ _ _).symm.trans ?_
  exact congrArg G (emb3 t hh n i d).symm

theorem covered (y : S16384x2048.Idx) : ∃ t : Fin cfg0.N, (cfg0.win 3).flush t = true ∧ y ∈ ((cfg0.win 3).blk t).view.set := by
  have h0 : (y 0).val < 16384 := (y 0).isLt
  have h1 : (y 1).val < 2048 := (y 1).isLt
  refine ⟨⟨(y 0).val / 2048 * 8 + (y 1).val / 256, lt_of_lt_of_eq (by omega : _ < 64) N_0.symm⟩, flush0_3 _, ?_⟩
  have h := ((cfg0.win 3).blk ⟨(y 0).val / 2048 * 8 + (y 1).val / 256, lt_of_lt_of_eq (by omega : _ < 64) N_0.symm⟩).view.emb_mem_set
    (ix2 ⟨(⟨(y 0).val / 256 % 8, by omega⟩ : Fin 8).val * 256 + (⟨(y 0).val % 256, by omega⟩ : Fin 256).val, by show (y 0).val / 256 % 8 * 256 + (y 0).val % 256 < 2048; omega⟩
      ⟨(⟨(y 1).val / 128 % 2, by omega⟩ : Fin 2).val * 128 + (⟨(y 1).val % 128, by omega⟩ : Fin 128).val, by show (y 1).val / 128 % 2 * 128 + (y 1).val % 128 < 256; omega⟩)
  rw [emb3] at h
  refine (congrArg (· ∈ _) (?_ : _ = y)).mp h
  funext a
  apply Fin.ext
  match a with
  | 0 =>
    show ((y 0).val / 2048 * 8 + (y 1).val / 256) / 8 * 2048 + (y 0).val / 256 % 8 * 256 + (y 0).val % 256 = (y 0).val
    omega
  | 1 =>
    show (((y 0).val / 2048 * 8 + (y 1).val / 256) % 8 * 2 + (y 1).val / 128 % 2) * 128 + (y 1).val % 128 = (y 1).val
    omega

include hQ hK hG in
/-- The result array after the run. -/
theorem final : (dats m 0 c).arrAt 3 cfg0.N = G :=
  (dats m 0 c).arrAt_eq_of_cover 3 G (fun t _ => flushed_eq m c Q K hQ hK G hG t) covered

end Cert.KernelIdeal.Att
-- ==== Proof.RefOps.lean ====
/-
  The reference's operations that move or contract arrays, read at an index.
-/
module

public import proofs.«01_k».proof.Proof.Gen.ReferenceIdeal.Read
public import proofs.«01_k».proof.Proof.Consts
public import Idealize.ShloMosaic.Lib.Pointwise
public import Idealize.ShloMosaic.Lib.SortFacts

@[expose] public section

set_option maxRecDepth 16384

noncomputable section

namespace Cert.ReferenceIdeal.Att

open Idealize.ShloMosaic Idealize.ShloMosaic.TcCoe
open Cert.ReferenceIdeal Cert.ReferenceIdeal.Gen Cert.ReferenceIdeal.Read

variable (b : Fin 8) (h : Fin 16) (n : Fin 8) (i : Fin 256)

theorem dotOwn_apply (l r : FVec Ideal S8x16x8x256x128 .f32) (j : Fin 256) :
    Host.dotGeneral dot_S8x16x8x256x128_S8x16x8x256x128_S8x16x8x256x256_4_4_3_3_012_012 none l r (ix5 b h n i j)
      = ∑ d : Fin 128, l (ix5 b h n i d) * r (ix5 b h n j d) := by
  pointwise

theorem dotGate_apply (l : FVec Ideal S8x16x8x256x128 .f32) (r : FVec Ideal S8x16x8x128 .f32) (k : Fin 8) :
    Host.dotGeneral dot_S8x16x8x256x128_S8x16x8x128_S8x16x8x256x8_4_3_23_2_01_01 none l r (ix5 b h n i k)
      = ∑ d : Fin 128, l (ix5 b h n i d) * r (ix4 b h k d) := by
  pointwise

theorem dotSel_apply (l : FVec Ideal S8x16x8x256x128 .f32) (r : FVec Ideal S8x16x8x256x3x256x128 .f32) (t : Fin 3) (j : Fin 256) :
    Host.dotGeneral dot_S8x16x8x256x128_S8x16x8x256x3x256x128_S8x16x8x256x3x256_4_6_n_45_0123_0123 none l r (ix6 b h n i t j)
      = ∑ d : Fin 128, l (ix5 b h n i d) * r (ix7 b h n i t j d) := by
  pointwise

theorem dotSelV_apply (l : FVec Ideal S8x16x8x256x3x256 .f32) (r : FVec Ideal S8x16x8x256x3x256x128 .f32) (d : Fin 128) :
    Host.dotGeneral dot_S8x16x8x256x3x256_S8x16x8x256x3x256x128_S8x16x8x256x128_54_54_n_6_0123_0123 none l r (ix5 b h n i d)
      = ∑ j : Fin 256, ∑ t : Fin 3, l (ix6 b h n i t j) * r (ix7 b h n i t j d) := by
  pointwise

theorem dotOwnV_apply (l : FVec Ideal S8x16x8x256x256 .f32) (r : FVec Ideal S8x16x8x256x128 .f32) (d : Fin 128) :
    Host.dotGeneral dot_S8x16x8x256x256_S8x16x8x256x128_S8x16x8x256x128_4_3_3_4_012_012 none l r (ix5 b h n i d)
      = ∑ j : Fin 256, l (ix5 b h n i j) * r (ix5 b h n j d) := by
  pointwise

theorem maxAll_apply (x : FVec Ideal S8x16x8x256x1024 .f32) :
    Host.reduce FloatOps.maximumf x (constant S_ .f32 0xFF800000#32) reducesTo_S8x16x8x256x1024_S8x16x8x256_d4 h_S_ (ix4 b h n i)
      = Finset.univ.fold max ⊥ fun k : Fin 1024 => x (ix5 b h n i k) := by
  pointwise
  rw [Cert.KernelIdeal.Att.ofBits_bot]

theorem sumAll_apply (x : FVec Ideal S8x16x8x256x1024 .f32) :
    Host.reduceAdd x (constant S_ .f32 0x00000000#32) reducesTo_S8x16x8x256x1024_S8x16x8x256_d4 h_S_ (ix4 b h n i)
      = ∑ k : Fin 1024, x (ix5 b h n i k) := by
  pointwise

theorem sumRows_apply (x : FVec Ideal S8x16x8x256x128 .f32) (d : Fin 128) :
    Host.reduceAdd x (constant S_ .f32 0x00000000#32) reducesTo_S8x16x8x256x128_S8x16x8x128_d3 h_S_ (ix4 b h n d)
      = ∑ k : Fin 256, x (ix5 b h n k d) := by
  pointwise

theorem along_last (k k' : Fin 8) : (ix5 b h n i k : S8x16x8x256x8.Idx).along 4 k' = ix5 b h n i k' := by
  funext a
  fin_cases a <;> rfl

/-- A small word read back. -/
theorem word_nat (k : Nat) (hk : k < 16) : (BitVec.ofNat 32 k).toInt.toNat = k := by
  have e : (BitVec.ofNat 32 k).toNat = k := by
    rw [BitVec.toNat_ofNat]
    omega
  rw [BitVec.toInt_eq_toNat_of_lt (by rw [e]; omega), e]
  rfl

theorem topK_apply (x : FVec Ideal S8x16x8x256x8 .f32) (t : Fin 3) :
    (Host.topK S8x16x8x256x3 4 (FloatOps.cmpfTotal .gt) x sliceFits_S8x16x8x256x8_S8x16x8x256x3).2 (ix5 b h n i t)
      = BitVec.ofNat 32 (sortedFrom (fun k k' : Fin 8 =>
          FloatOps.cmpfTotal .gt (x (ix5 b h n i k)) (x (ix5 b h n i k')) == 1#1) (t.castLE (by decide))).val := by
  pointwise [Host.topK, Host.sort2]
  simp only [along_last]
  rfl

theorem gather_apply (x : FVec Ideal S8x16x8x256x128 .f32) (idx : IVec S8x16x8x256x3x3 32) (t : Fin 3) (j : Fin 256) (d : Fin 128)
    (m : Fin 8) (h0 : idx (ix6 b h n i t 0) = BitVec.ofNat 32 b.val) (h1 : idx (ix6 b h n i t 1) = BitVec.ofNat 32 h.val)
    (h2 : idx (ix6 b h n i t 2) = BitVec.ofNat 32 m.val) :
    Host.gather gather_S8x16x8x256x128_S8x16x8x256x3x3_S8x16x8x256x3x256x128_56_012_n_n_012_5_111256128 x idx (ix7 b h n i t j d)
      = x (ix5 b h m j d) := by
  unfold Host.gather
  refine congrArg x (funext fun a => Fin.ext ?_)
  have hi : ∀ c : Fin 3, GatherDims.siIdx gather_S8x16x8x256x128_S8x16x8x256x3x3_S8x16x8x256x3x256x128_56_012_n_n_012_5_111256128
      (ix7 b h n i t j d) c = ix6 b h n i t c := fun c => by
    funext a
    fin_cases a <;> rfl
  match a with
  | 0 =>
    show min (idx (GatherDims.siIdx gather_S8x16x8x256x128_S8x16x8x256x3x3_S8x16x8x256x3x256x128_56_012_n_n_012_5_111256128
      (ix7 b h n i t j d) (0 : Fin 3))).toInt.toNat (8 - 1) + 0 + 0 = b.val
    rw [hi, h0, word_nat _ (by omega)]
    omega
  | 1 =>
    show min (idx (GatherDims.siIdx gather_S8x16x8x256x128_S8x16x8x256x3x3_S8x16x8x256x3x256x128_56_012_n_n_012_5_111256128
      (ix7 b h n i t j d) (1 : Fin 3))).toInt.toNat (16 - 1) + 0 + 0 = h.val
    rw [hi, h1, word_nat _ (by omega)]
    omega
  | 2 =>
    show min (idx (GatherDims.siIdx gather_S8x16x8x256x128_S8x16x8x256x3x3_S8x16x8x256x3x256x128_56_012_n_n_012_5_111256128
      (ix7 b h n i t j d) (2 : Fin 3))).toInt.toNat (8 - 1) + 0 + 0 = m.val
    rw [hi, h2, word_nat _ (by omega)]
    omega
  | 3 =>
    show 0 + 0 + j.val = j.val
    omega
  | 4 =>
    show 0 + 0 + d.val = d.val
    omega

end Cert.ReferenceIdeal.Att
-- ==== Proof.RefVal.lean ====
/-
  The reference's arrays, read at an index, up to the scores.
-/
module

public import proofs.«01_k».proof.Proof.RefOps
public import proofs.«01_k».proof.Proof.Spec
public import Idealize.ShloMosaic.Lib.WordCmp

@[expose] public section

set_option maxRecDepth 16384

noncomputable section

namespace Cert.ReferenceIdeal.Att

open Idealize.ShloMosaic Idealize.ShloMosaic.TcCoe
open Cert.ReferenceIdeal Cert.ReferenceIdeal.Gen Cert.ReferenceIdeal.Read
open Cert.Att (row col sc gt sum_coe)
open Cert.KernelIdeal.Att (ofBits_256 ofBits_128 ofBits_one ofBits_bot)

variable (x0 x1 x2 : (⟨S16384x2048, .bf16⟩ : BufTy).Contents (Elt Ideal))
variable (Q K : Fin 16384 → Fin 2048 → ℝ)
variable (hQ : ∀ a e, x0 (ix2 a e) = ((Q a e : ℝ) : EReal)) (hK : ∀ a e, x1 (ix2 a e) = ((K a e : ℝ) : EReal))
variable (b : Fin 8) (h : Fin 16) (n : Fin 8) (i : Fin 256)

theorem v4_apply (d : Fin 128) : val_main_v4 (F := Ideal) x0 (ix5 b h n i d) = x0 (ix2 (row b n i) (col h d)) := by
  pointwise [val_main_v4, val_main_v3, val_main_v2]
  rfl

theorem v7_apply (d : Fin 128) : val_main_v7 (F := Ideal) x1 (ix5 b h n i d) = x1 (ix2 (row b n i) (col h d)) := by
  pointwise [val_main_v7, val_main_v6, val_main_v5]
  rfl

theorem v10_apply (d : Fin 128) : val_main_v10 (F := Ideal) x2 (ix5 b h n i d) = x2 (ix2 (row b n i) (col h d)) := by
  pointwise [val_main_v10, val_main_v9, val_main_v8]
  rfl

theorem v11_apply (d : Fin 128) : val_main_v11 (F := Ideal) x1 (ix4 b h n d) = ∑ r : Fin 256, x1 (ix2 (row b n r) (col h d)) := by
  refine (sumRows_apply b h n _ d).trans ?_
  simp only [v7_apply]

theorem v12_apply (d : Fin 128) : val_main_v12 (F := Ideal) (ix4 b h n d) = ((256 : ℝ) : EReal) := by
  pointwise [val_main_v12, val_main_cst_2]
  exact ofBits_256

include hK in
theorem v13_apply (d : Fin 128) :
    val_main_v13 (F := Ideal) x1 (ix4 b h n d) = (((∑ r : Fin 256, K (row b n r) (col h d)) / 256 : ℝ) : EReal) := by
  show Ideal.div (val_main_v11 (F := Ideal) x1 (ix4 b h n d)) (val_main_v12 (F := Ideal) (ix4 b h n d)) = _
  rw [v11_apply, v12_apply, Ideal.div_coe (by norm_num)]
  simp only [hK]
  rw [← sum_coe, ← EReal.coe_mul, mul_one_div]

/-- The scale of the scores. -/
def scale : ℝ := 1 / Real.sqrt 128

theorem v1_apply (e : S_.Idx) : val_main_v1 (F := Ideal) e = ((scale : ℝ) : EReal) := by
  show Ideal.div (Ideal.ofBits .f32 0x3F800000#32) (Ideal.sqrt (Ideal.ofBits .f32 0x43000000#32)) = _
  rw [ofBits_one, ofBits_128, Ideal.sqrt_coe, if_neg (by norm_num), Ideal.div_coe (by positivity), ← EReal.coe_mul, one_mul]
  rfl

include hQ hK in
theorem v16_apply (j : Fin 256) : val_main_v16 (F := Ideal) x0 x1 (ix5 b h n i j) = ((sc Q K b h n i n j : ℝ) : EReal) := by
  refine (dotOwn_apply b h n i _ _ j).trans ?_
  simp only [v4_apply, v7_apply, hQ, hK, ← EReal.coe_mul]
  rw [← sum_coe]
  rfl

theorem own_apply (m : IVec S256x256 1) (x y : FVec Ideal S8x16x8x256x256 .f32) (s : FVec Ideal S_ .f32) (j : Fin 256) :
    select (broadcastInDim S8x16x8x256x256 ![3, 4] bcast_S256x256_S8x16x8x256x256_3_4 m) (mulf x y)
      (broadcastInDim S8x16x8x256x256 ![] bcast_S_S8x16x8x256x256 (id s)) (ix5 b h n i j)
      = Scalar.select (m (ix2 i j)) (x (ix5 b h n i j) * y (ix5 b h n i j)) (s ix0) := by
  pointwise
  rfl

theorem v24_apply (j : Fin 256) : val_main_v24 (F := Ideal) (ix2 i j) = if j ≤ i then 1#1 else 0#1 := by
  pointwise [val_main_v24, val_main_v23, val_main_v22, val_main_v21, val_main_v20, val_main_v19]
  rw [WordCmp.cmpi_sle_ofNat (by have := j.isLt; norm_num; omega) (by have := i.isLt; norm_num; omega)]
  by_cases hj : j ≤ i
  · rw [if_pos hj, decide_eq_true (by exact hj)]
    rfl
  · rw [if_neg hj, decide_eq_false (by exact hj)]
    rfl

theorem v17_apply (j : Fin 256) : val_main_v17 (F := Ideal) (ix5 b h n i j) = ((scale : ℝ) : EReal) := by
  show val_main_v1 (F := Ideal) _ = _
  exact v1_apply _

include hQ hK in
theorem v25_apply (j : Fin 256) :
    val_main_v25 (F := Ideal) x0 x1 (ix5 b h n i j) = if j ≤ i then ((scale * sc Q K b h n i n j : ℝ) : EReal) else ⊥ := by
  refine (own_apply b h n i _ _ _ _ j).trans ?_
  rw [v24_apply, v16_apply x0 x1 Q K hQ hK, v17_apply, ← EReal.coe_mul, mul_comm]
  by_cases hj : j ≤ i
  · rw [if_pos hj, if_pos hj]
    rfl
  · rw [if_neg hj, if_neg hj]
    exact ofBits_bot

include hQ hK in
theorem v26_apply (k : Fin 8) : val_main_v26 (F := Ideal) x0 x1 (ix5 b h n i k) = ((gt Q K b h n i k : ℝ) : EReal) := by
  refine (dotGate_apply b h n i _ _ k).trans ?_
  simp only [v4_apply, v13_apply x1 K hK, hQ, ← EReal.coe_mul]
  rw [← sum_coe]
  rfl

theorem past_apply (m : IVec S8x1x8 1) (x : FVec Ideal S8x16x8x256x8 .f32) (s : FVec Ideal S_ .f32) (k : Fin 8) :
    select (broadcastInDim S8x16x8x256x8 ![2, 3, 4] bcast_S8x1x8_S8x16x8x256x8_2_3_4 m) x
      (broadcastInDim S8x16x8x256x8 ![] bcast_S_S8x16x8x256x8 (id s)) (ix5 b h n i k)
      = Scalar.select (m (ix3 n 0 k)) (x (ix5 b h n i k)) (s ix0) := by
  pointwise
  rfl

theorem v32_apply (k : Fin 8) : val_main_v32 (F := Ideal) (ix3 n 0 k) = if k < n then 1#1 else 0#1 := by
  pointwise [val_main_v32, val_main_v31, val_main_v30, val_main_v29, val_main_v28, val_main_v27, val_main_v15, val_main_v14]
  rw [WordCmp.cmpi_slt_ofNat (by have := k.isLt; norm_num; omega) (by have := n.isLt; norm_num; omega)]
  by_cases hj : k < n
  · rw [if_pos hj, decide_eq_true (by exact hj)]
    rfl
  · rw [if_neg hj, decide_eq_false (by exact hj)]
    rfl

include hQ hK in
theorem v33_apply (k : Fin 8) :
    val_main_v33 (F := Ideal) x0 x1 (ix5 b h n i k) = if k < n then ((gt Q K b h n i k : ℝ) : EReal) else ⊥ := by
  refine (past_apply b h n i _ _ _ k).trans ?_
  rw [v32_apply, v26_apply x0 x1 Q K hQ hK]
  by_cases hj : k < n
  · rw [if_pos hj, if_pos hj]
    rfl
  · rw [if_neg hj, if_neg hj]
    exact ofBits_bot

/-! ## The chosen blocks -/

/-- The order the places are filled in. -/
def before (k k' : Fin 8) : Bool :=
  FloatOps.cmpfTotal (F := Ideal) (φ := .f32) .gt (val_main_v33 (F := Ideal) x0 x1 (ix5 b h n i k)) (val_main_v33 (F := Ideal) x0 x1 (ix5 b h n i k')) == 1#1

theorem before_iff (k k' : Fin 8) : before x0 x1 b h n i k k' = true
    ↔ val_main_v33 (F := Ideal) x0 x1 (ix5 b h n i k') < val_main_v33 (F := Ideal) x0 x1 (ix5 b h n i k) := by
  unfold before
  generalize val_main_v33 (F := Ideal) x0 x1 (ix5 b h n i k) = x
  generalize val_main_v33 (F := Ideal) x0 x1 (ix5 b h n i k') = y
  show ((BitVec.ofBool (decide (y < x))) == 1#1) = true ↔ _
  by_cases hx : y < x <;> simp [hx]

/-- The block of place `t`. -/
def place (t : Fin 3) : Fin 8 := sortedFrom (before x0 x1 b h n i) (t.castLE (by decide))

theorem indices_apply (t : Fin 3) : val_main_indices (F := Ideal) x0 x1 (ix5 b h n i t) = BitVec.ofNat 32 (place x0 x1 b h n i t).val :=
  topK_apply b h n i _ t

theorem v37_apply (t : Fin 3) : val_main_v37 (F := Ideal) x0 x1 (ix5 b h n i t) = if place x0 x1 b h n i t < n then 1#1 else 0#1 := by
  have e : val_main_v36 (F := Ideal) (ix5 b h n i t) = BitVec.ofNat 32 n.val := by
    pointwise [val_main_v36, val_main_v35, val_main_v34, val_main_v15, val_main_v14]
  show IntOp.cmpi .slt (val_main_indices (F := Ideal) x0 x1 (ix5 b h n i t)) (val_main_v36 (F := Ideal) (ix5 b h n i t)) = _
  rw [e, indices_apply]
  generalize place x0 x1 b h n i t = k
  rw [WordCmp.cmpi_slt_ofNat (by have := k.isLt; norm_num; omega) (by have := n.isLt; norm_num; omega)]
  by_cases hj : k < n
  · rw [if_pos hj, decide_eq_true (by exact hj)]
    rfl
  · rw [if_neg hj, decide_eq_false (by exact hj)]
    rfl

/-- Three index columns side by side, read at one of them. -/
theorem three_apply (u v w : IVec S8x16x8x256x3 32) (t c : Fin 3) :
    (concatenate S8x16x8x256x3x3 5
      [⟨S8x16x8x256x3x1, (broadcastInDim S8x16x8x256x3x1 ![0, 1, 2, 3, 4] bcast_S8x16x8x256x3_S8x16x8x256x3x1_0_1_2_3_4 u : IVec S8x16x8x256x3x1 32)⟩,
       ⟨S8x16x8x256x3x1, (broadcastInDim S8x16x8x256x3x1 ![0, 1, 2, 3, 4] bcast_S8x16x8x256x3_S8x16x8x256x3x1_0_1_2_3_4 v : IVec S8x16x8x256x3x1 32)⟩,
       ⟨S8x16x8x256x3x1, (broadcastInDim S8x16x8x256x3x1 ![0, 1, 2, 3, 4] bcast_S8x16x8x256x3_S8x16x8x256x3x1_0_1_2_3_4 w : IVec S8x16x8x256x3x1 32)⟩]
      concatenates_S8x16x8x256x3x1_S8x16x8x256x3x1_S8x16x8x256x3x1_S8x16x8x256x3x3_d5 : IVec S8x16x8x256x3x3 32) (ix6 b h n i t c)
      = if c.val < 1 then u (ix5 b h n i t) else if c.val - 1 < 1 then v (ix5 b h n i t) else w (ix5 b h n i t) := by
  pointwise
  rfl

theorem wrap (w : BitVec 32) (k : Nat) (hk : k < 16) :
    Scalar.select (IntOp.cmpi .slt (BitVec.ofNat 32 k) 0#32) w (BitVec.ofNat 32 k) = BitVec.ofNat 32 k := by
  rw [show (0#32) = BitVec.ofNat 32 0 from rfl, WordCmp.cmpi_slt_ofNat (by norm_num; omega) (by norm_num)]
  rfl

theorem v57_apply (t : Fin 3) : val_main_v57 (F := Ideal) (ix5 b h n i t) = BitVec.ofNat 32 b.val := by
  pointwise [val_main_v57, val_main_v46, val_main_v45, val_main_v44, val_main_v43, val_main_v42, val_main_v39, val_main_v38, val_main_c, val_main_c_5]
  exact wrap _ _ (by omega)

theorem v58_apply (t : Fin 3) : val_main_v58 (F := Ideal) (ix5 b h n i t) = BitVec.ofNat 32 h.val := by
  pointwise [val_main_v58, val_main_v51, val_main_v50, val_main_v49, val_main_v48, val_main_v47, val_main_v41, val_main_v40, val_main_c_6, val_main_c_7]
  exact wrap _ _ (by omega)

theorem wrapped_apply (x z y : IVec S8x16x8x256x3 32) (e : S8x16x8x256x3.Idx) :
    select (cmpi .slt x z) (addi x y) x e = Scalar.select (IntOp.cmpi .slt (x e) (z e)) (addi x y e) (x e) := rfl

theorem v52_apply (e : S8x16x8x256x3.Idx) : val_main_v52 (F := Ideal) e = 0#32 := rfl

theorem v74_apply (e : S8x16x8x256x3.Idx) : val_main_v74 (F := Ideal) e = 0#32 := rfl

theorem v56_apply (t : Fin 3) : val_main_v56 (F := Ideal) x0 x1 (ix5 b h n i t) = BitVec.ofNat 32 (place x0 x1 b h n i t).val := by
  unfold val_main_v56 val_main_v53 val_main_v55
  rw [wrapped_apply, v52_apply, indices_apply]
  exact wrap _ _ (by omega)

theorem v78_apply (t : Fin 3) : val_main_v78 (F := Ideal) x0 x1 (ix5 b h n i t) = BitVec.ofNat 32 (place x0 x1 b h n i t).val := by
  unfold val_main_v78 val_main_v75 val_main_v77
  rw [wrapped_apply, v74_apply, indices_apply]
  exact wrap _ _ (by omega)

theorem v79_apply (t : Fin 3) : val_main_v79 (F := Ideal) (ix5 b h n i t) = BitVec.ofNat 32 b.val := by
  pointwise [val_main_v79, val_main_v68, val_main_v67, val_main_v66, val_main_v65, val_main_v64, val_main_v39, val_main_v38, val_main_c_10, val_main_c_11]
  exact wrap _ _ (by omega)

theorem v80_apply (t : Fin 3) : val_main_v80 (F := Ideal) (ix5 b h n i t) = BitVec.ofNat 32 h.val := by
  pointwise [val_main_v80, val_main_v73, val_main_v72, val_main_v71, val_main_v70, val_main_v69, val_main_v41, val_main_v40, val_main_c_12, val_main_c_13]
  exact wrap _ _ (by omega)

theorem v63_apply (t : Fin 3) (j : Fin 256) (d : Fin 128) : val_main_v63 (F := Ideal) x0 x1 (ix7 b h n i t j d)
    = x1 (ix2 (row b (place x0 x1 b h n i t) j) (col h d)) := by
  have e : ∀ c, val_main_v62 (F := Ideal) x0 x1 (ix6 b h n i t c) = _ := fun c =>
    three_apply b h n i (val_main_v57 (F := Ideal)) (val_main_v58 (F := Ideal)) (val_main_v56 (F := Ideal) x0 x1) t c
  unfold val_main_v63
  rw [gather_apply b h n i _ _ t j d (place x0 x1 b h n i t) ?_ ?_ ?_, v7_apply]
  · rw [e, if_pos (by decide), v57_apply]
  · rw [e, if_neg (by decide), if_pos (by decide), v58_apply]
  · rw [e, if_neg (by decide), if_neg (by decide), v56_apply]

theorem v85_apply (t : Fin 3) (j : Fin 256) (d : Fin 128) : val_main_v85 (F := Ideal) x0 x1 x2 (ix7 b h n i t j d)
    = x2 (ix2 (row b (place x0 x1 b h n i t) j) (col h d)) := by
  have e : ∀ c, val_main_v84 (F := Ideal) x0 x1 (ix6 b h n i t c) = _ := fun c =>
    three_apply b h n i (val_main_v79 (F := Ideal)) (val_main_v80 (F := Ideal)) (val_main_v78 (F := Ideal) x0 x1) t c
  unfold val_main_v85
  rw [gather_apply b h n i _ _ t j d (place x0 x1 b h n i t) ?_ ?_ ?_, v10_apply]
  · rw [e, if_pos (by decide), v79_apply]
  · rw [e, if_neg (by decide), if_pos (by decide), v80_apply]
  · rw [e, if_neg (by decide), if_neg (by decide), v78_apply]

end Cert.ReferenceIdeal.Att
-- ==== Proof.RefOut.lean ====
/-
  The reference's result, read at an index: the block-sparse attention.
-/
module

public import proofs.«01_k».proof.Proof.RefVal

@[expose] public section

set_option maxRecDepth 16384

noncomputable section

namespace Cert.ReferenceIdeal.Att

open Idealize.ShloMosaic Idealize.ShloMosaic.TcCoe
open Cert.ReferenceIdeal Cert.ReferenceIdeal.Gen Cert.ReferenceIdeal.Read
open Cert.Att (row col sc gt sum_coe spec Chosen mean mean_congr Named' reference_eq cnt_eq mem_first_iff)
open Cert.KernelIdeal.Att (ofBits_256 ofBits_128 ofBits_one ofBits_bot)

variable (x0 x1 x2 : (⟨S16384x2048, .bf16⟩ : BufTy).Contents (Elt Ideal))
variable (Q K : Fin 16384 → Fin 2048 → ℝ)
variable (hQ : ∀ a e, x0 (ix2 a e) = ((Q a e : ℝ) : EReal)) (hK : ∀ a e, x1 (ix2 a e) = ((K a e : ℝ) : EReal))
variable (b : Fin 8) (h : Fin 16) (n : Fin 8) (i : Fin 256)

include hQ hK in
theorem v86_apply (t : Fin 3) (j : Fin 256) :
    val_main_v86 (F := Ideal) x0 x1 (ix6 b h n i t j) = ((sc Q K b h n i (place x0 x1 b h n i t) j : ℝ) : EReal) := by
  unfold val_main_v86
  rw [dotSel_apply]
  simp only [v4_apply, v63_apply, hQ, hK, ← EReal.coe_mul]
  rw [← sum_coe]
  rfl

theorem chosen_apply (m : IVec S8x16x8x256x3 1) (x y : FVec Ideal S8x16x8x256x3x256 .f32) (s : FVec Ideal S_ .f32) (t : Fin 3) (j : Fin 256) :
    select (broadcastInDim S8x16x8x256x3x256 ![0, 1, 2, 3, 4, 5] bcast_S8x16x8x256x3x1_S8x16x8x256x3x256_0_1_2_3_4_5
        (broadcastInDim S8x16x8x256x3x1 ![0, 1, 2, 3, 4] bcast_S8x16x8x256x3_S8x16x8x256x3x1_0_1_2_3_4 m)) (mulf x y)
      (broadcastInDim S8x16x8x256x3x256 ![] bcast_S_S8x16x8x256x3x256 (id s)) (ix6 b h n i t j)
      = Scalar.select (m (ix5 b h n i t)) (x (ix6 b h n i t j) * y (ix6 b h n i t j)) (s ix0) := by
  pointwise
  rfl

theorem v87_apply (t : Fin 3) (j : Fin 256) : val_main_v87 (F := Ideal) (ix6 b h n i t j) = ((scale : ℝ) : EReal) := by
  show val_main_v1 (F := Ideal) _ = _
  exact v1_apply _

include hQ hK in
theorem v90_apply (t : Fin 3) (j : Fin 256) : val_main_v90 (F := Ideal) x0 x1 (ix6 b h n i t j)
    = if place x0 x1 b h n i t < n then ((scale * sc Q K b h n i (place x0 x1 b h n i t) j : ℝ) : EReal) else ⊥ := by
  unfold val_main_v90 val_main_call2_v1 val_main_call2_v2 val_main_call2_v0 val_main_v89 val_main_v88
  rw [chosen_apply, v37_apply, v86_apply x0 x1 Q K hQ hK, v87_apply, ← EReal.coe_mul, mul_comm]
  by_cases hj : place x0 x1 b h n i t < n
  · rw [if_pos hj, if_pos hj]
    rfl
  · rw [if_neg hj, if_neg hj]
    exact ofBits_bot

/-- The chosen blocks' scores and the own block's, side by side. -/
theorem side_apply (x : FVec Ideal S8x16x8x256x3x256 .f32) (y : FVec Ideal S8x16x8x256x256 .f32) (k : Fin 1024) :
    (concatenate S8x16x8x256x1024 4 [⟨S8x16x8x256x768, (shapeCast _ x shapeCasts_S8x16x8x256x3x256_S8x16x8x256x768 : FVec Ideal S8x16x8x256x768 .f32)⟩, ⟨S8x16x8x256x256, y⟩]
      concatenates_S8x16x8x256x768_S8x16x8x256x256_S8x16x8x256x1024_d4 : FVec Ideal S8x16x8x256x1024 .f32) (ix5 b h n i k)
      = if hk : k.val < 768 then x (ix6 b h n i ⟨k.val / 256, by omega⟩ ⟨k.val % 256, Nat.mod_lt _ (by omega)⟩)
        else y (ix5 b h n i ⟨k.val - 768, by omega⟩) := by
  pointwise

include hQ hK in
theorem v92_past (t : Fin 3) (j : Fin 256) : val_main_v92 (F := Ideal) x0 x1 (ix5 b h n i ⟨t.val * 256 + j.val, by omega⟩)
    = if place x0 x1 b h n i t < n then ((scale * sc Q K b h n i (place x0 x1 b h n i t) j : ℝ) : EReal) else ⊥ := by
  unfold val_main_v92 val_main_v91
  rw [side_apply, dif_pos (show t.val * 256 + j.val < 768 by omega)]
  refine (congrArg₂ (fun t' j' => val_main_v90 (F := Ideal) x0 x1 (ix6 b h n i t' j')) (Fin.ext ?_ : _ = t) (Fin.ext ?_ : _ = j)).trans
    (v90_apply x0 x1 Q K hQ hK b h n i t j)
  · show (t.val * 256 + j.val) / 256 = t.val
    omega
  · show (t.val * 256 + j.val) % 256 = j.val
    omega

include hQ hK in
theorem v92_own (j : Fin 256) : val_main_v92 (F := Ideal) x0 x1 (ix5 b h n i ⟨768 + j.val, by omega⟩)
    = if j ≤ i then ((scale * sc Q K b h n i n j : ℝ) : EReal) else ⊥ := by
  unfold val_main_v92 val_main_v91
  rw [side_apply, dif_neg (show ¬ 768 + j.val < 768 by omega)]
  refine (congrArg (fun j' => val_main_v25 (F := Ideal) x0 x1 (ix5 b h n i j')) (Fin.ext ?_ : _ = j)).trans
    (v25_apply x0 x1 Q K hQ hK b h n i j)
  show 768 + j.val - 768 = j.val
  omega

theorem floor_apply (x : FVec Ideal S8x16x8x256 .f32) (e : S8x16x8x256.Idx) :
    maximumf (broadcastInDim S8x16x8x256 ![] bcast_S_S8x16x8x256 (constant S_ .f32 0xFF800000#32)) x e = max ⊥ (x e) :=
  congrArg (max · (x e)) ofBits_bot

theorem added_apply (x y : FVec Ideal S8x16x8x256x128 .f32) (e : S8x16x8x256x128.Idx) : addf x y e = x e + y e := rfl

theorem v95_apply : val_main_v95 (F := Ideal) x0 x1 (ix4 b h n i)
    = max ⊥ (Finset.univ.fold max ⊥ fun k : Fin 1024 => val_main_v92 (F := Ideal) x0 x1 (ix5 b h n i k)) := by
  unfold val_main_v95 val_main_v94 val_main_cst_18 val_main_v93 val_main_cst_17
  rw [floor_apply, maxAll_apply]

/-- The exponentials of the scores, over an abstract array of scores and of row maxima. -/
theorem shifted_apply (C : FVec Ideal S8x16x8x256x1024 .f32) (M : FVec Ideal S8x16x8x256 .f32) (k : Fin 1024) :
    Host.exp (subf C (broadcastInDim S8x16x8x256x1024 ![0, 1, 2, 3, 4] bcast_S8x16x8x256x1_S8x16x8x256x1024_0_1_2_3_4
      (broadcastInDim S8x16x8x256x1 ![0, 1, 2, 3] bcast_S8x16x8x256_S8x16x8x256x1_0_1_2_3 M))) (ix5 b h n i k)
      = Ideal.exp (C (ix5 b h n i k) - M (ix4 b h n i)) := by
  pointwise

theorem shares_apply (E : FVec Ideal S8x16x8x256x1024 .f32) (Z : FVec Ideal S8x16x8x256 .f32) (k : Fin 1024) :
    Host.divf E (broadcastInDim S8x16x8x256x1024 ![0, 1, 2, 3, 4] bcast_S8x16x8x256x1_S8x16x8x256x1024_0_1_2_3_4
      (broadcastInDim S8x16x8x256x1 ![0, 1, 2, 3] bcast_S8x16x8x256_S8x16x8x256x1_0_1_2_3 Z)) (ix5 b h n i k)
      = Ideal.div (E (ix5 b h n i k)) (Z (ix4 b h n i)) := by
  pointwise

theorem v99_apply (k : Fin 1024) : val_main_v99 (F := Ideal) x0 x1 (ix5 b h n i k)
    = Ideal.exp (val_main_v92 (F := Ideal) x0 x1 (ix5 b h n i k) - val_main_v95 (F := Ideal) x0 x1 (ix4 b h n i)) := by
  unfold val_main_v99 val_main_v98 val_main_v97 val_main_v96
  rw [shifted_apply]

theorem v103_apply (k : Fin 1024) : val_main_v103 (F := Ideal) x0 x1 (ix5 b h n i k)
    = Ideal.div (Ideal.exp (val_main_v92 (F := Ideal) x0 x1 (ix5 b h n i k) - val_main_v95 (F := Ideal) x0 x1 (ix4 b h n i)))
        (∑ k' : Fin 1024, Ideal.exp (val_main_v92 (F := Ideal) x0 x1 (ix5 b h n i k') - val_main_v95 (F := Ideal) x0 x1 (ix4 b h n i))) := by
  unfold val_main_v103 val_main_v102 val_main_v101 val_main_v100 val_main_cst_19
  rw [shares_apply, sumAll_apply]
  simp only [v99_apply]

theorem left_apply (x : FVec Ideal S8x16x8x256x1024 .f32) (t : Fin 3) (j : Fin 256) :
    (shapeCast S8x16x8x256x3x256 (extractStridedSlice S8x16x8x256x768 ![0, 0, 0, 0, 0] x slices_S8x16x8x256x1024_S8x16x8x256x768_0_0_0_0_0)
      shapeCasts_S8x16x8x256x768_S8x16x8x256x3x256 : FVec Ideal S8x16x8x256x3x256 .f32) (ix6 b h n i t j)
      = x (ix5 b h n i ⟨t.val * 256 + j.val, by omega⟩) := by
  pointwise

theorem right_apply (x : FVec Ideal S8x16x8x256x1024 .f32) (j : Fin 256) :
    (extractStridedSlice S8x16x8x256x256 ![0, 0, 0, 0, 768] x slices_S8x16x8x256x1024_S8x16x8x256x256_0_0_0_0_768 : FVec Ideal S8x16x8x256x256 .f32)
      (ix5 b h n i j) = x (ix5 b h n i ⟨768 + j.val, by omega⟩) := by
  pointwise

theorem v107_apply (d : Fin 128) : val_main_v107 (F := Ideal) x0 x1 x2 (ix5 b h n i d)
    = ∑ j : Fin 256, ∑ t : Fin 3, val_main_v103 (F := Ideal) x0 x1 (ix5 b h n i ⟨t.val * 256 + j.val, by omega⟩)
        * x2 (ix2 (row b (place x0 x1 b h n i t) j) (col h d)) := by
  unfold val_main_v107 val_main_v105 val_main_v104
  rw [dotSelV_apply]
  simp only [left_apply, v85_apply]

theorem v108_apply (d : Fin 128) : val_main_v108 (F := Ideal) x0 x1 x2 (ix5 b h n i d)
    = ∑ j : Fin 256, val_main_v103 (F := Ideal) x0 x1 (ix5 b h n i ⟨768 + j.val, by omega⟩) * x2 (ix2 (row b n j) (col h d)) := by
  unfold val_main_v108 val_main_v106
  rw [dotOwnV_apply]
  simp only [right_apply, v10_apply]

include hQ hK in
theorem named_iff (m : Fin 8) (hm : m < n) : Named' (place x0 x1 b h n i) m ↔ Chosen Q K b h n i m := by
  classical
  have e1 := mem_first_iff (fun k => val_main_v33 (F := Ideal) x0 x1 (ix5 b h n i k)) (before x0 x1 b h n i)
    (fun k k' => before_iff x0 x1 b h n i k k') m 3 (by decide)
  have e2 := cnt_eq (fun a => ((gt Q K b h n i (Fin.ofNat 8 a) : ℝ) : EReal)) (fun k => val_main_v33 (F := Ideal) x0 x1 (ix5 b h n i k)) n
    (fun k => by
      rw [v33_apply x0 x1 Q K hQ hK, show Fin.ofNat 8 k.val = k from Fin.ext (Nat.mod_eq_of_lt k.isLt)])
    (fun k => EReal.coe_ne_bot _) m hm
  unfold Chosen
  rw [e2]
  refine Iff.trans e1 ?_
  refine iff_of_eq (congrArg (· < 3) (congrArg Finset.card ?_))
  ext a
  simp only [Finset.mem_filter]

theorem place_injective : Function.Injective (place x0 x1 b h n i) := fun s t e =>
  Fin.castLE_injective _ (sortedFrom_injective _ e)

include hQ hK in
theorem v109_apply (d : Fin 128) : val_main_v109 (F := Ideal) x0 x1 x2 (ix5 b h n i d)
    = spec scale Q K (fun a e => x2 (ix2 a e)) b h n i d := by
  unfold val_main_v109
  rw [added_apply, v107_apply, v108_apply]
  simp only [v103_apply]
  refine (reference_eq scale (sc Q K b h n i) (place x0 x1 b h n i) n i (place_injective x0 x1 b h n i)
    (fun k => val_main_v92 (F := Ideal) x0 x1 (ix5 b h n i k)) (v92_past x0 x1 Q K hQ hK b h n i) (v92_own x0 x1 Q K hQ hK b h n i)
    _ (v95_apply x0 x1 b h n i) (fun m j => x2 (ix2 (row b m j) (col h d)))).trans ?_
  exact mean_congr scale n i _ _ _ _ fun m hm => named_iff x0 x1 Q K hQ hK b h n i m hm

theorem flat_apply (x : FVec Ideal S8x16x8x256x128 .f32) (d : Fin 128) :
    truncf .bf16 (shapeCast S16384x2048 (transpose S8x8x256x16x128 [0, 2, 3, 1, 4] x transposes_S8x16x8x256x128_S8x8x256x16x128_0_2_3_1_4)
      shapeCasts_S8x8x256x16x128_S16384x2048 : FVec Ideal S16384x2048 .f32) bitsLt_bf16_f32 (ix2 (row b n i) (col h d)) = x (ix5 b h n i d) := by
  pointwise
  refine congrArg x ?_
  congr 1 <;> refine Fin.ext ?_ <;> simp only [row, col] <;> omega

include hQ hK in
/-- The reference's result at a row and a column. -/
theorem result_apply (d : Fin 128) : val_main_v112 (F := Ideal) x0 x1 x2 (ix2 (row b n i) (col h d))
    = spec scale Q K (fun a e => x2 (ix2 a e)) b h n i d := by
  unfold val_main_v112 val_main_v111 val_main_v110
  rw [flat_apply, v109_apply x0 x1 x2 Q K hQ hK]

end Cert.ReferenceIdeal.Att
-- ==== Proof.Alg.lean ====
/-
  The value claim: on real queries and keys the kernel's array and the reference's array are the same.
-/
module

public import proofs.«01_k».proof.Defs
public import proofs.«01_k».proof.Proof.Finite
public import proofs.«01_k».proof.Proof.KerOut
public import proofs.«01_k».proof.Proof.RefOut

@[expose] public section

noncomputable section

namespace Cert.Proof

open Idealize.ShloMosaic Idealize.ShloMosaic.TcCoe Idealize.ShloMosaic.Tactic

theorem algebraic : Cert.algebraic_KernelIdeal_ReferenceIdeal_pre_finite_q_k := by
  intro m g m' g' hpre hargs
  have hfin := fun c => Cert.Pre_finite_q_k.finite _ _ _ (hpre c)
  refine ⟨fun c => Cert.ReferenceIdeal.Read.val_main_v112 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)), ?_, ?_⟩
  · refine (θ_run Cert.KernelIdeal.defs _ _).mono (fun r h c => ?_) (Cert.KernelIdeal.Value.run_blocks (F := Ideal) m g)
    obtain ⟨hv, h0, h1, h2⟩ := h c
    refine ⟨hv.trans ?_, h0, h1, h2⟩
    obtain ⟨e0, e1, e2⟩ := hargs c
    beta_reduce
    rw [e0, e1, e2]
    exact Cert.KernelIdeal.Att.final m c _ _ (fun a e => (hfin c a e).1) (fun a e => (hfin c a e).2) _
      (fun b h n i d => Cert.ReferenceIdeal.Att.result_apply _ _ _ _ _
        (fun a e => (hfin c a e).1) (fun a e => (hfin c a e).2) b h n i d)
  · refine (θ_run Cert.ReferenceIdeal.defs _ _).mono (fun r h c => ?_) (Cert.ReferenceIdeal.Value.run (F := Ideal) m' g')
    obtain ⟨hv, h0, h1, h2⟩ := h c
    exact ⟨hv.trans (Cert.ReferenceIdeal.Read.val_main_v112_eq m' c), h0, h1, h2⟩

end Cert.Proof
-- ==== Proof.FfnFrames.lean ====
/-
  The dense SwiGLU's frames.
-/
module

public import proofs.«01_k».proof.Defs
public import proofs.«01_k».proof.Proof.Gen.Ffn.Frame
public import proofs.«01_k».proof.Proof.Gen.FfnIdeal.Frame
public import proofs.«01_k».proof.Proof.Gen.FfnIdeal.Points
public import proofs.«01_k».proof.Proof.Gen.Ffn.Points
public import proofs.«01_k».proof.Proof.Gen.Ffn.Skeleton
public import proofs.«01_k».proof.Proof.Gen.FfnIdeal.Skeleton
public import proofs.«01_k».proof.Proof.Gen.ReferenceFfnIdeal.Read

@[expose] public section

noncomputable section

namespace Cert.Proof

end Cert.Proof
-- ==== Proof.FfnIdealRun.lean ====
/-
  The dense SwiGLU's body, run at a point: what it leaves in its two blocks, as the payloads its
  text names, over what the blocks held.
-/
module

public import proofs.«01_k».proof.Proof.Gen.FfnIdeal.Frame
public import proofs.«01_k».proof.Proof.Gen.FfnIdeal.Skeleton
public import Idealize.ShloMosaic.Lib.VecWindow
public import Idealize.ShloMosaic.Lib.WholeRead
public import Idealize.ShloMosaic.Lib.Claim

@[expose] public section

set_option maxRecDepth 16384

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

section views

variable {Val : EltTy → Type} {κ : Kind} {sp : Space} {e : EltTy}

theorem ld_rows (v : View sig κ sp S512x2048 e) (f : v.ty.Contents Val) (inb) :
    v.readAt Val (Rect.unit (s := S512x2048) ![0, 0] ![512, 2048] inb).toLoadRect f = v.read Val f :=
  View.readAt_full v (off := ![0, 0]) f inb

theorem ld_cols (v : View sig κ sp S2048x512 e) (f : v.ty.Contents Val) (inb) :
    v.readAt Val (Rect.unit (s := S2048x512) ![0, 0] ![2048, 512] inb).toLoadRect f = v.read Val f :=
  View.readAt_full v (off := ![0, 0]) f inb

theorem ld_row (v : View sig κ sp S1x2048 e) (f : v.ty.Contents Val) (inb) :
    v.readAt Val (Rect.unit (s := S1x2048) ![0, 0] ![1, 2048] inb).toLoadRect f = v.read Val f :=
  View.readAt_full v (off := ![0, 0]) f inb

theorem ld_mod (v : View sig κ sp S1x1x2048 e) (f : v.ty.Contents Val) (inb) :
    v.readAt Val (Rect.unit (s := S1x1x2048) ![0, 0, 0] ![1, 1, 2048] inb).toLoadRect f = v.read Val f :=
  View.readAt_full v (off := ![0, 0, 0]) f inb

theorem st_rows (v : View sig κ sp S512x2048 e) (f : v.ty.Contents Val) (inb) (w : S512x2048.Idx → Val e) (L : List (View.Piece Val S512x2048 e)) :
    v.read Val (v.writes Val f ((⟨Rect.unit (s := S512x2048) ![0, 0] ![512, 2048] inb, w⟩ : View.Piece Val S512x2048 e) :: L)) = w :=
  View.read_writes_full v f (off := ![0, 0]) inb w L

theorem cov_rows [∀ e, Nonempty (Val e)] (v : View sig κ sp S512x2048 e) (inb inb') (w : S512x2048.Idx → Val e)
    (L : List (View.Piece Val S512x2048 e)) :
    v.readCov ((⟨Rect.unit (s := S512x2048) ![0, 0] ![512, 2048] inb', w⟩ : View.Piece Val S512x2048 e) :: L)
      (Rect.unit (s := S512x2048) ![0, 0] ![512, 2048] inb).toLoadRect = w :=
  View.readCov_full v (off := ![0, 0]) (off' := ![0, 0]) inb inb' w L

end views

section run

variable (c : Dev nD) (i : grid0.Coords)
variable (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S512x2048 .f32) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S1x1x2048 .f32) (harg9 : arg9.IsWhole) (arg10 : Memref sig .tc .vmem S1x1x2048 .f32) (harg10 : arg10.IsWhole) (arg11 : Memref sig .tc .vmem S512x2048 .f32) (harg11 : arg11.IsWhole) (arg12 : Memref sig .tc .vmem S512x2048 .bf16) (harg12 : arg12.IsWhole)
variable (x0 : Vec F S512x2048 .bf16) (x1 : Vec F S2048x512 .bf16) (x2 : Vec F S2048x512 .bf16) (x3 : Vec F S512x2048 .bf16) (x4 : Vec F S512x2048 .f32) (x5 : Vec F S1x1x2048 .f32) (x6 : Vec F S1x2048 .f32) (x7 : Vec F S1x1x2048 .f32) (x8 : Vec F S1x1x2048 .f32) (x9 : Vec F S512x2048 .f32)

include harg2 harg3 harg4 harg5 harg6 harg7 harg8 harg9 harg10 harg11 harg12

set_option maxHeartbeats 2400000 in
/-- A point that is not the last of its row block: the partial sum is added to the first block, the
    second is not touched. -/
theorem run_step (hc : ¬k0_cond1 i = 1#1) (E : Set ℕ) (K : PUnit → sProp 𝕄) :
    iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare (k0_pay1 i x0 x1 x2 x9 x3)) -∗ K ⟨⟩))
      ⊢ wp frame (wpE (defs₀ (F := F)) Variants.none c none) E
          (cc0_dense_ffn i arg2 harg2 arg3 harg3 arg4 harg4 arg5 harg5 arg6 harg6 arg7 harg7 arg8 harg8 arg9 harg9 arg10 harg10 arg11 harg11 arg12 harg12) K := by
    simp only [cc0_dense_ffn_eq_skeleton]; unfold cc0_dense_ffn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr
    swap; · iexact H9
    ipureintro
    simp only [st_rows, cov_rows, ld_rows, ld_cols, ld_row, ld_mod, Memref.IsWhole.read_unread]

set_option maxHeartbeats 2400000 in
/-- The last point of a row block: the first block ends as the gated residual, the second as its
    modulated norm. -/
theorem run_last (hc : k0_cond1 i = 1#1) (E : Set ℕ) (K : PUnit → sProp 𝕄) :
    iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9 ∗ (∃ d, owns (c : Thread nD τ) arg12 fullShare d)
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare (k0_pay2 x4 x5 (k0_pay1 i x0 x1 x2 x9 x3))
            ∗ owns (c : Thread nD τ) arg12 fullShare (k0_pay3 x4 x5 (k0_pay1 i x0 x1 x2 x9 x3) x6 x7 x8)) -∗ K ⟨⟩))
      ⊢ wp frame (wpE (defs₀ (F := F)) Variants.none c none) E
          (cc0_dense_ffn i arg2 harg2 arg3 harg3 arg4 harg4 arg5 harg5 arg6 harg6 arg7 harg7 arg8 harg8 arg9 harg9 arg10 harg10 arg11 harg11 arg12 harg12) K := by
    simp only [cc0_dense_ffn_eq_skeleton]; unfold cc0_dense_ffn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr
      swap; · iexact H9
      ipureintro
      simp only [st_rows, ld_rows, ld_cols, ld_row, ld_mod, Memref.IsWhole.read_unread]
      exact congrArg (k0_pay2 x4 x5) ((cov_rows arg11.view _ _ _ _).trans (by simp only [ld_rows, ld_cols, Memref.IsWhole.read_unread]))
    iexists _; isplitr
    swap; · iexact H10
    ipureintro
    simp only [st_rows, ld_rows, ld_cols, ld_row, ld_mod, Memref.IsWhole.read_unread]
    exact congrArg (fun z => k0_pay3 x4 x5 z x6 x7 x8) ((cov_rows arg11.view _ _ _ _).trans (by simp only [ld_rows, ld_cols, Memref.IsWhole.read_unread]))

end run

/-- At the first point of a row block what the first block held does not count. -/
theorem pay1_reset (i : grid0.Coords) (h : (i 1).val = 0) (v0 : Vec F S512x2048 .bf16) (v1 v2 : Vec F S2048x512 .bf16) (a b : Vec F S512x2048 .f32)
    (v3 : Vec F S512x2048 .bf16) : k0_pay1 i v0 v1 v2 a v3 = k0_pay1 i v0 v1 v2 b v3 := by
  have hs : ∀ p q : FVec F S512x2048 .f32, Scalar.select (Scalar.cmpi .eq (BitVec.ofNat 32 (i 1).val) 0#32) p q = p := by
    intro p q; rw [h]; rfl
  simp only [k0_pay1, hs]

end Cert.FfnIdeal.Hand

end
-- ==== Proof.FfnIdealFrame.lean ====
/-
  The dense SwiGLU's frame: the contents of its two output blocks point by point, the body's
  obligation at every point, and the run of the whole grid.
-/
module

public import proofs.«01_k».proof.Proof.FfnIdealRun

@[expose] public section

set_option maxRecDepth 16384

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem coord_col (t : Fin cfg0.N) : (grid0.coords t 1).val = t.val % 11 :=
  (Pipeline.Grid.coords_val t 1 (by decide) rfl : (grid0.coords t 1).val = t.val / 1 % 11).trans (by rw [Nat.div_one])

/-- The last point of a row block. -/
theorem isLast (t : Fin cfg0.N) : k0_cond1 (grid0.coords t) = 1#1 ↔ t.val % 11 = 10 := by
  have ht : t.val < 352 := Nat.lt_of_lt_of_eq t.isLt N_0
  have e1 := coord_col t
  simp only [k0_cond1, e1]
  word_cmp

theorem idle_10 : ∀ t : Fin cfg0.N, ¬k0_cond1 (grid0.coords t) = 1#1 → cfg0.idle 10 (grid0.coords t) = true := by decide +kernel

theorem live_10 : ∀ t : Fin cfg0.N, k0_cond1 (grid0.coords t) = 1#1 → cfg0.idle 10 (grid0.coords t) = false := by decide +kernel

/-- The partial sum of the row block's products after point `n`; before the first of a row block
    whatever stands there is dropped. -/
def acc (c : Dev nD) : (n : ℕ) → n < cfg0.N → Vec F S512x2048 .f32
  | 0, hn => k0_pay1 (grid0.coords ⟨0, hn⟩) (iblk m c 0 ⟨0, hn⟩) (iblk m c 1 ⟨0, hn⟩) (iblk m c 2 ⟨0, hn⟩)
      (broadcast S512x2048 (Scalar.ofBits .f32 0x00000000#32)) (iblk m c 3 ⟨0, hn⟩)
  | n + 1, hn => k0_pay1 (grid0.coords ⟨n + 1, hn⟩) (iblk m c 0 ⟨n + 1, hn⟩) (iblk m c 1 ⟨n + 1, hn⟩) (iblk m c 2 ⟨n + 1, hn⟩)
      (acc c n (Nat.lt_of_succ_lt hn)) (iblk m c 3 ⟨n + 1, hn⟩)

/-- At the first point of a row block the partial sum does not depend on what stood before. -/
theorem acc_first (c : Dev nD) (t : Fin cfg0.N) (h : t.val % 11 = 0) (d : Vec F S512x2048 .f32) :
    acc m c t.val t.isLt = k0_pay1 (grid0.coords t) (iblk m c 0 t) (iblk m c 1 t) (iblk m c 2 t) d (iblk m c 3 t) := by
  obtain ⟨n, hn⟩ := t
  cases n with
  | zero => exact pay1_reset _ (coord_col ⟨0, hn⟩) _ _ _ _ _ _
  | succ n => exact pay1_reset _ ((coord_col ⟨n + 1, hn⟩).trans h) _ _ _ _ _ _

/-- At any other point it grows by the point's product. -/
theorem acc_next (c : Dev nD) (t : Fin cfg0.N) (h : t.val % 11 ≠ 0) :
    acc m c t.val t.isLt = k0_pay1 (grid0.coords t) (iblk m c 0 t) (iblk m c 1 t) (iblk m c 2 t)
      (acc m c (t.val - 1) (Nat.lt_of_le_of_lt (Nat.sub_le _ _) t.isLt)) (iblk m c 3 t) := by
  obtain ⟨n, hn⟩ := t
  cases n with
  | zero => exact absurd (Nat.zero_mod _) h
  | succ n => rfl

/-- What the first output's block holds after a point. -/
def held9 (c : Dev nD) (t : Fin cfg0.N) : Vec F S512x2048 .f32 :=
  if t.val % 11 = 10 then k0_pay2 (iblk m c 4 t) (iblk m c 5 t) (acc m c t.val t.isLt) else acc m c t.val t.isLt

/-- What the second's holds after the last point of a row block. -/
def held10 (c : Dev nD) (t : Fin cfg0.N) : Vec F S512x2048 .bf16 :=
  k0_pay3 (iblk m c 4 t) (iblk m c 5 t) (acc m c t.val t.isLt) (iblk m c 6 t) (iblk m c 7 t) (iblk m c 8 t)

/-- The proof data of the grid. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => held9 m c t
    | ⟨10, _⟩ => held10 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = held9 m c t := by dsimp only [dats]
theorem after_10 (c : Dev nD) (t : Fin cfg0.N) : (dats m 0 c).after 10 t = held10 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- Past the first point of a row block, the first output's block is found as the point before left it: the partial sum. -/
theorem before_9 (c : Dev nD) (t : Fin cfg0.N) (h : t.val % 11 ≠ 0) (d) :
    (dats m 0 c).before 9 t d = acc m c (t.val - 1) (Nat.lt_of_le_of_lt (Nat.sub_le _ _) t.isLt) := by
  have hp : ¬(t.val - 1) % 11 = 10 := by omega
  rw [Dat.before_out_kept _ 9 rfl t (by rintro h0; rw [h0] at h; exact h rfl)
    (by rw [← Bool.not_eq_true, flush0_9]; exact hp) (fun _ => rfl) (fun _ _ => rfl) d, after_9]
  exact if_neg hp

/-- The partial sum grows from what the block is found to hold, whatever the point. -/
theorem acc_step (c : Dev nD) (t : Fin cfg0.N) (d) :
    k0_pay1 (grid0.coords t) (iblk m c 0 t) (iblk m c 1 t) (iblk m c 2 t) ((dats m 0 c).before 9 t d) (iblk m c 3 t)
      = acc m c t.val t.isLt := by
  by_cases h : t.val % 11 = 0
  · exact (acc_first m c t h _).symm
  · rw [before_9 m c t h d]; exact (acc_next m c t h).symm

theorem leaves_0 (c : Dev nD) (t : Fin cfg0.N) :
    (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) :
    (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) :
    (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) :
    (dats m 0 c).leavesExact 3 t = owns (c : Thread nD τ) (st0_3 t) fullShare (iblk m c 3 t) := by
  unfold Dat.leavesExact; rw [show cfg0.idle 3 (grid0.coords t) = false from rfl, after_3]
theorem leaves_4 (c : Dev nD) (t : Fin cfg0.N) :
    (dats m 0 c).leavesExact 4 t = owns (c : Thread nD τ) (st0_4 t) fullShare (iblk m c 4 t) := by
  unfold Dat.leavesExact; rw [show cfg0.idle 4 (grid0.coords t) = false from rfl, after_4]
theorem leaves_5 (c : Dev nD) (t : Fin cfg0.N) :
    (dats m 0 c).leavesExact 5 t = owns (c : Thread nD τ) (st0_5 t) fullShare (iblk m c 5 t) := by
  unfold Dat.leavesExact; rw [show cfg0.idle 5 (grid0.coords t) = false from rfl, after_5]
theorem leaves_6 (c : Dev nD) (t : Fin cfg0.N) :
    (dats m 0 c).leavesExact 6 t = owns (c : Thread nD τ) (st0_6 t) fullShare (iblk m c 6 t) := by
  unfold Dat.leavesExact; rw [show cfg0.idle 6 (grid0.coords t) = false from rfl, after_6]
theorem leaves_7 (c : Dev nD) (t : Fin cfg0.N) :
    (dats m 0 c).leavesExact 7 t = owns (c : Thread nD τ) (st0_7 t) fullShare (iblk m c 7 t) := by
  unfold Dat.leavesExact; rw [show cfg0.idle 7 (grid0.coords t) = false from rfl, after_7]
theorem leaves_8 (c : Dev nD) (t : Fin cfg0.N) :
    (dats m 0 c).leavesExact 8 t = owns (c : Thread nD τ) (st0_8 t) fullShare (iblk m c 8 t) := by
  unfold Dat.leavesExact; rw [show cfg0.idle 8 (grid0.coords t) = false from rfl, after_8]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 2400000 in
/-- The body at any point: it is either within a row block or at its end. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, leaves_0, leaves_1, leaves_2, leaves_3, leaves_4, leaves_5, leaves_6, leaves_7, leaves_8]
  rw [show (dats m 0 c).Φ t.succ = (dats m 0 c).Φ t.castSucc from rfl,
    show (dats m 0 c).owesAt () t.succ = (dats m 0 c).owesAt () t.castSucc from rfl,
    show (dats m 0 c).leavesExact 9 t = owns (c : Thread nD τ) (st0_9 t) fullShare (held9 m c t) from by
      unfold Dat.leavesExact; rw [show cfg0.idle 9 (grid0.coords t) = false from rfl, after_9]]
  by_cases hl : t.val % 11 = 10
  · have hc := (isLast t).mpr hl
    rw [show (dats m 0 c).leavesExact 10 t = owns (c : Thread nD τ) (st0_10 t) fullShare (held10 m c t) from by
      unfold Dat.leavesExact; rw [live_10 t hc, after_10]]
    rw [show held9 m c t = k0_pay2 (iblk m c 4 t) (iblk m c 5 t) (acc m c t.val t.isLt) from if_pos hl]
    unfold held10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    rw [← acc_step m c t d9]
    iapply (run_last c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) ((dats m 0 c).before 9 t d9) hc Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hc := fun h => hl ((isLast t).mp h)
    rw [Dat.leavesExact_idle (dats m 0 c) 10 t (idle_10 t hc) (by rw [← Bool.not_eq_true, flush0_10]; exact hl)]
    rw [show held9 m c t = acc m c t.val t.isLt from if_neg hl]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
    rw [← acc_step m c t d9]
    iapply (run_step c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) ((dats m 0 c).before 9 t d9) hc Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The run of the grid, every counter at zero at its end. -/
theorem run_quiet : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The frame: the arguments end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiet m ρ))

end Cert.FfnIdeal.Hand

end
-- ==== Proof.FfnSpec.lean ====
/-
  The dense SwiGLU with its gated residual and modulated norm, as sums over the arrays' entries.
-/
module

public import proofs.«01_k».proof.Defs
public import Idealize.ShloMosaic.Lib.Pointwise

@[expose] public section

noncomputable section

namespace Cert.Ffw

open Idealize.ShloMosaic

/-- The programs' constants 2048 and the norm's ε. -/
def width : EReal := Ideal.ofBits .f32 0x45000000#32
def eps : EReal := Ideal.ofBits .f32 0x358637BD#32

theorem bits_zero : Ideal.ofBits .f32 0x00000000#32 = (0 : EReal) := by
  simp [Ideal.ofBits, Ideal.ieee]

def silu (a : EReal) : EReal := a * Ideal.div 1 (1 + Ideal.exp (-a))

/-- The gated unit `f` of a row `h`. -/
def unit {K N : ℕ} (h : Fin K → EReal) (wg wu : Fin K → Fin N → EReal) (f : Fin N) : EReal :=
  silu (∑ k, h k * wg k f) * ∑ k, h k * wu k f

/-- A row of the SwiGLU. -/
def swiglu {K N D : ℕ} (h : Fin K → EReal) (wg wu : Fin K → Fin N → EReal) (wd : Fin N → Fin D → EReal) (d : Fin D) : EReal :=
  ∑ f, unit h wg wu f * wd f d

/-- A row with its gated residual. -/
def resid {D : ℕ} (x g y : Fin D → EReal) (d : Fin D) : EReal := x d + g d * y d

/-- A row's modulated norm. -/
def modnorm {D : ℕ} (x gain sc sh : Fin D → EReal) (d : Fin D) : EReal :=
  x d * Ideal.rsqrt (Ideal.div (∑ e, x e * x e) width + eps) * gain d * (1 + sc d) + sh d

/-- The sum over the hidden units is the sum over their blocks. -/
theorem sum_blocks {n b : ℕ} (f : Fin (n * b) → EReal) :
    ∑ k, f k = ∑ j : Fin n, ∑ l : Fin b, f (finProdFinEquiv (j, l)) := by
  rw [← finProdFinEquiv.sum_comp, Fintype.sum_prod_type]

/-- A unit's place in its block of columns. -/
def tile (j : ℕ) (l : Fin 512) : Fin 5632 := ⟨j % 11 * 512 + l.val, by omega⟩

theorem sum_tiles (f : Fin 5632 → EReal) : ∑ k, f k = ∑ j ∈ Finset.range 11, ∑ l, f (tile j l) := by
  rw [Finset.sum_range]
  refine (sum_blocks (n := 11) (b := 512) f).trans (Finset.sum_congr rfl fun j _ => Finset.sum_congr rfl fun l _ => congrArg f ?_)
  apply Fin.ext
  show l.val + 512 * j.val = j.val % 11 * 512 + l.val
  omega

/-- The sequence of a row. -/
def seq (r : Fin 16384) : Fin 16 := ⟨r.val / 2048, by omega⟩

/-- The second row of modulations of a row's sequence. -/
def seq' (r : Fin 16384) : Fin 16 := ⟨8 + r.val / 2048, by omega⟩

/-- Chunk `k` of a row of modulations. -/
def chunk (k : Fin 6) (d : Fin 2048) : Fin 12288 := ⟨k.val * 2048 + d.val, by omega⟩

section Arrays

variable (h : (⟨2, ![16384, 2048]⟩ : Shape).Idx → EReal) (wg wu : (⟨2, ![2048, 5632]⟩ : Shape).Idx → EReal)
  (wd : (⟨2, ![5632, 2048]⟩ : Shape).Idx → EReal) (x : (⟨2, ![16384, 2048]⟩ : Shape).Idx → EReal)
  (modr : (⟨3, ![16, 1, 12288]⟩ : Shape).Idx → EReal) (gain : (⟨1, ![2048]⟩ : Shape).Idx → EReal)

/-- The first result: the residual stream after the SwiGLU. -/
def stream (r : Fin 16384) : Fin 2048 → EReal :=
  resid (fun d => x (ix2 r d)) (fun d => modr (ix3 (seq r) 0 (chunk 5 d)))
    (swiglu (fun k => h (ix2 r k)) (fun k f => wg (ix2 k f)) (fun k f => wu (ix2 k f)) (fun f d => wd (ix2 f d)))

/-- The second: its modulated norm. -/
def normed (r : Fin 16384) : Fin 2048 → EReal :=
  modnorm (stream h wg wu wd x modr r) (fun d => gain (ix1 d)) (fun d => modr (ix3 (seq' r) 0 (chunk 1 d)))
    (fun d => modr (ix3 (seq' r) 0 (chunk 0 d)))

end Arrays

end Cert.Ffw

end
-- ==== Proof.FfnElem.lean ====
/-
  The payloads of the dense SwiGLU's body, read at an index.
-/
module

public import proofs.«01_k».proof.Proof.FfnIdealRun
public import proofs.«01_k».proof.Proof.FfnSpec

@[expose] public section

set_option maxRecDepth 16384

noncomputable section

namespace Cert.FfnIdeal.Hand

open Idealize.ShloMosaic Idealize.ShloMosaic.TcCoe Idealize.ShloMosaic.Tactic
open Cert.FfnIdeal Cert.FfnIdeal.Gen
open Cert.Ffw (silu unit swiglu resid modnorm width eps)

variable (i : grid0.Coords) (h : Vec Ideal S512x2048 .bf16) (wg wu : Vec Ideal S2048x512 .bf16) (wd : Vec Ideal S512x2048 .bf16)
  (a : Vec Ideal S512x2048 .f32)

/-- A point's product. -/
def prod : FVec Ideal S512x2048 .f32 := fun e => swiglu (fun k => h (ix2 (e 0) k)) (fun k f => wg (ix2 k f)) (fun k f => wu (ix2 k f)) (fun f d => wd (ix2 f d)) (e 1)

theorem pay1_first (hi : (i 1).val = 0) (r : Fin 512) (d : Fin 2048) :
    k0_pay1 (F := Ideal) i h wg wu a wd (ix2 r d) = prod h wg wu wd (ix2 r d) := by
  have hs : ∀ p q : FVec Ideal S512x2048 .f32, Scalar.select (Scalar.cmpi .eq (BitVec.ofNat 32 (i 1).val) 0#32) p q = p := by
    intro p q; rw [hi]; rfl
  simp only [k0_pay1, hs]
  pointwise
  simp only [zero_sub]
  rfl

theorem pay1_next (hi : (i 1).val ≠ 0) (hlt : (i 1).val < 11) (r : Fin 512) (d : Fin 2048) :
    k0_pay1 (F := Ideal) i h wg wu a wd (ix2 r d) = a (ix2 r d) + prod h wg wu wd (ix2 r d) := by
  have hs : ∀ p q : FVec Ideal S512x2048 .f32, Scalar.select (Scalar.cmpi .eq (BitVec.ofNat 32 (i 1).val) 0#32) p q = q := by
    intro p q
    generalize (i 1).val = n at hi hlt
    interval_cases n <;> first | exact absurd rfl hi | rfl
  simp only [k0_pay1, hs]
  pointwise
  simp only [zero_sub]
  rfl

variable (x : Vec Ideal S512x2048 .f32) (g : Vec Ideal S1x1x2048 .f32) (gain : Vec Ideal S1x2048 .f32) (sc sh : Vec Ideal S1x1x2048 .f32)

theorem pay2_apply (r : Fin 512) (d : Fin 2048) :
    k0_pay2 (F := Ideal) x g a (ix2 r d) = resid (fun d => x (ix2 r d)) (fun d => g (ix3 0 0 d)) (fun d => a (ix2 r d)) d := by
  pointwise [k0_pay2]
  rfl

theorem pay3_apply (r : Fin 512) (d : Fin 2048) :
    k0_pay3 (F := Ideal) x g a gain sc sh (ix2 r d)
      = modnorm (resid (fun d => x (ix2 r d)) (fun d => g (ix3 0 0 d)) (fun d => a (ix2 r d))) (fun d => gain (ix2 0 d))
          (fun d => sc (ix3 0 0 d)) (fun d => sh (ix3 0 0 d)) d := by
  unfold k0_pay3
  have e : ∀ d, k0_pay2 (F := Ideal) x g a (ix2 r d) = resid (fun d => x (ix2 r d)) (fun d => g (ix3 0 0 d)) (fun d => a (ix2 r d)) d := pay2_apply a x g r
  generalize k0_pay2 (F := Ideal) x g a = y at e
  pointwise
  simp only [e]
  rfl

end Cert.FfnIdeal.Hand

end
-- ==== Proof.FfnKer.lean ====
/-
  The dense SwiGLU's result arrays after the run, read at an index.
-/
module

public import proofs.«01_k».proof.Proof.FfnIdealFrame
public import proofs.«01_k».proof.Proof.FfnElem

@[expose] public section

set_option maxRecDepth 16384

noncomputable section

namespace Cert.FfnIdeal.Hand

open Idealize.ShloMosaic Idealize.ShloMosaic.TcCoe Idealize.ShloMosaic.Tactic
open Idealize.ShloMosaic.Pipeline (Dat)
open Cert.FfnIdeal Cert.FfnIdeal.Gen
open Cert.Ffw (unit swiglu resid modnorm tile seq seq' chunk stream normed)

variable (m : (ℓ : Loc nD τ sig) → Buf (Elt Ideal) ℓ) (c : Dev nD)

theorem V_gain : (V m c main_v0 : FVec Ideal S1x2048 .f32) = shapeCast S1x2048 (m ((c : Thread nD τ).loc main_arg6)) shapeCasts_S2048_S1x2048 := by
  show StableHlo.after hostOps0 (fun b => m (c, b)) (main_v0 : DevRef τ sig) = _
  unfold hostOps0
  after_results_simp
  rfl

theorem index0 : ∀ t : Fin cfg0.N, win0_0.index t (0 : Fin 2) = t.val / 11 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val % 11 :=
  (by decide +kernel : ∀ t : Fin grid0.N, _)
theorem index2 : ∀ t : Fin cfg0.N, win0_2.index t (0 : Fin 2) = 0 ∧ win0_2.index t (1 : Fin 2) = t.val % 11 :=
  (by decide +kernel : ∀ t : Fin grid0.N, _)
theorem index3 : ∀ t : Fin cfg0.N, win0_3.index t (0 : Fin 2) = t.val % 11 ∧ win0_3.index t (1 : Fin 2) = 0 :=
  (by decide +kernel : ∀ t : Fin grid0.N, _)
theorem index4 : ∀ t : Fin cfg0.N, win0_4.index t (0 : Fin 2) = t.val / 11 ∧ win0_4.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index9 : ∀ t : Fin cfg0.N, win0_9.index t (0 : Fin 2) = t.val / 11 ∧ win0_9.index t (1 : Fin 2) = 0 :=
  (by decide +kernel : ∀ t : Fin grid0.N, _)
theorem index10 : ∀ t : Fin cfg0.N, win0_10.index t (0 : Fin 2) = t.val / 11 ∧ win0_10.index t (1 : Fin 2) = 0 :=
  (by decide +kernel : ∀ t : Fin grid0.N, _)
theorem index5 : ∀ t : Fin cfg0.N, win0_5.index t (0 : Fin 3) = t.val / 44 ∧ win0_5.index t (1 : Fin 3) = 0 ∧ win0_5.index t (2 : Fin 3) = 5 :=
  (by decide +kernel : ∀ t : Fin grid0.N, _)
theorem index7 : ∀ t : Fin cfg0.N, win0_7.index t (0 : Fin 3) = 8 + t.val / 44 ∧ win0_7.index t (1 : Fin 3) = 0 ∧ win0_7.index t (2 : Fin 3) = 1 :=
  (by decide +kernel : ∀ t : Fin grid0.N, _)
theorem index8 : ∀ t : Fin cfg0.N, win0_8.index t (0 : Fin 3) = 8 + t.val / 44 ∧ win0_8.index t (1 : Fin 3) = 0 ∧ win0_8.index t (2 : Fin 3) = 0 :=
  (by decide +kernel : ∀ t : Fin grid0.N, _)

theorem lt_N (t : Fin cfg0.N) : t.val < 352 := t.isLt.trans_eq N_0

/-- The array's row of a block's row. -/
def rowOf (t : Fin cfg0.N) (r : Fin 512) : Fin 16384 := ⟨t.val / 11 * 512 + r.val, by have := lt_N t; omega⟩

section Emb

variable (t : Fin cfg0.N) (r : Fin 512) (k : Fin 2048)

theorem emb0 : ((cfg0.win 0).blk t).view.emb (ix2 r k : S512x2048.Idx) = (ix2 (rowOf t r) k : S16384x2048.Idx) := by
  obtain ⟨e0, e1⟩ := index0 t
  funext a
  apply Fin.ext
  match a with
  | 0 => show win0_0.index t (0 : Fin 2) * 512 + 1 * r.val = t.val / 11 * 512 + r.val; omega
  | 1 => show win0_0.index t (1 : Fin 2) * 2048 + 1 * k.val = k.val; omega

theorem emb1 : ((cfg0.win 1).blk t).view.emb (ix2 k r : S2048x512.Idx) = (ix2 k (tile t.val r) : S2048x5632.Idx) := by
  obtain ⟨e0, e1⟩ := index1 t
  funext a
  apply Fin.ext
  match a with
  | 0 => show win0_1.index t (0 : Fin 2) * 2048 + 1 * k.val = k.val; omega
  | 1 => show win0_1.index t (1 : Fin 2) * 512 + 1 * r.val = t.val % 11 * 512 + r.val; omega

theorem emb2 : ((cfg0.win 2).blk t).view.emb (ix2 k r : S2048x512.Idx) = (ix2 k (tile t.val r) : S2048x5632.Idx) := by
  obtain ⟨e0, e1⟩ := index2 t
  funext a
  apply Fin.ext
  match a with
  | 0 => show win0_2.index t (0 : Fin 2) * 2048 + 1 * k.val = k.val; omega
  | 1 => show win0_2.index t (1 : Fin 2) * 512 + 1 * r.val = t.val % 11 * 512 + r.val; omega

theorem emb3 : ((cfg0.win 3).blk t).view.emb (ix2 r k : S512x2048.Idx) = (ix2 (tile t.val r) k : S5632x2048.Idx) := by
  obtain ⟨e0, e1⟩ := index3 t
  funext a
  apply Fin.ext
  match a with
  | 0 => show win0_3.index t (0 : Fin 2) * 512 + 1 * r.val = t.val % 11 * 512 + r.val; omega
  | 1 => show win0_3.index t (1 : Fin 2) * 2048 + 1 * k.val = k.val; omega

theorem emb4 : ((cfg0.win 4).blk t).view.emb (ix2 r k : S512x2048.Idx) = (ix2 (rowOf t r) k : S16384x2048.Idx) := by
  obtain ⟨e0, e1⟩ := index4 t
  funext a
  apply Fin.ext
  match a with
  | 0 => show win0_4.index t (0 : Fin 2) * 512 + 1 * r.val = t.val / 11 * 512 + r.val; omega
  | 1 => show win0_4.index t (1 : Fin 2) * 2048 + 1 * k.val = k.val; omega

theorem emb6 : ((cfg0.win 6).blk t).view.emb (ix2 0 k : S1x2048.Idx) = (ix2 0 k : S1x2048.Idx) := by
  obtain ⟨e0, e1⟩ := index6 t
  funext a
  apply Fin.ext
  match a with
  | 0 => show win0_6.index t (0 : Fin 2) * 1 + 1 * 0 = 0; omega
  | 1 => show win0_6.index t (1 : Fin 2) * 2048 + 1 * k.val = k.val; omega

theorem emb9 : ((cfg0.win 9).blk t).view.emb (ix2 r k : S512x2048.Idx) = (ix2 (rowOf t r) k : S16384x2048.Idx) := by
  obtain ⟨e0, e1⟩ := index9 t
  funext a
  apply Fin.ext
  match a with
  | 0 => show win0_9.index t (0 : Fin 2) * 512 + 1 * r.val = t.val / 11 * 512 + r.val; omega
  | 1 => show win0_9.index t (1 : Fin 2) * 2048 + 1 * k.val = k.val; omega

theorem emb10 : ((cfg0.win 10).blk t).view.emb (ix2 r k : S512x2048.Idx) = (ix2 (rowOf t r) k : S16384x2048.Idx) := by
  obtain ⟨e0, e1⟩ := index10 t
  funext a
  apply Fin.ext
  match a with
  | 0 => show win0_10.index t (0 : Fin 2) * 512 + 1 * r.val = t.val / 11 * 512 + r.val; omega
  | 1 => show win0_10.index t (1 : Fin 2) * 2048 + 1 * k.val = k.val; omega

theorem emb5 : ((cfg0.win 5).blk t).view.emb (ix3 0 0 k : S1x1x2048.Idx) = (ix3 (seq (rowOf t r)) 0 (chunk 5 k) : S16x1x12288.Idx) := by
  obtain ⟨e0, e1, e2⟩ := index5 t
  funext a
  apply Fin.ext
  match a with
  | 0 => show win0_5.index t (0 : Fin 3) * 1 + 1 * 0 = (t.val / 11 * 512 + r.val) / 2048; omega
  | 1 => show win0_5.index t (1 : Fin 3) * 1 + 1 * 0 = 0; omega
  | 2 => show win0_5.index t (2 : Fin 3) * 2048 + 1 * k.val = 5 * 2048 + k.val; omega

theorem emb7 : ((cfg0.win 7).blk t).view.emb (ix3 0 0 k : S1x1x2048.Idx) = (ix3 (seq' (rowOf t r)) 0 (chunk 1 k) : S16x1x12288.Idx) := by
  obtain ⟨e0, e1, e2⟩ := index7 t
  funext a
  apply Fin.ext
  match a with
  | 0 => show win0_7.index t (0 : Fin 3) * 1 + 1 * 0 = 8 + (t.val / 11 * 512 + r.val) / 2048; omega
  | 1 => show win0_7.index t (1 : Fin 3) * 1 + 1 * 0 = 0; omega
  | 2 => show win0_7.index t (2 : Fin 3) * 2048 + 1 * k.val = 1 * 2048 + k.val; omega

theorem emb8 : ((cfg0.win 8).blk t).view.emb (ix3 0 0 k : S1x1x2048.Idx) = (ix3 (seq' (rowOf t r)) 0 (chunk 0 k) : S16x1x12288.Idx) := by
  obtain ⟨e0, e1, e2⟩ := index8 t
  funext a
  apply Fin.ext
  match a with
  | 0 => show win0_8.index t (0 : Fin 3) * 1 + 1 * 0 = 8 + (t.val / 11 * 512 + r.val) / 2048; omega
  | 1 => show win0_8.index t (1 : Fin 3) * 1 + 1 * 0 = 0; omega
  | 2 => show win0_8.index t (2 : Fin 3) * 2048 + 1 * k.val = 0 * 2048 + k.val; omega

theorem blk0 : (iblk m c 0 t : Vec Ideal S512x2048 .bf16) (ix2 r k) = (m ((c : Thread nD τ).loc main_arg0) : FVec Ideal S16384x2048 .bf16) (ix2 (rowOf t r) k) := by
  show (V m c main_arg0 : FVec Ideal S16384x2048 .bf16) (((cfg0.win 0).blk t).view.emb (ix2 r k)) = _
  rw [emb0, V_main_arg0]

theorem blk1 : (iblk m c 1 t : Vec Ideal S2048x512 .bf16) (ix2 k r) = (m ((c : Thread nD τ).loc main_arg1) : FVec Ideal S2048x5632 .bf16) (ix2 k (tile t.val r)) := by
  show (V m c main_arg1 : FVec Ideal S2048x5632 .bf16) (((cfg0.win 1).blk t).view.emb (ix2 k r)) = _
  rw [emb1, V_main_arg1]

theorem blk2 : (iblk m c 2 t : Vec Ideal S2048x512 .bf16) (ix2 k r) = (m ((c : Thread nD τ).loc main_arg2) : FVec Ideal S2048x5632 .bf16) (ix2 k (tile t.val r)) := by
  show (V m c main_arg2 : FVec Ideal S2048x5632 .bf16) (((cfg0.win 2).blk t).view.emb (ix2 k r)) = _
  rw [emb2, V_main_arg2]

theorem blk3 : (iblk m c 3 t : Vec Ideal S512x2048 .bf16) (ix2 r k) = (m ((c : Thread nD τ).loc main_arg3) : FVec Ideal S5632x2048 .bf16) (ix2 (tile t.val r) k) := by
  show (V m c main_arg3 : FVec Ideal S5632x2048 .bf16) (((cfg0.win 3).blk t).view.emb (ix2 r k)) = _
  rw [emb3, V_main_arg3]

theorem blk4 : (iblk m c 4 t : Vec Ideal S512x2048 .f32) (ix2 r k) = (m ((c : Thread nD τ).loc main_arg4) : FVec Ideal S16384x2048 .f32) (ix2 (rowOf t r) k) := by
  show (V m c main_arg4 : FVec Ideal S16384x2048 .f32) (((cfg0.win 4).blk t).view.emb (ix2 r k)) = _
  rw [emb4, V_main_arg4]

theorem blk5 : (iblk m c 5 t : Vec Ideal S1x1x2048 .f32) (ix3 0 0 k) = (m ((c : Thread nD τ).loc main_arg5) : FVec Ideal S16x1x12288 .f32) (ix3 (seq (rowOf t r)) 0 (chunk 5 k)) := by
  show (V m c main_arg5 : FVec Ideal S16x1x12288 .f32) (((cfg0.win 5).blk t).view.emb (ix3 0 0 k)) = _
  rw [emb5 t r, V_main_arg5]

theorem blk7 : (iblk m c 7 t : Vec Ideal S1x1x2048 .f32) (ix3 0 0 k) = (m ((c : Thread nD τ).loc main_arg5) : FVec Ideal S16x1x12288 .f32) (ix3 (seq' (rowOf t r)) 0 (chunk 1 k)) := by
  show (V m c main_arg5 : FVec Ideal S16x1x12288 .f32) (((cfg0.win 7).blk t).view.emb (ix3 0 0 k)) = _
  rw [emb7 t r, V_main_arg5]

theorem blk8 : (iblk m c 8 t : Vec Ideal S1x1x2048 .f32) (ix3 0 0 k) = (m ((c : Thread nD τ).loc main_arg5) : FVec Ideal S16x1x12288 .f32) (ix3 (seq' (rowOf t r)) 0 (chunk 0 k)) := by
  show (V m c main_arg5 : FVec Ideal S16x1x12288 .f32) (((cfg0.win 8).blk t).view.emb (ix3 0 0 k)) = _
  rw [emb8 t r, V_main_arg5]

theorem blk6 : (iblk m c 6 t : Vec Ideal S1x2048 .f32) (ix2 0 k) = (m ((c : Thread nD τ).loc main_arg6) : FVec Ideal S2048 .f32) (ix1 k) := by
  show (V m c main_v0 : FVec Ideal S1x2048 .f32) (((cfg0.win 6).blk t).view.emb (ix2 0 k)) = _
  rw [emb6, V_gain]
  generalize m ((c : Thread nD τ).loc main_arg6) = g
  pointwise

end Emb

/-- The results, of the launched arguments. -/
abbrev streamOf (r : Fin 16384) : Fin 2048 → EReal :=
  stream (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r

abbrev normedOf (r : Fin 16384) : Fin 2048 → EReal :=
  normed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) r

/-- The products of a row's units with column `d` of the last matrix. -/
def term (r : Fin 16384) (d : Fin 2048) (f : Fin 5632) : EReal :=
  unit (fun k => (m ((c : Thread nD τ).loc main_arg0) : FVec Ideal S16384x2048 .bf16) (ix2 r k))
    (fun k f => (m ((c : Thread nD τ).loc main_arg1) : FVec Ideal S2048x5632 .bf16) (ix2 k f))
    (fun k f => (m ((c : Thread nD τ).loc main_arg2) : FVec Ideal S2048x5632 .bf16) (ix2 k f)) f
    * (m ((c : Thread nD τ).loc main_arg3) : FVec Ideal S5632x2048 .bf16) (ix2 f d)

theorem prod_blk (t : Fin cfg0.N) (r : Fin 512) (d : Fin 2048) :
    prod (iblk m c 0 t) (iblk m c 1 t) (iblk m c 2 t) (iblk m c 3 t) (ix2 r d) = ∑ l, term m c (rowOf t r) d (tile t.val l) := by
  show swiglu (fun k => (iblk m c 0 t : Vec Ideal S512x2048 .bf16) (ix2 r k)) (fun k f => (iblk m c 1 t : Vec Ideal S2048x512 .bf16) (ix2 k f))
    (fun k f => (iblk m c 2 t : Vec Ideal S2048x512 .bf16) (ix2 k f)) (fun f d => (iblk m c 3 t : Vec Ideal S512x2048 .bf16) (ix2 f d)) d = _
  simp only [blk0, blk1, blk2, blk3]
  rfl

/-- After point `j` of a row block, the partial sum. -/
theorem acc_apply (j : ℕ) (hj : j < 11) : ∀ (t : Fin cfg0.N), t.val % 11 = j → ∀ (r : Fin 512) (d : Fin 2048),
    acc m c t.val t.isLt (ix2 r d) = ∑ j' ∈ Finset.range (j + 1), ∑ l, term m c (rowOf t r) d (tile j' l) := by
  have ht' : ∀ (t : Fin cfg0.N) (j : ℕ), t.val % 11 = j → ∀ l, tile t.val l = tile j l := fun t j e l => by
    apply Fin.ext; show t.val % 11 * 512 + l.val = j % 11 * 512 + l.val; omega
  induction j with
  | zero =>
    intro t ht r d
    rw [acc_first m c t ht (fun _ => (0 : EReal)), pay1_first _ _ _ _ _ _ (by rw [coord_col, ht]), prod_blk]
    simp only [ht' t 0 ht, zero_add, Finset.sum_range_one]
  | succ j ih =>
    intro t ht r d
    have hlt : t.val - 1 < cfg0.N := Nat.lt_of_le_of_lt (Nat.sub_le _ _) t.isLt
    have er : rowOf ⟨t.val - 1, hlt⟩ r = rowOf t r := by
      apply Fin.ext; show (t.val - 1) / 11 * 512 + r.val = t.val / 11 * 512 + r.val; omega
    rw [acc_next m c t (by omega), pay1_next _ _ _ _ _ _ (by rw [coord_col]; omega) (by rw [coord_col]; omega), prod_blk,
      ih (by omega) ⟨t.val - 1, hlt⟩ (by show (t.val - 1) % 11 = j; omega) r d, er, Finset.sum_range_succ _ (j + 1)]
    simp only [ht' t (j + 1) ht]

/-- After the last, a row of the SwiGLU. -/
theorem acc_last (t : Fin cfg0.N) (ht : t.val % 11 = 10) (r : Fin 512) (d : Fin 2048) :
    acc m c t.val t.isLt (ix2 r d) = ∑ f, term m c (rowOf t r) d f := by
  rw [acc_apply m c 10 (by omega) t ht r d, Cert.Ffw.sum_tiles]

theorem resid_blk (t : Fin cfg0.N) (ht : t.val % 11 = 10) (r : Fin 512) :
    resid (fun d => (iblk m c 4 t : Vec Ideal S512x2048 .f32) (ix2 r d)) (fun d => (iblk m c 5 t : Vec Ideal S1x1x2048 .f32) (ix3 0 0 d))
      (fun d => acc m c t.val t.isLt (ix2 r d)) = streamOf m c (rowOf t r) := by
  simp only [acc_last m c t ht, blk4, blk5 m c t r]
  rfl

theorem held9_apply (t : Fin cfg0.N) (ht : t.val % 11 = 10) (r : Fin 512) (d : Fin 2048) :
    held9 m c t (ix2 r d) = streamOf m c (rowOf t r) d := by
  unfold held9
  rw [if_pos ht, pay2_apply, resid_blk m c t ht]

theorem held10_apply (t : Fin cfg0.N) (ht : t.val % 11 = 10) (r : Fin 512) (d : Fin 2048) :
    held10 m c t (ix2 r d) = normedOf m c (rowOf t r) d := by
  unfold held10
  rw [pay3_apply, resid_blk m c t ht]
  simp only [blk6, blk7 m c t r, blk8 m c t r]
  rfl

/-- The result arrays, index by index. -/
def streamArr : FVec Ideal S16384x2048 .f32 := fun y => streamOf m c (y 0) (y 1)
def normedArr : FVec Ideal S16384x2048 .bf16 := fun y => normedOf m c (y 0) (y 1)

theorem split_idx (j : S512x2048.Idx) : ∃ (r : Fin 512) (d : Fin 2048), j = ix2 r d := by
  refine ⟨j 0, j 1, ?_⟩
  funext a
  match a with
  | 0 => rfl
  | 1 => rfl

theorem flushed9_eq (t : Fin cfg0.N) (ht : t.val % 11 = 10) : (dats m 0 c).flushed 9 t = ((cfg0.win 9).blk t).view.read (Elt Ideal) (streamArr m c) := by
  show (cfg0.win 9).cut (grid0.coords t) ((dats m 0 c).after 9 t) = _
  rw [after_9]
  funext j
  obtain ⟨r, d, rfl⟩ := split_idx j
  exact (held9_apply m c t ht r d).trans (congrArg (streamArr m c) (emb9 t r d).symm)

theorem flushed10_eq (t : Fin cfg0.N) (ht : t.val % 11 = 10) : (dats m 0 c).flushed 10 t = ((cfg0.win 10).blk t).view.read (Elt Ideal) (normedArr m c) := by
  show (cfg0.win 10).cut (grid0.coords t) ((dats m 0 c).after 10 t) = _
  rw [after_10]
  funext j
  obtain ⟨r, d, rfl⟩ := split_idx j
  exact (held10_apply m c t ht r d).trans (congrArg (normedArr m c) (emb10 t r d).symm)

/-- The point that writes a row back, and the row's place in its block. -/
def pointOf (y : S16384x2048.Idx) : Fin cfg0.N :=
  ⟨(y 0).val / 512 * 11 + 10, lt_of_lt_of_eq (by have h0 : (y 0).val < 16384 := (y 0).isLt; omega : _ < 352) N_0.symm⟩

theorem pointOf_last (y : S16384x2048.Idx) : (pointOf y).val % 11 = 10 := by
  show ((y 0).val / 512 * 11 + 10) % 11 = 10
  omega

theorem rowOf_pointOf (y : S16384x2048.Idx) : (ix2 (rowOf (pointOf y) ⟨(y 0).val % 512, by omega⟩) (y 1) : S16384x2048.Idx) = y := by
  funext a
  apply Fin.ext
  match a with
  | 0 => show ((y 0).val / 512 * 11 + 10) / 11 * 512 + (y 0).val % 512 = (y 0).val; omega
  | 1 => rfl

theorem covered9 (y : S16384x2048.Idx) : ∃ t : Fin cfg0.N, (cfg0.win 9).flush t = true ∧ y ∈ ((cfg0.win 9).blk t).view.set := by
  refine ⟨pointOf y, (flush0_9 _).mpr (pointOf_last y), ?_⟩
  have h := ((cfg0.win 9).blk (pointOf y)).view.emb_mem_set (ix2 ⟨(y 0).val % 512, by omega⟩ (y 1))
  rw [emb9 (pointOf y) ⟨(y 0).val % 512, by omega⟩ (y 1), rowOf_pointOf] at h
  exact h

theorem covered10 (y : S16384x2048.Idx) : ∃ t : Fin cfg0.N, (cfg0.win 10).flush t = true ∧ y ∈ ((cfg0.win 10).blk t).view.set := by
  refine ⟨pointOf y, (flush0_10 _).mpr (pointOf_last y), ?_⟩
  have h := ((cfg0.win 10).blk (pointOf y)).view.emb_mem_set (ix2 ⟨(y 0).val % 512, by omega⟩ (y 1))
  rw [emb10 (pointOf y) ⟨(y 0).val % 512, by omega⟩ (y 1), rowOf_pointOf] at h
  exact h

/-- The result arrays after the run. -/
theorem final9 : (dats m 0 c).arrAt 9 cfg0.N = streamArr m c :=
  (dats m 0 c).arrAt_eq_of_cover 9 _ (fun t ht => flushed9_eq m c t ((flush0_9 t).mp ht)) covered9

theorem final10 : (dats m 0 c).arrAt 10 cfg0.N = normedArr m c :=
  (dats m 0 c).arrAt_eq_of_cover 10 _ (fun t ht => flushed10_eq m c t ((flush0_10 t).mp ht)) covered10

end Cert.FfnIdeal.Hand

end
-- ==== Proof.FfnRef.lean ====
/-
  The reference SwiGLU's results read at an index.
-/
module

public import proofs.«01_k».proof.Proof.Gen.ReferenceFfnIdeal.Read
public import proofs.«01_k».proof.Proof.Consts
public import proofs.«01_k».proof.Proof.FfnSpec

@[expose] public section

set_option maxRecDepth 16384

noncomputable section

namespace Cert.ReferenceFfnIdeal.Hand

open Idealize.ShloMosaic Idealize.ShloMosaic.TcCoe
open Cert.ReferenceFfnIdeal Cert.ReferenceFfnIdeal.Gen Cert.ReferenceFfnIdeal.Read
open Cert.Ffw (silu unit swiglu resid modnorm seq seq' chunk stream normed)

variable (x0 : FVec Ideal S16384x2048 .bf16) (x1 x2 : FVec Ideal S2048x5632 .bf16) (x3 : FVec Ideal S5632x2048 .bf16)
  (x4 : FVec Ideal S16384x2048 .f32) (x5 : FVec Ideal S16x1x12288 .f32) (x6 : FVec Ideal S2048 .f32)

theorem one_bits : Ideal.ofBits .f32 0x3F800000#32 = (1 : EReal) := Cert.KernelIdeal.Att.ofBits_one

section Swiglu

theorem gate_apply (r : Fin 16384) (f : Fin 5632) : val_main_v4 (F := Ideal) x0 x1 (ix2 r f) = ∑ k, x0 (ix2 r k) * x1 (ix2 k f) := by
  rw [val_main_v4_apply]
  refine Finset.sum_congr rfl fun k _ => ?_
  rw [val_main_v3_apply, val_main_v0_apply,
    show lidx_main_v4 (ix2 r f) k = ix2 r k from funext fun a => match a with | 0 => rfl | 1 => rfl,
    show ridx_main_v4 (ix2 r f) k = ix2 k f from funext fun a => match a with | 0 => rfl | 1 => rfl]
  rfl

theorem up_apply (r : Fin 16384) (f : Fin 5632) : val_main_v6 (F := Ideal) x0 x2 (ix2 r f) = ∑ k, x0 (ix2 r k) * x2 (ix2 k f) := by
  rw [val_main_v6_apply]
  refine Finset.sum_congr rfl fun k _ => ?_
  rw [val_main_v3_apply, val_main_v1_apply,
    show lidx_main_v6 (ix2 r f) k = ix2 r k from funext fun a => match a with | 0 => rfl | 1 => rfl,
    show ridx_main_v6 (ix2 r f) k = ix2 k f from funext fun a => match a with | 0 => rfl | 1 => rfl]
  rfl

theorem unit_apply (r : Fin 16384) (f : Fin 5632) :
    val_main_v7 (F := Ideal) x0 x1 x2 (ix2 r f) = unit (fun k => x0 (ix2 r k)) (fun k f => x1 (ix2 k f)) (fun k f => x2 (ix2 k f)) f := by
  rw [val_main_v7_apply, val_main_v5_apply, val_main_call0_v5_apply, val_main_call0_v4_apply, val_main_call0_cst_0_apply,
    val_main_call0_v3_apply, val_main_call0_v2_apply, val_main_call0_cst_apply, val_main_call0_v1_apply, val_main_call0_v0_apply,
    gate_apply, up_apply]
  show (∑ k, x0 (ix2 r k) * x1 (ix2 k f)) * Ideal.div (Ideal.ofBits .f32 0x3F800000#32) (Ideal.ofBits .f32 0x3F800000#32
    + Ideal.exp (-∑ k, x0 (ix2 r k) * x1 (ix2 k f))) * (∑ k, x0 (ix2 r k) * x2 (ix2 k f)) = _
  rw [one_bits]
  rfl

theorem swiglu_apply (r : Fin 16384) (d : Fin 2048) :
    val_main_v8 (F := Ideal) x0 x1 x2 x3 (ix2 r d)
      = swiglu (fun k => x0 (ix2 r k)) (fun k f => x1 (ix2 k f)) (fun k f => x2 (ix2 k f)) (fun f d => x3 (ix2 f d)) d := by
  rw [val_main_v8_apply]
  refine Finset.sum_congr rfl fun f _ => ?_
  rw [val_main_v2_apply,
    show lidx_main_v8 (ix2 r d) f = ix2 r f from funext fun a => match a with | 0 => rfl | 1 => rfl,
    show ridx_main_v8 (ix2 r d) f = ix2 f d from funext fun a => match a with | 0 => rfl | 1 => rfl, unit_apply]
  rfl

end Swiglu

section Indices

/-- A row's sequence and its place there. -/
def bat (r : Fin 16384) : Fin 8 := ⟨r.val / 2048, by omega⟩
def pos (r : Fin 16384) : Fin 2048 := ⟨r.val % 2048, by omega⟩

variable (r : Fin 16384) (b : Fin 8) (s d : Fin 2048)

theorem idx9 : idx_main_v9 (ix3 (bat r) (pos r) d) = ix2 r d := by
  funext a
  apply Fin.ext
  match a with
  | 0 => show ((r.val / 2048 * 2048 + r.val % 2048) * 2048 + d.val) / 2048 = r.val; omega
  | 1 => show ((r.val / 2048 * 2048 + r.val % 2048) * 2048 + d.val) % 2048 = d.val; omega

theorem idx43 : idx_main_v43 (ix2 r d) = ix3 (bat r) (pos r) d := by
  funext a
  apply Fin.ext
  match a with
  | 0 => show (r.val * 2048 + d.val) / 4194304 = r.val / 2048; omega
  | 1 => show (r.val * 2048 + d.val) / 2048 % 2048 = r.val % 2048; omega
  | 2 => show (r.val * 2048 + d.val) % 2048 = d.val; omega

/-- A chunk of the modulations, read from their rearrangement. -/
theorem mod_apply (g : Fin 2) (k : Fin 6) :
    val_main_v10 (F := Ideal) x5 (ix4 g b k d) = x5 (ix3 ⟨g.val * 8 + b.val, by omega⟩ 0 (chunk k d)) := by
  rw [val_main_v10_apply]
  refine congrArg x5 (funext fun a => Fin.ext ?_)
  match a with
  | 0 => show (((g.val * 8 + b.val) * 6 + k.val) * 2048 + d.val) / 12288 = g.val * 8 + b.val; omega
  | 1 => rfl
  | 2 => show (((g.val * 8 + b.val) * 6 + k.val) * 2048 + d.val) % 12288 = k.val * 2048 + d.val; omega

theorem idx12 : idx_main_v12 (ix2 b d) = ix4 0 b 0 d := by
  funext a
  apply Fin.ext
  match a with
  | 0 => rfl
  | 1 => show (b.val * 2048 + d.val) / 2048 % 8 = b.val; omega
  | 2 => rfl
  | 3 => show (b.val * 2048 + d.val) % 2048 = d.val; omega

theorem gatemod_apply : val_main_v12 (F := Ideal) x5 (ix2 (bat r) d) = x5 (ix3 (seq r) 0 (chunk 5 d)) := by
  rw [val_main_v12_apply, idx12, val_main_v11_apply,
    show idx_main_v11 (ix4 0 (bat r) 0 d) = ix4 0 (bat r) 5 d from funext fun a => match a with | 0 => rfl | 1 => rfl | 2 => rfl | 3 => rfl, mod_apply]
  exact congrArg (fun q => x5 (ix3 q 0 (chunk 5 d))) (Fin.ext (by show 0 * 8 + r.val / 2048 = r.val / 2048; omega))

theorem scale_apply : val_main_v14 (F := Ideal) x5 (ix2 (bat r) d) = x5 (ix3 (seq' r) 0 (chunk 1 d)) := by
  rw [val_main_v14_apply, show idx_main_v14 (ix2 (bat r) d) = ix4 0 (bat r) 0 d from idx12 _ _, val_main_v13_apply,
    show idx_main_v13 (ix4 0 (bat r) 0 d) = ix4 1 (bat r) 1 d from funext fun a => match a with | 0 => rfl | 1 => rfl | 2 => rfl | 3 => rfl, mod_apply]
  exact congrArg (fun q => x5 (ix3 q 0 (chunk 1 d))) (Fin.ext (by show 1 * 8 + r.val / 2048 = 8 + r.val / 2048; omega))

theorem shift_apply : val_main_v16 (F := Ideal) x5 (ix2 (bat r) d) = x5 (ix3 (seq' r) 0 (chunk 0 d)) := by
  rw [val_main_v16_apply, show idx_main_v16 (ix2 (bat r) d) = ix4 0 (bat r) 0 d from idx12 _ _, val_main_v15_apply,
    show idx_main_v15 (ix4 0 (bat r) 0 d) = ix4 1 (bat r) 0 d from funext fun a => match a with | 0 => rfl | 1 => rfl | 2 => rfl | 3 => rfl, mod_apply]
  exact congrArg (fun q => x5 (ix3 q 0 (chunk 0 d))) (Fin.ext (by show 1 * 8 + r.val / 2048 = 8 + r.val / 2048; omega))

/-- A row of a sequence, found from its broadcast along the rows. -/
theorem row_idx : idx_main_v18 (idx_main_v19 (ix3 b s d)) = ix2 b d := funext fun a => match a with | 0 => rfl | 1 => rfl

end Indices

variable (r : Fin 16384) (d : Fin 2048)

theorem stream_apply : val_main_v21 (F := Ideal) x0 x1 x2 x3 x4 x5 (ix3 (bat r) (pos r) d) = stream x0 x1 x2 x3 x4 x5 r d := by
  rw [val_main_v21_apply, val_main_v17_apply, val_main_v20_apply, val_main_v19_apply, val_main_v18_apply, val_main_v9_apply,
    show idx_main_v17 (ix3 (bat r) (pos r) d) = ix2 r d from idx9 _ _, idx9, row_idx, gatemod_apply, swiglu_apply]
  rfl

theorem result0 : val_main_v43 (F := Ideal) x0 x1 x2 x3 x4 x5 (ix2 r d) = stream x0 x1 x2 x3 x4 x5 r d := by
  rw [val_main_v43_apply, idx43, stream_apply]

theorem squares_apply : val_main_v23 (F := Ideal) x0 x1 x2 x3 x4 x5 (ix2 (bat r) (pos r))
    = ∑ e, stream x0 x1 x2 x3 x4 x5 r e * stream x0 x1 x2 x3 x4 x5 r e := by
  rw [val_main_v23_apply, val_main_cst_apply]
  refine (congrArg (· + _) (Cert.Ffw.bits_zero)).trans ((zero_add _).trans (Finset.sum_congr rfl fun e _ => ?_))
  rw [val_main_v22_apply, show idx_main_v23 (ix2 (bat r) (pos r)) e = ix3 (bat r) (pos r) e from funext fun a => match a with | 0 => rfl | 1 => rfl | 2 => rfl,
    stream_apply]
  rfl

theorem root_apply : val_main_v30 (F := Ideal) x0 x1 x2 x3 x4 x5 (ix3 (bat r) (pos r) d)
    = Ideal.rsqrt (Ideal.div (∑ e, stream x0 x1 x2 x3 x4 x5 r e * stream x0 x1 x2 x3 x4 x5 r e) Cert.Ffw.width + Cert.Ffw.eps) := by
  rw [val_main_v30_apply, val_main_v29_apply, val_main_v28_apply, val_main_v26_apply, val_main_v27_apply, val_main_v25_apply,
    val_main_v24_apply, val_main_cst_0_apply, val_main_cst_1_apply,
    show idx_main_v24 (idx_main_v30 (ix3 (bat r) (pos r) d)) = ix2 (bat r) (pos r) from funext fun a => match a with | 0 => rfl | 1 => rfl,
    squares_apply]
  rfl

theorem result1 : val_main_v45 (F := Ideal) x0 x1 x2 x3 x4 x5 x6 (ix2 r d) = normed x0 x1 x2 x3 x4 x5 x6 r d := by
  rw [val_main_v45_apply, val_main_v44_apply, show idx_main_v44 (ix2 r d) = ix3 (bat r) (pos r) d from idx43 _ _,
    val_main_v42_apply, val_main_v39_apply, val_main_v34_apply, val_main_v31_apply, val_main_v33_apply, val_main_v32_apply,
    val_main_v38_apply, val_main_v37_apply, val_main_v36_apply, val_main_cst_2_apply, val_main_v35_apply, val_main_v41_apply, val_main_v40_apply,
    show idx_main_v35 (idx_main_v38 (ix3 (bat r) (pos r) d)) = ix2 (bat r) d from row_idx _ _ _,
    show idx_main_v40 (idx_main_v41 (ix3 (bat r) (pos r) d)) = ix2 (bat r) d from row_idx _ _ _,
    show idx_main_v32 (idx_main_v33 (ix3 (bat r) (pos r) d)) = ix1 d from funext fun a => match a with | 0 => rfl,
    stream_apply, root_apply, scale_apply, shift_apply]
  show stream x0 x1 x2 x3 x4 x5 r d * _ * x6 (ix1 d) * (Ideal.ofBits .f32 0x3F800000#32 + x5 (ix3 (seq' r) 0 (chunk 1 d))) + _ = _
  rw [one_bits]
  rfl

end Cert.ReferenceFfnIdeal.Hand

end
-- ==== Proof.FfnAlg.lean ====
/-
  The dense SwiGLU's value claim: the kernel's two arrays and the reference's are the same.
-/
module

public import proofs.«01_k».proof.Defs
public import proofs.«01_k».proof.Proof.FfnFrame
public import proofs.«01_k».proof.Proof.FfnKer
public import proofs.«01_k».proof.Proof.FfnRef

@[expose] public section

noncomputable section

namespace Cert.Proof

open Idealize.ShloMosaic Idealize.ShloMosaic.TcCoe Idealize.SL.Sem

theorem algebraic_ffn : Cert.algebraic_FfnIdeal_ReferenceFfnIdeal := by
  intro m g m' g' _ hargs
  refine ⟨Cert.FfnIdeal.Hand.streamArr m, Cert.FfnIdeal.Hand.normedArr m, ?_, ?_⟩
  · refine (θ_run Cert.FfnIdeal.defs _ _).mono (fun r h c => ?_)
      (θ_run_and (Cert.FfnIdeal.Gen.frame_of m g (Cert.FfnIdeal.Hand.dats m) (Cert.FfnIdeal.Hand.A_eq m) (Cert.FfnIdeal.Hand.run_main m g))
        (Cert.FfnIdeal.Hand.run_main m g))
    exact ⟨((h.2 c).1 9).trans (Cert.FfnIdeal.Hand.final9 m c), ((h.2 c).1 10).trans (Cert.FfnIdeal.Hand.final10 m c), h.1 c⟩
  · refine (θ_run Cert.ReferenceFfnIdeal.defs _ _).mono (fun r h c => ?_) (Cert.ReferenceFfnIdeal.Value.run (F := Ideal) m' g')
    obtain ⟨hv0, hv1, hk⟩ := h c
    obtain ⟨e0, e1, e2, e3, e4, e5, e6⟩ := hargs c
    refine ⟨hv0.trans ?_, hv1.trans ?_, hk⟩
    · refine (Cert.ReferenceFfnIdeal.Read.val_main_v43_eq _ _ _ _ _ _).trans ?_
      rw [e0, e1, e2, e3, e4, e5]
      funext y
      refine (congrArg _ (?_ : y = ix2 (y 0) (y 1))).trans (Cert.ReferenceFfnIdeal.Hand.result0 _ _ _ _ _ _ (y 0) (y 1))
      exact funext fun a => match a with | 0 => rfl | 1 => rfl
    · refine (Cert.ReferenceFfnIdeal.Read.val_main_v45_eq m' c).trans ?_
      rw [e0, e1, e2, e3, e4, e5, e6]
      funext y
      refine (congrArg _ (?_ : y = ix2 (y 0) (y 1))).trans (Cert.ReferenceFfnIdeal.Hand.result1 _ _ _ _ _ _ _ (y 0) (y 1))
      exact funext fun a => match a with | 0 => rfl | 1 => rfl

theorem frame_pf : Cert.quiescent_Ffn := fun m ρ _ => Cert.Ffn.Hand.frame m ρ
theorem frame_pfi : Cert.quiescent_FfnIdeal := fun m ρ _ => Cert.FfnIdeal.Hand.frame m ρ
theorem frame_rfi : Cert.quiescent_ReferenceFfnIdeal := fun m ρ _ =>
  (θ_run Cert.ReferenceFfnIdeal.defs _ _).mono (fun r h => ⟨fun c => (h c).2.2,
      Idealize.ShloMosaic.sem_eq_zero_of_no_sems (by decide) r.2⟩)
    (Cert.ReferenceFfnIdeal.Value.run (F := Ideal) m ρ)

end Cert.Proof

end
-- ==== Proof.ExpertsPre.lean ====
/-
  The tables' precondition read: every word, as a number, is below its table's bound.
-/
module

public import proofs.«01_k».proof.Pre_tables_in_range
public import Idealize.ShloMosaic.Lib.Pointwise
public import Idealize.ShloMosaic.Lib.WordCmp

@[expose] public section

set_option maxRecDepth 16384

noncomputable section

namespace Cert.Pre_tables_in_range

open Idealize.ShloMosaic Facts

variable [hF : Facts]

/-- The flags of the four tables, one row each. -/
abbrev rows (a b c d : IVec S72 1) : IVec S4x72 1 :=
  concatenate S4x72 0 [⟨S1x72, (broadcastInDim S1x72 ![1] bcast_S72_S1x72_1 a : IVec S1x72 1)⟩, ⟨S1x72, (broadcastInDim S1x72 ![1] bcast_S72_S1x72_1 b : IVec S1x72 1)⟩,
    ⟨S1x72, (broadcastInDim S1x72 ![1] bcast_S72_S1x72_1 c : IVec S1x72 1)⟩, ⟨S1x72, (broadcastInDim S1x72 ![1] bcast_S72_S1x72_1 d : IVec S1x72 1)⟩]
    concatenates_S1x72_S1x72_S1x72_S1x72_S4x72_d0

theorem row_0 (a b c d : IVec S72 1) (i : Fin 72) : rows a b c d (ix2 0 i) = a (ix1 i) := by pointwise
theorem row_1 (a b c d : IVec S72 1) (i : Fin 72) : rows a b c d (ix2 1 i) = b (ix1 i) := by pointwise
theorem row_2 (a b c d : IVec S72 1) (i : Fin 72) : rows a b c d (ix2 2 i) = c (ix1 i) := by pointwise
theorem row_3 (a b c d : IVec S72 1) (i : Fin 72) : rows a b c d (ix2 3 i) = d (ix1 i) := by pointwise

/-- A word that passes both comparisons is a number below the bound. -/
theorem word_lt (w : BitVec 32) (n : ℕ) (hn : n < 2 ^ 31) (h : IntOp.andi (IntOp.cmpi .sge w 0#32) (IntOp.cmpi .slt w (BitVec.ofNat 32 n)) = 1#1) :
    w.toNat < n := by
  have h1 : (0#32).sle w = true ∧ w.slt (BitVec.ofNat 32 n) = true := by
    revert h
    simp only [IntOp.andi, IntOp.cmpi]
    cases (0#32).sle w <;> cases w.slt (BitVec.ofNat 32 n) <;> decide
  have h2 := BitVec.sle_iff_toInt_le.mp h1.1
  have h3 := BitVec.slt_iff_toInt_lt.mp h1.2
  have ez : (0#32).toInt = 0 := by decide
  have en : (BitVec.ofNat 32 n).toInt = n := by
    rw [BitVec.toInt_eq_toNat_cond, BitVec.toNat_ofNat, Nat.mod_eq_of_lt (by omega), if_pos (by omega)]
  have ew := BitVec.toInt_eq_toNat_cond w
  have := w.isLt
  split at ew <;> omega

/-- One table's flags all set: its words are below the bound. -/
theorem below (a : IVec S72 32) (n : ℕ) (hn : n < 2 ^ 31) (i : Fin 72)
    (h : andi (cmpi .sge a (broadcastInDim S72 ![] bcast_S_S72 (constantI S_ 32 0#32))) (cmpi .slt a (broadcastInDim S72 ![] bcast_S_S72 (constantI S_ 32 (BitVec.ofNat 32 n)))) (ix1 i) = 1#1) :
    (a (ix1 i)).toNat < n := word_lt _ n hn h

/-- The precondition bounds every word of every table. -/
theorem bounds {F : FTy → Type} [FloatOps F] (a0 a1 a2 a3 : IVec S72 32) (a4 a5 a6 a7 a8) (h : fn (F := F) a0 a1 a2 a3 a4 a5 a6 a7 a8 = fun _ => 1#1) (i : Fin 72) :
    (a0 (ix1 i)).toNat < 3 ∧ (a1 (ix1 i)).toNat < 72 ∧ (a2 (ix1 i)).toNat < 8 ∧ (a3 (ix1 i)).toNat < 16 := by
  unfold fn fn_part1 at h
  dsimp only at h
  exact ⟨below a0 3 (by decide) i ((row_0 _ _ _ _ i).symm.trans (congrFun h (ix2 0 i))),
    below a1 72 (by decide) i ((row_1 _ _ _ _ i).symm.trans (congrFun h (ix2 1 i))),
    below a2 8 (by decide) i ((row_2 _ _ _ _ i).symm.trans (congrFun h (ix2 2 i))),
    below a3 16 (by decide) i ((row_3 _ _ _ _ i).symm.trans (congrFun h (ix2 3 i)))⟩

end Cert.Pre_tables_in_range

end
-- ==== Proof.ExpertsIdealRun.lean ====
/-
  The experts' body, run at a point: what it leaves in its output block for each kind of row
  block, as the payloads its text names.
-/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import Idealize.ShloMosaic.Lib.Claim

@[expose] public section

set_option maxRecDepth 16384

noncomputable section

namespace Cert.ExpertsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

section views

variable {Val : EltTy → Type} {κ : Kind} {sp : Space} {e : EltTy}

theorem ld_rows (v : View sig κ sp S512x2048 e) (f : v.ty.Contents Val) (inb) :
    v.readAt Val (Rect.unit (s := S512x2048) ![0, 0] ![512, 2048] inb).toLoadRect f = v.read Val f :=
  View.readAt_full v (off := ![0, 0]) f inb

theorem ld_up (v : View sig κ sp S1x2048x1024 e) (f : v.ty.Contents Val) (inb) :
    v.readAt Val (Rect.unit (s := S1x2048x1024) ![0, 0, 0] ![1, 2048, 1024] inb).toLoadRect f = v.read Val f :=
  View.readAt_full v (off := ![0, 0, 0]) f inb

theorem ld_down (v : View sig κ sp S1x1024x2048 e) (f : v.ty.Contents Val) (inb) :
    v.readAt Val (Rect.unit (s := S1x1024x2048) ![0, 0, 0] ![1, 1024, 2048] inb).toLoadRect f = v.read Val f :=
  View.readAt_full v (off := ![0, 0, 0]) f inb

theorem st_rows (v : View sig κ sp S512x2048 e) (f : v.ty.Contents Val) (inb) (w : S512x2048.Idx → Val e) (L : List (View.Piece Val S512x2048 e)) :
    v.read Val (v.writes Val f ((⟨Rect.unit (s := S512x2048) ![0, 0] ![512, 2048] inb, w⟩ : View.Piece Val S512x2048 e) :: L)) = w :=
  View.read_writes_full v f (off := ![0, 0]) inb w L

end views

/-- A table's contents on core `c`, and the half of it the body holds. -/
abbrev TabBuf (c : Dev nD) (M : Memref sig .tc .smem S72 .i32) : Type := Buf (Elt F) (M.view.loc (c : Thread nD τ))
abbrev tabHalf (c : Dev nD) (M : Memref sig .tc .smem S72 .i32) (f : TabBuf (F := F) c M) : sProp 𝕄 :=
  M.view.loc (c : Thread nD τ) ↦{fullShare.right} f

section run

variable (c : Dev nD) (i : grid0.Coords)
variable (arg2 : Memref sig .tc .smem S72 .i32) (harg2 : arg2.IsWhole) (arg3 : Memref sig .tc .smem S72 .i32) (harg3 : arg3.IsWhole) (arg4 : Memref sig .tc .smem S72 .i32) (harg4 : arg4.IsWhole) (arg5 : Memref sig .tc .smem S72 .i32) (harg5 : arg5.IsWhole)
variable (arg6 : Memref sig .tc .vmem S512x2048 .f32) (harg6 : arg6.IsWhole) (arg7 : Memref sig .tc .vmem S1x2048x1024 .bf16) (harg7 : arg7.IsWhole) (arg8 : Memref sig .tc .vmem S1x2048x1024 .bf16) (harg8 : arg8.IsWhole) (arg9 : Memref sig .tc .vmem S1x1024x2048 .bf16) (harg9 : arg9.IsWhole) (arg10 : Memref sig .tc .vmem S512x2048 .f32) (harg10 : arg10.IsWhole) (arg11 : Memref sig .tc .vmem S512x2048 .f32) (harg11 : arg11.IsWhole)
variable (T : TabBuf (F := F) c arg2)
variable (x0 : Vec F S512x2048 .f32) (x1 : Vec F S1x2048x1024 .bf16) (x2 : Vec F S1x2048x1024 .bf16) (x3 : Vec F S1x1024x2048 .bf16) (x4 : Vec F S512x2048 .f32) (x5 : Vec F S512x2048 .f32)

/-- The word the body loads from the table of kinds. -/
def word : BitVec 32 := arg2.view.readAt (Elt F) (Rect.unit (s := S72) (k0_off1 i) S1.size (k0_off1_inb i)).toLoadRect T (Shape.Idx.first (numel1_S1.symm ▸ Nat.one_pos))

/-- What the output block holds after a point whose kind is `w`: at the first point of an unused row block
    zeros, at that of a tail block the tail block, at a point of a computed one the grown partial sum; at
    any other point what it held. -/
def leaves (w : BitVec 32) : Vec F S512x2048 .f32 :=
  if k0_cond1 i w = 1#1 then k0_pay1 else if k0_cond2 i w = 1#1 then x4
  else if k0_cond3 w = 1#1 then k0_pay2 i x0 x1 x2 x5 x3 else x5

theorem eq_word (w k : BitVec 32) : Scalar.cmpi .eq w k = if w = k then 1#1 else 0#1 := by
  simp only [Scalar.cmpi, IntOp.cmpi]
  by_cases h : w = k
  · simp [h]
  · rw [if_neg h, beq_eq_false_iff_ne.mpr h]; rfl
theorem ofNat_zero_iff : ∀ n : Fin 7, BitVec.ofNat 32 n.val = 0#32 ↔ n.val = 0 := by decide
theorem cond1_iff (w : BitVec 32) : k0_cond1 i w = 1#1 ↔ w = 2#32 ∧ (i 1).val = 0 := by
  simp only [k0_cond1, eq_word, ofNat_zero_iff (i 1)]
  by_cases h : w = 2#32 <;> by_cases h' : (i 1).val = 0 <;> simp only [h, h', if_true, if_false] <;> decide
theorem cond2_iff (w : BitVec 32) : k0_cond2 i w = 1#1 ↔ w = 1#32 ∧ (i 1).val = 0 := by
  simp only [k0_cond2, eq_word, ofNat_zero_iff (i 1)]
  by_cases h : w = 1#32 <;> by_cases h' : (i 1).val = 0 <;> simp only [h, h', if_true, if_false] <;> decide
theorem cond3_iff (w : BitVec 32) : k0_cond3 w = 1#1 ↔ w = 0#32 := by
  simp only [k0_cond3, eq_word]
  by_cases h : w = 0#32 <;> simp only [h, if_true, if_false] <;> decide

include harg6 harg7 harg8 harg9 harg10 harg11

set_option maxHeartbeats 4000000 in
/-- The body at any point. -/
theorem run_body (E : Set ℕ) (K : PUnit → sProp 𝕄) :
    iprop(tabHalf c arg2 T
            ∗ owns (c : Thread nD τ) arg6 fullShare x0
            ∗ owns (c : Thread nD τ) arg7 fullShare x1
            ∗ owns (c : Thread nD τ) arg8 fullShare x2
            ∗ owns (c : Thread nD τ) arg9 fullShare x3
            ∗ owns (c : Thread nD τ) arg10 fullShare x4
            ∗ owns (c : Thread nD τ) arg11 fullShare x5
            ∗ (iprop(tabHalf c arg2 T
            ∗ owns (c : Thread nD τ) arg6 fullShare x0
            ∗ owns (c : Thread nD τ) arg7 fullShare x1
            ∗ owns (c : Thread nD τ) arg8 fullShare x2
            ∗ owns (c : Thread nD τ) arg9 fullShare x3
            ∗ owns (c : Thread nD τ) arg10 fullShare x4
            ∗ owns (c : Thread nD τ) arg11 fullShare (leaves i x0 x1 x2 x3 x4 x5 (word c i arg2 T))) -∗ K ⟨⟩))
      ⊢ wp frame (wpE (defs₀ (F := F)) Variants.none c none) E
          (cc0_moe_experts i arg2 harg2 arg3 harg3 arg4 harg4 arg5 harg5 arg6 harg6 arg7 harg7 arg8 harg8 arg9 harg9 arg10 harg10 arg11 harg11) K := by
    simp only [cc0_moe_experts_eq_skeleton]; unfold cc0_moe_experts_skel
    unfold owns
    iintro ⟨HT, ⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg6.eq_unread hf0
    obtain rfl := harg7.eq_unread hf1
    obtain rfl := harg8.eq_unread hf2
    obtain rfl := harg9.eq_unread hf3
    obtain rfl := harg10.eq_unread hf4
    obtain rfl := harg11.eq_unread hf5
    have e12 : k0_cond1 i (word c i arg2 T) = 1#1 → ¬k0_cond2 i (word c i arg2 T) = 1#1 := fun h h' => by
      have a := ((cond1_iff i _).mp h).1; rw [((cond2_iff i _).mp h').1] at a; revert a; decide
    have e13 : k0_cond1 i (word c i arg2 T) = 1#1 → ¬k0_cond3 (word c i arg2 T) = 1#1 := fun h h' => by
      have a := ((cond1_iff i _).mp h).1; rw [(cond3_iff _).mp h'] at a; revert a; decide
    have e23 : k0_cond2 i (word c i arg2 T) = 1#1 → ¬k0_cond3 (word c i arg2 T) = 1#1 := fun h h' => by
      have a := ((cond2_iff i _).mp h).1; rw [(cond3_iff _).mp h'] at a; revert a; decide
    unfold leaves
    by_cases h1 : k0_cond1 i (word c i arg2 T) = 1#1
    on_goal 1 => (have h2 := e12 h1; have h3 := e13 h1)
    on_goal 2 => by_cases h2 : k0_cond2 i (word c i arg2 T) = 1#1
    on_goal 2 => have h3 := e23 h2
    on_goal 3 => by_cases h3 : k0_cond3 (word c i arg2 T) = 1#1
    all_goals
      simp only [h1, h2, h3, if_true, if_false]
      sl_exec (disch := first | sl_exact h1 | sl_exact h2 | sl_exact h3)
      sl_step
      iapply Hk
      isplitl [HT]; · iexact HT
      isplitl [H0]
      · iexists _; isplitr; · ipureintro; exact harg6.read_unread _
        iexact H0
      isplitl [H1]
      · iexists _; isplitr; · ipureintro; exact harg7.read_unread _
        iexact H1
      isplitl [H2]
      · iexists _; isplitr; · ipureintro; exact harg8.read_unread _
        iexact H2
      isplitl [H3]
      · iexists _; isplitr; · ipureintro; exact harg9.read_unread _
        iexact H3
      isplitl [H4]
      · iexists _; isplitr; · ipureintro; exact harg10.read_unread _
        iexact H4
      iexists _; isplitr
      swap; · iexact H5
      ipureintro
      simp only [st_rows, ld_rows, ld_up, ld_down, Memref.IsWhole.read_unread]

end run

end Cert.ExpertsIdeal.Hand

end
-- ==== Proof.ExpertsIdealFrame.lean ====
/-
  The experts' frame: the contents of the output block point by point, the body's obligation at
  every point, and the run of the whole grid, for tables whose words are block numbers and kinds.
-/
module

public import proofs.«01_k».proof.Proof.ExpertsIdealRun

@[expose] public section

set_option maxRecDepth 16384

noncomputable section

namespace Cert.ExpertsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each buffer holds when the grid begins. -/
abbrev V (c : Dev nD) (b : Ref sig .tc) : Buf (Elt F) ((c.tc : Thread nD τ).loc b) := m ((c.tc : Thread nD τ).loc b)

/-- The four tables. -/
def tbl : pre0.Contents (Elt F) := fun j => V m (0 : Dev nD) (pre0.ref j)

theorem V_pre (c : Dev nD) (j : Fin 4) : V m c (pre0.ref j) = tbl m j := by
  obtain rfl : c = 0 := Subsingleton.elim _ _
  rfl

/-- The kind of a point's row block. -/
def kind (c : Dev nD) (i : grid0.Coords) : BitVec 32 := word c i (Memref.whole main_arg0) (V m c main_arg0)

/-- The tables are good: their words name blocks the arrays have, and every kind is one of the three. -/
structure Good : Prop where
  ok : ok0 (tbl m)
  kinds : ∀ (c : Dev nD) (i : grid0.Coords), kind m c i = 0#32 ∨ kind m c i = 1#32 ∨ kind m c i = 2#32

variable (hG : Good m)

abbrev adm : (pcfg0 (F := F)).Adm := ⟨tbl m, hG.ok⟩
abbrev cfgM := cfg0 (adm m hG)

theorem kind_atD (c : Dev nD) (i : grid0.Coords) : (tbl m).atD 0 (k0_off1 i) = kind m c i := by
  obtain rfl : c = 0 := Subsingleton.elim _ _
  have h : ∀ a : Fin (pre0.ref 0).ty.shape.rank, k0_off1 i a + 1 ≤ (pre0.ref 0).ty.shape.size a :=
    (by intro a; match a with | 0 => exact k0_off1_inb i 0 : ∀ a : Fin 1, k0_off1 i a + 1 ≤ S72.size a)
  refine (dif_pos h).trans ?_
  unfold kind word
  exact congrArg (V m (0 : Dev nD) main_arg0) (funext fun a => Fin.ext (by rfl))

theorem coord_row (t : Fin (cfgM m hG).N) : (grid0.coords t 0).val = t.val / 7 % 72 :=
  (Pipeline.Grid.coords_val (G := grid0) t 0 (by decide) rfl : (grid0.coords t 0).val = t.val / 7 % 72)

theorem coord_col (t : Fin (cfgM m hG).N) : (grid0.coords t 1).val = t.val % 7 :=
  (Pipeline.Grid.coords_val (G := grid0) t 1 (by decide) rfl : (grid0.coords t 1).val = t.val / 1 % 7).trans (by rw [Nat.div_one])

/-- The output block is written back at the last point of its row block. -/
theorem flush5 (t : Fin (cfgM m hG).N) : ((cfgM m hG).win 5).flush t = true ↔ t.val % 7 = 6 :=
  Pipeline.Window.flush_reads ((cfgM m hG).win 5) rfl (0 : Fin 2) (by decide : 1 < grid0.bound 0) (by decide : grid0.fixedAfter reads0_5 0 = true)
    (Pipeline.Window.sep_of_coord cc0_transform_5 0 0 (fun _ => rfl) (by decide)) (P := 7) (m := 6) (by decide : grid0.stride 0 = 7) rfl t

/-- A window's block at a point, read off its array. -/
def iblk (c : Dev nD) (w : Fin 6) (t : Fin (cfgM m hG).N) :
    (((cfgM m hG).win w).xblock ((cfgM m hG).grid.coords t)).Idx → Elt F ((cfgM m hG).win w).elt :=
  (((cfgM m hG).win w).blk t).view.read (Elt F) (V m c (Pipeline.arrRef spec0 w))

/-- What the body leaves in the output block at a point where it finds `d`. -/
def grow (c : Dev nD) (t : Fin (cfgM m hG).N) (d : Vec F S512x2048 .f32) : Vec F S512x2048 .f32 :=
  leaves (grid0.coords t) (iblk m hG c 0 t) (iblk m hG c 1 t) (iblk m hG c 2 t) (iblk m hG c 3 t) (iblk m hG c 4 t) d
    (kind m c (grid0.coords t))

/-- What the output block holds after each point; before the first of a row block whatever stands there is dropped. -/
def held (c : Dev nD) : (n : ℕ) → n < (cfgM m hG).N → Vec F S512x2048 .f32
  | 0, hn => grow m hG c ⟨0, hn⟩ k0_pay1
  | n + 1, hn => grow m hG c ⟨n + 1, hn⟩ (held c n (Nat.lt_of_succ_lt hn))

theorem pay2_reset (i : grid0.Coords) (h : (i 1).val = 0) (x0 : Vec F S512x2048 .f32) (x1 x2) (d d' : Vec F S512x2048 .f32) (x3) :
    k0_pay2 i x0 x1 x2 d x3 = k0_pay2 i x0 x1 x2 d' x3 := by
  unfold k0_pay2
  rw [h]
  rfl

/-- At the first point of a row block what stood before does not matter. -/
theorem grow_first (c : Dev nD) (t : Fin (cfgM m hG).N) (h : t.val % 7 = 0) (d d' : Vec F S512x2048 .f32) :
    grow m hG c t d = grow m hG c t d' := by
  have h1 := (coord_col m hG t).trans h
  unfold grow leaves
  rcases hG.kinds c (grid0.coords t) with hk | hk | hk
  · rw [hk, if_neg (by rw [cond1_iff]; exact fun h => absurd h.1 (by decide)), if_neg (by rw [cond2_iff]; exact fun h => absurd h.1 (by decide)),
      if_pos ((cond3_iff _).mpr rfl), if_neg (by rw [cond1_iff]; exact fun h => absurd h.1 (by decide)), if_neg (by rw [cond2_iff]; exact fun h => absurd h.1 (by decide)),
      if_pos ((cond3_iff _).mpr rfl)]
    exact pay2_reset _ h1 _ _ _ _ _ _
  · rw [hk, if_neg (by rw [cond1_iff]; exact fun h => absurd h.1 (by decide)), if_pos ((cond2_iff _ _).mpr ⟨rfl, h1⟩),
      if_neg (by rw [cond1_iff]; exact fun h => absurd h.1 (by decide)), if_pos ((cond2_iff _ _).mpr ⟨rfl, h1⟩)]
  · rw [hk, if_pos ((cond1_iff _ _).mpr ⟨rfl, h1⟩), if_pos ((cond1_iff _ _).mpr ⟨rfl, h1⟩)]

theorem held_first (c : Dev nD) (t : Fin (cfgM m hG).N) (h : t.val % 7 = 0) (d : Vec F S512x2048 .f32) :
    held m hG c t.val t.isLt = grow m hG c t d := by
  obtain ⟨n, hn⟩ := t
  cases n with
  | zero => exact grow_first m hG c ⟨0, hn⟩ h _ _
  | succ n => exact grow_first m hG c ⟨n + 1, hn⟩ h _ _

theorem held_next (c : Dev nD) (t : Fin (cfgM m hG).N) (h : t.val % 7 ≠ 0) :
    held m hG c t.val t.isLt = grow m hG c t (held m hG c (t.val - 1) (Nat.lt_of_le_of_lt (Nat.sub_le _ _) t.isLt)) := by
  obtain ⟨n, hn⟩ := t
  cases n with
  | zero => exact absurd (Nat.zero_mod _) h
  | succ n => rfl

theorem idle5_eq (c : Dev nD) (t : Fin (cfgM m hG).N) : (cfgM m hG).idle 5 (grid0.coords t)
    = (!(k0_cond1 (grid0.coords t) (kind m c (grid0.coords t)) == 1#1) && !(k0_cond2 (grid0.coords t) (kind m c (grid0.coords t)) == 1#1)
      && !(k0_cond3 (kind m c (grid0.coords t)) == 1#1)) := by
  rw [← kind_atD m c (grid0.coords t)]
  rfl

/-- At an idle point the block keeps what it held, and the point is not the first of its row block. -/
theorem idle_grow (c : Dev nD) (t : Fin (cfgM m hG).N) (h : (cfgM m hG).idle 5 (grid0.coords t) = true) :
    (∀ d, grow m hG c t d = d) ∧ t.val % 7 ≠ 0 := by
  rw [idle5_eq m hG c] at h
  simp only [Bool.and_eq_true, Bool.not_eq_true', beq_eq_false_iff_ne, ne_eq] at h
  refine ⟨fun d => ?_, fun h0 => ?_⟩
  · unfold grow leaves
    rw [if_neg h.1.1, if_neg h.1.2, if_neg h.2]
  · have h1 := (coord_col m hG t).trans h0
    rw [cond1_iff, cond2_iff, cond3_iff] at h
    rcases hG.kinds c (grid0.coords t) with hk | hk | hk
    · exact h.2 hk
    · exact h.1.2 ⟨hk, h1⟩
    · exact h.1.1 ⟨hk, h1⟩

/-- The proof data of the grid. -/
def dats (_ : Fin 1) (c : Dev nD) : Dat τ (Elt F) Unit ℕ (UR sig nD τ) ℕ (cfgM m hG) c where
  A w := V m c (Pipeline.arrRef spec0 w)
  after w t := match w with
    | ⟨0, _⟩ => iblk m hG c 0 t
    | ⟨1, _⟩ => iblk m hG c 1 t
    | ⟨2, _⟩ => iblk m hG c 2 t
    | ⟨3, _⟩ => iblk m hG c 3 t
    | ⟨4, _⟩ => iblk m hG c 4 t
    | ⟨5, _⟩ => held m hG c t.val t.isLt
  Φ _ := iprop(Pipeline.ΦA spec0 c ∗ Pipeline.ΦT pre0 (tbl m) c)
  q _ := fullShare
  owed _ := 0

theorem A_eq (c : Dev nD) (w : Fin 6) : (dats m hG 0 c).A w = V m c (Pipeline.arrRef spec0 w) := by
  dsimp only [dats]

theorem after_0 (c : Dev nD) (t : Fin (cfgM m hG).N) : (dats m hG 0 c).after 0 t = iblk m hG c 0 t := rfl
theorem after_1 (c : Dev nD) (t : Fin (cfgM m hG).N) : (dats m hG 0 c).after 1 t = iblk m hG c 1 t := rfl
theorem after_2 (c : Dev nD) (t : Fin (cfgM m hG).N) : (dats m hG 0 c).after 2 t = iblk m hG c 2 t := rfl
theorem after_3 (c : Dev nD) (t : Fin (cfgM m hG).N) : (dats m hG 0 c).after 3 t = iblk m hG c 3 t := rfl
theorem after_4 (c : Dev nD) (t : Fin (cfgM m hG).N) : (dats m hG 0 c).after 4 t = iblk m hG c 4 t := rfl
theorem after_5 (c : Dev nD) (t : Fin (cfgM m hG).N) : (dats m hG 0 c).after 5 t = held m hG c t.val t.isLt := rfl

theorem before_0 (c : Dev nD) (t : Fin (cfgM m hG).N) (d) : (dats m hG 0 c).before 0 t d = iblk m hG c 0 t :=
  ((dats m hG 0 c).before_in_eq_fetched 0 rfl (fun _ => rfl) (fun _ _ _ => rfl)
    (fun t => by rw [after_0]; unfold Dat.blockOf iblk; rw [A_eq]; rfl) t d).trans
    (by unfold Dat.fetched Dat.blockOf iblk; rw [A_eq]; try rfl)
theorem before_1 (c : Dev nD) (t : Fin (cfgM m hG).N) (d) : (dats m hG 0 c).before 1 t d = iblk m hG c 1 t :=
  ((dats m hG 0 c).before_in_eq_fetched 1 rfl (fun _ => rfl) (fun _ _ _ => rfl)
    (fun t => by rw [after_1]; unfold Dat.blockOf iblk; rw [A_eq]; rfl) t d).trans
    (by unfold Dat.fetched Dat.blockOf iblk; rw [A_eq]; try rfl)
theorem before_2 (c : Dev nD) (t : Fin (cfgM m hG).N) (d) : (dats m hG 0 c).before 2 t d = iblk m hG c 2 t :=
  ((dats m hG 0 c).before_in_eq_fetched 2 rfl (fun _ => rfl) (fun _ _ _ => rfl)
    (fun t => by rw [after_2]; unfold Dat.blockOf iblk; rw [A_eq]; rfl) t d).trans
    (by unfold Dat.fetched Dat.blockOf iblk; rw [A_eq]; try rfl)
theorem before_3 (c : Dev nD) (t : Fin (cfgM m hG).N) (d) : (dats m hG 0 c).before 3 t d = iblk m hG c 3 t :=
  ((dats m hG 0 c).before_in_eq_fetched 3 rfl (fun _ => rfl) (fun _ _ _ => rfl)
    (fun t => by rw [after_3]; unfold Dat.blockOf iblk; rw [A_eq]; rfl) t d).trans
    (by unfold Dat.fetched Dat.blockOf iblk; rw [A_eq]; try rfl)
theorem before_4 (c : Dev nD) (t : Fin (cfgM m hG).N) (d) : (dats m hG 0 c).before 4 t d = iblk m hG c 4 t :=
  ((dats m hG 0 c).before_in_eq_fetched 4 rfl (fun _ => rfl) (fun _ _ _ => rfl)
    (fun t => by rw [after_4]; unfold Dat.blockOf iblk; rw [A_eq]; rfl) t d).trans
    (by unfold Dat.fetched Dat.blockOf iblk; rw [A_eq]; try rfl)

/-- Past the first point of a row block, the output block is found as the point before left it, idle or not. -/
theorem before_5 (c : Dev nD) : ∀ (n : ℕ) (hn : n < (cfgM m hG).N), n % 7 ≠ 0 → ∀ d,
    (dats m hG 0 c).before 5 ⟨n, hn⟩ d = held m hG c (n - 1) (Nat.lt_of_le_of_lt (Nat.sub_le _ _) hn) := by
  intro n
  induction n with
  | zero => intro hn h; exact absurd (Nat.zero_mod _) h
  | succ n ih =>
    intro hn h d
    have hn' : n < (cfgM m hG).N := Nat.lt_of_succ_lt hn
    have hfl : ((cfgM m hG).win 5).flush ⟨n, hn'⟩ = false := by
      rw [← Bool.not_eq_true, flush5]; show ¬ n % 7 = 6; omega
    rw [Dat.before_of_pos (dats m hG 0 c) 5 ⟨n + 1, hn⟩ (Nat.succ_ne_zero n) (((cfgM m hG).win 5).fetch_out rfl _) d]
    rw [show (⟨(⟨n + 1, hn⟩ : Fin (cfgM m hG).N).val - 1, Nat.lt_of_le_of_lt (Nat.sub_le _ _) hn⟩ : Fin (cfgM m hG).N) = ⟨n, hn'⟩ from rfl,
      if_neg (by rw [hfl]; exact Bool.false_ne_true)]
    show _ = held m hG c n hn'
    unfold Dat.left
    cases hi : (cfgM m hG).idle 5 (grid0.coords ⟨n, hn'⟩) with
    | true =>
      obtain ⟨hk, h0⟩ := idle_grow m hG c ⟨n, hn'⟩ hi
      simp only
      rw [ih hn' h0 d]
      exact ((held_next m hG c ⟨n, hn'⟩ h0).trans (hk _)).symm
    | false =>
      simp only
      unfold Dat.kept
      rw [after_5]
      exact Window.fill_cut _ _ _

/-- The block grows from what it is found to hold, whatever the point. -/
theorem grow_before (c : Dev nD) (t : Fin (cfgM m hG).N) (d) :
    grow m hG c t ((dats m hG 0 c).before 5 t d) = held m hG c t.val t.isLt := by
  by_cases h : t.val % 7 = 0
  · exact (held_first m hG c t h _).symm
  · rw [before_5 m hG c t.val t.isLt h d]; exact (held_next m hG c t h).symm

/-- The current staging memref of each window. -/
abbrev st0 (w : Fin 6) (t : Fin (cfgM m hG).N) := ((cfgM m hG).win w).stage ((cfgM m hG).slots t w)

theorem leaves_0 (c : Dev nD) (t : Fin (cfgM m hG).N) :
    (dats m hG 0 c).leavesExact 0 t = owns (c : Thread nD τ) (st0 m hG 0 t) fullShare (iblk m hG c 0 t) := by
  unfold Dat.leavesExact; rw [show (cfgM m hG).idle 0 (grid0.coords t) = false from rfl, after_0]; rfl
theorem leaves_1 (c : Dev nD) (t : Fin (cfgM m hG).N) :
    (dats m hG 0 c).leavesExact 1 t = owns (c : Thread nD τ) (st0 m hG 1 t) fullShare (iblk m hG c 1 t) := by
  unfold Dat.leavesExact; rw [show (cfgM m hG).idle 1 (grid0.coords t) = false from rfl, after_1]; rfl
theorem leaves_2 (c : Dev nD) (t : Fin (cfgM m hG).N) :
    (dats m hG 0 c).leavesExact 2 t = owns (c : Thread nD τ) (st0 m hG 2 t) fullShare (iblk m hG c 2 t) := by
  unfold Dat.leavesExact; rw [show (cfgM m hG).idle 2 (grid0.coords t) = false from rfl, after_2]; rfl
theorem leaves_3 (c : Dev nD) (t : Fin (cfgM m hG).N) :
    (dats m hG 0 c).leavesExact 3 t = owns (c : Thread nD τ) (st0 m hG 3 t) fullShare (iblk m hG c 3 t) := by
  unfold Dat.leavesExact; rw [show (cfgM m hG).idle 3 (grid0.coords t) = false from rfl, after_3]; rfl
theorem leaves_4 (c : Dev nD) (t : Fin (cfgM m hG).N) :
    (dats m hG 0 c).leavesExact 4 t = owns (c : Thread nD τ) (st0 m hG 4 t) fullShare (iblk m hG c 4 t) := by
  unfold Dat.leavesExact; rw [show (cfgM m hG).idle 4 (grid0.coords t) = false from rfl, after_4]; rfl

/-- The output block's contents are what the point must leave, idle or not. -/
theorem leaves_5 (c : Dev nD) (t : Fin (cfgM m hG).N) :
    (owns (c : Thread nD τ) (st0 m hG 5 t) fullShare (held m hG c t.val t.isLt) : sProp 𝕄) ⊢ (dats m hG 0 c).leavesExact 5 t := by
  cases hi : (cfgM m hG).idle 5 (grid0.coords t) with
  | false =>
    unfold Dat.leavesExact; rw [hi, after_5]
    exact .rfl
  | true =>
    obtain ⟨hk, h0⟩ := idle_grow m hG c t hi
    cases hf : ((cfgM m hG).win 5).flush t with
    | false =>
      rw [Dat.leavesExact_idle (dats m hG 0 c) 5 t hi hf]
      have e : held m hG c t.val t.isLt = (dats m hG 0 c).before 5 t k0_pay1 :=
        (grow_before m hG c t _).symm.trans (hk _)
      rw [e]
      iintro H
      iexists _
      iexact H
    | true =>
      unfold Dat.leavesExact; rw [hi, hf, after_5]
      exact .rfl

/-- The tables as the body holds them, one by one. -/
theorem tables_eq (c : Dev nD) : (Pipeline.ΦT pre0 (tbl m) c : sProp 𝕄)
    = iprop(tabHalf c (Memref.whole main_arg0) (V m c main_arg0) ∗ tabHalf c (Memref.whole main_arg1) (V m c main_arg1)
      ∗ tabHalf c (Memref.whole main_arg2) (V m c main_arg2) ∗ tabHalf c (Memref.whole main_arg3) (V m c main_arg3)) := by
  obtain rfl : c = 0 := Subsingleton.elim _ _
  unfold Pipeline.ΦT Pipeline.prefHeld
  rw [show (Finset.univ : Finset (Fin 4)) = {0, 1, 2, 3} from by decide, bigSep_insert (by decide), bigSep_insert (by decide),
    bigSep_insert (by decide), bigSep_singleton]
  rfl

/-- The body at a point. -/
abbrev bodyAt0 (t : Fin (cfgM m hG).N) : Prog (TpuEff nD τ sig (Elt F) Λ₀ .tc) PUnit :=
  defs₀ (F := F) .tc (cfgM m hG).body ((cfgM m hG).bodyArgs t ((cfgM m hG).slots t))

/-- What the body is handed at a point, -/
def bodyPre (c : Dev nD) (t : Fin (cfgM m hG).N) : sProp 𝕄 :=
  iprop((dats m hG 0 c).Φ t.castSucc ∗ (dats m hG 0 c).owesAt () t.castSucc
    ∗ (∃ d, owns (c : Thread nD τ) (st0 m hG 0 t) fullShare ((dats m hG 0 c).before 0 t d))
    ∗ (∃ d, owns (c : Thread nD τ) (st0 m hG 1 t) fullShare ((dats m hG 0 c).before 1 t d))
    ∗ (∃ d, owns (c : Thread nD τ) (st0 m hG 2 t) fullShare ((dats m hG 0 c).before 2 t d))
    ∗ (∃ d, owns (c : Thread nD τ) (st0 m hG 3 t) fullShare ((dats m hG 0 c).before 3 t d))
    ∗ (∃ d, owns (c : Thread nD τ) (st0 m hG 4 t) fullShare ((dats m hG 0 c).before 4 t d))
    ∗ (∃ d, owns (c : Thread nD τ) (st0 m hG 5 t) fullShare ((dats m hG 0 c).before 5 t d)))

/-- and what it returns. -/
def bodyPost (c : Dev nD) (t : Fin (cfgM m hG).N) : sProp 𝕄 :=
  iprop((dats m hG 0 c).Φ t.succ ∗ (dats m hG 0 c).owesAt () t.succ
    ∗ (dats m hG 0 c).leavesExact 0 t
    ∗ (dats m hG 0 c).leavesExact 1 t
    ∗ (dats m hG 0 c).leavesExact 2 t
    ∗ (dats m hG 0 c).leavesExact 3 t
    ∗ (dats m hG 0 c).leavesExact 4 t
    ∗ (dats m hG 0 c).leavesExact 5 t)

set_option maxHeartbeats 2400000 in
/-- The body at any point. -/
theorem sound_body (c : Dev nD) (t : Fin (cfgM m hG).N) :
    bodyPre m hG c t ⊢ wp frame (wpE (defs₀ (F := F)) Variants.none c none) Set.univ (bodyAt0 m hG t) (fun _ => bodyPost m hG c t) := by
  unfold bodyPre bodyPost bodyAt0
  rw [show (dats m hG 0 c).Φ t.succ = (dats m hG 0 c).Φ t.castSucc from rfl,
    show (dats m hG 0 c).owesAt () t.succ = (dats m hG 0 c).owesAt () t.castSucc from rfl,
    show (dats m hG 0 c).Φ t.castSucc = iprop(Pipeline.ΦA spec0 c ∗ Pipeline.ΦT pre0 (tbl m) c) from rfl, tables_eq]
  rw [leaves_0, leaves_1, leaves_2, leaves_3, leaves_4]
  simp only [before_0, before_1, before_2, before_3, before_4]
  iintro ⟨⟨HΦ, HT0, HT⟩, Ho, ⟨%d0, H0⟩, ⟨%d1, H1⟩, ⟨%d2, H2⟩, ⟨%d3, H3⟩, ⟨%d4, H4⟩, ⟨%d5, H5⟩⟩
  unfold defs₀; rw [Defs.onTc_tc]
  iapply (run_body c (grid0.coords t) (Memref.whole main_arg0) (Memref.isWhole_whole _) (Memref.whole main_arg1) (Memref.isWhole_whole _)
    (Memref.whole main_arg2) (Memref.isWhole_whole _) (Memref.whole main_arg3) (Memref.isWhole_whole _) _ _ _ _ _ _ _ _ _ _ _ _ (V m c main_arg0)
    (iblk m hG c 0 t) (iblk m hG c 1 t) (iblk m hG c 2 t) (iblk m hG c 3 t) (iblk m hG c 4 t) ((dats m hG 0 c).before 5 t d5) Set.univ _)
  isplitl [HT0]; · iexact HT0
  isplitl [H0]; · iexact H0
  isplitl [H1]; · iexact H1
  isplitl [H2]; · iexact H2
  isplitl [H3]; · iexact H3
  isplitl [H4]; · iexact H4
  isplitl [H5]; · iexact H5
  iintro ⟨HT0, H0, H1, H2, H3, H4, H5⟩
  isplitl [HΦ HT0 HT]
  · isplitl [HΦ]; · iexact HΦ
    isplitl [HT0]; · iexact HT0
    iexact HT
  isplitl [Ho]; · iexact Ho
  isplitl [H0]; · iexact H0
  isplitl [H1]; · iexact H1
  isplitl [H2]; · iexact H2
  isplitl [H3]; · iexact H3
  isplitl [H4]; · iexact H4
  iapply (leaves_5 m hG c t)
  rw [← grow_before m hG c t d5]
  iexact H5

theorem body_obligation (c : Dev nD) : BodyObligation (dats (F := F) m hG 0 c) (defs₀ (F := F)) Variants.none () Set.univ := fun t => by
  rw [bigSep_W0, bigSep_W0]
  exact triple_restated (sound_body m hG c t) rfl .rfl fun _ => .rfl

theorem main_region (c : Dev nD) : main (F := F) c = (.op (.customCall (Pipeline.entry 0) ()) fun _ => .ret ⟨⟩) := rfl

set_option backward.isDefEq.respectTransparency.types false in
/-- The run of the grid, every counter at zero at its end. -/
theorem run_quiet : θ_run defs (onTc (τ := τ) (main (F := F))) (s₀ m ρ)
    (fun r => (Pipeline.FramePost (Pipeline.pin (pcfgs (F := F)) fun _ => adm m hG) (dats m hG) 0 (V m)) r ∧ r.2.sem = fun _ => 0) :=
  Pipeline.θ_run_frameP (Q' := _) (pcfgs (F := F)) (fun _ => adm m hG) (dats m hG) (0 : Fin 1) launch0 defs₀ Variants.none m ρ main
    (hbody := fun c => (body_obligation m hG c).loose) (hshare := fun c w => by unfold Dat.share; split <;> rfl)
    (howed := fun _ _ => rfl) (V := V m) (hmain := Pipeline.hmainP_region pcfgs 0 defs₀ Variants.none m main main_region)
    (hA := A_eq m hG) (hpf := V_pre m) (hΦ := fun _ _ => rfl)

theorem run_main : θ_run defs (onTc (τ := τ) (main (F := F))) (s₀ m ρ)
    (Pipeline.FramePost (Pipeline.pin (pcfgs (F := F)) fun _ => adm m hG) (dats m hG) 0 (V m)) :=
  (θ_run defs _ _).mono (fun _ h => h.1) (run_quiet m ρ hG)

theorem not_arr (b : Ref sig .tc) (h : ∀ w : Fin 6, (spec0 w).arr.view.ref ≠ b) (w : Fin 6) :
    (((Pipeline.pin (pcfgs (F := F)) fun _ => adm m hG) 0).spec w).arr.view.ref ≠ b := h w

/-- The frame: the arguments end as they began, every counter at zero. -/
theorem frame (hG : Good m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨
    ((h.1 c).2 main_arg0 (Pipeline.mem_restRefs_of main_arg0 (by decide) fun w => not_arr m hG _ (by decide) w)),
    ((h.1 c).2 main_arg1 (Pipeline.mem_restRefs_of main_arg1 (by decide) fun w => not_arr m hG _ (by decide) w)),
    ((h.1 c).2 main_arg2 (Pipeline.mem_restRefs_of main_arg2 (by decide) fun w => not_arr m hG _ (by decide) w)),
    ((h.1 c).2 main_arg3 (Pipeline.mem_restRefs_of main_arg3 (by decide) fun w => not_arr m hG _ (by decide) w)),
    ((h.1 c).1 0).trans (((dats m hG 0 c).arrAt_in 0 rfl _).trans (A_eq m hG c 0)),
    ((h.1 c).1 1).trans (((dats m hG 0 c).arrAt_in 1 rfl _).trans (A_eq m hG c 1)),
    ((h.1 c).1 2).trans (((dats m hG 0 c).arrAt_in 2 rfl _).trans (A_eq m hG c 2)),
    ((h.1 c).1 3).trans (((dats m hG 0 c).arrAt_in 3 rfl _).trans (A_eq m hG c 3)),
    ((h.1 c).1 4).trans (((dats m hG 0 c).arrAt_in 4 rfl _).trans (A_eq m hG c 4))⟩, h.2⟩)
    (run_quiet m ρ hG)

end Cert.ExpertsIdeal.Hand

end
-- ==== Proof.ExpertsIdealGood.lean ====
/-
  Good tables: of words below their bounds every block the windows name is inside its array, and
  every kind is one of the three. The blocks' numbers, as the tables and the point give them.
-/
module

public import proofs.«01_k».proof.Proof.ExpertsIdealFrame
public import Idealize.ShloMosaic.Lib.Affine
public import Idealize.ShloMosaic.Lib.Pointwise

@[expose] public section

set_option maxRecDepth 16384

noncomputable section

namespace Cert.ExpertsIdeal.Hand

open Idealize.ShloMosaic Idealize.ShloMosaic.TcCoe
open Cert.ExpertsIdeal Cert.ExpertsIdeal.Gen

variable {F : FTy → Type} [FloatOps F]
variable (m : (ℓ : Loc nD τ sig) → Buf (Elt F) ℓ)

theorem off_word : ∀ n : Fin 72, (Scalar.indexCast (BitVec.ofNat 32 n.val)).toNat = n.val := by decide

/-- The words of a row block. -/
def kindOf (n : Fin 72) : BitVec 32 := (V m (0 : Dev nD) main_arg0 : IVec S72 32) (ix1 n)
def rowOf (n : Fin 72) : ℕ := ((V m (0 : Dev nD) main_arg1 : IVec S72 32) (ix1 n)).toNat
def expertOf (n : Fin 72) : ℕ := ((V m (0 : Dev nD) main_arg2 : IVec S72 32) (ix1 n)).toNat
def tailOf (n : Fin 72) : ℕ := ((V m (0 : Dev nD) main_arg3 : IVec S72 32) (ix1 n)).toNat
/-- The block of the hidden layer a point works on: its own where the row block is computed, the last elsewhere. -/
def colOf (i : grid0.Coords) : ℕ := if kindOf m (i 0) = 0#32 then (i 1).val else 6

theorem emb_first (i : grid0.Coords) : (Rect.unit (s := S72) (k0_off1 i) S1.size (k0_off1_inb i)).emb (Shape.Idx.first (numel1_S1.symm ▸ Nat.one_pos)) = ix1 (i 0) :=
  funext fun a => match a with
    | 0 => Fin.ext (show k0_off1 i 0 + 1 * 0 = (i 0).val from off_word (i 0))

theorem kind_eq (c : Dev nD) (i : grid0.Coords) : kind m c i = kindOf m (i 0) := by
  obtain rfl : c = 0 := Subsingleton.elim _ _
  exact congrArg (V m (0 : Dev nD) main_arg0 : IVec S72 32) (emb_first i)

theorem at_0 (i : grid0.Coords) : (tbl m).at 0 (Rect.unit (s := S72) (k0_off1 i) S1.size (k0_off1_inb i)) numel1_S1 = kindOf m (i 0) :=
  congrArg (V m (0 : Dev nD) main_arg0 : IVec S72 32) (emb_first i)
theorem at_1 (i : grid0.Coords) : ((tbl m).at 1 (Rect.unit (s := S72) (k0_off1 i) S1.size (k0_off1_inb i)) numel1_S1 : BitVec 32).toNat = rowOf m (i 0) :=
  congrArg (fun x => ((V m (0 : Dev nD) main_arg1 : IVec S72 32) x).toNat) (emb_first i)
theorem at_2 (i : grid0.Coords) : ((tbl m).at 2 (Rect.unit (s := S72) (k0_off1 i) S1.size (k0_off1_inb i)) numel1_S1 : BitVec 32).toNat = expertOf m (i 0) :=
  congrArg (fun x => ((V m (0 : Dev nD) main_arg2 : IVec S72 32) x).toNat) (emb_first i)
theorem at_3 (i : grid0.Coords) : ((tbl m).at 3 (Rect.unit (s := S72) (k0_off1 i) S1.size (k0_off1_inb i)) numel1_S1 : BitVec 32).toNat = tailOf m (i 0) :=
  congrArg (fun x => ((V m (0 : Dev nD) main_arg3 : IVec S72 32) x).toNat) (emb_first i)

theorem col_word : ∀ n : Fin 7, (BitVec.ofNat 32 n.val).toNat = n.val := by decide

theorem col_eq (i : grid0.Coords) (w : BitVec 32) (h : w = kindOf m (i 0)) :
    (Scalar.select (Scalar.cmpi .eq w 0#32) (BitVec.ofNat 32 (i 1).val) 6#32).toNat = colOf m i := by
  rw [eq_word, h]
  unfold colOf
  by_cases hk : kindOf m (i 0) = 0#32
  · rw [if_pos hk, if_pos hk]; exact col_word (i 1)
  · rw [if_neg hk, if_neg hk]; rfl

theorem index_0 (i : grid0.Coords) : cc0_transform_0 k0_off1_inb numel1_S1 (tbl m) i = ![rowOf m (i 0), 0] := by
  rw [← at_1]; rfl
theorem index_1 (i : grid0.Coords) : cc0_transform_1 k0_off1_inb numel1_S1 (tbl m) i = ![expertOf m (i 0), 0, colOf m i] := by
  rw [← at_2, ← col_eq m i _ (at_0 m i)]; rfl
theorem index_2 (i : grid0.Coords) : cc0_transform_2 k0_off1_inb numel1_S1 (tbl m) i = ![expertOf m (i 0), 0, colOf m i] := by
  rw [← at_2, ← col_eq m i _ (at_0 m i)]; rfl
theorem index_3 (i : grid0.Coords) : cc0_transform_3 k0_off1_inb numel1_S1 (tbl m) i = ![expertOf m (i 0), colOf m i, 0] := by
  rw [← at_2, ← col_eq m i _ (at_0 m i)]; rfl
theorem index_4 (i : grid0.Coords) : cc0_transform_4 k0_off1_inb numel1_S1 (tbl m) i = ![tailOf m (i 0), 0] := by
  rw [← at_3]; rfl

theorem colOf_lt (i : grid0.Coords) : colOf m i < 7 := by
  unfold colOf
  split
  · exact (i 1).isLt
  · decide

theorem one_of_three (w : BitVec 32) (h : w.toNat < 3) : w = 0#32 ∨ w = 1#32 ∨ w = 2#32 := by
  rw [← BitVec.toNat_inj, ← BitVec.toNat_inj, ← BitVec.toNat_inj]
  show w.toNat = 0 ∨ w.toNat = 1 ∨ w.toNat = 2
  omega

/-- Words below their bounds make good tables. -/
theorem good (h : ∀ n : Fin 72, (kindOf m n).toNat < 3 ∧ rowOf m n < 72 ∧ expertOf m n < 8 ∧ tailOf m n < 16) : Good m where
  ok := by
    unfold ok0
    refine ⟨fun i => ⟨?_, .inl rfl⟩, fun i => ⟨?_, .inr (Affine.block_words_dvd (of_decide_eq_true rfl) (by decide))⟩,
      fun i => ⟨?_, .inr (Affine.block_words_dvd (of_decide_eq_true rfl) (by decide))⟩,
      fun i => ⟨?_, .inr (Affine.block_words_dvd (of_decide_eq_true rfl) (by decide))⟩, fun i => ⟨?_, .inl rfl⟩⟩
    · rw [index_0]
      have := (h (i 0)).2.1
      intro a
      match a with
      | 0 => show (rowOf m (i 0) + 1) * 512 ≤ 36864; omega
      | 1 => show (0 + 1) * 2048 ≤ 2048; decide
    · rw [index_1]
      have := (h (i 0)).2.2.1
      have := colOf_lt m i
      intro a
      match a with
      | 0 => show (expertOf m (i 0) + 1) * 1 ≤ 8; omega
      | 1 => show (0 + 1) * 2048 ≤ 2048; decide
      | 2 => show (colOf m i + 1) * 1024 ≤ 7168; omega
    · rw [index_2]
      have := (h (i 0)).2.2.1
      have := colOf_lt m i
      intro a
      match a with
      | 0 => show (expertOf m (i 0) + 1) * 1 ≤ 8; omega
      | 1 => show (0 + 1) * 2048 ≤ 2048; decide
      | 2 => show (colOf m i + 1) * 1024 ≤ 7168; omega
    · rw [index_3]
      have := (h (i 0)).2.2.1
      have := colOf_lt m i
      intro a
      match a with
      | 0 => show (expertOf m (i 0) + 1) * 1 ≤ 8; omega
      | 1 => show (colOf m i + 1) * 1024 ≤ 7168; omega
      | 2 => show (0 + 1) * 2048 ≤ 2048; decide
    · rw [index_4]
      have := (h (i 0)).2.2.2
      intro a
      match a with
      | 0 => show (tailOf m (i 0) + 1) * 512 ≤ 8192; omega
      | 1 => show (0 + 1) * 2048 ≤ 2048; decide
  kinds c i := by
    rw [kind_eq]
    exact one_of_three _ (h (i 0)).1

end Cert.ExpertsIdeal.Hand

end
-- ==== Proof.ExpertFrames.lean ====
/-
  The experts' frames.
-/
module

public import proofs.«01_k».proof.Defs
public import proofs.«01_k».proof.Proof.Gen.ReferenceExpertsIdeal.Read
public import proofs.«01_k».proof.Proof.Gen.Pre_tables_in_range
public import proofs.«01_k».proof.Proof.ExpertsPre
public import proofs.«01_k».proof.Proof.ExpertsGood
public import proofs.«01_k».proof.Proof.ExpertsIdealGood

@[expose] public section

noncomputable section

namespace Cert.Proof

open Idealize.ShloMosaic Idealize.ShloMosaic.TcCoe

theorem good_pe (m) (h : Pre_Experts m) : Cert.Experts.Hand.Good m :=
  Cert.Experts.Hand.good m fun n => Cert.Pre_tables_in_range.bounds _ _ _ _ _ _ _ _ _ (h 0) n

theorem good_pei (m) (h : Pre_ExpertsIdeal m) : Cert.ExpertsIdeal.Hand.Good m :=
  Cert.ExpertsIdeal.Hand.good m fun n => Cert.Pre_tables_in_range.bounds _ _ _ _ _ _ _ _ _ (h 0) n

theorem frame_pe : quiescent_Experts := fun m g h => Cert.Experts.Hand.frame m g (good_pe m h)

theorem frame_pei : quiescent_ExpertsIdeal := fun m g h => Cert.ExpertsIdeal.Hand.frame m g (good_pei m h)

end Cert.Proof

end
-- ==== Proof.ExpertsSpec.lean ====
/-
  The routed experts as one function of the tables and the arrays: a row of a computed block is the
  SwiGLU of its source row under its block's expert, a row of a tail block is copied, any other row is zero.
-/
module

public import proofs.«01_k».proof.Proof.FfnSpec

@[expose] public section

noncomputable section

namespace Cert.Exps

open Idealize.ShloMosaic
open Cert.Ffw (swiglu unit sum_blocks)

/-- A table's word as an index below `n`. -/
def pick {n : ℕ} (hn : 0 < n) (w : BitVec 32) : Fin n := ⟨w.toNat % n, Nat.mod_lt _ hn⟩

theorem pick_val {n : ℕ} (hn : 0 < n) (w : BitVec 32) (h : w.toNat < n) : (pick hn w).val = w.toNat := Nat.mod_eq_of_lt h

/-- Row `r` of block `b` of an array of `n` blocks. -/
def row {n N : ℕ} (hN : N = n * 512) (b : Fin n) (r : Fin 512) : Fin N := ⟨b.val * 512 + r.val, by have := b.isLt; omega⟩

/-- A unit's place in its block of columns. -/
def tile (j : ℕ) (l : Fin 1024) : Fin 7168 := ⟨j % 7 * 1024 + l.val, by omega⟩

theorem sum_tiles (f : Fin 7168 → EReal) : ∑ k, f k = ∑ j ∈ Finset.range 7, ∑ l, f (tile j l) := by
  rw [Finset.sum_range]
  refine (sum_blocks (n := 7) (b := 1024) f).trans (Finset.sum_congr rfl fun j _ => Finset.sum_congr rfl fun l _ => congrArg f ?_)
  apply Fin.ext
  show l.val + 1024 * j.val = j.val % 7 * 1024 + l.val
  omega

variable (kinds xmap expert tmap : (⟨1, ![72]⟩ : Shape).Idx → BitVec 32) (x : (⟨2, ![36864, 2048]⟩ : Shape).Idx → EReal)
  (wg wu : (⟨3, ![8, 2048, 7168]⟩ : Shape).Idx → EReal) (wd : (⟨3, ![8, 7168, 2048]⟩ : Shape).Idx → EReal)
  (yt : (⟨2, ![8192, 2048]⟩ : Shape).Idx → EReal)

/-- Row block `n`'s source block, expert and tail block. -/
def src (n : Fin 72) : Fin 72 := pick (by omega) (xmap (ix1 n))
def who (n : Fin 72) : Fin 8 := pick (by omega) (expert (ix1 n))
def tail (n : Fin 72) : Fin 16 := pick (by omega) (tmap (ix1 n))

/-- The product of a row's unit `f` with column `d` of its expert's last matrix. -/
def term (n : Fin 72) (r : Fin 512) (d : Fin 2048) (f : Fin 7168) : EReal :=
  unit (fun k => x (ix2 (row (by decide) (src xmap n) r) k)) (fun k f => wg (ix3 (who expert n) k f)) (fun k f => wu (ix3 (who expert n) k f)) f
    * wd (ix3 (who expert n) f d)

/-- Entry `(r, d)` of row block `n` of the result. -/
def value (n : Fin 72) (r : Fin 512) (d : Fin 2048) : EReal :=
  if kinds (ix1 n) = 0#32 then ∑ f, term xmap expert x wg wu wd n r d f
  else if kinds (ix1 n) = 1#32 then yt (ix2 (row (by decide) (tail tmap n) r) d) else 0

end Cert.Exps

end
-- ==== Proof.ExpertsElem.lean ====
/-
  The payloads of the experts' body, read at an index.
-/
module

public import proofs.«01_k».proof.Proof.ExpertsIdealRun
public import proofs.«01_k».proof.Proof.ExpertsSpec

@[expose] public section

set_option maxRecDepth 16384

noncomputable section

namespace Cert.ExpertsIdeal.Hand

open Idealize.ShloMosaic Idealize.ShloMosaic.TcCoe Idealize.ShloMosaic.Tactic
open Cert.ExpertsIdeal Cert.ExpertsIdeal.Gen
open Cert.Ffw (silu unit swiglu)

variable (i : grid0.Coords) (x : Vec Ideal S512x2048 .f32) (wg wu : Vec Ideal S1x2048x1024 .bf16) (wd : Vec Ideal S1x1024x2048 .bf16)
  (a : Vec Ideal S512x2048 .f32)

/-- A point's product. -/
def prod : FVec Ideal S512x2048 .f32 := fun e =>
  swiglu (fun k => x (ix2 (e 0) k)) (fun k f => wg (ix3 0 k f)) (fun k f => wu (ix3 0 k f)) (fun f d => wd (ix3 0 f d)) (e 1)

theorem pay1_apply (e : S512x2048.Idx) : k0_pay1 (F := Ideal) e = 0 := Cert.Ffw.bits_zero

theorem pay2_first (hi : (i 1).val = 0) (r : Fin 512) (d : Fin 2048) :
    k0_pay2 (F := Ideal) i x wg wu a wd (ix2 r d) = prod x wg wu wd (ix2 r d) := by
  have hs : ∀ p q : FVec Ideal S512x2048 .f32, Scalar.select (Scalar.cmpi .eq (BitVec.ofNat 32 (i 1).val) 0#32) p q = p := by
    intro p q; rw [hi]; rfl
  simp only [k0_pay2, hs]
  pointwise
  simp only [zero_sub]
  rfl

theorem pay2_next (hi : (i 1).val ≠ 0) (r : Fin 512) (d : Fin 2048) :
    k0_pay2 (F := Ideal) i x wg wu a wd (ix2 r d) = a (ix2 r d) + prod x wg wu wd (ix2 r d) := by
  have hs : ∀ p q : FVec Ideal S512x2048 .f32, Scalar.select (Scalar.cmpi .eq (BitVec.ofNat 32 (i 1).val) 0#32) p q = q := by
    have hlt : (i 1).val < 7 := (i 1).isLt
    intro p q
    generalize (i 1).val = n at hi hlt
    interval_cases n <;> first | exact absurd rfl hi | rfl
  simp only [k0_pay2, hs]
  pointwise
  simp only [zero_sub]
  rfl

end Cert.ExpertsIdeal.Hand

end
-- ==== Proof.ExpertsKer.lean ====
/-
  The experts' result array after the run, read at an index.
-/
module

public import proofs.«01_k».proof.Proof.ExpertsIdealGood
public import proofs.«01_k».proof.Proof.ExpertsElem

@[expose] public section

set_option maxRecDepth 16384

noncomputable section

namespace Cert.ExpertsIdeal.Hand

open Idealize.ShloMosaic Idealize.ShloMosaic.TcCoe Idealize.ShloMosaic.Tactic
open Idealize.ShloMosaic.Pipeline (Dat)
open Cert.ExpertsIdeal Cert.ExpertsIdeal.Gen
open Cert.Ffw (unit swiglu)
open Cert.Exps (pick pick_val row tile src who tail term value)

variable (m : (ℓ : Loc nD τ sig) → Buf (Elt Ideal) ℓ) (hG : Good m) (c : Dev nD)

/-- Every word is below its bound. -/
def Below : Prop := ∀ n : Fin 72, (kindOf m n).toNat < 3 ∧ rowOf m n < 72 ∧ expertOf m n < 8 ∧ tailOf m n < 16

variable (hB : Below m)

theorem lt_N (t : Fin (cfgM m hG).N) : t.val < 504 := t.isLt.trans_eq N_0

/-- A point's row block. -/
abbrev rb (t : Fin (cfgM m hG).N) : Fin 72 := grid0.coords t 0

theorem rb_val (t : Fin (cfgM m hG).N) : (rb m hG t).val = t.val / 7 := by
  have := lt_N m hG t
  rw [coord_row]; omega

abbrev tblX : IVec S72 32 := m (((0 : Dev nD) : Thread nD τ).loc main_arg1)
abbrev tblE : IVec S72 32 := m (((0 : Dev nD) : Thread nD τ).loc main_arg2)
abbrev tblT : IVec S72 32 := m (((0 : Dev nD) : Thread nD τ).loc main_arg3)

include hB in
theorem src_val (n : Fin 72) : (src (tblX m) n).val = rowOf m n := by
  exact pick_val _ _ (hB n).2.1

include hB in
theorem who_val (n : Fin 72) : (who (tblE m) n).val = expertOf m n := by
  exact pick_val _ _ (hB n).2.2.1

include hB in
theorem tail_val (n : Fin 72) : (tail (tblT m) n).val = tailOf m n := by
  exact pick_val _ _ (hB n).2.2.2

section Emb

theorem ext2 {A B : ℕ} (u v : (⟨2, ![A, B]⟩ : Shape).Idx) (h0 : (u 0).val = (v 0).val) (h1 : (u 1).val = (v 1).val) : u = v :=
  funext fun a => Fin.ext (match a with | 0 => h0 | 1 => h1)

theorem ext3 {A B C : ℕ} (u v : (⟨3, ![A, B, C]⟩ : Shape).Idx) (h0 : (u 0).val = (v 0).val) (h1 : (u 1).val = (v 1).val)
    (h2 : (u 2).val = (v 2).val) : u = v :=
  funext fun a => Fin.ext (match a with | 0 => h0 | 1 => h1 | 2 => h2)

variable (t : Fin (cfgM m hG).N) (r : Fin 512) (k : Fin 2048) (l : Fin 1024)

include hB in
theorem emb0 : (((cfgM m hG).win 0).blk t).view.emb (ix2 r k : S512x2048.Idx) = (ix2 (row (by decide) (src (tblX m) (rb m hG t)) r) k : S36864x2048.Idx) := by
  refine ext2 (A := 36864) (B := 2048) _ _ ?_ ?_
  · show cc0_transform_0 k0_off1_inb numel1_S1 (tbl m) (grid0.coords t) 0 * 512 + 1 * r.val = (src (tblX m) (rb m hG t)).val * 512 + r.val
    rw [index_0, src_val m hB]
    show rowOf m (rb m hG t) * 512 + 1 * r.val = _
    omega
  · show cc0_transform_0 k0_off1_inb numel1_S1 (tbl m) (grid0.coords t) 1 * 2048 + 1 * k.val = k.val
    rw [index_0]
    show 0 * 2048 + 1 * k.val = _
    omega

theorem col_at (hk : kindOf m (rb m hG t) = 0#32) : colOf m (grid0.coords t) = t.val % 7 := by
  unfold colOf
  rw [if_pos hk, coord_col]

include hB in
theorem emb1 (hk : kindOf m (rb m hG t) = 0#32) : (((cfgM m hG).win 1).blk t).view.emb (ix3 0 k l : S1x2048x1024.Idx) = (ix3 (who (tblE m) (rb m hG t)) k (tile t.val l) : S8x2048x7168.Idx) := by
  refine ext3 (A := 8) (B := 2048) (C := 7168) _ _ ?_ ?_ ?_
  · show cc0_transform_1 k0_off1_inb numel1_S1 (tbl m) (grid0.coords t) 0 * 1 + 1 * 0 = (who (tblE m) (rb m hG t)).val
    rw [index_1, who_val m hB]
    show expertOf m (rb m hG t) * 1 + 1 * 0 = _
    omega
  · show cc0_transform_1 k0_off1_inb numel1_S1 (tbl m) (grid0.coords t) 1 * 2048 + 1 * k.val = k.val
    rw [index_1]
    show 0 * 2048 + 1 * k.val = _
    omega
  · show cc0_transform_1 k0_off1_inb numel1_S1 (tbl m) (grid0.coords t) 2 * 1024 + 1 * l.val = t.val % 7 * 1024 + l.val
    rw [index_1, ← col_at m hG t hk]
    show colOf m (grid0.coords t) * 1024 + 1 * l.val = _
    omega

include hB in
theorem emb2 (hk : kindOf m (rb m hG t) = 0#32) : (((cfgM m hG).win 2).blk t).view.emb (ix3 0 k l : S1x2048x1024.Idx) = (ix3 (who (tblE m) (rb m hG t)) k (tile t.val l) : S8x2048x7168.Idx) := by
  refine ext3 (A := 8) (B := 2048) (C := 7168) _ _ ?_ ?_ ?_
  · show cc0_transform_2 k0_off1_inb numel1_S1 (tbl m) (grid0.coords t) 0 * 1 + 1 * 0 = (who (tblE m) (rb m hG t)).val
    rw [index_2, who_val m hB]
    show expertOf m (rb m hG t) * 1 + 1 * 0 = _
    omega
  · show cc0_transform_2 k0_off1_inb numel1_S1 (tbl m) (grid0.coords t) 1 * 2048 + 1 * k.val = k.val
    rw [index_2]
    show 0 * 2048 + 1 * k.val = _
    omega
  · show cc0_transform_2 k0_off1_inb numel1_S1 (tbl m) (grid0.coords t) 2 * 1024 + 1 * l.val = t.val % 7 * 1024 + l.val
    rw [index_2, ← col_at m hG t hk]
    show colOf m (grid0.coords t) * 1024 + 1 * l.val = _
    omega

include hB in
theorem emb3 (hk : kindOf m (rb m hG t) = 0#32) : (((cfgM m hG).win 3).blk t).view.emb (ix3 0 l k : S1x1024x2048.Idx) = (ix3 (who (tblE m) (rb m hG t)) (tile t.val l) k : S8x7168x2048.Idx) := by
  refine ext3 (A := 8) (B := 7168) (C := 2048) _ _ ?_ ?_ ?_
  · show cc0_transform_3 k0_off1_inb numel1_S1 (tbl m) (grid0.coords t) 0 * 1 + 1 * 0 = (who (tblE m) (rb m hG t)).val
    rw [index_3, who_val m hB]
    show expertOf m (rb m hG t) * 1 + 1 * 0 = _
    omega
  · show cc0_transform_3 k0_off1_inb numel1_S1 (tbl m) (grid0.coords t) 1 * 1024 + 1 * l.val = t.val % 7 * 1024 + l.val
    rw [index_3, ← col_at m hG t hk]
    show colOf m (grid0.coords t) * 1024 + 1 * l.val = _
    omega
  · show cc0_transform_3 k0_off1_inb numel1_S1 (tbl m) (grid0.coords t) 2 * 2048 + 1 * k.val = k.val
    rw [index_3]
    show 0 * 2048 + 1 * k.val = _
    omega

include hB in
theorem emb4 : (((cfgM m hG).win 4).blk t).view.emb (ix2 r k : S512x2048.Idx) = (ix2 (row (by decide) (tail (tblT m) (rb m hG t)) r) k : S8192x2048.Idx) := by
  refine ext2 (A := 8192) (B := 2048) _ _ ?_ ?_
  · show cc0_transform_4 k0_off1_inb numel1_S1 (tbl m) (grid0.coords t) 0 * 512 + 1 * r.val = (tail (tblT m) (rb m hG t)).val * 512 + r.val
    rw [index_4, tail_val m hB]
    show tailOf m (rb m hG t) * 512 + 1 * r.val = _
    omega
  · show cc0_transform_4 k0_off1_inb numel1_S1 (tbl m) (grid0.coords t) 1 * 2048 + 1 * k.val = k.val
    rw [index_4]
    show 0 * 2048 + 1 * k.val = _
    omega

theorem word_of : ∀ n : Fin 72, (BitVec.ofNat 32 n.val).toNat = n.val := by decide

theorem emb5 : (((cfgM m hG).win 5).blk t).view.emb (ix2 r k : S512x2048.Idx) = (ix2 (row (by decide) (rb m hG t) r) k : S36864x2048.Idx) := by
  refine ext2 (A := 36864) (B := 2048) _ _ ?_ ?_
  · show (BitVec.ofNat 32 (rb m hG t).val).toNat * 512 + 1 * r.val = (rb m hG t).val * 512 + r.val
    rw [word_of]
    omega
  · show 0 * 2048 + 1 * k.val = k.val; omega

include hB in
theorem blk0 : (iblk m hG c 0 t : Vec Ideal S512x2048 .f32) (ix2 r k) = (m ((c : Thread nD τ).loc main_arg4) : FVec Ideal S36864x2048 .f32) (ix2 (row (by decide) (src (tblX m) (rb m hG t)) r) k) := by
  show (V m c main_arg4 : FVec Ideal S36864x2048 .f32) ((((cfgM m hG).win 0).blk t).view.emb (ix2 r k)) = _
  rw [emb0 m hG hB]
  try rfl

include hB in
theorem blk1 (hk : kindOf m (rb m hG t) = 0#32) : (iblk m hG c 1 t : Vec Ideal S1x2048x1024 .bf16) (ix3 0 k l) = (m ((c : Thread nD τ).loc main_arg5) : FVec Ideal S8x2048x7168 .bf16) (ix3 (who (tblE m) (rb m hG t)) k (tile t.val l)) := by
  show (V m c main_arg5 : FVec Ideal S8x2048x7168 .bf16) ((((cfgM m hG).win 1).blk t).view.emb (ix3 0 k l)) = _
  rw [emb1 m hG hB t k l hk]
  try rfl

include hB in
theorem blk2 (hk : kindOf m (rb m hG t) = 0#32) : (iblk m hG c 2 t : Vec Ideal S1x2048x1024 .bf16) (ix3 0 k l) = (m ((c : Thread nD τ).loc main_arg6) : FVec Ideal S8x2048x7168 .bf16) (ix3 (who (tblE m) (rb m hG t)) k (tile t.val l)) := by
  show (V m c main_arg6 : FVec Ideal S8x2048x7168 .bf16) ((((cfgM m hG).win 2).blk t).view.emb (ix3 0 k l)) = _
  rw [emb2 m hG hB t k l hk]
  try rfl

include hB in
theorem blk3 (hk : kindOf m (rb m hG t) = 0#32) : (iblk m hG c 3 t : Vec Ideal S1x1024x2048 .bf16) (ix3 0 l k) = (m ((c : Thread nD τ).loc main_arg7) : FVec Ideal S8x7168x2048 .bf16) (ix3 (who (tblE m) (rb m hG t)) (tile t.val l) k) := by
  show (V m c main_arg7 : FVec Ideal S8x7168x2048 .bf16) ((((cfgM m hG).win 3).blk t).view.emb (ix3 0 l k)) = _
  rw [emb3 m hG hB t k l hk]
  try rfl

include hB in
theorem blk4 : (iblk m hG c 4 t : Vec Ideal S512x2048 .f32) (ix2 r k) = (m ((c : Thread nD τ).loc main_arg8) : FVec Ideal S8192x2048 .f32) (ix2 (row (by decide) (tail (tblT m) (rb m hG t)) r) k) := by
  show (V m c main_arg8 : FVec Ideal S8192x2048 .f32) ((((cfgM m hG).win 4).blk t).view.emb (ix2 r k)) = _
  rw [emb4 m hG hB]
  try rfl

end Emb

/-- A row's products, of the launched arguments. -/
abbrev termOf (n : Fin 72) (r : Fin 512) (d : Fin 2048) : Fin 7168 → EReal :=
  term (tblX m) (tblE m) (m ((c : Thread nD τ).loc main_arg4)) (m ((c : Thread nD τ).loc main_arg5)) (m ((c : Thread nD τ).loc main_arg6))
    (m ((c : Thread nD τ).loc main_arg7)) n r d

include hB in
theorem prod_blk (t : Fin (cfgM m hG).N) (hk : kindOf m (rb m hG t) = 0#32) (r : Fin 512) (d : Fin 2048) :
    prod (iblk m hG c 0 t) (iblk m hG c 1 t) (iblk m hG c 2 t) (iblk m hG c 3 t) (ix2 r d) = ∑ l, termOf m c (rb m hG t) r d (tile t.val l) := by
  show swiglu (fun k => (iblk m hG c 0 t : Vec Ideal S512x2048 .f32) (ix2 r k)) (fun k f => (iblk m hG c 1 t : Vec Ideal S1x2048x1024 .bf16) (ix3 0 k f))
    (fun k f => (iblk m hG c 2 t : Vec Ideal S1x2048x1024 .bf16) (ix3 0 k f)) (fun f d => (iblk m hG c 3 t : Vec Ideal S1x1024x2048 .bf16) (ix3 0 f d)) d = _
  simp only [blk0 m hG c hB, blk1 m hG c hB _ _ _ hk, blk2 m hG c hB _ _ _ hk, blk3 m hG c hB _ _ _ hk]
  rfl

section Kinds

variable (t : Fin (cfgM m hG).N) (d : Vec Ideal S512x2048 .f32)

/-- What a point leaves, kind by kind. -/
theorem grow_zero (hk : kindOf m (rb m hG t) = 0#32) :
    grow m hG c t d = k0_pay2 (grid0.coords t) (iblk m hG c 0 t) (iblk m hG c 1 t) (iblk m hG c 2 t) d (iblk m hG c 3 t) := by
  unfold grow leaves
  rw [kind_eq, if_neg (fun h => absurd (hk.symm.trans ((cond1_iff _ _).mp h).1) (by decide)),
    if_neg (fun h => absurd (hk.symm.trans ((cond2_iff _ _).mp h).1) (by decide)), if_pos ((cond3_iff _).mpr hk)]

theorem grow_one_first (hk : kindOf m (rb m hG t) = 1#32) (h0 : t.val % 7 = 0) : grow m hG c t d = iblk m hG c 4 t := by
  unfold grow leaves
  rw [kind_eq, if_neg (fun h => absurd (hk.symm.trans ((cond1_iff _ _).mp h).1) (by decide)),
    if_pos ((cond2_iff _ _).mpr ⟨hk, (coord_col m hG t).trans h0⟩)]

theorem grow_two_first (hk : kindOf m (rb m hG t) = 2#32) (h0 : t.val % 7 = 0) : grow m hG c t d = k0_pay1 (F := Ideal) := by
  unfold grow leaves
  rw [kind_eq, if_pos ((cond1_iff _ _).mpr ⟨hk, (coord_col m hG t).trans h0⟩)]

theorem grow_rest (hk : kindOf m (rb m hG t) ≠ 0#32) (h0 : t.val % 7 ≠ 0) : grow m hG c t d = d := by
  unfold grow leaves
  rw [kind_eq, if_neg (fun h => h0 ((coord_col m hG t).symm.trans ((cond1_iff _ _).mp h).2)),
    if_neg (fun h => h0 ((coord_col m hG t).symm.trans ((cond2_iff _ _).mp h).2)), if_neg (fun h => hk ((cond3_iff _).mp h))]

end Kinds

/-- The point before, in the same row block. -/
theorem rb_prev (t : Fin (cfgM m hG).N) (h0 : t.val % 7 ≠ 0) (hlt : t.val - 1 < (cfgM m hG).N) : rb m hG ⟨t.val - 1, hlt⟩ = rb m hG t := by
  apply Fin.ext
  rw [rb_val, rb_val]
  show (t.val - 1) / 7 = t.val / 7
  omega

include hB in
/-- After point `j` of a computed row block, the partial sum. -/
theorem held_zero (j : ℕ) (hj : j < 7) : ∀ (t : Fin (cfgM m hG).N), t.val % 7 = j → kindOf m (rb m hG t) = 0#32 → ∀ (r : Fin 512) (d : Fin 2048),
    held m hG c t.val t.isLt (ix2 r d) = ∑ j' ∈ Finset.range (j + 1), ∑ l, termOf m c (rb m hG t) r d (tile j' l) := by
  have ht' : ∀ (t : Fin (cfgM m hG).N) (j : ℕ), t.val % 7 = j → ∀ l, tile t.val l = tile j l := fun t j e l => by
    apply Fin.ext; show t.val % 7 * 1024 + l.val = j % 7 * 1024 + l.val; omega
  induction j with
  | zero =>
    intro t ht hk r d
    rw [held_first m hG c t ht (fun _ => (0 : EReal)), grow_zero m hG c t _ hk, pay2_first _ _ _ _ _ _ (by rw [coord_col, ht]), prod_blk m hG c hB t hk]
    simp only [ht' t 0 ht, zero_add, Finset.sum_range_one]
  | succ j ih =>
    intro t ht hk r d
    have hlt : t.val - 1 < (cfgM m hG).N := Nat.lt_of_le_of_lt (Nat.sub_le _ _) t.isLt
    have er := rb_prev m hG t (by omega) hlt
    rw [held_next m hG c t (by omega), grow_zero m hG c t _ hk, pay2_next _ _ _ _ _ _ (by rw [coord_col]; omega), prod_blk m hG c hB t hk,
      ih (by omega) ⟨t.val - 1, hlt⟩ (by show (t.val - 1) % 7 = j; omega) (er ▸ hk) r d, er, Finset.sum_range_succ _ (j + 1)]
    simp only [ht' t (j + 1) ht]

/-- The first point of a point's row block. -/
def firstOf (t : Fin (cfgM m hG).N) : Fin (cfgM m hG).N := ⟨t.val / 7 * 7, Nat.lt_of_le_of_lt (Nat.div_mul_le_self _ _) t.isLt⟩

theorem firstOf_mod (t : Fin (cfgM m hG).N) : (firstOf m hG t).val % 7 = 0 := Nat.mul_mod_left _ _

theorem rb_firstOf (t : Fin (cfgM m hG).N) : rb m hG (firstOf m hG t) = rb m hG t := by
  apply Fin.ext
  rw [rb_val, rb_val]
  show t.val / 7 * 7 / 7 = t.val / 7
  omega

/-- An uncomputed row block holds from its first point on what that left. -/
theorem held_rest (j : ℕ) (hj : j < 7) : ∀ (t : Fin (cfgM m hG).N), t.val % 7 = j → kindOf m (rb m hG t) ≠ 0#32 →
    held m hG c t.val t.isLt = grow m hG c (firstOf m hG t) (k0_pay1 (F := Ideal)) := by
  induction j with
  | zero =>
    intro t ht hk
    have e : firstOf m hG t = t := Fin.ext (show t.val / 7 * 7 = t.val by omega)
    rw [e]
    exact held_first m hG c t ht (k0_pay1 (F := Ideal))
  | succ j ih =>
    intro t ht hk
    have hlt : t.val - 1 < (cfgM m hG).N := Nat.lt_of_le_of_lt (Nat.sub_le _ _) t.isLt
    have er := rb_prev m hG t (by omega) hlt
    have ef : firstOf m hG ⟨t.val - 1, hlt⟩ = firstOf m hG t := Fin.ext (show (t.val - 1) / 7 * 7 = t.val / 7 * 7 by omega)
    rw [held_next m hG c t (by omega), grow_rest m hG c t _ hk (by omega), ← ef]
    exact ih (by omega) ⟨t.val - 1, hlt⟩ (by show (t.val - 1) % 7 = j; omega) (er ▸ hk)

/-- The result, of the launched arguments. -/
abbrev valueOf (n : Fin 72) (r : Fin 512) (d : Fin 2048) : EReal :=
  value (m (((0 : Dev nD) : Thread nD τ).loc main_arg0)) (tblX m) (tblE m) (tblT m) (m ((c : Thread nD τ).loc main_arg4)) (m ((c : Thread nD τ).loc main_arg5))
    (m ((c : Thread nD τ).loc main_arg6)) (m ((c : Thread nD τ).loc main_arg7)) (m ((c : Thread nD τ).loc main_arg8)) n r d

theorem kindOf_eq (n : Fin 72) : kindOf m n = (m (((0 : Dev nD) : Thread nD τ).loc main_arg0) : IVec S72 32) (ix1 n) := by
  rfl

include hB in
theorem held_last (t : Fin (cfgM m hG).N) (ht : t.val % 7 = 6) (r : Fin 512) (d : Fin 2048) :
    held m hG c t.val t.isLt (ix2 r d) = valueOf m c (rb m hG t) r d := by
  unfold valueOf value
  rw [← kindOf_eq m]
  rcases one_of_three _ (hB (rb m hG t)).1 with hk | hk | hk
  · rw [if_pos hk, held_zero m hG c hB 6 (by omega) t ht hk r d, Cert.Exps.sum_tiles]
  · rw [if_neg (by rw [hk]; decide), if_pos hk, held_rest m hG c 6 (by omega) t ht (by rw [hk]; decide),
      grow_one_first m hG c _ _ (by rw [rb_firstOf]; exact hk) (firstOf_mod m hG t), blk4 m hG c hB, rb_firstOf]
  · rw [if_neg (by rw [hk]; decide), if_neg (by rw [hk]; decide), held_rest m hG c 6 (by omega) t ht (by rw [hk]; decide),
      grow_two_first m hG c _ _ (by rw [rb_firstOf]; exact hk) (firstOf_mod m hG t), pay1_apply]

/-- An array's row, as a block and a row there. -/
def blockOf (r : Fin 36864) : Fin 72 := ⟨r.val / 512, by omega⟩
def placeOf (r : Fin 36864) : Fin 512 := ⟨r.val % 512, by omega⟩

/-- The result array, index by index. -/
def outArr : FVec Ideal S36864x2048 .f32 := fun y => valueOf m c (blockOf (y 0)) (placeOf (y 0)) (y 1)

theorem outArr_row (n : Fin 72) (r : Fin 512) (d : Fin 2048) : outArr m c (ix2 (row (by decide) n r) d) = valueOf m c n r d := by
  show valueOf m c (blockOf (row (by decide) n r)) (placeOf (row (by decide) n r)) d = _
  rw [show blockOf (row (by decide) n r) = n from Fin.ext (show (n.val * 512 + r.val) / 512 = n.val by omega),
    show placeOf (row (by decide) n r) = r from Fin.ext (show (n.val * 512 + r.val) % 512 = r.val by omega)]

theorem split_idx (j : S512x2048.Idx) : ∃ (r : Fin 512) (d : Fin 2048), j = ix2 r d := by
  refine ⟨j 0, j 1, ?_⟩
  funext a
  match a with
  | 0 => rfl
  | 1 => rfl

include hB in
theorem flushed5_eq (t : Fin (cfgM m hG).N) (ht : t.val % 7 = 6) :
    (dats m hG 0 c).flushed 5 t = (((cfgM m hG).win 5).blk t).view.read (Elt Ideal) (outArr m c) := by
  show ((cfgM m hG).win 5).cut (grid0.coords t) ((dats m hG 0 c).after 5 t) = _
  rw [after_5]
  funext j
  obtain ⟨r, d, rfl⟩ := split_idx j
  exact (held_last m hG c hB t ht r d).trans ((outArr_row m c _ r d).symm.trans (congrArg (outArr m c) (emb5 m hG t r d).symm))

/-- The point that writes a row back. -/
def pointOf (y : S36864x2048.Idx) : Fin (cfgM m hG).N :=
  ⟨(y 0).val / 512 * 7 + 6, lt_of_lt_of_eq (by have h0 : (y 0).val < 36864 := (y 0).isLt; omega : _ < 504) N_0.symm⟩

theorem pointOf_last (y : S36864x2048.Idx) : (pointOf m hG y).val % 7 = 6 := by
  show ((y 0).val / 512 * 7 + 6) % 7 = 6
  omega

theorem row_pointOf (y : S36864x2048.Idx) : (ix2 (row (by decide) (rb m hG (pointOf m hG y)) (placeOf (y 0))) (y 1) : S36864x2048.Idx) = y := by
  funext a
  apply Fin.ext
  match a with
  | 0 =>
    show (rb m hG (pointOf m hG y)).val * 512 + (y 0).val % 512 = (y 0).val
    rw [rb_val]
    show ((y 0).val / 512 * 7 + 6) / 7 * 512 + (y 0).val % 512 = (y 0).val
    omega
  | 1 => rfl

theorem covered5 (y : S36864x2048.Idx) : ∃ t : Fin (cfgM m hG).N, ((cfgM m hG).win 5).flush t = true ∧ y ∈ (((cfgM m hG).win 5).blk t).view.set := by
  refine ⟨pointOf m hG y, (flush5 m hG _).mpr (pointOf_last m hG y), ?_⟩
  have h := (((cfgM m hG).win 5).blk (pointOf m hG y)).view.emb_mem_set (ix2 (placeOf (y 0)) (y 1))
  rw [emb5 m hG (pointOf m hG y) (placeOf (y 0)) (y 1), row_pointOf] at h
  exact h

include hB in
/-- The result array after the run. -/
theorem final5 : (dats m hG 0 c).arrAt 5 (cfgM m hG).N = outArr m c :=
  (dats m hG 0 c).arrAt_eq_of_cover 5 _ (fun t ht => flushed5_eq m hG c hB t ((flush5 m hG t).mp ht)) (covered5 m hG)

end Cert.ExpertsIdeal.Hand

end
-- ==== Proof.ExpertsGather.lean ====
/-
  Whole blocks taken out of an array by a table of block numbers, read at an index.
-/
module

public import Idealize.ShloMosaic.Lib.ValueIdxCore
public import Idealize.ShloMosaic.Lib.Pointwise

@[expose] public section

noncomputable section

namespace Cert.Exps

open Idealize.ShloMosaic

variable {α : Type} {n R p q w : ℕ}

/-- The dimension numbers of `x[idx]` for blocks `[p, q]` of `x : [n, p, q]`. -/
abbrev blockDims (n R p q : ℕ)
    (wf : GatherDims.WF ⟨3, ![n, p, q]⟩ ⟨2, ![R, 1]⟩ ⟨3, ![R, p, q]⟩ [1, 2] [0] [] [0] [] 1 ![1, p, q]) :
    GatherDims ⟨3, ![n, p, q]⟩ ⟨2, ![R, 1]⟩ ⟨3, ![R, p, q]⟩ where
  offsetDims := [1, 2]
  collapsedSliceDims := [0]
  operandBatchingDims := []
  startIndicesBatchingDims := []
  startIndexMap := [0]
  indexVectorDim := 1
  sliceSizes := ![1, p, q]
  wf := wf

/-- Entry `(b, r, k)` of the blocks taken: block `idx[b, 0]`, read signed and clamped, at `(r, k)`. -/
theorem gather_blocks (hn : 0 < n)
    (wf : GatherDims.WF ⟨3, ![n, p, q]⟩ ⟨2, ![R, 1]⟩ ⟨3, ![R, p, q]⟩ [1, 2] [0] [] [0] [] 1 ![1, p, q])
    (x : (⟨3, ![n, p, q]⟩ : Shape).Idx → α) (idx : IVec ⟨2, ![R, 1]⟩ w) (b : Fin R) (r : Fin p) (k : Fin q) :
    Host.gather (blockDims n R p q wf) x idx (ix3 b r k)
      = x (ix3 ⟨min (idx (ix2 b 0)).toInt.toNat (n - 1), by omega⟩ r k) := by
  unfold Host.gather
  refine congrArg x (funext fun a => Fin.ext ?_)
  have h0 : (0 : Fin 3) ∈ (blockDims n R p q wf).startIndexMap := List.mem_singleton.mpr rfl
  show (blockDims n R p q wf).start (ix3 b r k) idx a + (blockDims n R p q wf).batchCoord (ix3 b r k) a
    + (blockDims n R p q wf).offCoord (ix3 b r k) a = _
  rw [GatherDims.batchCoord_eq_zero _ _ _ List.not_mem_nil]
  match a with
  | ⟨0, _⟩ =>
    have hs : (blockDims n R p q wf).start (ix3 b r k) idx (0 : Fin 3) = min (idx (ix2 b 0)).toInt.toNat (n - 1) := by
      refine (dif_pos h0).trans ?_
      have hsi : (blockDims n R p q wf).siIdx (ix3 b r k) ⟨List.idxOf (0 : Fin 3) (blockDims n R p q wf).startIndexMap,
          List.idxOf_lt_length_iff.2 h0⟩ = ix2 b 0 := by
        funext b'; refine Fin.ext ?_
        match b' with
        | ⟨0, _⟩ => rfl
        | ⟨1, _⟩ => rfl
      rw [hsi]
      rfl
    have ho : (blockDims n R p q wf).offCoord (ix3 b r k) (0 : Fin 3) = 0 :=
      GatherDims.offCoord_eq_zero _ _ _ (fun h => ((GatherDims.mem_sKept _ _).mp h).1 (List.mem_singleton.mpr rfl))
    exact (congrArg₂ (fun s o => s + 0 + o) hs ho).trans rfl
  | ⟨1, _⟩ =>
    have hs : (blockDims n R p q wf).start (ix3 b r k) idx (1 : Fin 3) = 0 := dif_neg (by decide : (1 : Fin 3) ∉ [(0 : Fin 3)])
    exact (congrArg (fun s => s + 0 + (blockDims n R p q wf).offCoord (ix3 b r k) (1 : Fin 3)) hs).trans ((Nat.zero_add _).trans rfl)
  | ⟨2, _⟩ =>
    have hs : (blockDims n R p q wf).start (ix3 b r k) idx (2 : Fin 3) = 0 := dif_neg (by decide : (2 : Fin 3) ∉ [(0 : Fin 3)])
    exact (congrArg (fun s => s + 0 + (blockDims n R p q wf).offCoord (ix3 b r k) (2 : Fin 3)) hs).trans ((Nat.zero_add _).trans rfl)

end Cert.Exps

end
-- ==== Proof.ExpertsRef.lean ====
/-
  The reference experts' result read at an index.
-/
module

public import proofs.«01_k».proof.Proof.Gen.ReferenceExpertsIdeal.Read
public import proofs.«01_k».proof.Proof.Consts
public import proofs.«01_k».proof.Proof.ExpertsSpec
public import proofs.«01_k».proof.Proof.ExpertsGather

@[expose] public section

set_option maxRecDepth 16384

noncomputable section

namespace Cert.ReferenceExpertsIdeal.Hand

open Idealize.ShloMosaic Idealize.ShloMosaic.TcCoe
open Cert.ReferenceExpertsIdeal Cert.ReferenceExpertsIdeal.Gen Cert.ReferenceExpertsIdeal.Read
open Cert.Ffw (silu unit)
open Cert.Exps (pick pick_val row src who tail term value gather_blocks)

/-- A word below `2 ^ 31` is its own signed reading. -/
theorem toInt_small (w : BitVec 32) (h : w.toNat < 2 ^ 31) : w.toInt = w.toNat := by
  have ew := BitVec.toInt_eq_toNat_cond w
  split at ew <;> omega

/-- An index below its bound is kept where a negative one would be wrapped. -/
theorem wrap_small (w k : BitVec 32) (h : w.toNat < 2 ^ 31) : Scalar.select (IntOp.cmpi .slt w 0#32) (IntOp.addi w k) w = w := by
  have hs : w.slt 0#32 = false := by
    have e := toInt_small w h
    have e0 : (0#32).toInt = 0 := by decide
    rw [BitVec.slt, e, e0]
    exact decide_eq_false (by omega)
  show (if BitVec.ofBool (w.slt 0#32) = 1#1 then _ else w) = w
  rw [hs]
  rfl

theorem clamp_small {n : ℕ} (hn : 0 < n) (w : BitVec 32) (h : w.toNat < n) (h' : w.toNat < 2 ^ 31) (q : min w.toInt.toNat (n - 1) < n) :
    (⟨min w.toInt.toNat (n - 1), q⟩ : Fin n) = pick hn w := by
  apply Fin.ext
  rw [pick_val hn w h]
  show min w.toInt.toNat (n - 1) = w.toNat
  rw [toInt_small w h', Int.toNat_natCast]
  omega

variable (x0 x1 x2 x3 : IVec S72 32) (x4 : FVec Ideal S36864x2048 .f32) (x5 x6 : FVec Ideal S8x2048x7168 .bf16)
  (x7 : FVec Ideal S8x7168x2048 .bf16) (x8 : FVec Ideal S8192x2048 .f32)

variable (hB : ∀ n : Fin 72, (x0 (ix1 n)).toNat < 3 ∧ (x1 (ix1 n)).toNat < 72 ∧ (x2 (ix1 n)).toNat < 8 ∧ (x3 (ix1 n)).toNat < 16)

section Gathers

variable (n : Fin 72) (r : Fin 512) (k d : Fin 2048) (f : Fin 7168)

include hB

theorem word6 : val_main_v6 (F := Ideal) x1 (ix2 n 0) = x1 (ix1 n) := by
  rw [val_main_v6_apply, show idx_main_v6 (ix2 n 0) = ix1 n from funext fun a => match a with | 0 => rfl, val_main_v5_apply,
    val_main_v2_apply, val_main_v4_apply, val_main_v1_apply, val_main_v3_apply]
  exact wrap_small _ _ (by have := (hB n).2.1; omega)

theorem word14 : val_main_v14 (F := Ideal) x2 (ix2 n 0) = x2 (ix1 n) := by
  rw [val_main_v14_apply, show idx_main_v14 (ix2 n 0) = ix1 n from funext fun a => match a with | 0 => rfl, val_main_v13_apply,
    val_main_v10_apply, val_main_v12_apply, val_main_v9_apply, val_main_v11_apply]
  exact wrap_small _ _ (by have := (hB n).2.2.1; omega)

theorem word22 : val_main_v22 (F := Ideal) x2 (ix2 n 0) = x2 (ix1 n) := word14 x0 x1 x2 x3 hB n

theorem word30 : val_main_v30 (F := Ideal) x2 (ix2 n 0) = x2 (ix1 n) := word14 x0 x1 x2 x3 hB n

theorem word48 : val_main_v48 (F := Ideal) x3 (ix2 n 0) = x3 (ix1 n) := by
  rw [val_main_v48_apply, show idx_main_v48 (ix2 n 0) = ix1 n from funext fun a => match a with | 0 => rfl, val_main_v47_apply,
    val_main_v44_apply, val_main_v46_apply, val_main_v43_apply, val_main_v45_apply]
  exact wrap_small _ _ (by have := (hB n).2.2.2; omega)

theorem rows_apply : val_main_v7 (F := Ideal) x1 x4 (ix3 n r k) = x4 (ix2 (row (by decide) (src x1 n) r) k) := by
  refine (gather_blocks (by omega) gather_S72x512x2048_S72x1_S72x512x2048_12_0_n_n_0_1_15122048_wf _ _ n r k).trans ?_
  simp only [word6 x0 x1 x2 x3 hB n]
  rw [clamp_small (by omega) _ (hB n).2.1 (by have := (hB n).2.1; omega), val_main_v0_apply]
  refine congrArg x4 (funext fun a => Fin.ext ?_)
  match a with
  | 0 => show (((src x1 n).val * 512 + r.val) * 2048 + k.val) / 2048 = (src x1 n).val * 512 + r.val; omega
  | 1 => show (((src x1 n).val * 512 + r.val) * 2048 + k.val) % 2048 = k.val; omega

theorem gates_apply : val_main_v15 (F := Ideal) x2 x5 (ix3 n k f) = x5 (ix3 (who x2 n) k f) := by
  refine (gather_blocks (by omega) gather_S8x2048x7168_S72x1_S72x2048x7168_12_0_n_n_0_1_120487168_wf _ _ n k f).trans ?_
  simp only [word14 x0 x1 x2 x3 hB n]
  rw [clamp_small (by omega) _ (hB n).2.2.1 (by have := (hB n).2.2.1; omega), val_main_v8_apply]
  rfl

theorem ups_apply : val_main_v23 (F := Ideal) x2 x6 (ix3 n k f) = x6 (ix3 (who x2 n) k f) := gates_apply x0 x1 x2 x3 x6 hB n k f

theorem downs_apply : val_main_v31 (F := Ideal) x2 x7 (ix3 n f d) = x7 (ix3 (who x2 n) f d) := by
  refine (gather_blocks (by omega) gather_S8x7168x2048_S72x1_S72x7168x2048_12_0_n_n_0_1_171682048_wf _ _ n f d).trans ?_
  simp only [word30 x0 x1 x2 x3 hB n]
  rw [clamp_small (by omega) _ (hB n).2.2.1 (by have := (hB n).2.2.1; omega), val_main_v24_apply]
  rfl

theorem tails_apply : val_main_v49 (F := Ideal) x3 x8 (ix3 n r d) = x8 (ix2 (row (by decide) (tail x3 n) r) d) := by
  refine (gather_blocks (by omega) gather_S16x512x2048_S72x1_S72x512x2048_12_0_n_n_0_1_15122048_wf _ _ n r d).trans ?_
  simp only [word48 x0 x1 x2 x3 hB n]
  rw [clamp_small (by omega) _ (hB n).2.2.2 (by have := (hB n).2.2.2; omega), val_main_v42_apply]
  refine congrArg x8 (funext fun a => Fin.ext ?_)
  match a with
  | 0 => show (((tail x3 n).val * 512 + r.val) * 2048 + d.val) / 2048 = (tail x3 n).val * 512 + r.val; omega
  | 1 => show (((tail x3 n).val * 512 + r.val) * 2048 + d.val) % 2048 = d.val; omega

theorem gate_apply : val_main_v32 (F := Ideal) x1 x2 x4 x5 (ix3 n r f)
    = ∑ k, x4 (ix2 (row (by decide) (src x1 n) r) k) * x5 (ix3 (who x2 n) k f) := by
  rw [val_main_v32_apply]
  refine Finset.sum_congr rfl fun k _ => ?_
  rw [show lidx_main_v32 (ix3 n r f) k = ix3 n r k from funext fun a => match a with | 0 => rfl | 1 => rfl | 2 => rfl,
    show ridx_main_v32 (ix3 n r f) k = ix3 n k f from funext fun a => match a with | 0 => rfl | 1 => rfl | 2 => rfl,
    rows_apply x0 x1 x2 x3 x4 hB, gates_apply x0 x1 x2 x3 x5 hB]

theorem up_apply : val_main_v34 (F := Ideal) x1 x2 x4 x6 (ix3 n r f)
    = ∑ k, x4 (ix2 (row (by decide) (src x1 n) r) k) * x6 (ix3 (who x2 n) k f) := by
  rw [val_main_v34_apply]
  refine Finset.sum_congr rfl fun k _ => ?_
  rw [show lidx_main_v34 (ix3 n r f) k = ix3 n r k from funext fun a => match a with | 0 => rfl | 1 => rfl | 2 => rfl,
    show ridx_main_v34 (ix3 n r f) k = ix3 n k f from funext fun a => match a with | 0 => rfl | 1 => rfl | 2 => rfl,
    rows_apply x0 x1 x2 x3 x4 hB, ups_apply x0 x1 x2 x3 x6 hB]

theorem unit_apply : val_main_v35 (F := Ideal) x1 x2 x4 x5 x6 (ix3 n r f)
    = unit (fun k => x4 (ix2 (row (by decide) (src x1 n) r) k)) (fun k f => x5 (ix3 (who x2 n) k f)) (fun k f => x6 (ix3 (who x2 n) k f)) f := by
  rw [val_main_v35_apply, val_main_v33_apply, val_main_call0_v5_apply, val_main_call0_v4_apply, val_main_call0_cst_0_apply,
    val_main_call0_v3_apply, val_main_call0_v2_apply, val_main_call0_cst_apply, val_main_call0_v1_apply, val_main_call0_v0_apply,
    gate_apply x0 x1 x2 x3 x4 x5 hB, up_apply x0 x1 x2 x3 x4 x6 hB]
  show (∑ k, x4 (ix2 (row (by decide) (src x1 n) r) k) * x5 (ix3 (who x2 n) k f)) * Ideal.div (Ideal.ofBits .f32 0x3F800000#32)
    (Ideal.ofBits .f32 0x3F800000#32 + Ideal.exp (-∑ k, x4 (ix2 (row (by decide) (src x1 n) r) k) * x5 (ix3 (who x2 n) k f)))
    * (∑ k, x4 (ix2 (row (by decide) (src x1 n) r) k) * x6 (ix3 (who x2 n) k f)) = _
  rw [Cert.KernelIdeal.Att.ofBits_one]
  rfl

theorem swiglu_apply : val_main_v36 (F := Ideal) x1 x2 x4 x5 x6 x7 (ix3 n r d) = ∑ f, term x1 x2 x4 x5 x6 x7 n r d f := by
  rw [val_main_v36_apply]
  refine Finset.sum_congr rfl fun f _ => ?_
  rw [show lidx_main_v36 (ix3 n r d) f = ix3 n r f from funext fun a => match a with | 0 => rfl | 1 => rfl | 2 => rfl,
    show ridx_main_v36 (ix3 n r d) f = ix3 n f d from funext fun a => match a with | 0 => rfl | 1 => rfl | 2 => rfl,
    unit_apply x0 x1 x2 x3 x4 x5 x6 hB, downs_apply x0 x1 x2 x3 x7 hB]
  rfl

end Gathers

section Kinds

variable (n : Fin 72) (r : Fin 512) (d : Fin 2048)

theorem select_eq {α : Type} (w k : BitVec 32) (a b : α) : Scalar.select (IntOp.cmpi .eq w k) a b = if w = k then a else b := by
  by_cases h : w = k
  · subst h
    rw [if_pos rfl]
    show (if BitVec.ofBool (w == w) = 1#1 then a else b) = a
    rw [beq_self_eq_true]
    rfl
  · rw [if_neg h]
    show (if BitVec.ofBool (w == k) = 1#1 then a else b) = b
    rw [beq_eq_false_iff_ne.mpr h]
    rfl

include hB in
theorem block_apply : val_main_v51 (F := Ideal) x0 x1 x2 x3 x4 x5 x6 x7 x8 (ix3 n r d) = value x0 x1 x2 x3 x4 x5 x6 x7 x8 n r d := by
  rw [val_main_v51_apply, val_main_v50_apply, val_main_call2_v0_apply, val_main_call1_v1_apply, val_main_v39_apply, val_main_v41_apply,
    val_main_v37_apply, val_main_v38_apply, val_main_v40_apply, select_eq, select_eq,
    swiglu_apply x0 x1 x2 x3 x4 x5 x6 x7 hB, tails_apply x0 x1 x2 x3 x8 hB, val_main_call1_v2_apply, val_main_call1_v0_apply]
  have e0 : val_main_cst (F := Ideal) (idx_main_call1_v2 (ix3 n r d)) = (0 : EReal) := Cert.Ffw.bits_zero
  rw [e0, show idx_main_v37 (idx_main_call2_v0 (ix3 n r d)) = ix1 n from funext fun a => match a with | 0 => rfl]
  rfl

end Kinds

include hB in
/-- Row `i` of the result is row `i % 512` of block `i / 512`. -/
theorem result (i : Fin 36864) (d : Fin 2048) :
    val_main_v52 (F := Ideal) x0 x1 x2 x3 x4 x5 x6 x7 x8 (ix2 i d)
      = value x0 x1 x2 x3 x4 x5 x6 x7 x8 ⟨i.val / 512, by omega⟩ ⟨i.val % 512, by omega⟩ d := by
  rw [val_main_v52_apply, ← block_apply x0 x1 x2 x3 x4 x5 x6 x7 x8 hB]
  refine congrArg (val_main_v51 (F := Ideal) x0 x1 x2 x3 x4 x5 x6 x7 x8) (funext fun a => Fin.ext ?_)
  match a with
  | 0 => show (i.val * 2048 + d.val) / 1048576 = i.val / 512; omega
  | 1 => show (i.val * 2048 + d.val) / 2048 % 512 = i.val % 512; omega
  | 2 => show (i.val * 2048 + d.val) % 2048 = d.val; omega

end Cert.ReferenceExpertsIdeal.Hand

end
-- ==== Proof.ExpertsAlg.lean ====
/-
  The routed experts' value claim: where the tables are in range, the kernel's array and the
  reference's are the same.
-/
module

public import proofs.«01_k».proof.Defs
public import proofs.«01_k».proof.Proof.ExpertFrames
public import proofs.«01_k».proof.Proof.ExpertsKer
public import proofs.«01_k».proof.Proof.ExpertsRef

@[expose] public section

noncomputable section

namespace Cert.Proof

open Idealize.ShloMosaic Idealize.ShloMosaic.TcCoe Idealize.SL.Sem

theorem below_pei (m) (h : Pre_ExpertsIdeal m) : Cert.ExpertsIdeal.Hand.Below m :=
  fun n => Cert.Pre_tables_in_range.bounds _ _ _ _ _ _ _ _ _ (h 0) n

theorem algebraic_experts : Cert.algebraic_ExpertsIdeal_ReferenceExpertsIdeal := by
  intro m g m' g' hpre hargs
  have hG := good_pei m hpre
  have hB := below_pei m hpre
  refine ⟨Cert.ExpertsIdeal.Hand.outArr m, ?_, ?_⟩
  · refine (θ_run Cert.ExpertsIdeal.defs _ _).mono (fun r h c => ?_)
      (θ_run_and (Cert.ExpertsIdeal.Hand.frame m g hG) (Cert.ExpertsIdeal.Hand.run_main m g hG))
    exact ⟨((h.2 c).1 5).trans (Cert.ExpertsIdeal.Hand.final5 m hG c hB), h.1.1 c⟩
  · refine (θ_run Cert.ReferenceExpertsIdeal.defs _ _).mono (fun r h c => ?_) (Cert.ReferenceExpertsIdeal.Value.run (F := Ideal) m' g')
    obtain ⟨hv, hk⟩ := h c
    obtain ⟨e0, e1, e2, e3, e4, e5, e6, e7, e8⟩ := hargs c
    refine ⟨hv.trans ?_, hk⟩
    refine (Cert.ReferenceExpertsIdeal.Read.val_main_v52_eq m' c).trans ?_
    rw [e0, e1, e2, e3, e4, e5, e6, e7, e8]
    obtain rfl : c = 0 := Subsingleton.elim _ _
    funext y
    refine (congrArg _ (?_ : y = ix2 (y 0) (y 1))).trans
      (Cert.ReferenceExpertsIdeal.Hand.result _ _ _ _ _ _ _ _ _ hB (y 0) (y 1))
    exact funext fun a => match a with | 0 => rfl | 1 => rfl

theorem frame_rei : Cert.quiescent_ReferenceExpertsIdeal := fun m ρ _ =>
  (θ_run Cert.ReferenceExpertsIdeal.defs _ _).mono (fun r h => ⟨fun c => (h c).2,
      Idealize.ShloMosaic.sem_eq_zero_of_no_sems (by decide) r.2⟩)
    (Cert.ReferenceExpertsIdeal.Value.run (F := Ideal) m ρ)

end Cert.Proof

end
-- ==== Proof.TailsPre.lean ====
/-
  The tail call's precondition read: every word of the table of blocks, as a number, is below 72.
-/
module

public import proofs.«01_k».proof.Pre_tails_in_range
public import Idealize.ShloMosaic.Lib.Pointwise
public import Idealize.ShloMosaic.Lib.WordCmp

@[expose] public section

set_option maxRecDepth 16384

noncomputable section

namespace Cert.Pre_tails_in_range

open Idealize.ShloMosaic Facts

variable [hF : Facts]

/-- A word that passes both comparisons is a number below the bound. -/
theorem word_lt (w : BitVec 32) (n : ℕ) (hn : n < 2 ^ 31) (h : IntOp.andi (IntOp.cmpi .sge w 0#32) (IntOp.cmpi .slt w (BitVec.ofNat 32 n)) = 1#1) :
    w.toNat < n := by
  have h1 : (0#32).sle w = true ∧ w.slt (BitVec.ofNat 32 n) = true := by
    revert h
    simp only [IntOp.andi, IntOp.cmpi]
    cases (0#32).sle w <;> cases w.slt (BitVec.ofNat 32 n) <;> decide
  have h2 := BitVec.sle_iff_toInt_le.mp h1.1
  have h3 := BitVec.slt_iff_toInt_lt.mp h1.2
  have ez : (0#32).toInt = 0 := by decide
  have en : (BitVec.ofNat 32 n).toInt = n := by
    rw [BitVec.toInt_eq_toNat_cond, BitVec.toNat_ofNat, Nat.mod_eq_of_lt (by omega), if_pos (by omega)]
  have ew := BitVec.toInt_eq_toNat_cond w
  have := w.isLt
  split at ew <;> omega

/-- The precondition bounds every word of the table. -/
theorem bounds {F : FTy → Type} [FloatOps F] (a0 : IVec S16 32) (a1 a2 a3 a4 a5) (h : fn (F := F) a0 a1 a2 a3 a4 a5 = fun _ => 1#1) (i : Fin 16) :
    (a0 (ix1 i)).toNat < 72 := word_lt _ 72 (by decide) (congrFun h (ix1 i))

end Cert.Pre_tails_in_range

end
-- ==== Proof.TailsIdealRun.lean ====
/-
  The tail call's body, run at a point: what it leaves in its scratch and in its four output blocks.
-/
module

public import proofs.«01_k».proof.Proof.Gen.TailsIdeal.Launch
public import proofs.«01_k».proof.Proof.Gen.TailsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import Idealize.ShloMosaic.Lib.Claim
public import Idealize.ShloMosaic.Lib.WritesUnit
public import Idealize.ShloMosaic.Lib.ValueIdxCore

@[expose] public section

set_option maxRecDepth 16384

noncomputable section

namespace Cert.TailsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Cert.TailsIdeal Cert.TailsIdeal.Gen

variable {F : FTy → Type} [FloatOps F]

local notation "𝕄" => MT nD τ sig Unit (Elt F) ℕ (UR sig nD τ) ℕ

section views

variable {Val : EltTy → Type} {κ : Kind} {sp : Space} {e : EltTy}

/-- Two blocks of 512 rows, one above the other. -/
def halves {α : Type} (a b : S512x2048.Idx → α) (y : S1024x2048.Idx) : α :=
  if h : (y (0 : Fin 2)).val < 512 then a (ix2 ⟨(y (0 : Fin 2)).val, h⟩ (y (1 : Fin 2)))
  else b (ix2 ⟨(y (0 : Fin 2)).val - 512, by have := (y (0 : Fin 2)).isLt; change _ < 1024 at this; omega⟩ (y (1 : Fin 2)))

/-- The upper and the lower 512 rows of a block. -/
def upper {α : Type} (y : S1024x2048.Idx → α) (x : S512x2048.Idx) : α :=
  y (ix2 ⟨(x (0 : Fin 2)).val, Nat.lt_trans (x (0 : Fin 2)).isLt (by decide)⟩ (x (1 : Fin 2)))
def lower {α : Type} (y : S1024x2048.Idx → α) (x : S512x2048.Idx) : α :=
  y (ix2 ⟨512 + (x (0 : Fin 2)).val, by have := (x (0 : Fin 2)).isLt; change _ < 512 at this; omega⟩ (x (1 : Fin 2)))

theorem ld_half (v : View sig κ sp S512x2048 e) (f : v.ty.Contents Val) (inb) :
    v.readAt Val (Rect.unit (s := S512x2048) ![0, 0] ![512, 2048] inb).toLoadRect f = v.read Val f :=
  View.readAt_full v (off := ![0, 0]) f inb

theorem ld_whole (v : View sig κ sp S1024x2048 e) (f : v.ty.Contents Val) (inb) :
    v.readAt Val (Rect.unit (s := S1024x2048) ![0, 0] ![1024, 2048] inb).toLoadRect f = v.read Val f :=
  View.readAt_full v (off := ![0, 0]) f inb

theorem ld_up (v : View sig κ sp S1x2048x256 e) (f : v.ty.Contents Val) (inb) :
    v.readAt Val (Rect.unit (s := S1x2048x256) ![0, 0, 0] ![1, 2048, 256] inb).toLoadRect f = v.read Val f :=
  View.readAt_full v (off := ![0, 0, 0]) f inb

theorem ld_down (v : View sig κ sp S1x256x2048 e) (f : v.ty.Contents Val) (inb) :
    v.readAt Val (Rect.unit (s := S1x256x2048) ![0, 0, 0] ![1, 256, 2048] inb).toLoadRect f = v.read Val f :=
  View.readAt_full v (off := ![0, 0, 0]) f inb

theorem st_up (v : View sig κ sp S1x2048x256 e) (f : v.ty.Contents Val) (inb) (w : S1x2048x256.Idx → Val e) (L : List (View.Piece Val S1x2048x256 e)) :
    v.read Val (v.writes Val f ((⟨Rect.unit (s := S1x2048x256) ![0, 0, 0] ![1, 2048, 256] inb, w⟩ : View.Piece Val S1x2048x256 e) :: L)) = w :=
  View.read_writes_full v f (off := ![0, 0, 0]) inb w L

theorem st_down (v : View sig κ sp S1x256x2048 e) (f : v.ty.Contents Val) (inb) (w : S1x256x2048.Idx → Val e) (L : List (View.Piece Val S1x256x2048 e)) :
    v.read Val (v.writes Val f ((⟨Rect.unit (s := S1x256x2048) ![0, 0, 0] ![1, 256, 2048] inb, w⟩ : View.Piece Val S1x256x2048 e) :: L)) = w :=
  View.read_writes_full v f (off := ![0, 0, 0]) inb w L

/-- A store of the lower rows after one of the upper rows leaves the two, one above the other. -/
theorem st_halves (v : View sig κ sp S1024x2048 e) (f : v.ty.Contents Val) (inb inb') (a b : S512x2048.Idx → Val e)
    (L : List (View.Piece Val S1024x2048 e)) :
    v.read Val (v.writes Val f ((⟨Rect.unit (s := S1024x2048) ![512, 0] ![512, 2048] inb, b⟩ : View.Piece Val S1024x2048 e)
      :: (⟨Rect.unit (s := S1024x2048) ![0, 0] ![512, 2048] inb', a⟩ : View.Piece Val S1024x2048 e) :: L)) = halves a b := by
  funext y
  unfold halves
  by_cases h : (y (0 : Fin 2)).val < 512
  · rw [dif_pos h]
    refine (View.read_writes_cons_rows_of_not_mem (d := ![1024, 2048]) (o := 512) (W := 512) v f inb b _ y rfl rfl (Or.inl h)).trans ?_
    exact View.read_writes_cons_rows_of_mem (d := ![1024, 2048]) (o := 0) v f inb' a L y
      (ix2 ⟨(y (0 : Fin 2)).val, h⟩ (y (1 : Fin 2))) rfl (Nat.zero_add _).symm rfl
  · rw [dif_neg h]
    exact View.read_writes_cons_rows_of_mem (d := ![1024, 2048]) (o := 512) v f inb b _ y
      (ix2 ⟨(y (0 : Fin 2)).val - 512, _⟩ (y (1 : Fin 2))) rfl (by show _ = 512 + ((y (0 : Fin 2)).val - 512); omega) rfl

theorem st_whole (v : View sig κ sp S1024x2048 e) (f : v.ty.Contents Val) (inb) (w : S1024x2048.Idx → Val e) (L : List (View.Piece Val S1024x2048 e)) :
    v.read Val (v.writes Val f ((⟨Rect.unit (s := S1024x2048) ![0, 0] ![1024, 2048] inb, w⟩ : View.Piece Val S1024x2048 e) :: L)) = w :=
  View.read_writes_full v f (off := ![0, 0]) inb w L

/-- A store of the upper rows leaves the lower ones. -/
theorem st_lower (v : View sig κ sp S1024x2048 e) (f : v.ty.Contents Val) (inb') (a : S512x2048.Idx → Val e)
    (L : List (View.Piece Val S1024x2048 e)) :
    lower (v.read Val (v.writes Val f ((⟨Rect.unit (s := S1024x2048) ![0, 0] ![512, 2048] inb', a⟩ : View.Piece Val S1024x2048 e) :: L)))
      = lower (v.read Val (v.writes Val f L)) := by
  funext x
  unfold lower
  exact View.read_writes_cons_rows_of_not_mem (d := ![1024, 2048]) (o := 0) (W := 512) v f inb' a L _ rfl rfl
    (Or.inr (by show 0 + 512 ≤ 512 + _; omega))

theorem ld_upper (v : View sig κ sp S1024x2048 e) (f : v.ty.Contents Val) (inb) :
    v.readAt Val (Rect.unit (s := S1024x2048) ![0, 0] ![512, 2048] inb).toLoadRect f = upper (v.read Val f) := by
  funext x
  rw [View.readAt_apply]
  unfold upper
  exact congrArg (v.read Val f) (funext fun a => by
    match a with
    | 0 => exact Fin.ext (by show 0 + 1 * (x (0 : Fin 2)).val = _; rw [Nat.zero_add, Nat.one_mul])
    | 1 => exact Fin.ext (by show 0 + 1 * (x (1 : Fin 2)).val = _; rw [Nat.zero_add, Nat.one_mul]))

theorem ld_lower (v : View sig κ sp S1024x2048 e) (f : v.ty.Contents Val) (inb) :
    v.readAt Val (Rect.unit (s := S1024x2048) ![512, 0] ![512, 2048] inb).toLoadRect f = lower (v.read Val f) := by
  funext x
  rw [View.readAt_apply]
  unfold lower
  exact congrArg (v.read Val f) (funext fun a => by
    match a with
    | 0 => exact Fin.ext (by show 512 + 1 * (x (0 : Fin 2)).val = _; rw [Nat.one_mul])
    | 1 => exact Fin.ext (by show 0 + 1 * (x (1 : Fin 2)).val = _; rw [Nat.zero_add, Nat.one_mul]))

end views

/-- A table's contents on core `c`, and the half of it the body holds. -/
abbrev TabBuf (c : Dev nD) (M : Memref sig .tc .smem S8 .i32) : Type := Buf (Elt F) (M.view.loc (c : Thread nD τ))
abbrev tabHalf (c : Dev nD) (M : Memref sig .tc .smem S8 .i32) (f : TabBuf (F := F) c M) : sProp 𝕄 :=
  M.view.loc (c : Thread nD τ) ↦{fullShare.right} f

section run

variable (c : Dev nD) (i : grid0.Coords)
variable (arg2 : Memref sig .tc .smem S16 .i32) (harg2 : arg2.IsWhole) (arg3 : Memref sig .tc .smem S8 .i32) (harg3 : arg3.IsWhole)
variable (arg4 : Memref sig .tc .vmem S512x2048 .f32) (harg4 : arg4.IsWhole) (arg5 : Memref sig .tc .vmem S512x2048 .f32) (harg5 : arg5.IsWhole)
variable (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole)
variable (arg9 : Memref sig .tc .vmem S1024x2048 .f32) (harg9 : arg9.IsWhole) (arg10 : Memref sig .tc .vmem S1x2048x256 .bf16) (harg10 : arg10.IsWhole) (arg11 : Memref sig .tc .vmem S1x2048x256 .bf16) (harg11 : arg11.IsWhole) (arg12 : Memref sig .tc .vmem S1x256x2048 .bf16) (harg12 : arg12.IsWhole)
variable (arg13 : Memref sig .tc .vmem S1024x2048 .bf16) (harg13 : arg13.IsWhole)
variable (T : TabBuf (F := F) c arg3)
variable (x0 x1 : Vec F S512x2048 .f32) (x2 x3 : Vec F S1x2048x256 .f32) (x4 : Vec F S1x256x2048 .f32) (y : Vec F S1024x2048 .f32) (s : Vec F S1024x2048 .bf16)
variable (z6 z7 : Vec F S1x2048x256 .bf16) (z8 : Vec F S1x256x2048 .bf16)

/-- The word the body loads from the table of counts. -/
def word : BitVec 32 := arg3.view.readAt (Elt F) (Rect.unit (s := S8) (k0_off2 i) S1.size (k0_off2_inb i)).toLoadRect T (Shape.Idx.first (numel1_S1.symm ▸ Nat.one_pos))

/-- What the scratch holds after a point: at an expert's first point the two row blocks, afterwards what it held. -/
def scratchAt : Vec F S1024x2048 .bf16 := if (i 1).val = 0 then halves (k0_pay6 x0) (k0_pay7 x1) else s

/-- What the output block is grown from: zeros at an expert's first point, afterwards what it held. -/
def startAt : Vec F S1024x2048 .f32 := if (i 1).val = 0 then k0_pay8 else y

/-- What a point leaves in the output block, from the scratch `s`, where it starts from `y` and the word is `w`. -/
def leaves (w : BitVec 32) : Vec F S1024x2048 .f32 :=
  halves (k0_pay1 (k0_pay13 (upper y)) (k0_pay14 s x2 x3 x4 w)) (k0_pay2 (k0_pay12 s x2 x3 x4) (lower y) w)

/-- The test of the body's only branch. -/
def cond : BitVec 1 := Scalar.cmpi .ne (Scalar.extui (Scalar.cmpi .eq (BitVec.ofNat 32 (i 1).val) 0#32) : BitVec 32) 0#32

theorem cond_iff' : ∀ n : Fin 28, (Scalar.cmpi .ne (Scalar.extui (Scalar.cmpi .eq (BitVec.ofNat 32 n.val) 0#32) : BitVec 32) 0#32 = 1#1) ↔ n.val = 0 := by decide
theorem cond_iff : cond i = 1#1 ↔ (i 1).val = 0 := cond_iff' (i 1)

include harg4 harg5 harg6 harg7 harg8 harg9 harg10 harg11 harg12 harg13

set_option maxHeartbeats 4000000 in
/-- The body at any point. -/
theorem run_body (E : Set ℕ) (K : PUnit → sProp 𝕄) :
    iprop(tabHalf c arg3 T
            ∗ owns (c : Thread nD τ) arg4 fullShare x0
            ∗ owns (c : Thread nD τ) arg5 fullShare x1
            ∗ owns (c : Thread nD τ) arg6 fullShare x2
            ∗ owns (c : Thread nD τ) arg7 fullShare x3
            ∗ owns (c : Thread nD τ) arg8 fullShare x4
            ∗ owns (c : Thread nD τ) arg9 fullShare y
            ∗ owns (c : Thread nD τ) arg10 fullShare z6
            ∗ owns (c : Thread nD τ) arg11 fullShare z7
            ∗ owns (c : Thread nD τ) arg12 fullShare z8
            ∗ owns (c : Thread nD τ) arg13 fullShare s
            ∗ (iprop(tabHalf c arg3 T
            ∗ owns (c : Thread nD τ) arg4 fullShare x0
            ∗ owns (c : Thread nD τ) arg5 fullShare x1
            ∗ owns (c : Thread nD τ) arg6 fullShare x2
            ∗ owns (c : Thread nD τ) arg7 fullShare x3
            ∗ owns (c : Thread nD τ) arg8 fullShare x4
            ∗ owns (c : Thread nD τ) arg9 fullShare (leaves x2 x3 x4 (startAt i y) (scratchAt i x0 x1 s) (word c i arg3 T))
            ∗ owns (c : Thread nD τ) arg10 fullShare (k0_pay3 (k0_pay9 x2))
            ∗ owns (c : Thread nD τ) arg11 fullShare (k0_pay4 (k0_pay10 x3))
            ∗ owns (c : Thread nD τ) arg12 fullShare (k0_pay5 (k0_pay11 x4))
            ∗ owns (c : Thread nD τ) arg13 fullShare (scratchAt i x0 x1 s)) -∗ K ⟨⟩))
      ⊢ wp frame (wpE (defs₀ (F := F)) Variants.none c none) E
          (cc0_moe_experts_tail i arg2 harg2 arg3 harg3 arg4 harg4 arg5 harg5 arg6 harg6 arg7 harg7 arg8 harg8 arg9 harg9 arg10 harg10 arg11 harg11 arg12 harg12 arg13 harg13) K := by
    simp only [cc0_moe_experts_tail_eq_skeleton]; unfold cc0_moe_experts_tail_skel
    simp only [k0_part1_eq_skeleton]; unfold k0_part1_skel
    unfold owns
    iintro ⟨HT, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg4.eq_unread hf0
    obtain rfl := harg5.eq_unread hf1
    obtain rfl := harg6.eq_unread hf2
    obtain rfl := harg7.eq_unread hf3
    obtain rfl := harg8.eq_unread hf4
    obtain rfl := harg9.eq_unread hf5
    obtain rfl := harg10.eq_unread hf6
    obtain rfl := harg11.eq_unread hf7
    obtain rfl := harg12.eq_unread hf8
    obtain rfl := harg13.eq_unread hf9
    unfold leaves scratchAt startAt
    by_cases h0 : (i 1).val = 0
    on_goal 1 => have h1 : Scalar.cmpi .ne (Scalar.extui (Scalar.cmpi .eq (BitVec.ofNat 32 (i 1).val) 0#32) : BitVec 32) 0#32 = 1#1 := (cond_iff i).mpr h0
    on_goal 2 => have h1 : ¬Scalar.cmpi .ne (Scalar.extui (Scalar.cmpi .eq (BitVec.ofNat 32 (i 1).val) 0#32) : BitVec 32) 0#32 = 1#1 := (cond_iff i).not.mpr h0
    all_goals
      simp only [h0, if_true, if_false]
      sl_exec (disch := sl_exact h1)
      sl_step
      iapply Hk
      isplitl [HT]; · iexact HT
      isplitl [H0]
      · iexists _; isplitr; · ipureintro; exact harg4.read_unread _
        iexact H0
      isplitl [H1]
      · iexists _; isplitr; · ipureintro; exact harg5.read_unread _
        iexact H1
      isplitl [H2]
      · iexists _; isplitr; · ipureintro; exact harg6.read_unread _
        iexact H2
      isplitl [H3]
      · iexists _; isplitr; · ipureintro; exact harg7.read_unread _
        iexact H3
      isplitl [H4]
      · iexists _; isplitr; · ipureintro; exact harg8.read_unread _
        iexact H4
      isplitl [H5]
      · iexists _; isplitr; swap; · iexact H5
        ipureintro
        simp only [st_halves, ld_half, ld_up, ld_down, ld_whole, ld_upper, ld_lower, Memref.IsWhole.read_unread]
        first | unfold run_body.sl.v36 | unfold run_body.sl.v36_1
        try unfold run_body.sl.H5_2
        try dsimp only
        try unfold run_body.sl.v3
        first | unfold run_body.sl.r | unfold run_body.sl.r_1
        try unfold run_body.sl.v26
        try unfold run_body.sl.H9_2
        try unfold run_body.sl.H5_1
        simp only [View.readCov, st_halves, st_whole, st_lower, ld_half, ld_up, ld_down, ld_whole, ld_upper, ld_lower, Memref.IsWhole.read_unread]
        rfl
      isplitl [H6]
      · iexists _; isplitr; swap; · iexact H6
        ipureintro
        simp only [st_up, ld_up, Memref.IsWhole.read_unread]
      isplitl [H7]
      · iexists _; isplitr; swap; · iexact H7
        ipureintro
        simp only [st_up, ld_up, Memref.IsWhole.read_unread]
      isplitl [H8]
      · iexists _; isplitr; swap; · iexact H8
        ipureintro
        simp only [st_down, ld_down, Memref.IsWhole.read_unread]
      iexists _; isplitr
      swap; · iexact H9
      ipureintro
      try unfold run_body.sl.H9_2
      simp only [st_halves, ld_half, Memref.IsWhole.read_unread]

end run

end Cert.TailsIdeal.Hand

end
-- ==== Proof.TailsIdealFrame.lean ====
/-
  The tail call's frame: the contents of the scratch and of the output blocks point by point, the
  body's obligation at every point, and the run of the whole grid, for tables whose words are block numbers.
-/
module

public import proofs.«01_k».proof.Proof.TailsIdealRun

@[expose] public section

set_option maxRecDepth 16384

noncomputable section

namespace Cert.TailsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TailsIdeal Cert.TailsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each buffer holds when the grid begins. -/
abbrev V (c : Dev nD) (b : Ref sig .tc) : Buf (Elt F) ((c.tc : Thread nD τ).loc b) := m ((c.tc : Thread nD τ).loc b)

/-- The two tables. -/
def tbl : pre0.Contents (Elt F) := fun j => V m (0 : Dev nD) (pre0.ref j)

theorem V_pre (c : Dev nD) (j : Fin 2) : V m c (pre0.ref j) = tbl m j := by
  obtain rfl : c = 0 := Subsingleton.elim _ _
  rfl

/-- How many tail blocks a point's expert has. -/
def count (c : Dev nD) (i : grid0.Coords) : BitVec 32 := word c i (Memref.whole main_arg1) (V m c main_arg1)

/-- The tables are good: their words name blocks the array has. -/
structure Good : Prop where
  ok : ok0 (tbl m)

variable (hG : Good m)

abbrev adm : (pcfg0 (F := F)).Adm := ⟨tbl m, hG.ok⟩
abbrev cfgM := cfg0 (adm m hG)

theorem coord_row (t : Fin (cfgM m hG).N) : (grid0.coords t 0).val = t.val / 28 % 8 :=
  (Pipeline.Grid.coords_val (G := grid0) t 0 (by decide) rfl : (grid0.coords t 0).val = t.val / 28 % 8)

theorem coord_col (t : Fin (cfgM m hG).N) : (grid0.coords t 1).val = t.val % 28 :=
  (Pipeline.Grid.coords_val (G := grid0) t 1 (by decide) rfl : (grid0.coords t 1).val = t.val / 1 % 28).trans (by rw [Nat.div_one])

/-- The first output block is written back at the last point of its expert. -/
theorem flush5 (t : Fin (cfgM m hG).N) : ((cfgM m hG).win 5).flush t = true ↔ t.val % 28 = 27 :=
  Pipeline.Window.flush_reads ((cfgM m hG).win 5) rfl (0 : Fin 2) (by decide : 1 < grid0.bound 0) (by decide : grid0.fixedAfter reads0_5 0 = true)
    (Pipeline.Window.sep_of_coord cc0_transform_5 0 0 (fun _ => rfl) (by decide)) (P := 28) (m := 27) (by decide : grid0.stride 0 = 28) rfl t

/-- A window's block at a point, read off its array. -/
def iblk (c : Dev nD) (w : Fin 9) (t : Fin (cfgM m hG).N) :
    (((cfgM m hG).win w).xblock ((cfgM m hG).grid.coords t)).Idx → Elt F ((cfgM m hG).win w).elt :=
  (((cfgM m hG).win w).blk t).view.read (Elt F) (V m c (Pipeline.arrRef spec0 w))

/-- What the scratch holds after each point. -/
def scr (c : Dev nD) : (n : ℕ) → n < (cfgM m hG).N → Vec F S1024x2048 .bf16
  | 0, hn => scratchAt (grid0.coords ⟨0, hn⟩) (iblk m hG c 0 ⟨0, hn⟩) (iblk m hG c 1 ⟨0, hn⟩) (halves (k0_pay6 (iblk m hG c 0 ⟨0, hn⟩)) (k0_pay7 (iblk m hG c 1 ⟨0, hn⟩)))
  | n + 1, hn => scratchAt (grid0.coords ⟨n + 1, hn⟩) (iblk m hG c 0 ⟨n + 1, hn⟩) (iblk m hG c 1 ⟨n + 1, hn⟩) (scr c n (Nat.lt_of_succ_lt hn))

/-- What the body leaves in the first output block at a point where it finds `d`. -/
def grow (c : Dev nD) (t : Fin (cfgM m hG).N) (d : Vec F S1024x2048 .f32) : Vec F S1024x2048 .f32 :=
  leaves (iblk m hG c 2 t) (iblk m hG c 3 t) (iblk m hG c 4 t) (startAt (grid0.coords t) d) (scr m hG c t.val t.isLt)
    (count m c (grid0.coords t))

/-- What the first output block holds after each point; before the first of an expert whatever stands there is dropped. -/
def held (c : Dev nD) : (n : ℕ) → n < (cfgM m hG).N → Vec F S1024x2048 .f32
  | 0, hn => grow m hG c ⟨0, hn⟩ k0_pay8
  | n + 1, hn => grow m hG c ⟨n + 1, hn⟩ (held c n (Nat.lt_of_succ_lt hn))

theorem scr_first (c : Dev nD) (t : Fin (cfgM m hG).N) (h : t.val % 28 = 0) (s : Vec F S1024x2048 .bf16) :
    scr m hG c t.val t.isLt = scratchAt (grid0.coords t) (iblk m hG c 0 t) (iblk m hG c 1 t) s := by
  have h1 := (coord_col m hG t).trans h
  obtain ⟨n, hn⟩ := t
  cases n with
  | zero => unfold scr scratchAt; rw [if_pos h1, if_pos h1]
  | succ n => unfold scr scratchAt; rw [if_pos h1, if_pos h1]

theorem scr_next (c : Dev nD) (t : Fin (cfgM m hG).N) (h : t.val % 28 ≠ 0) :
    scr m hG c t.val t.isLt = scratchAt (grid0.coords t) (iblk m hG c 0 t) (iblk m hG c 1 t)
      (scr m hG c (t.val - 1) (Nat.lt_of_le_of_lt (Nat.sub_le _ _) t.isLt)) := by
  obtain ⟨n, hn⟩ := t
  cases n with
  | zero => exact absurd (Nat.zero_mod _) h
  | succ n => rfl

/-- At the first point of an expert what stood before does not matter. -/
theorem grow_first (c : Dev nD) (t : Fin (cfgM m hG).N) (h : t.val % 28 = 0) (d d' : Vec F S1024x2048 .f32) :
    grow m hG c t d = grow m hG c t d' := by
  have h1 := (coord_col m hG t).trans h
  unfold grow startAt
  rw [if_pos h1, if_pos h1]

theorem held_first (c : Dev nD) (t : Fin (cfgM m hG).N) (h : t.val % 28 = 0) (d : Vec F S1024x2048 .f32) :
    held m hG c t.val t.isLt = grow m hG c t d := by
  obtain ⟨n, hn⟩ := t
  cases n with
  | zero => exact grow_first m hG c ⟨0, hn⟩ h _ _
  | succ n => exact grow_first m hG c ⟨n + 1, hn⟩ h _ _

theorem held_next (c : Dev nD) (t : Fin (cfgM m hG).N) (h : t.val % 28 ≠ 0) :
    held m hG c t.val t.isLt = grow m hG c t (held m hG c (t.val - 1) (Nat.lt_of_le_of_lt (Nat.sub_le _ _) t.isLt)) := by
  obtain ⟨n, hn⟩ := t
  cases n with
  | zero => exact absurd (Nat.zero_mod _) h
  | succ n => rfl

/-- The scratch before a point: past the first point of an expert as the point before left it. -/
def Kept (c : Dev nD) (n : ℕ) (s : Vec F S1024x2048 .bf16) : Prop :=
  ∀ h : n - 1 < (cfgM m hG).N, n % 28 ≠ 0 → s = scr m hG c (n - 1) h

theorem scr_kept (c : Dev nD) (t : Fin (cfgM m hG).N) (s : Vec F S1024x2048 .bf16) (h : Kept m hG c t.val s) :
    scratchAt (grid0.coords t) (iblk m hG c 0 t) (iblk m hG c 1 t) s = scr m hG c t.val t.isLt := by
  by_cases h0 : t.val % 28 = 0
  · exact (scr_first m hG c t h0 s).symm
  · rw [h (Nat.lt_of_le_of_lt (Nat.sub_le _ _) t.isLt) h0]; exact (scr_next m hG c t h0).symm

/-- The scratch, the register and the tables before a point. -/
def inv (c : Dev nD) (n : ℕ) : sProp 𝕄 :=
  iprop((∃ s, ⌜Kept m hG c n s⌝ ∗ owns (c : Thread nD τ) (Memref.whole cc0_scratch0) fullShare s) ∗ (∃ r, prngReg c r) ∗ Pipeline.ΦT pre0 (tbl m) c)

/-- The proof data of the grid. -/
def dats (_ : Fin 1) (c : Dev nD) : Dat τ (Elt F) Unit ℕ (UR sig nD τ) ℕ (cfgM m hG) c where
  A w := V m c (Pipeline.arrRef spec0 w)
  after w t := match w with
    | ⟨0, _⟩ => iblk m hG c 0 t
    | ⟨1, _⟩ => iblk m hG c 1 t
    | ⟨2, _⟩ => iblk m hG c 2 t
    | ⟨3, _⟩ => iblk m hG c 3 t
    | ⟨4, _⟩ => iblk m hG c 4 t
    | ⟨5, _⟩ => held m hG c t.val t.isLt
    | ⟨6, _⟩ => k0_pay3 (k0_pay9 (iblk m hG c 2 t))
    | ⟨7, _⟩ => k0_pay4 (k0_pay10 (iblk m hG c 3 t))
    | ⟨8, _⟩ => k0_pay5 (k0_pay11 (iblk m hG c 4 t))
  Φ t := inv m hG c t.val
  q w := Pipeline.shareOf spec0 w
  owed _ := 0

theorem inv_eq (c : Dev nD) (t : Fin ((cfgM m hG).N + 1)) : (dats m hG 0 c).Φ t = inv m hG c t.val := rfl

theorem A_eq (c : Dev nD) (w : Fin 9) : (dats m hG 0 c).A w = V m c (Pipeline.arrRef spec0 w) := by
  dsimp only [dats]

theorem after_0 (c : Dev nD) (t : Fin (cfgM m hG).N) : (dats m hG 0 c).after 0 t = iblk m hG c 0 t := rfl
theorem after_1 (c : Dev nD) (t : Fin (cfgM m hG).N) : (dats m hG 0 c).after 1 t = iblk m hG c 1 t := rfl
theorem after_2 (c : Dev nD) (t : Fin (cfgM m hG).N) : (dats m hG 0 c).after 2 t = iblk m hG c 2 t := rfl
theorem after_3 (c : Dev nD) (t : Fin (cfgM m hG).N) : (dats m hG 0 c).after 3 t = iblk m hG c 3 t := rfl
theorem after_4 (c : Dev nD) (t : Fin (cfgM m hG).N) : (dats m hG 0 c).after 4 t = iblk m hG c 4 t := rfl
theorem after_5 (c : Dev nD) (t : Fin (cfgM m hG).N) : (dats m hG 0 c).after 5 t = held m hG c t.val t.isLt := rfl
theorem after_6 (c : Dev nD) (t : Fin (cfgM m hG).N) : (dats m hG 0 c).after 6 t = k0_pay3 (k0_pay9 (iblk m hG c 2 t)) := rfl
theorem after_7 (c : Dev nD) (t : Fin (cfgM m hG).N) : (dats m hG 0 c).after 7 t = k0_pay4 (k0_pay10 (iblk m hG c 3 t)) := rfl
theorem after_8 (c : Dev nD) (t : Fin (cfgM m hG).N) : (dats m hG 0 c).after 8 t = k0_pay5 (k0_pay11 (iblk m hG c 4 t)) := rfl

theorem before_0 (c : Dev nD) (t : Fin (cfgM m hG).N) (d) : (dats m hG 0 c).before 0 t d = iblk m hG c 0 t :=
  ((dats m hG 0 c).before_in_eq_fetched 0 rfl (fun _ => rfl) (fun _ _ _ => rfl)
    (fun t => by rw [after_0]; unfold Dat.blockOf iblk; rw [A_eq]; rfl) t d).trans
    (by unfold Dat.fetched Dat.blockOf iblk; rw [A_eq]; try rfl)
theorem before_1 (c : Dev nD) (t : Fin (cfgM m hG).N) (d) : (dats m hG 0 c).before 1 t d = iblk m hG c 1 t :=
  ((dats m hG 0 c).before_in_eq_fetched 1 rfl (fun _ => rfl) (fun _ _ _ => rfl)
    (fun t => by rw [after_1]; unfold Dat.blockOf iblk; rw [A_eq]; rfl) t d).trans
    (by unfold Dat.fetched Dat.blockOf iblk; rw [A_eq]; try rfl)
theorem before_2 (c : Dev nD) (t : Fin (cfgM m hG).N) (d) : (dats m hG 0 c).before 2 t d = iblk m hG c 2 t :=
  ((dats m hG 0 c).before_in_eq_fetched 2 rfl (fun _ => rfl) (fun _ _ _ => rfl)
    (fun t => by rw [after_2]; unfold Dat.blockOf iblk; rw [A_eq]; rfl) t d).trans
    (by unfold Dat.fetched Dat.blockOf iblk; rw [A_eq]; try rfl)
theorem before_3 (c : Dev nD) (t : Fin (cfgM m hG).N) (d) : (dats m hG 0 c).before 3 t d = iblk m hG c 3 t :=
  ((dats m hG 0 c).before_in_eq_fetched 3 rfl (fun _ => rfl) (fun _ _ _ => rfl)
    (fun t => by rw [after_3]; unfold Dat.blockOf iblk; rw [A_eq]; rfl) t d).trans
    (by unfold Dat.fetched Dat.blockOf iblk; rw [A_eq]; try rfl)
theorem before_4 (c : Dev nD) (t : Fin (cfgM m hG).N) (d) : (dats m hG 0 c).before 4 t d = iblk m hG c 4 t :=
  ((dats m hG 0 c).before_in_eq_fetched 4 rfl (fun _ => rfl) (fun _ _ _ => rfl)
    (fun t => by rw [after_4]; unfold Dat.blockOf iblk; rw [A_eq]; rfl) t d).trans
    (by unfold Dat.fetched Dat.blockOf iblk; rw [A_eq]; try rfl)

/-- Past the first point of an expert, the first output block is found as the point before left it. -/
theorem before_5 (c : Dev nD) (t : Fin (cfgM m hG).N) (h : t.val % 28 ≠ 0) (d) :
    (dats m hG 0 c).before 5 t d = held m hG c (t.val - 1) (Nat.lt_of_le_of_lt (Nat.sub_le _ _) t.isLt) := by
  obtain ⟨n, hn⟩ := t
  cases n with
  | zero => exact absurd (Nat.zero_mod _) h
  | succ n =>
    have hn' : n < (cfgM m hG).N := Nat.lt_of_succ_lt hn
    have hfl : ((cfgM m hG).win 5).flush ⟨n, hn'⟩ = false := by
      rw [← Bool.not_eq_true, flush5]
      have h' : (n + 1) % 28 ≠ 0 := h
      show ¬ n % 28 = 27; omega
    rw [Dat.before_of_pos (dats m hG 0 c) 5 ⟨n + 1, hn⟩ (Nat.succ_ne_zero n) (((cfgM m hG).win 5).fetch_out rfl _) d]
    rw [show (⟨(⟨n + 1, hn⟩ : Fin (cfgM m hG).N).val - 1, Nat.lt_of_le_of_lt (Nat.sub_le _ _) hn⟩ : Fin (cfgM m hG).N) = ⟨n, hn'⟩ from rfl,
      if_neg (by rw [hfl]; exact Bool.false_ne_true)]
    show _ = held m hG c n hn'
    unfold Dat.left
    rw [show (cfgM m hG).idle 5 (grid0.coords ⟨n, hn'⟩) = false from rfl]
    simp only
    unfold Dat.kept
    rw [after_5]
    exact Window.fill_cut _ _ _

/-- The block grows from what it is found to hold, whatever the point. -/
theorem grow_before (c : Dev nD) (t : Fin (cfgM m hG).N) (d) :
    grow m hG c t ((dats m hG 0 c).before 5 t d) = held m hG c t.val t.isLt := by
  by_cases h : t.val % 28 = 0
  · exact (held_first m hG c t h _).symm
  · rw [before_5 m hG c t h d]; exact (held_next m hG c t h).symm

/-- The current staging memref of each window. -/
abbrev st0 (w : Fin 9) (t : Fin (cfgM m hG).N) := ((cfgM m hG).win w).stage ((cfgM m hG).slots t w)

theorem leaves_0 (c : Dev nD) (t : Fin (cfgM m hG).N) :
    (dats m hG 0 c).leavesExact 0 t = owns (c : Thread nD τ) (st0 m hG 0 t) fullShare (iblk m hG c 0 t) := by
  unfold Dat.leavesExact; rw [show (cfgM m hG).idle 0 (grid0.coords t) = false from rfl, after_0]; rfl
theorem leaves_1 (c : Dev nD) (t : Fin (cfgM m hG).N) :
    (dats m hG 0 c).leavesExact 1 t = owns (c : Thread nD τ) (st0 m hG 1 t) fullShare (iblk m hG c 1 t) := by
  unfold Dat.leavesExact; rw [show (cfgM m hG).idle 1 (grid0.coords t) = false from rfl, after_1]; rfl
theorem leaves_2 (c : Dev nD) (t : Fin (cfgM m hG).N) :
    (dats m hG 0 c).leavesExact 2 t = owns (c : Thread nD τ) (st0 m hG 2 t) fullShare (iblk m hG c 2 t) := by
  unfold Dat.leavesExact; rw [show (cfgM m hG).idle 2 (grid0.coords t) = false from rfl, after_2]; rfl
theorem leaves_3 (c : Dev nD) (t : Fin (cfgM m hG).N) :
    (dats m hG 0 c).leavesExact 3 t = owns (c : Thread nD τ) (st0 m hG 3 t) fullShare (iblk m hG c 3 t) := by
  unfold Dat.leavesExact; rw [show (cfgM m hG).idle 3 (grid0.coords t) = false from rfl, after_3]; rfl
theorem leaves_4 (c : Dev nD) (t : Fin (cfgM m hG).N) :
    (dats m hG 0 c).leavesExact 4 t = owns (c : Thread nD τ) (st0 m hG 4 t) fullShare (iblk m hG c 4 t) := by
  unfold Dat.leavesExact; rw [show (cfgM m hG).idle 4 (grid0.coords t) = false from rfl, after_4]; rfl
theorem leaves_5 (c : Dev nD) (t : Fin (cfgM m hG).N) :
    (dats m hG 0 c).leavesExact 5 t = owns (c : Thread nD τ) (st0 m hG 5 t) fullShare (held m hG c t.val t.isLt) := by
  unfold Dat.leavesExact; rw [show (cfgM m hG).idle 5 (grid0.coords t) = false from rfl, after_5]; rfl
theorem leaves_6 (c : Dev nD) (t : Fin (cfgM m hG).N) :
    (dats m hG 0 c).leavesExact 6 t = owns (c : Thread nD τ) (st0 m hG 6 t) fullShare (k0_pay3 (k0_pay9 (iblk m hG c 2 t))) := by
  unfold Dat.leavesExact; rw [show (cfgM m hG).idle 6 (grid0.coords t) = false from rfl, after_6]; rfl
theorem leaves_7 (c : Dev nD) (t : Fin (cfgM m hG).N) :
    (dats m hG 0 c).leavesExact 7 t = owns (c : Thread nD τ) (st0 m hG 7 t) fullShare (k0_pay4 (k0_pay10 (iblk m hG c 3 t))) := by
  unfold Dat.leavesExact; rw [show (cfgM m hG).idle 7 (grid0.coords t) = false from rfl, after_7]; rfl
theorem leaves_8 (c : Dev nD) (t : Fin (cfgM m hG).N) :
    (dats m hG 0 c).leavesExact 8 t = owns (c : Thread nD τ) (st0 m hG 8 t) fullShare (k0_pay5 (k0_pay11 (iblk m hG c 4 t))) := by
  unfold Dat.leavesExact; rw [show (cfgM m hG).idle 8 (grid0.coords t) = false from rfl, after_8]; rfl

/-- The tables as the body holds them, one by one. -/
theorem tables_eq (c : Dev nD) : (Pipeline.ΦT pre0 (tbl m) c : sProp 𝕄)
    = iprop(((Memref.whole main_arg0 : Memref sig .tc .smem S16 .i32).view.loc (c : Thread nD τ) ↦{fullShare.right} (V m c main_arg0))
      ∗ tabHalf c (Memref.whole main_arg1) (V m c main_arg1)) := by
  obtain rfl : c = 0 := Subsingleton.elim _ _
  unfold Pipeline.ΦT Pipeline.prefHeld
  rw [show (Finset.univ : Finset (Fin 2)) = {0, 1} from by decide, bigSep_insert (by decide), bigSep_singleton]
  rfl

/-- The body at a point. -/
abbrev bodyAt0 (t : Fin (cfgM m hG).N) : Prog (TpuEff nD τ sig (Elt F) Λ₀ .tc) PUnit :=
  defs₀ (F := F) .tc (cfgM m hG).body ((cfgM m hG).bodyArgs t ((cfgM m hG).slots t))

/-- What the body is handed at a point, -/
def bodyPre (c : Dev nD) (t : Fin (cfgM m hG).N) : sProp 𝕄 :=
  iprop((dats m hG 0 c).Φ t.castSucc ∗ (dats m hG 0 c).owesAt () t.castSucc
    ∗ (∃ d, owns (c : Thread nD τ) (st0 m hG 0 t) fullShare ((dats m hG 0 c).before 0 t d))
    ∗ (∃ d, owns (c : Thread nD τ) (st0 m hG 1 t) fullShare ((dats m hG 0 c).before 1 t d))
    ∗ (∃ d, owns (c : Thread nD τ) (st0 m hG 2 t) fullShare ((dats m hG 0 c).before 2 t d))
    ∗ (∃ d, owns (c : Thread nD τ) (st0 m hG 3 t) fullShare ((dats m hG 0 c).before 3 t d))
    ∗ (∃ d, owns (c : Thread nD τ) (st0 m hG 4 t) fullShare ((dats m hG 0 c).before 4 t d))
    ∗ (∃ d, owns (c : Thread nD τ) (st0 m hG 5 t) fullShare ((dats m hG 0 c).before 5 t d))
    ∗ (∃ d, owns (c : Thread nD τ) (st0 m hG 6 t) fullShare ((dats m hG 0 c).before 6 t d))
    ∗ (∃ d, owns (c : Thread nD τ) (st0 m hG 7 t) fullShare ((dats m hG 0 c).before 7 t d))
    ∗ (∃ d, owns (c : Thread nD τ) (st0 m hG 8 t) fullShare ((dats m hG 0 c).before 8 t d)))

/-- and what it returns. -/
def bodyPost (c : Dev nD) (t : Fin (cfgM m hG).N) : sProp 𝕄 :=
  iprop((dats m hG 0 c).Φ t.succ ∗ (dats m hG 0 c).owesAt () t.succ
    ∗ (dats m hG 0 c).leavesExact 0 t
    ∗ (dats m hG 0 c).leavesExact 1 t
    ∗ (dats m hG 0 c).leavesExact 2 t
    ∗ (dats m hG 0 c).leavesExact 3 t
    ∗ (dats m hG 0 c).leavesExact 4 t
    ∗ (dats m hG 0 c).leavesExact 5 t
    ∗ (dats m hG 0 c).leavesExact 6 t
    ∗ (dats m hG 0 c).leavesExact 7 t
    ∗ (dats m hG 0 c).leavesExact 8 t)

set_option maxHeartbeats 2400000 in
/-- The body at any point. -/
theorem sound_body (c : Dev nD) (t : Fin (cfgM m hG).N) :
    bodyPre m hG c t ⊢ wp frame (wpE (defs₀ (F := F)) Variants.none c none) Set.univ (bodyAt0 m hG t) (fun _ => bodyPost m hG c t) := by
  unfold bodyPre bodyPost bodyAt0
  rw [inv_eq, inv_eq, show (dats m hG 0 c).owesAt () t.succ = (dats m hG 0 c).owesAt () t.castSucc from rfl,
    Fin.val_succ, Fin.val_castSucc]
  unfold inv
  rw [tables_eq]
  rw [leaves_0, leaves_1, leaves_2, leaves_3, leaves_4, leaves_5, leaves_6, leaves_7, leaves_8]
  simp only [before_0, before_1, before_2, before_3, before_4]
  iintro ⟨⟨⟨%s, %hs, HS⟩, HR, HT0, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold defs₀; rw [Defs.onTc_tc]
  iapply (run_body c (grid0.coords t) (Memref.whole main_arg0) (Memref.isWhole_whole _) (Memref.whole main_arg1) (Memref.isWhole_whole _)
    _ _ _ _ _ _ _ _ _ _ _ _ _ _ _ _ _ _ (Memref.whole cc0_scratch0) (Memref.isWhole_whole _) (V m c main_arg1)
    (iblk m hG c 0 t) (iblk m hG c 1 t) (iblk m hG c 2 t) (iblk m hG c 3 t) (iblk m hG c 4 t) ((dats m hG 0 c).before 5 t d5) s
    ((dats m hG 0 c).before 6 t d6) ((dats m hG 0 c).before 7 t d7) ((dats m hG 0 c).before 8 t d8) Set.univ _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  rw [scr_kept m hG c t s hs, show word c (grid0.coords t) (Memref.whole main_arg1) (V m c main_arg1) = count m c (grid0.coords t) from rfl,
    show leaves (iblk m hG c 2 t) (iblk m hG c 3 t) (iblk m hG c 4 t) (startAt (grid0.coords t) ((dats m hG 0 c).before 5 t d5)) (scr m hG c t.val t.isLt)
      (count m c (grid0.coords t)) = held m hG c t.val t.isLt from grow_before m hG c t d5]
  iintro ⟨HT, H0, H1, H2, H3, H4, H5, H6, H7, H8, HS⟩
  isplitl [HS HR HT0 HT]
  · isplitl [HS]
    · iexists _; isplitr; swap; · iexact HS
      ipureintro
      exact fun _ _ => rfl
    isplitl [HR]; · iexact HR
    isplitl [HT0]; · iexact HT0
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m hG 0 c) (defs₀ (F := F)) Variants.none () Set.univ := fun t => by
  rw [bigSep_W0, bigSep_W0]
  exact triple_restated (sound_body m hG c t) rfl .rfl fun _ => .rfl

theorem main_region (c : Dev nD) : main (F := F) c = (.op (.customCall (Pipeline.entry 0) ()) fun _ => .ret ⟨⟩) := rfl

/-- Before the first point the scratch holds anything. -/
theorem inv_in (c : Dev nD) : iprop(Pipeline.ΦA spec0 c ∗ Pipeline.ΦT pre0 (tbl m) c) ⊢ inv m hG c 0 := by
  unfold inv Pipeline.ΦA
  rw [scopedRest0_eq]
  simp only [owns_whole]
  iintro ⟨⟨⟨%f, HS⟩, HR⟩, HT⟩
  isplitl [HS]
  · iexists f; isplitr
    · ipureintro; exact fun _ h => absurd (Nat.zero_mod 28) h
    iexact HS
  isplitl [HR]; · iexact HR
  iexact HT

theorem inv_out (c : Dev nD) (n : ℕ) : inv m hG c n ⊢ Pipeline.ΦA spec0 c := by
  unfold inv Pipeline.ΦA
  rw [scopedRest0_eq]
  simp only [owns_whole]
  iintro ⟨⟨%s, -, HS⟩, HR, -⟩
  isplitl [HS]
  · iexists s
    iexact HS
  iexact HR

set_option backward.isDefEq.respectTransparency.types false in
/-- The run of the grid, every counter at zero at its end. -/
theorem run_quiet : θ_run defs (onTc (τ := τ) (main (F := F))) (s₀ m ρ)
    (fun r => (Pipeline.FramePost (Pipeline.pin (pcfgs (F := F)) fun _ => adm m hG) (dats m hG) 0 (V m)) r ∧ r.2.sem = fun _ => 0) :=
  Pipeline.θ_run_frameP_track_shared (Q' := _) (pcfgs (F := F)) (fun _ => adm m hG) (dats m hG) (0 : Fin 1) launch₀0 defs₀ Variants.none m ρ main
    (hbody := fun c => (body_obligation m hG c).loose) (hq := fun _ _ _ => rfl)
    (howed := fun _ _ => rfl) (V := V m) (hmain := Pipeline.hmainP_region pcfgs 0 defs₀ Variants.none m main main_region)
    (hA := A_eq m hG) (hpf := V_pre m) (hin := inv_in m hG) (hout := fun c => inv_out m hG c _)

theorem run_main : θ_run defs (onTc (τ := τ) (main (F := F))) (s₀ m ρ)
    (Pipeline.FramePost (Pipeline.pin (pcfgs (F := F)) fun _ => adm m hG) (dats m hG) 0 (V m)) :=
  (θ_run defs _ _).mono (fun _ h => h.1) (run_quiet m ρ hG)

theorem not_arr (b : Ref sig .tc) (h : ∀ w : Fin 9, (spec0 w).arr.view.ref ≠ b) (w : Fin 9) :
    (((Pipeline.pin (pcfgs (F := F)) fun _ => adm m hG) 0).spec w).arr.view.ref ≠ b := h w

/-- The frame: the arguments end as they began, every counter at zero. -/
theorem frame (hG : Good m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
    ((h.1 c).2 main_arg0 (Pipeline.mem_restRefs_of main_arg0 (by decide) fun w => not_arr m hG _ (by decide) w)),
    ((h.1 c).2 main_arg1 (Pipeline.mem_restRefs_of main_arg1 (by decide) fun w => not_arr m hG _ (by decide) w)),
    ((h.1 c).1 0).trans (((dats m hG 0 c).arrAt_in 0 rfl _).trans (A_eq m hG c 0)),
    ((h.1 c).1 2).trans (((dats m hG 0 c).arrAt_in 2 rfl _).trans (A_eq m hG c 2)),
    ((h.1 c).1 3).trans (((dats m hG 0 c).arrAt_in 3 rfl _).trans (A_eq m hG c 3)),
    ((h.1 c).1 4).trans (((dats m hG 0 c).arrAt_in 4 rfl _).trans (A_eq m hG c 4))⟩, h.2⟩)
    (run_quiet m ρ hG)

end Cert.TailsIdeal.Hand

end
-- ==== Proof.TailsIdealGood.lean ====
/-
  Good tables: of words that are block numbers every block the windows name is inside its array. The
  blocks' numbers, as the tables and the point give them.
-/
module

public import proofs.«01_k».proof.Proof.TailsIdealFrame
public import Idealize.ShloMosaic.Lib.Affine
public import Idealize.ShloMosaic.Lib.Pointwise

@[expose] public section

set_option maxRecDepth 16384

noncomputable section

namespace Cert.TailsIdeal.Hand

open Idealize.ShloMosaic Idealize.ShloMosaic.TcCoe
open Cert.TailsIdeal Cert.TailsIdeal.Gen

variable {F : FTy → Type} [FloatOps F]
variable (m : (ℓ : Loc nD τ sig) → Buf (Elt F) ℓ)

theorem off_word : ∀ n : Fin 8, ∀ r : Fin 2, (Scalar.indexCast (Scalar.addi (Scalar.muli 2#32 (BitVec.ofNat 32 n.val)) (BitVec.ofNat 32 r.val))).toNat = 2 * n.val + r.val := by decide
theorem off_count : ∀ n : Fin 8, (Scalar.indexCast (BitVec.ofNat 32 n.val)).toNat = n.val := by decide

/-- The place of an expert's word in the table of blocks. -/
def slot (e : Fin 8) (k : Fin 2) : Fin 16 := ⟨2 * e.val + k.val, by omega⟩

/-- The words of an expert: its two row blocks and how many of them it has. -/
def blockOf (e : Fin 8) (k : Fin 2) : ℕ := ((V m (0 : Dev nD) main_arg0 : IVec S16 32) (ix1 (slot e k))).toNat
def countOf (e : Fin 8) : BitVec 32 := (V m (0 : Dev nD) main_arg1 : IVec S8 32) (ix1 e)

theorem emb_block (i : grid0.Coords) (k : Fin 2) :
    (Rect.unit (s := S16) (k0_off1 i (BitVec.ofNat 32 k.val)) S1.size (k0_off1_inb i k)).emb (Shape.Idx.first (numel1_S1.symm ▸ Nat.one_pos)) = ix1 (slot (i 0) k) :=
  funext fun a => match a with
    | 0 => Fin.ext (show k0_off1 i (BitVec.ofNat 32 k.val) 0 + 1 * 0 = 2 * (i 0).val + k.val from off_word (i 0) k)

theorem emb_count (i : grid0.Coords) : (Rect.unit (s := S8) (k0_off2 i) S1.size (k0_off2_inb i)).emb (Shape.Idx.first (numel1_S1.symm ▸ Nat.one_pos)) = ix1 (i 0) :=
  funext fun a => match a with
    | 0 => Fin.ext (show k0_off2 i 0 + 1 * 0 = (i 0).val from off_count (i 0))

theorem count_eq (c : Dev nD) (i : grid0.Coords) : count m c i = countOf m (i 0) := by
  obtain rfl : c = 0 := Subsingleton.elim _ _
  exact congrArg (V m (0 : Dev nD) main_arg1 : IVec S8 32) (emb_count i)

theorem at_block (i : grid0.Coords) (k : Fin 2) :
    ((tbl m).at 0 (Rect.unit (s := S16) (k0_off1 i (BitVec.ofNat 32 k.val)) S1.size (k0_off1_inb i k)) numel1_S1 : BitVec 32).toNat = blockOf m (i 0) k :=
  congrArg (fun x => ((V m (0 : Dev nD) main_arg0 : IVec S16 32) x).toNat) (emb_block i k)

theorem index_0 (i : grid0.Coords) : cc0_transform_0 k0_off1_inb numel1_S1 (tbl m) i = ![blockOf m (i 0) 0, 0] := by
  rw [← at_block]; rfl
theorem index_1 (i : grid0.Coords) : cc0_transform_1 k0_off1_inb numel1_S1 (tbl m) i = ![blockOf m (i 0) 1, 0] := by
  rw [← at_block]; rfl

/-- Words that are block numbers make good tables. -/
theorem good (h : ∀ n : Fin 16, ((V m (0 : Dev nD) main_arg0 : IVec S16 32) (ix1 n)).toNat < 72) : Good m where
  ok := by
    unfold ok0
    refine ⟨fun i => ⟨?_, .inl rfl⟩, fun i => ⟨?_, .inl rfl⟩⟩
    · rw [index_0]
      have : blockOf m (i 0) 0 < 72 := h _
      intro a
      match a with
      | 0 => show (blockOf m (i 0) 0 + 1) * 512 ≤ 36864; omega
      | 1 => show (0 + 1) * 2048 ≤ 2048; decide
    · rw [index_1]
      have : blockOf m (i 0) 1 < 72 := h _
      intro a
      match a with
      | 0 => show (blockOf m (i 0) 1 + 1) * 512 ≤ 36864; omega
      | 1 => show (0 + 1) * 2048 ≤ 2048; decide

end Cert.TailsIdeal.Hand

end
-- ==== Proof.TailFrames.lean ====
/-
  The tail blocks' frames.
-/
module

public import proofs.«01_k».proof.Defs
public import proofs.«01_k».proof.Proof.Gen.ReferenceTailsIdeal.Read
public import proofs.«01_k».proof.Proof.Gen.Pre_tails_in_range
public import proofs.«01_k».proof.Proof.TailsPre
public import proofs.«01_k».proof.Proof.TailsGood
public import proofs.«01_k».proof.Proof.TailsIdealGood

@[expose] public section

namespace Cert.Proof

open Idealize.ShloMosaic Idealize.ShloMosaic.TcCoe

theorem good_pt (m) (h : Pre_Tails m) : Cert.Tails.Hand.Good m :=
  Cert.Tails.Hand.good m fun n => Cert.Pre_tails_in_range.bounds _ _ _ _ _ _ (h 0) n

theorem good_pti (m) (h : Pre_TailsIdeal m) : Cert.TailsIdeal.Hand.Good m :=
  Cert.TailsIdeal.Hand.good m fun n => Cert.Pre_tails_in_range.bounds _ _ _ _ _ _ (h 0) n

theorem frame_pt : quiescent_Tails := fun m g h => Cert.Tails.Hand.frame m g (good_pt m h)

theorem frame_pti : quiescent_TailsIdeal := fun m g h => Cert.TailsIdeal.Hand.frame m g (good_pti m h)

end Cert.Proof

end
-- ==== Proof.TailsSpec.lean ====
/-
  The tail blocks as one function of the tables and the arrays: an expert's block of 512 rows is the
  SwiGLU of its source block where the expert has that many tail blocks, and zero elsewhere.
-/
module

public import proofs.«01_k».proof.Proof.ExpertsSpec

@[expose] public section

noncomputable section

namespace Cert.Tls

open Idealize.ShloMosaic
open Cert.Ffw (swiglu unit sum_blocks)
open Cert.Exps (pick row)

/-- A unit's place in its block of columns. -/
def tile (j : ℕ) (l : Fin 256) : Fin 7168 := ⟨j % 28 * 256 + l.val, by omega⟩

theorem sum_tiles (f : Fin 7168 → EReal) : ∑ k, f k = ∑ j ∈ Finset.range 28, ∑ l, f (tile j l) := by
  rw [Finset.sum_range]
  refine (sum_blocks (n := 28) (b := 256) f).trans (Finset.sum_congr rfl fun j _ => Finset.sum_congr rfl fun l _ => congrArg f ?_)
  apply Fin.ext
  show l.val + 256 * j.val = j.val % 28 * 256 + l.val
  omega

/-- Row `r` of an expert's block `k`, among the expert's rows and among all. -/
def place (k : Fin 2) (r : Fin 512) : Fin 1024 := ⟨k.val * 512 + r.val, by omega⟩
def line (e : Fin 8) (p : Fin 1024) : Fin 8192 := ⟨e.val * 1024 + p.val, by omega⟩

/-- An expert with `w` tail blocks has its block `k`: they stand last. -/
def Has (w : BitVec 32) (k : Fin 2) : Prop := (BitVec.ofNat 32 (2 - k.val)).sle w = true

instance (w : BitVec 32) (k : Fin 2) : Decidable (Has w k) := by unfold Has; infer_instance

/-- The place of a block's word in the table of source blocks. -/
def slot (e : Fin 8) (k : Fin 2) : Fin 16 := ⟨2 * e.val + k.val, by omega⟩

variable (tb : (⟨1, ![16]⟩ : Shape).Idx → BitVec 32) (nt : (⟨1, ![8]⟩ : Shape).Idx → BitVec 32) (x : (⟨2, ![36864, 2048]⟩ : Shape).Idx → EReal)
  (wg wu : (⟨3, ![8, 2048, 7168]⟩ : Shape).Idx → EReal) (wd : (⟨3, ![8, 7168, 2048]⟩ : Shape).Idx → EReal)

/-- A block's source block. -/
def src (e : Fin 8) (k : Fin 2) : Fin 72 := pick (by omega) (tb (ix1 (slot e k)))

/-- The product of a row's unit `f` with column `d` of its expert's last matrix. -/
def term (e : Fin 8) (k : Fin 2) (r : Fin 512) (d : Fin 2048) (f : Fin 7168) : EReal :=
  unit (fun q => x (ix2 (row (by decide) (src tb e k) r) q)) (fun q f => wg (ix3 e q f)) (fun q f => wu (ix3 e q f)) f * wd (ix3 e f d)

/-- Entry `(r, d)` of an expert's block `k` of the result. -/
def value (e : Fin 8) (k : Fin 2) (r : Fin 512) (d : Fin 2048) : EReal :=
  if Has (nt (ix1 e)) k then ∑ f, term tb x wg wu wd e k r d f else 0

end Cert.Tls

end
-- ==== Proof.TailsElem.lean ====
/-
  The payloads of the tail body, read at an index.
-/
module

public import proofs.«01_k».proof.Proof.TailsIdealRun
public import proofs.«01_k».proof.Proof.TailsSpec

@[expose] public section

set_option maxRecDepth 16384

noncomputable section

namespace Cert.TailsIdeal.Hand

open Idealize.ShloMosaic Idealize.ShloMosaic.TcCoe Idealize.ShloMosaic.Tactic
open Cert.TailsIdeal Cert.TailsIdeal.Gen
open Cert.Ffw (silu unit swiglu)
open Cert.Tls (place Has)

variable (s : Vec Ideal S1024x2048 .bf16) (wg wu : Vec Ideal S1x2048x256 .f32) (wd : Vec Ideal S1x256x2048 .f32) (w : BitVec 32)
  (y : Vec Ideal S1024x2048 .f32)

/-- A point's product. -/
def prod : FVec Ideal S1024x2048 .f32 := fun e =>
  swiglu (fun k => s (ix2 (e 0) k)) (fun k f => wg (ix3 0 k f)) (fun k f => wu (ix3 0 k f)) (fun f d => wd (ix3 0 f d)) (e 1)

theorem halves_first {α : Type} (a b : S512x2048.Idx → α) (r : Fin 512) (d : Fin 2048) : halves a b (ix2 (place 0 r) d) = a (ix2 r d) := by
  have h : (place 0 r).val < 512 := by show 0 * 512 + r.val < 512; omega
  refine (dif_pos h).trans (congrArg a ?_)
  exact congrArg (fun p : Fin 512 => (ix2 p d : S512x2048.Idx)) (Fin.ext (show 0 * 512 + r.val = r.val by omega))

theorem halves_second {α : Type} (a b : S512x2048.Idx → α) (r : Fin 512) (d : Fin 2048) : halves a b (ix2 (place 1 r) d) = b (ix2 r d) := by
  have h : ¬ (place 1 r).val < 512 := by show ¬ 1 * 512 + r.val < 512; omega
  refine (dif_neg h).trans (congrArg b ?_)
  exact congrArg (fun p : Fin 512 => (ix2 p d : S512x2048.Idx)) (Fin.ext (show 1 * 512 + r.val - 512 = r.val by omega))

theorem upper_apply (r : Fin 512) (d : Fin 2048) : upper y (ix2 r d) = y (ix2 (place 0 r) d) :=
  congrArg (fun p : Fin 1024 => y (ix2 p d)) (Fin.ext (show r.val = 0 * 512 + r.val by omega))

theorem lower_apply (r : Fin 512) (d : Fin 2048) : lower y (ix2 r d) = y (ix2 (place 1 r) d) :=
  congrArg (fun p : Fin 1024 => y (ix2 p d)) (Fin.ext (show 512 + r.val = 1 * 512 + r.val by omega))

theorem pay8_apply (e : S1024x2048.Idx) : k0_pay8 (F := Ideal) e = 0 := Cert.Ffw.bits_zero

theorem pay12_apply (p : Fin 1024) (d : Fin 2048) : k0_pay12 (F := Ideal) s wg wu wd (ix2 p d) = prod s wg wu wd (ix2 p d) := by
  simp only [k0_pay12, k0_pay9, k0_pay10, k0_pay11]
  pointwise
  simp only [zero_sub]
  rfl

theorem pay3_apply (k : Fin 2048) (l : Fin 256) : k0_pay3 (F := Ideal) (k0_pay9 wg) (ix3 0 k l) = wg (ix3 0 k l) := by
  simp only [k0_pay3, k0_pay9]
  pointwise

theorem pay4_apply (k : Fin 2048) (l : Fin 256) : k0_pay4 (F := Ideal) (k0_pay10 wg) (ix3 0 k l) = wg (ix3 0 k l) := by
  simp only [k0_pay4, k0_pay10]
  pointwise

theorem pay5_apply (l : Fin 256) (d : Fin 2048) : k0_pay5 (F := Ideal) (k0_pay11 wd) (ix3 0 l d) = wd (ix3 0 l d) := by
  simp only [k0_pay5, k0_pay11]
  pointwise

theorem pay6_apply (x : Vec Ideal S512x2048 .f32) (r : Fin 512) (k : Fin 2048) : k0_pay6 (F := Ideal) x (ix2 r k) = x (ix2 r k) := by
  simp only [k0_pay6]
  pointwise

theorem pay7_apply (x : Vec Ideal S512x2048 .f32) (r : Fin 512) (k : Fin 2048) : k0_pay7 (F := Ideal) x (ix2 r k) = x (ix2 r k) := by
  simp only [k0_pay7]
  pointwise

theorem select_has {α : Type} (k : Fin 2) (a b : α) :
    Scalar.select (Scalar.cmpi .sge w (BitVec.ofNat 32 (2 - k.val))) a b = if Has w k then a else b := by
  show (if BitVec.ofBool ((BitVec.ofNat 32 (2 - k.val)).sle w) = 1#1 then a else b) = _
  by_cases h : Has w k
  · have h' : (BitVec.ofNat 32 (2 - k.val)).sle w = true := h
    rw [if_pos h, h']; rfl
  · have h' : (BitVec.ofNat 32 (2 - k.val)).sle w = false := Bool.eq_false_iff.mpr h
    rw [if_neg h, h']; rfl

theorem select_two {α : Type} (a b : α) : Scalar.select (Scalar.cmpi .sge w 2#32) a b = if Has w 0 then a else b := select_has w 0 a b
theorem select_one {α : Type} (a b : α) : Scalar.select (Scalar.cmpi .sge w 1#32) a b = if Has w 1 then a else b := select_has w 1 a b

theorem pay14_apply (r : Fin 512) (d : Fin 2048) :
    k0_pay14 (F := Ideal) s wg wu wd w (ix2 r d) = if Has w 0 then prod s wg wu wd (ix2 (place 0 r) d) else 0 := by
  simp only [k0_pay14, select_two]
  split
  · rw [← pay12_apply]
    generalize k0_pay12 (F := Ideal) s wg wu wd = v
    refine (?_ : _ = v (ix2 ⟨r.val, by omega⟩ d)).trans (congrArg (fun p : Fin 1024 => v (ix2 p d)) (Fin.ext (show r.val = 0 * 512 + r.val by omega)))
    pointwise
  · exact Cert.Ffw.bits_zero

theorem pay2_apply (v : FVec Ideal S1024x2048 .f32) (z : Vec Ideal S512x2048 .f32) (r : Fin 512) (d : Fin 2048) :
    k0_pay2 (F := Ideal) v z w (ix2 r d) = z (ix2 r d) + if Has w 1 then v (ix2 (place 1 r) d) else 0 := by
  simp only [k0_pay2, select_one]
  split
  · refine (?_ : _ = z (ix2 r d) + v (ix2 ⟨512 + r.val, by omega⟩ d)).trans
      (congrArg (fun p : Fin 1024 => z (ix2 r d) + v (ix2 p d)) (Fin.ext (show 512 + r.val = 1 * 512 + r.val by omega)))
    pointwise
  · rw [← Cert.Ffw.bits_zero]
    pointwise

/-- What a point leaves, entry by entry: the block's rows grow by the product where the expert has the block. -/
theorem leaves_apply (k : Fin 2) (r : Fin 512) (d : Fin 2048) :
    leaves (F := Ideal) wg wu wd y s w (ix2 (place k r) d)
      = y (ix2 (place k r) d) + if Has w k then prod s wg wu wd (ix2 (place k r) d) else 0 := by
  unfold leaves
  match k with
  | 0 =>
    rw [halves_first]
    show k0_pay13 (F := Ideal) (upper y) (ix2 r d) + k0_pay14 (F := Ideal) s wg wu wd w (ix2 r d) = _
    rw [pay14_apply, ← upper_apply y]
    refine congrArg (· + _) ?_
    simp only [k0_pay13]
    pointwise
  | 1 =>
    rw [halves_second, pay2_apply, pay12_apply, lower_apply]

end Cert.TailsIdeal.Hand

end
-- ==== Proof.TailsKer.lean ====
/-
  The tail call's four result arrays after the run, read at an index.
-/
module

public import proofs.«01_k».proof.Proof.TailsIdealGood
public import proofs.«01_k».proof.Proof.TailsElem

@[expose] public section

set_option maxRecDepth 16384

noncomputable section

namespace Cert.TailsIdeal.Hand

open Idealize.ShloMosaic Idealize.ShloMosaic.TcCoe Idealize.ShloMosaic.Tactic
open Idealize.ShloMosaic.Pipeline (Dat)
open Cert.TailsIdeal Cert.TailsIdeal.Gen
open Cert.Ffw (unit swiglu)
open Cert.Exps (pick pick_val row)
open Cert.Tls (tile place line Has src term value)

variable (m : (ℓ : Loc nD τ sig) → Buf (Elt Ideal) ℓ) (hG : Good m) (c : Dev nD)

/-- Every word is a block's number. -/
def Below : Prop := ∀ n : Fin 16, ((V m (0 : Dev nD) main_arg0 : IVec S16 32) (ix1 n)).toNat < 72

variable (hB : Below m)

theorem lt_N (t : Fin (cfgM m hG).N) : t.val < 224 := t.isLt.trans_eq N_0

/-- A point's expert. -/
abbrev ex (t : Fin (cfgM m hG).N) : Fin 8 := grid0.coords t 0

theorem ex_val (t : Fin (cfgM m hG).N) : (ex m hG t).val = t.val / 28 := by
  have := lt_N m hG t
  rw [coord_row]; omega

abbrev tblB : IVec S16 32 := m (((0 : Dev nD) : Thread nD τ).loc main_arg0)
abbrev tblN : IVec S8 32 := m (((0 : Dev nD) : Thread nD τ).loc main_arg1)

include hB in
theorem src_val (e : Fin 8) (k : Fin 2) : (src (tblB m) e k).val = blockOf m e k := by
  exact pick_val _ _ (hB _)

section Emb

theorem ext2 {A B : ℕ} (u v : (⟨2, ![A, B]⟩ : Shape).Idx) (h0 : (u 0).val = (v 0).val) (h1 : (u 1).val = (v 1).val) : u = v :=
  funext fun a => Fin.ext (match a with | 0 => h0 | 1 => h1)

theorem ext3 {A B C : ℕ} (u v : (⟨3, ![A, B, C]⟩ : Shape).Idx) (h0 : (u 0).val = (v 0).val) (h1 : (u 1).val = (v 1).val)
    (h2 : (u 2).val = (v 2).val) : u = v :=
  funext fun a => Fin.ext (match a with | 0 => h0 | 1 => h1 | 2 => h2)

variable (t : Fin (cfgM m hG).N) (r : Fin 512) (p : Fin 1024) (k : Fin 2048) (l : Fin 256)

theorem word_row : ∀ n : Fin 8, (BitVec.ofNat 32 n.val).toNat = n.val := by decide
theorem word_col : ∀ n : Fin 28, (BitVec.ofNat 32 n.val).toNat = n.val := by decide

theorem row_word : (BitVec.ofNat 32 (grid0.coords t 0).val).toNat = (ex m hG t).val := word_row _
theorem col_word : (BitVec.ofNat 32 (grid0.coords t 1).val).toNat = t.val % 28 := (word_col (grid0.coords t 1)).trans (coord_col m hG t)

include hB in
theorem emb0 : (((cfgM m hG).win 0).blk t).view.emb (ix2 r k : S512x2048.Idx) = (ix2 (row (by decide) (src (tblB m) (ex m hG t) 0) r) k : S36864x2048.Idx) := by
  refine ext2 (A := 36864) (B := 2048) _ _ ?_ ?_
  · show cc0_transform_0 k0_off1_inb numel1_S1 (tbl m) (grid0.coords t) 0 * 512 + 1 * r.val = (src (tblB m) (ex m hG t) 0).val * 512 + r.val
    rw [index_0, src_val m hB]
    show blockOf m (ex m hG t) 0 * 512 + 1 * r.val = _
    omega
  · show cc0_transform_0 k0_off1_inb numel1_S1 (tbl m) (grid0.coords t) 1 * 2048 + 1 * k.val = k.val
    rw [index_0]
    show 0 * 2048 + 1 * k.val = _
    omega

include hB in
theorem emb1 : (((cfgM m hG).win 1).blk t).view.emb (ix2 r k : S512x2048.Idx) = (ix2 (row (by decide) (src (tblB m) (ex m hG t) 1) r) k : S36864x2048.Idx) := by
  refine ext2 (A := 36864) (B := 2048) _ _ ?_ ?_
  · show cc0_transform_1 k0_off1_inb numel1_S1 (tbl m) (grid0.coords t) 0 * 512 + 1 * r.val = (src (tblB m) (ex m hG t) 1).val * 512 + r.val
    rw [index_1, src_val m hB]
    show blockOf m (ex m hG t) 1 * 512 + 1 * r.val = _
    omega
  · show cc0_transform_1 k0_off1_inb numel1_S1 (tbl m) (grid0.coords t) 1 * 2048 + 1 * k.val = k.val
    rw [index_1]
    show 0 * 2048 + 1 * k.val = _
    omega

theorem emb2 : (((cfgM m hG).win 2).blk t).view.emb (ix3 0 k l : S1x2048x256.Idx) = (ix3 (ex m hG t) k (tile t.val l) : S8x2048x7168.Idx) := by
  refine ext3 (A := 8) (B := 2048) (C := 7168) _ _ ?_ ?_ ?_
  · show (BitVec.ofNat 32 (grid0.coords t 0).val).toNat * 1 + 1 * 0 = (ex m hG t).val
    rw [row_word]; omega
  · show 0 * 2048 + 1 * k.val = k.val; omega
  · show (BitVec.ofNat 32 (grid0.coords t 1).val).toNat * 256 + 1 * l.val = t.val % 28 * 256 + l.val
    rw [col_word m hG]; omega

theorem emb3 : (((cfgM m hG).win 3).blk t).view.emb (ix3 0 k l : S1x2048x256.Idx) = (ix3 (ex m hG t) k (tile t.val l) : S8x2048x7168.Idx) := by
  refine ext3 (A := 8) (B := 2048) (C := 7168) _ _ ?_ ?_ ?_
  · show (BitVec.ofNat 32 (grid0.coords t 0).val).toNat * 1 + 1 * 0 = (ex m hG t).val
    rw [row_word]; omega
  · show 0 * 2048 + 1 * k.val = k.val; omega
  · show (BitVec.ofNat 32 (grid0.coords t 1).val).toNat * 256 + 1 * l.val = t.val % 28 * 256 + l.val
    rw [col_word m hG]; omega

theorem emb6 : (((cfgM m hG).win 6).blk t).view.emb (ix3 0 k l : S1x2048x256.Idx) = (ix3 (ex m hG t) k (tile t.val l) : S8x2048x7168.Idx) := by
  refine ext3 (A := 8) (B := 2048) (C := 7168) _ _ ?_ ?_ ?_
  · show (BitVec.ofNat 32 (grid0.coords t 0).val).toNat * 1 + 1 * 0 = (ex m hG t).val
    rw [row_word]; omega
  · show 0 * 2048 + 1 * k.val = k.val; omega
  · show (BitVec.ofNat 32 (grid0.coords t 1).val).toNat * 256 + 1 * l.val = t.val % 28 * 256 + l.val
    rw [col_word m hG]; omega

theorem emb7 : (((cfgM m hG).win 7).blk t).view.emb (ix3 0 k l : S1x2048x256.Idx) = (ix3 (ex m hG t) k (tile t.val l) : S8x2048x7168.Idx) := by
  refine ext3 (A := 8) (B := 2048) (C := 7168) _ _ ?_ ?_ ?_
  · show (BitVec.ofNat 32 (grid0.coords t 0).val).toNat * 1 + 1 * 0 = (ex m hG t).val
    rw [row_word]; omega
  · show 0 * 2048 + 1 * k.val = k.val; omega
  · show (BitVec.ofNat 32 (grid0.coords t 1).val).toNat * 256 + 1 * l.val = t.val % 28 * 256 + l.val
    rw [col_word m hG]; omega

theorem emb4 : (((cfgM m hG).win 4).blk t).view.emb (ix3 0 l k : S1x256x2048.Idx) = (ix3 (ex m hG t) (tile t.val l) k : S8x7168x2048.Idx) := by
  refine ext3 (A := 8) (B := 7168) (C := 2048) _ _ ?_ ?_ ?_
  · show (BitVec.ofNat 32 (grid0.coords t 0).val).toNat * 1 + 1 * 0 = (ex m hG t).val
    rw [row_word]; omega
  · show (BitVec.ofNat 32 (grid0.coords t 1).val).toNat * 256 + 1 * l.val = t.val % 28 * 256 + l.val
    rw [col_word m hG]; omega
  · show 0 * 2048 + 1 * k.val = k.val; omega

theorem emb8 : (((cfgM m hG).win 8).blk t).view.emb (ix3 0 l k : S1x256x2048.Idx) = (ix3 (ex m hG t) (tile t.val l) k : S8x7168x2048.Idx) := by
  refine ext3 (A := 8) (B := 7168) (C := 2048) _ _ ?_ ?_ ?_
  · show (BitVec.ofNat 32 (grid0.coords t 0).val).toNat * 1 + 1 * 0 = (ex m hG t).val
    rw [row_word]; omega
  · show (BitVec.ofNat 32 (grid0.coords t 1).val).toNat * 256 + 1 * l.val = t.val % 28 * 256 + l.val
    rw [col_word m hG]; omega
  · show 0 * 2048 + 1 * k.val = k.val; omega

theorem emb5 : (((cfgM m hG).win 5).blk t).view.emb (ix2 p k : S1024x2048.Idx) = (ix2 (line (ex m hG t) p) k : S8192x2048.Idx) := by
  refine ext2 (A := 8192) (B := 2048) _ _ ?_ ?_
  · show (BitVec.ofNat 32 (grid0.coords t 0).val).toNat * 1024 + 1 * p.val = (ex m hG t).val * 1024 + p.val
    rw [row_word]; omega
  · show 0 * 2048 + 1 * k.val = k.val; omega

include hB in
theorem blk0 : (iblk m hG c 0 t : Vec Ideal S512x2048 .f32) (ix2 r k) = (m ((c : Thread nD τ).loc main_arg2) : FVec Ideal S36864x2048 .f32) (ix2 (row (by decide) (src (tblB m) (ex m hG t) 0) r) k) := by
  show (V m c main_arg2 : FVec Ideal S36864x2048 .f32) ((((cfgM m hG).win 0).blk t).view.emb (ix2 r k)) = _
  rw [emb0 m hG hB]
  try rfl

include hB in
theorem blk1 : (iblk m hG c 1 t : Vec Ideal S512x2048 .f32) (ix2 r k) = (m ((c : Thread nD τ).loc main_arg2) : FVec Ideal S36864x2048 .f32) (ix2 (row (by decide) (src (tblB m) (ex m hG t) 1) r) k) := by
  show (V m c main_arg2 : FVec Ideal S36864x2048 .f32) ((((cfgM m hG).win 1).blk t).view.emb (ix2 r k)) = _
  rw [emb1 m hG hB]
  try rfl

theorem blk2 : (iblk m hG c 2 t : Vec Ideal S1x2048x256 .f32) (ix3 0 k l) = (m ((c : Thread nD τ).loc main_arg3) : FVec Ideal S8x2048x7168 .f32) (ix3 (ex m hG t) k (tile t.val l)) := by
  show (V m c main_arg3 : FVec Ideal S8x2048x7168 .f32) ((((cfgM m hG).win 2).blk t).view.emb (ix3 0 k l)) = _
  rw [emb2 m hG]
  try rfl

theorem blk3 : (iblk m hG c 3 t : Vec Ideal S1x2048x256 .f32) (ix3 0 k l) = (m ((c : Thread nD τ).loc main_arg4) : FVec Ideal S8x2048x7168 .f32) (ix3 (ex m hG t) k (tile t.val l)) := by
  show (V m c main_arg4 : FVec Ideal S8x2048x7168 .f32) ((((cfgM m hG).win 3).blk t).view.emb (ix3 0 k l)) = _
  rw [emb3 m hG]
  try rfl

theorem blk4 : (iblk m hG c 4 t : Vec Ideal S1x256x2048 .f32) (ix3 0 l k) = (m ((c : Thread nD τ).loc main_arg5) : FVec Ideal S8x7168x2048 .f32) (ix3 (ex m hG t) (tile t.val l) k) := by
  show (V m c main_arg5 : FVec Ideal S8x7168x2048 .f32) ((((cfgM m hG).win 4).blk t).view.emb (ix3 0 l k)) = _
  rw [emb4 m hG]
  try rfl

end Emb

/-- The point before, of the same expert. -/
theorem ex_prev (t : Fin (cfgM m hG).N) (h0 : t.val % 28 ≠ 0) (hlt : t.val - 1 < (cfgM m hG).N) : ex m hG ⟨t.val - 1, hlt⟩ = ex m hG t := by
  apply Fin.ext
  rw [ex_val, ex_val]
  show (t.val - 1) / 28 = t.val / 28
  omega

include hB in
/-- From an expert's first point on, the scratch holds its two source blocks. -/
theorem scr_rows (j : ℕ) (hj : j < 28) : ∀ (t : Fin (cfgM m hG).N), t.val % 28 = j → ∀ (k : Fin 2) (r : Fin 512) (q : Fin 2048),
    scr m hG c t.val t.isLt (ix2 (place k r) q)
      = (m ((c : Thread nD τ).loc main_arg2) : FVec Ideal S36864x2048 .f32) (ix2 (row (by decide) (src (tblB m) (ex m hG t) k) r) q) := by
  induction j with
  | zero =>
    intro t ht k r q
    rw [scr_first m hG c t ht (fun _ => (0 : EReal))]
    unfold scratchAt
    rw [if_pos ((coord_col m hG t).trans ht)]
    match k with
    | 0 => rw [halves_first, pay6_apply, blk0 m hG c hB]
    | 1 => rw [halves_second, pay7_apply, blk1 m hG c hB]
  | succ j ih =>
    intro t ht k r q
    have hlt : t.val - 1 < (cfgM m hG).N := Nat.lt_of_le_of_lt (Nat.sub_le _ _) t.isLt
    rw [scr_next m hG c t (by omega)]
    unfold scratchAt
    rw [if_neg (by rw [coord_col]; omega), ih (by omega) ⟨t.val - 1, hlt⟩ (by show (t.val - 1) % 28 = j; omega) k r q,
      ex_prev m hG t (by omega) hlt]

/-- A row's products, of the launched arguments. -/
abbrev termOf (e : Fin 8) (k : Fin 2) (r : Fin 512) (d : Fin 2048) : Fin 7168 → EReal :=
  term (tblB m) (m ((c : Thread nD τ).loc main_arg2)) (m ((c : Thread nD τ).loc main_arg3)) (m ((c : Thread nD τ).loc main_arg4))
    (m ((c : Thread nD τ).loc main_arg5)) e k r d

include hB in
theorem prod_blk (t : Fin (cfgM m hG).N) (k : Fin 2) (r : Fin 512) (d : Fin 2048) :
    prod (scr m hG c t.val t.isLt) (iblk m hG c 2 t) (iblk m hG c 3 t) (iblk m hG c 4 t) (ix2 (place k r) d)
      = ∑ l, termOf m c (ex m hG t) k r d (tile t.val l) := by
  show swiglu (fun q => scr m hG c t.val t.isLt (ix2 (place k r) q)) (fun q f => (iblk m hG c 2 t : Vec Ideal S1x2048x256 .f32) (ix3 0 q f))
    (fun q f => (iblk m hG c 3 t : Vec Ideal S1x2048x256 .f32) (ix3 0 q f)) (fun f d => (iblk m hG c 4 t : Vec Ideal S1x256x2048 .f32) (ix3 0 f d)) d = _
  simp only [scr_rows m hG c hB (t.val % 28) (Nat.mod_lt _ (by decide)) t rfl, blk2 m hG c, blk3 m hG c, blk4 m hG c]
  rfl

include hB in
/-- After point `j` of an expert, the partial sum of a block it has, zero in one it has not. -/
theorem held_sum (j : ℕ) (hj : j < 28) : ∀ (t : Fin (cfgM m hG).N), t.val % 28 = j → ∀ (k : Fin 2) (r : Fin 512) (d : Fin 2048),
    held m hG c t.val t.isLt (ix2 (place k r) d)
      = if Has (countOf m (ex m hG t)) k then ∑ j' ∈ Finset.range (j + 1), ∑ l, termOf m c (ex m hG t) k r d (tile j' l) else 0 := by
  have ht' : ∀ (t : Fin (cfgM m hG).N) (j : ℕ), t.val % 28 = j → ∀ l, tile t.val l = tile j l := fun t j e l => by
    apply Fin.ext; show t.val % 28 * 256 + l.val = j % 28 * 256 + l.val; omega
  induction j with
  | zero =>
    intro t ht k r d
    rw [held_first m hG c t ht (fun _ => (0 : EReal))]
    unfold grow
    rw [leaves_apply, prod_blk m hG c hB t, count_eq]
    unfold startAt
    rw [if_pos ((coord_col m hG t).trans ht), pay8_apply]
    simp only [ht' t 0 ht, zero_add, Finset.sum_range_one]
  | succ j ih =>
    intro t ht k r d
    have hlt : t.val - 1 < (cfgM m hG).N := Nat.lt_of_le_of_lt (Nat.sub_le _ _) t.isLt
    rw [held_next m hG c t (by omega)]
    unfold grow
    rw [leaves_apply, prod_blk m hG c hB t, count_eq]
    unfold startAt
    rw [if_neg (by rw [coord_col]; omega), ih (by omega) ⟨t.val - 1, hlt⟩ (by show (t.val - 1) % 28 = j; omega) k r d, ex_prev m hG t (by omega) hlt]
    by_cases h : Has (countOf m (ex m hG t)) k
    · rw [if_pos h, if_pos h, if_pos h, Finset.sum_range_succ _ (j + 1)]
      simp only [ht' t (j + 1) ht]
    · rw [if_neg h, if_neg h, if_neg h, add_zero]

/-- The result, of the launched arguments. -/
abbrev valueOf (e : Fin 8) (k : Fin 2) (r : Fin 512) (d : Fin 2048) : EReal :=
  value (tblB m) (tblN m) (m ((c : Thread nD τ).loc main_arg2)) (m ((c : Thread nD τ).loc main_arg3)) (m ((c : Thread nD τ).loc main_arg4))
    (m ((c : Thread nD τ).loc main_arg5)) e k r d

theorem countOf_eq (e : Fin 8) : countOf m e = tblN m (ix1 e) := by
  rfl

include hB in
theorem held_last (t : Fin (cfgM m hG).N) (ht : t.val % 28 = 27) (k : Fin 2) (r : Fin 512) (d : Fin 2048) :
    held m hG c t.val t.isLt (ix2 (place k r) d) = valueOf m c (ex m hG t) k r d := by
  unfold valueOf value
  rw [held_sum m hG c hB 27 (by omega) t ht k r d, countOf_eq, Cert.Tls.sum_tiles]

/-- An array's row, as an expert, a block of it and a row there. -/
def exOf (i : Fin 8192) : Fin 8 := ⟨i.val / 1024, by omega⟩
def halfOf (i : Fin 8192) : Fin 2 := ⟨i.val / 512 % 2, by omega⟩
def placeOf (i : Fin 8192) : Fin 512 := ⟨i.val % 512, by omega⟩

/-- The first result array, index by index. -/
def outArr : FVec Ideal S8192x2048 .f32 := fun y => valueOf m c (exOf (y 0)) (halfOf (y 0)) (placeOf (y 0)) (y 1)

theorem outArr_row (e : Fin 8) (k : Fin 2) (r : Fin 512) (d : Fin 2048) : outArr m c (ix2 (line e (place k r)) d) = valueOf m c e k r d := by
  have hk := k.isLt
  show valueOf m c (exOf (line e (place k r))) (halfOf (line e (place k r))) (placeOf (line e (place k r))) d = _
  rw [show exOf (line e (place k r)) = e from Fin.ext (show (e.val * 1024 + (k.val * 512 + r.val)) / 1024 = e.val by omega),
    show halfOf (line e (place k r)) = k from Fin.ext (show (e.val * 1024 + (k.val * 512 + r.val)) / 512 % 2 = k.val by omega),
    show placeOf (line e (place k r)) = r from Fin.ext (show (e.val * 1024 + (k.val * 512 + r.val)) % 512 = r.val by omega)]

theorem split_idx (j : S1024x2048.Idx) : ∃ (k : Fin 2) (r : Fin 512) (d : Fin 2048), j = ix2 (place k r) d := by
  have h : (j 0).val < 1024 := (j 0).isLt
  refine ⟨⟨(j 0).val / 512, by omega⟩, ⟨(j 0).val % 512, by omega⟩, j 1, ext2 _ _ ?_ rfl⟩
  show (j 0).val = (j 0).val / 512 * 512 + (j 0).val % 512
  omega

include hB in
theorem flushed5_eq (t : Fin (cfgM m hG).N) (ht : t.val % 28 = 27) :
    (dats m hG 0 c).flushed 5 t = (((cfgM m hG).win 5).blk t).view.read (Elt Ideal) (outArr m c) := by
  show ((cfgM m hG).win 5).cut (grid0.coords t) ((dats m hG 0 c).after 5 t) = _
  rw [after_5]
  funext j
  obtain ⟨k, r, d, rfl⟩ := split_idx j
  exact (held_last m hG c hB t ht k r d).trans ((outArr_row m c _ k r d).symm.trans (congrArg (outArr m c) (emb5 m hG t (place k r) d).symm))

/-- The point that writes a row back. -/
def pointOf (y : S8192x2048.Idx) : Fin (cfgM m hG).N :=
  ⟨(y 0).val / 1024 * 28 + 27, lt_of_lt_of_eq (by have h0 : (y 0).val < 8192 := (y 0).isLt; omega : _ < 224) N_0.symm⟩

theorem mem_at {α : Type} {S : Set α} {a b : α} (h : a ∈ S) (e : a = b) : b ∈ S := e ▸ h

theorem covered5 (y : S8192x2048.Idx) : ∃ t : Fin (cfgM m hG).N, ((cfgM m hG).win 5).flush t = true ∧ y ∈ (((cfgM m hG).win 5).blk t).view.set := by
  refine ⟨pointOf m hG y, (flush5 m hG _).mpr (by show ((y 0).val / 1024 * 28 + 27) % 28 = 27; omega), ?_⟩
  have h := (((cfgM m hG).win 5).blk (pointOf m hG y)).view.emb_mem_set (ix2 (⟨(y 0).val % 1024, by omega⟩ : Fin 1024) (y 1))
  refine mem_at h ((emb5 m hG (pointOf m hG y) ⟨(y 0).val % 1024, Nat.mod_lt _ (by decide)⟩ (y 1)).trans (ext2 (A := 8192) (B := 2048) _ y ?_ rfl))
  show (ex m hG (pointOf m hG y)).val * 1024 + (y 0).val % 1024 = (y 0).val
  rw [ex_val]
  show ((y 0).val / 1024 * 28 + 27) / 28 * 1024 + (y 0).val % 1024 = (y 0).val
  omega

include hB in
/-- The first result array after the run. -/
theorem final5 : (dats m hG 0 c).arrAt 5 (cfgM m hG).N = outArr m c :=
  (dats m hG 0 c).arrAt_eq_of_cover 5 _ (fun t ht => flushed5_eq m hG c hB t ((flush5 m hG t).mp ht)) (covered5 m hG)

section Weights

/-- The point whose columns hold unit `f` of expert `e`, and the unit's place among them. -/
def unitPoint (e : Fin 8) (f : Fin 7168) : Fin (cfgM m hG).N :=
  ⟨e.val * 28 + f.val / 256, lt_of_lt_of_eq (by omega : _ < 224) N_0.symm⟩
def unitPlace (f : Fin 7168) : Fin 256 := ⟨f.val % 256, by omega⟩

theorem ex_unitPoint (e : Fin 8) (f : Fin 7168) : ex m hG (unitPoint m hG e f) = e := by
  apply Fin.ext
  rw [ex_val]
  show (e.val * 28 + f.val / 256) / 28 = e.val
  omega

theorem tile_unitPoint (e : Fin 8) (f : Fin 7168) : tile (unitPoint m hG e f).val (unitPlace f) = f := by
  apply Fin.ext
  show (e.val * 28 + f.val / 256) % 28 * 256 + f.val % 256 = f.val
  omega

theorem split_up (j : S1x2048x256.Idx) : ∃ (k : Fin 2048) (l : Fin 256), j = ix3 0 k l :=
  ⟨j 1, j 2, ext3 _ _ (by have h : (j 0).val < 1 := (j 0).isLt; show (j 0).val = 0; omega) rfl rfl⟩

theorem split_down (j : S1x256x2048.Idx) : ∃ (k : Fin 2048) (l : Fin 256), j = ix3 0 l k :=
  ⟨j 2, j 1, ext3 _ _ (by have h : (j 0).val < 1 := (j 0).isLt; show (j 0).val = 0; omega) rfl rfl⟩

theorem flush6 (t : Fin (cfgM m hG).N) : ((cfgM m hG).win 6).flush t = true :=
  (Pipeline.Window.flush_reads ((cfgM m hG).win 6) rfl (1 : Fin 2) (by decide : 1 < grid0.bound 1) (by decide : grid0.fixedAfter reads0_6 1 = true)
    (Pipeline.Window.sep_of_coord cc0_transform_6 1 2 (fun _ => rfl) (by decide)) (P := 1) (m := 0) (by decide : grid0.stride 1 = 1) rfl t).mpr (Nat.mod_one _)

theorem flushed6_eq (t : Fin (cfgM m hG).N) :
    (dats m hG 0 c).flushed 6 t = (((cfgM m hG).win 6).blk t).view.read (Elt Ideal) (m ((c : Thread nD τ).loc main_arg3) : FVec Ideal S8x2048x7168 .bf16) := by
  show ((cfgM m hG).win 6).cut (grid0.coords t) ((dats m hG 0 c).after 6 t) = _
  rw [after_6]
  funext j
  obtain ⟨k, l, rfl⟩ := split_up j
  exact (pay3_apply _ k l).trans ((blk2 m hG c t k l).trans (congrArg (m ((c : Thread nD τ).loc main_arg3) : FVec Ideal S8x2048x7168 .f32) (emb6 m hG t k l).symm))

theorem covered6 (y : S8x2048x7168.Idx) : ∃ t : Fin (cfgM m hG).N, ((cfgM m hG).win 6).flush t = true ∧ y ∈ (((cfgM m hG).win 6).blk t).view.set := by
  refine ⟨unitPoint m hG (y 0) (y 2), flush6 m hG _, ?_⟩
  have h := (((cfgM m hG).win 6).blk (unitPoint m hG (y 0) (y 2))).view.emb_mem_set (ix3 0 (y 1) (unitPlace (y 2)) : S1x2048x256.Idx)
  have e := emb6 m hG (unitPoint m hG (y 0) (y 2)) (y 1) (unitPlace (y 2))
  exact mem_at h (e.trans (ext3 (A := 8) (B := 2048) (C := 7168) _ y (congrArg Fin.val (ex_unitPoint m hG _ _)) rfl (congrArg Fin.val (tile_unitPoint m hG _ _))))

/-- A copied weight after the run. -/
theorem final6 : (dats m hG 0 c).arrAt 6 (cfgM m hG).N = (m ((c : Thread nD τ).loc main_arg3) : FVec Ideal S8x2048x7168 .bf16) :=
  (dats m hG 0 c).arrAt_eq_of_cover 6 _ (fun t _ => flushed6_eq m hG c t) (covered6 m hG)

theorem flush7 (t : Fin (cfgM m hG).N) : ((cfgM m hG).win 7).flush t = true :=
  (Pipeline.Window.flush_reads ((cfgM m hG).win 7) rfl (1 : Fin 2) (by decide : 1 < grid0.bound 1) (by decide : grid0.fixedAfter reads0_7 1 = true)
    (Pipeline.Window.sep_of_coord cc0_transform_7 1 2 (fun _ => rfl) (by decide)) (P := 1) (m := 0) (by decide : grid0.stride 1 = 1) rfl t).mpr (Nat.mod_one _)

theorem flushed7_eq (t : Fin (cfgM m hG).N) :
    (dats m hG 0 c).flushed 7 t = (((cfgM m hG).win 7).blk t).view.read (Elt Ideal) (m ((c : Thread nD τ).loc main_arg4) : FVec Ideal S8x2048x7168 .bf16) := by
  show ((cfgM m hG).win 7).cut (grid0.coords t) ((dats m hG 0 c).after 7 t) = _
  rw [after_7]
  funext j
  obtain ⟨k, l, rfl⟩ := split_up j
  exact (pay4_apply _ k l).trans ((blk3 m hG c t k l).trans (congrArg (m ((c : Thread nD τ).loc main_arg4) : FVec Ideal S8x2048x7168 .f32) (emb7 m hG t k l).symm))

theorem covered7 (y : S8x2048x7168.Idx) : ∃ t : Fin (cfgM m hG).N, ((cfgM m hG).win 7).flush t = true ∧ y ∈ (((cfgM m hG).win 7).blk t).view.set := by
  refine ⟨unitPoint m hG (y 0) (y 2), flush7 m hG _, ?_⟩
  have h := (((cfgM m hG).win 7).blk (unitPoint m hG (y 0) (y 2))).view.emb_mem_set (ix3 0 (y 1) (unitPlace (y 2)) : S1x2048x256.Idx)
  have e := emb7 m hG (unitPoint m hG (y 0) (y 2)) (y 1) (unitPlace (y 2))
  exact mem_at h (e.trans (ext3 (A := 8) (B := 2048) (C := 7168) _ y (congrArg Fin.val (ex_unitPoint m hG _ _)) rfl (congrArg Fin.val (tile_unitPoint m hG _ _))))

/-- A copied weight after the run. -/
theorem final7 : (dats m hG 0 c).arrAt 7 (cfgM m hG).N = (m ((c : Thread nD τ).loc main_arg4) : FVec Ideal S8x2048x7168 .bf16) :=
  (dats m hG 0 c).arrAt_eq_of_cover 7 _ (fun t _ => flushed7_eq m hG c t) (covered7 m hG)

theorem flush8 (t : Fin (cfgM m hG).N) : ((cfgM m hG).win 8).flush t = true :=
  (Pipeline.Window.flush_reads ((cfgM m hG).win 8) rfl (1 : Fin 2) (by decide : 1 < grid0.bound 1) (by decide : grid0.fixedAfter reads0_8 1 = true)
    (Pipeline.Window.sep_of_coord cc0_transform_8 1 1 (fun _ => rfl) (by decide)) (P := 1) (m := 0) (by decide : grid0.stride 1 = 1) rfl t).mpr (Nat.mod_one _)

theorem flushed8_eq (t : Fin (cfgM m hG).N) :
    (dats m hG 0 c).flushed 8 t = (((cfgM m hG).win 8).blk t).view.read (Elt Ideal) (m ((c : Thread nD τ).loc main_arg5) : FVec Ideal S8x7168x2048 .bf16) := by
  show ((cfgM m hG).win 8).cut (grid0.coords t) ((dats m hG 0 c).after 8 t) = _
  rw [after_8]
  funext j
  obtain ⟨k, l, rfl⟩ := split_down j
  exact (pay5_apply _ l k).trans ((blk4 m hG c t k l).trans (congrArg (m ((c : Thread nD τ).loc main_arg5) : FVec Ideal S8x7168x2048 .f32) (emb8 m hG t k l).symm))

theorem covered8 (y : S8x7168x2048.Idx) : ∃ t : Fin (cfgM m hG).N, ((cfgM m hG).win 8).flush t = true ∧ y ∈ (((cfgM m hG).win 8).blk t).view.set := by
  refine ⟨unitPoint m hG (y 0) (y 1), flush8 m hG _, ?_⟩
  have h := (((cfgM m hG).win 8).blk (unitPoint m hG (y 0) (y 1))).view.emb_mem_set (ix3 0 (unitPlace (y 1)) (y 2) : S1x256x2048.Idx)
  have e := emb8 m hG (unitPoint m hG (y 0) (y 1)) (y 2) (unitPlace (y 1))
  exact mem_at h (e.trans (ext3 (A := 8) (B := 7168) (C := 2048) _ y (congrArg Fin.val (ex_unitPoint m hG _ _)) (congrArg Fin.val (tile_unitPoint m hG _ _)) rfl))

/-- A copied weight after the run. -/
theorem final8 : (dats m hG 0 c).arrAt 8 (cfgM m hG).N = (m ((c : Thread nD τ).loc main_arg5) : FVec Ideal S8x7168x2048 .bf16) :=
  (dats m hG 0 c).arrAt_eq_of_cover 8 _ (fun t _ => flushed8_eq m hG c t) (covered8 m hG)

end Weights

end Cert.TailsIdeal.Hand

end
-- ==== Proof.TailsRef.lean ====
/-
  The reference tail blocks' results read at an index.
-/
module

public import proofs.«01_k».proof.Proof.Gen.ReferenceTailsIdeal.Read
public import proofs.«01_k».proof.Proof.Consts
public import proofs.«01_k».proof.Proof.TailsSpec
public import proofs.«01_k».proof.Proof.ExpertsGather
public import proofs.«01_k».proof.Proof.ExpertsRef

@[expose] public section

set_option maxRecDepth 16384

noncomputable section

namespace Cert.ReferenceTailsIdeal.Hand

open Idealize.ShloMosaic Idealize.ShloMosaic.TcCoe
open Cert.ReferenceTailsIdeal Cert.ReferenceTailsIdeal.Gen Cert.ReferenceTailsIdeal.Read
open Cert.ReferenceExpertsIdeal.Hand (wrap_small clamp_small)
open Cert.Ffw (silu unit)
open Cert.Exps (row gather_blocks)
open Cert.Tls (Has place slot src term value)

variable (x0 : IVec S16 32) (x1 : IVec S8 32) (x2 : FVec Ideal S36864x2048 .f32) (x3 x4 : FVec Ideal S8x2048x7168 .f32)
  (x5 : FVec Ideal S8x7168x2048 .f32)

variable (hB : ∀ n : Fin 16, (x0 (ix1 n)).toNat < 72)

section Rows

variable (e : Fin 8) (h : Fin 2) (r : Fin 512) (k d : Fin 2048) (f : Fin 7168)

include hB

theorem word6 (n : Fin 16) : val_main_v6 (F := Ideal) x0 (ix2 n 0) = x0 (ix1 n) := by
  rw [val_main_v6_apply, show idx_main_v6 (ix2 n 0) = ix1 n from funext fun a => match a with | 0 => rfl, val_main_v5_apply,
    val_main_v2_apply, val_main_v4_apply, val_main_v1_apply, val_main_v3_apply]
  exact wrap_small _ _ (by have := hB n; omega)

theorem block_apply : val_main_v7 (F := Ideal) x0 x2 (ix3 (slot e h) r k) = x2 (ix2 (row (by decide) (src x0 e h) r) k) := by
  refine (gather_blocks (by omega) gather_S72x512x2048_S16x1_S16x512x2048_12_0_n_n_0_1_15122048_wf _ _ (slot e h) r k).trans ?_
  simp only [word6 x0 hB (slot e h)]
  rw [clamp_small (by omega) _ (hB (slot e h)) (by have := hB (slot e h); omega), val_main_v0_apply]
  refine congrArg x2 (funext fun a => Fin.ext ?_)
  match a with
  | 0 => show (((src x0 e h).val * 512 + r.val) * 2048 + k.val) / 2048 = (src x0 e h).val * 512 + r.val; omega
  | 1 => show (((src x0 e h).val * 512 + r.val) * 2048 + k.val) % 2048 = k.val; omega

theorem rows_apply : val_main_v8 (F := Ideal) x0 x2 (ix3 e (place h r) k) = x2 (ix2 (row (by decide) (src x0 e h) r) k) := by
  rw [val_main_v8_apply, ← block_apply x0 x2 hB]
  refine congrArg (val_main_v7 (F := Ideal) x0 x2) (funext fun a => Fin.ext ?_)
  have := h.isLt
  match a with
  | 0 => show ((e.val * 1024 + (h.val * 512 + r.val)) * 2048 + k.val) / 1048576 = 2 * e.val + h.val; omega
  | 1 => show ((e.val * 1024 + (h.val * 512 + r.val)) * 2048 + k.val) / 2048 % 512 = r.val; omega
  | 2 => show ((e.val * 1024 + (h.val * 512 + r.val)) * 2048 + k.val) % 2048 = k.val; omega

theorem gate_apply : val_main_v9 (F := Ideal) x0 x2 x3 (ix3 e (place h r) f)
    = ∑ k, x2 (ix2 (row (by decide) (src x0 e h) r) k) * x3 (ix3 e k f) := by
  rw [val_main_v9_apply]
  refine Finset.sum_congr rfl fun k _ => ?_
  rw [show lidx_main_v9 (ix3 e (place h r) f) k = ix3 e (place h r) k from funext fun a => match a with | 0 => rfl | 1 => rfl | 2 => rfl,
    show ridx_main_v9 (ix3 e (place h r) f) k = ix3 e k f from funext fun a => match a with | 0 => rfl | 1 => rfl | 2 => rfl,
    rows_apply x0 x2 hB]

theorem up_apply : val_main_v11 (F := Ideal) x0 x2 x4 (ix3 e (place h r) f)
    = ∑ k, x2 (ix2 (row (by decide) (src x0 e h) r) k) * x4 (ix3 e k f) := by
  rw [val_main_v11_apply]
  refine Finset.sum_congr rfl fun k _ => ?_
  rw [show lidx_main_v11 (ix3 e (place h r) f) k = ix3 e (place h r) k from funext fun a => match a with | 0 => rfl | 1 => rfl | 2 => rfl,
    show ridx_main_v11 (ix3 e (place h r) f) k = ix3 e k f from funext fun a => match a with | 0 => rfl | 1 => rfl | 2 => rfl,
    rows_apply x0 x2 hB]

theorem unit_apply : val_main_v12 (F := Ideal) x0 x2 x3 x4 (ix3 e (place h r) f)
    = unit (fun k => x2 (ix2 (row (by decide) (src x0 e h) r) k)) (fun k f => x3 (ix3 e k f)) (fun k f => x4 (ix3 e k f)) f := by
  rw [val_main_v12_apply, val_main_v10_apply, val_main_call0_v5_apply, val_main_call0_v4_apply, val_main_call0_cst_0_apply,
    val_main_call0_v3_apply, val_main_call0_v2_apply, val_main_call0_cst_apply, val_main_call0_v1_apply, val_main_call0_v0_apply,
    gate_apply x0 x2 x3 hB, up_apply x0 x2 x4 hB]
  show (∑ k, x2 (ix2 (row (by decide) (src x0 e h) r) k) * x3 (ix3 e k f)) * Ideal.div (Ideal.ofBits .f32 0x3F800000#32)
    (Ideal.ofBits .f32 0x3F800000#32 + Ideal.exp (-∑ k, x2 (ix2 (row (by decide) (src x0 e h) r) k) * x3 (ix3 e k f)))
    * (∑ k, x2 (ix2 (row (by decide) (src x0 e h) r) k) * x4 (ix3 e k f)) = _
  rw [Cert.KernelIdeal.Att.ofBits_one]
  rfl

theorem swiglu_apply : val_main_v13 (F := Ideal) x0 x2 x3 x4 x5 (ix3 e (place h r) d) = ∑ f, term x0 x2 x3 x4 x5 e h r d f := by
  rw [val_main_v13_apply]
  refine Finset.sum_congr rfl fun f _ => ?_
  rw [show lidx_main_v13 (ix3 e (place h r) d) f = ix3 e (place h r) f from funext fun a => match a with | 0 => rfl | 1 => rfl | 2 => rfl,
    show ridx_main_v13 (ix3 e (place h r) d) f = ix3 e f d from funext fun a => match a with | 0 => rfl | 1 => rfl | 2 => rfl,
    unit_apply x0 x2 x3 x4 hB]
  rfl

end Rows

section Mask

variable (e : Fin 8) (h : Fin 2) (r : Fin 512) (d : Fin 2048)

theorem bound_word : ∀ h : Fin 2, IntOp.subi 2#32 (BitVec.ofNat 32 h.val) = BitVec.ofNat 32 (2 - h.val) := by decide

theorem select_has {α : Type} (w : BitVec 32) (h : Fin 2) (a b : α) :
    Scalar.select (IntOp.cmpi .sge w (BitVec.ofNat 32 (2 - h.val))) a b = if Has w h then a else b := by
  show (if BitVec.ofBool ((BitVec.ofNat 32 (2 - h.val)).sle w) = 1#1 then a else b) = _
  by_cases hh : Has w h
  · have h' : (BitVec.ofNat 32 (2 - h.val)).sle w = true := hh
    rw [if_pos hh, h']; rfl
  · have h' : (BitVec.ofNat 32 (2 - h.val)).sle w = false := Bool.eq_false_iff.mpr hh
    rw [if_neg hh, h']; rfl

/-- The mask of a block: whether its expert has it. -/
theorem mask_apply : val_main_v22 (F := Ideal) x1 (ix2 e h) = IntOp.cmpi .sge (x1 (ix1 e)) (BitVec.ofNat 32 (2 - h.val)) := by
  rw [val_main_v22_apply, val_main_v20_apply, val_main_v15_apply, val_main_v21_apply, val_main_v19_apply, val_main_v18_apply,
    val_main_v17_apply, val_main_v16_apply, val_main_c_1_apply, ← bound_word]
  rw [show idx_main_v15 (idx_main_v20 (ix2 e h)) = ix1 e from funext fun a => match a with | 0 => rfl]
  rfl

include hB in
theorem masked_apply : val_main_v24 (F := Ideal) x0 x1 x2 x3 x4 x5 (ix4 e h r d) = value x0 x1 x2 x3 x4 x5 e h r d := by
  rw [val_main_v24_apply, val_main_call1_v1_apply, val_main_v23_apply, val_main_call1_v2_apply, val_main_call1_v0_apply,
    show idx_main_v23 (idx_main_call1_v1 (ix4 e h r d)) = ix2 e h from funext fun a => match a with | 0 => rfl | 1 => rfl,
    mask_apply, select_has, val_main_v14_apply,
    show idx_main_v14 (ix4 e h r d) = ix3 e (place h r) d from funext fun a => Fin.ext (by
      have := h.isLt
      match a with
      | 0 => show (((e.val * 2 + h.val) * 512 + r.val) * 2048 + d.val) / 2097152 = e.val; omega
      | 1 => show (((e.val * 2 + h.val) * 512 + r.val) * 2048 + d.val) / 2048 % 1024 = h.val * 512 + r.val; omega
      | 2 => show (((e.val * 2 + h.val) * 512 + r.val) * 2048 + d.val) % 2048 = d.val; omega),
    swiglu_apply x0 x2 x3 x4 x5 hB]
  have e0 : val_main_cst (F := Ideal) (idx_main_call1_v2 (ix4 e h r d)) = (0 : EReal) := Cert.Ffw.bits_zero
  rw [e0]
  rfl

end Mask

include hB in
/-- Row `i` of the first result is row `i % 512` of block `i / 512 % 2` of expert `i / 1024`. -/
theorem result (i : Fin 8192) (d : Fin 2048) :
    val_main_v25 (F := Ideal) x0 x1 x2 x3 x4 x5 (ix2 i d)
      = value x0 x1 x2 x3 x4 x5 ⟨i.val / 1024, by omega⟩ ⟨i.val / 512 % 2, by omega⟩ ⟨i.val % 512, by omega⟩ d := by
  rw [val_main_v25_apply, ← masked_apply x0 x1 x2 x3 x4 x5 hB]
  refine congrArg (val_main_v24 (F := Ideal) x0 x1 x2 x3 x4 x5) (funext fun a => Fin.ext ?_)
  match a with
  | 0 => show (i.val * 2048 + d.val) / 2097152 = i.val / 1024; omega
  | 1 => show (i.val * 2048 + d.val) / 1048576 % 2 = i.val / 512 % 2; omega
  | 2 => show (i.val * 2048 + d.val) / 2048 % 512 = i.val % 512; omega
  | 3 => show (i.val * 2048 + d.val) % 2048 = d.val; omega

end Cert.ReferenceTailsIdeal.Hand

end
-- ==== Proof.TailsAlg.lean ====
/-
  The tail blocks' value claim: where the source blocks are in range, the kernel's four arrays and
  the reference's are the same.
-/
module

public import proofs.«01_k».proof.Defs
public import proofs.«01_k».proof.Proof.TailFrames
public import proofs.«01_k».proof.Proof.TailsKer
public import proofs.«01_k».proof.Proof.TailsRef

@[expose] public section

noncomputable section

namespace Cert.Proof

open Idealize.ShloMosaic Idealize.ShloMosaic.TcCoe Idealize.SL.Sem

theorem below_pti (m) (h : Pre_TailsIdeal m) : Cert.TailsIdeal.Hand.Below m :=
  fun n => Cert.Pre_tails_in_range.bounds _ _ _ _ _ _ (h 0) n

theorem algebraic_tails : Cert.algebraic_TailsIdeal_ReferenceTailsIdeal := by
  intro m g m' g' hpre hargs
  have hG := good_pti m hpre
  have hB := below_pti m hpre
  refine ⟨Cert.TailsIdeal.Hand.outArr m, fun c => m ((c.tc : Thread Cert.TailsIdeal.nD Cert.TailsIdeal.τ).loc Cert.TailsIdeal.main_arg3),
    fun c => m ((c.tc : Thread Cert.TailsIdeal.nD Cert.TailsIdeal.τ).loc Cert.TailsIdeal.main_arg4),
    fun c => m ((c.tc : Thread Cert.TailsIdeal.nD Cert.TailsIdeal.τ).loc Cert.TailsIdeal.main_arg5), ?_, ?_⟩
  · refine (θ_run Cert.TailsIdeal.defs _ _).mono (fun r h c => ?_)
      (θ_run_and (Cert.TailsIdeal.Hand.frame m g hG) (Cert.TailsIdeal.Hand.run_main m g hG))
    exact ⟨((h.2 c).1 5).trans (Cert.TailsIdeal.Hand.final5 m hG c hB), ((h.2 c).1 6).trans (Cert.TailsIdeal.Hand.final6 m hG c),
      ((h.2 c).1 7).trans (Cert.TailsIdeal.Hand.final7 m hG c), ((h.2 c).1 8).trans (Cert.TailsIdeal.Hand.final8 m hG c), h.1.1 c⟩
  · refine (θ_run Cert.ReferenceTailsIdeal.defs _ _).mono (fun r h c => ?_) (Cert.ReferenceTailsIdeal.Value.run (F := Ideal) m' g')
    obtain ⟨hv0, hv1, hv2, hv3, hk⟩ := h c
    obtain ⟨e0, e1, e2, e3, e4, e5⟩ := hargs c
    refine ⟨hv0.trans ?_, hv1.trans ?_, hv2.trans ?_, hv3.trans ?_, hk⟩
    · refine (Cert.ReferenceTailsIdeal.Read.val_main_v25_eq _ _ _ _ _ _).trans ?_
      rw [e0, e1, e2, e3, e4, e5]
      obtain rfl : c = 0 := Subsingleton.elim _ _
      funext y
      refine (congrArg _ (?_ : y = ix2 (y 0) (y 1))).trans
        (Cert.ReferenceTailsIdeal.Hand.result _ _ _ _ _ _ hB (y 0) (y 1))
      exact funext fun a => match a with | 0 => rfl | 1 => rfl
    · rw [e3]; rfl
    · rw [e4]; rfl
    · rw [e5]; rfl

theorem frame_rti : Cert.quiescent_ReferenceTailsIdeal := fun m ρ _ =>
  (θ_run Cert.ReferenceTailsIdeal.defs _ _).mono (fun r h => ⟨fun c => (h c).2.2.2.2,
      Idealize.ShloMosaic.sem_eq_zero_of_no_sems (by decide) r.2⟩)
    (Cert.ReferenceTailsIdeal.Value.run (F := Ideal) m ρ)

end Cert.Proof

end
-- ==== Proof.ConvFrames.lean ====
/-
  The short convolution: the programs end, with their arguments unchanged.
-/
module

public import proofs.«01_k».proof.Defs
public import proofs.«01_k».proof.Proof.Gen.Conv.Frame
public import proofs.«01_k».proof.Proof.Gen.Conv.Points
public import proofs.«01_k».proof.Proof.Gen.Conv.Skeleton
public import proofs.«01_k».proof.Proof.Gen.ConvIdeal.Frame
public import proofs.«01_k».proof.Proof.Gen.ConvIdeal.Points
public import proofs.«01_k».proof.Proof.Gen.ConvIdeal.Skeleton
public import proofs.«01_k».proof.Proof.Gen.ReferenceConvIdeal.Read

@[expose] public section

noncomputable section

namespace Cert.Proof

open Idealize.ShloMosaic Idealize.SL.Sem

theorem frame_pc : Cert.quiescent_Conv := fun m ρ _ => Cert.Conv.Gen.frame m ρ
theorem frame_pci : Cert.quiescent_ConvIdeal := fun m ρ _ => Cert.ConvIdeal.Gen.frame m ρ
theorem frame_rci : Cert.quiescent_ReferenceConvIdeal := fun m ρ _ =>
  (θ_run Cert.ReferenceConvIdeal.defs _ _).mono (fun r h => ⟨fun c => (h c).2,
      Idealize.ShloMosaic.sem_eq_zero_of_no_sems (by decide) r.2⟩)
    (Cert.ReferenceConvIdeal.Value.run (F := Ideal) m ρ)

end Cert.Proof

end
-- ==== Proof.ConvRun.lean ====
/-
  The short convolution's body, run at a point: what it leaves in its output block and in the three
  weights it keeps.
-/
module

public import proofs.«01_k».proof.Proof.Gen.ConvIdeal.Frame
public import Idealize.ShloMosaic.Lib.VecWindow
public import Idealize.ShloMosaic.Lib.WholeRead
public import Idealize.ShloMosaic.Lib.WritesUnit
public import Idealize.ShloMosaic.Lib.Pointwise

@[expose] public section

set_option maxRecDepth 16384

noncomputable section

namespace Cert.ConvIdeal.Hand

open Idealize.ShloMosaic Idealize.ShloMosaic.TcCoe Idealize.ShloMosaic.Tactic
open Cert.ConvIdeal Cert.ConvIdeal.Gen

section views

variable {Val : EltTy → Type} {κ : Kind} {sp : Space} {e : EltTy}

/-- A block of 2048 rows below one of 8. -/
def padded {α : Type} (z : S8x256.Idx → α) (u : S2048x256.Idx → α) (y : S2056x256.Idx) : α :=
  if h : (y (0 : Fin 2)).val < 8 then z (ix2 ⟨(y (0 : Fin 2)).val, h⟩ (y (1 : Fin 2)))
  else u (ix2 ⟨(y (0 : Fin 2)).val - 8, by have := (y (0 : Fin 2)).isLt; change _ < 2056 at this; omega⟩ (y (1 : Fin 2)))

/-- The 2048 rows from row `o` on. -/
def rowsFrom {α : Type} (o : ℕ) (ho : o ≤ 8) (y : S2056x256.Idx → α) (x : S2048x256.Idx) : α :=
  y (ix2 ⟨o + (x (0 : Fin 2)).val, by have := (x (0 : Fin 2)).isLt; change _ < 2048 at this; omega⟩ (x (1 : Fin 2)))

theorem ld_h (v : View sig κ sp S2048x2048 e) (f : v.ty.Contents Val) (inb) :
    v.readAt Val (Rect.unit (s := S2048x2048) ![0, 0] ![2048, 2048] inb).toLoadRect f = v.read Val f :=
  View.readAt_full v (off := ![0, 0]) f inb

theorem ld_w (v : View sig κ sp S2048x256 e) (f : v.ty.Contents Val) (inb) :
    v.readAt Val (Rect.unit (s := S2048x256) ![0, 0] ![2048, 256] inb).toLoadRect f = v.read Val f :=
  View.readAt_full v (off := ![0, 0]) f inb

theorem ld_t (v : View sig κ sp S3x256 e) (f : v.ty.Contents Val) (inb) :
    v.readAt Val (Rect.unit (s := S3x256) ![0, 0] ![3, 256] inb).toLoadRect f = v.read Val f :=
  View.readAt_full v (off := ![0, 0]) f inb

theorem st_w (v : View sig κ sp S2048x256 e) (f : v.ty.Contents Val) (inb) (w : S2048x256.Idx → Val e) (L : List (View.Piece Val S2048x256 e)) :
    v.read Val (v.writes Val f ((⟨Rect.unit (s := S2048x256) ![0, 0] ![2048, 256] inb, w⟩ : View.Piece Val S2048x256 e) :: L)) = w :=
  View.read_writes_full v f (off := ![0, 0]) inb w L

/-- A store of 2048 rows below 8 leaves the two, one above the other. -/
theorem st_padded (v : View sig κ sp S2056x256 e) (f : v.ty.Contents Val) (inb inb') (z : S8x256.Idx → Val e) (u : S2048x256.Idx → Val e)
    (L : List (View.Piece Val S2056x256 e)) :
    v.read Val (v.writes Val f ((⟨Rect.unit (s := S2056x256) ![8, 0] ![2048, 256] inb, u⟩ : View.Piece Val S2056x256 e)
      :: (⟨Rect.unit (s := S2056x256) ![0, 0] ![8, 256] inb', z⟩ : View.Piece Val S2056x256 e) :: L)) = padded z u := by
  funext y
  unfold padded
  by_cases h : (y (0 : Fin 2)).val < 8
  · rw [dif_pos h]
    refine (View.read_writes_cons_rows_of_not_mem (d := ![2056, 256]) (o := 8) (W := 2048) v f inb u _ y rfl rfl (Or.inl h)).trans ?_
    exact View.read_writes_cons_rows_of_mem (d := ![2056, 256]) (o := 0) v f inb' z L y
      (ix2 ⟨(y (0 : Fin 2)).val, h⟩ (y (1 : Fin 2))) rfl (Nat.zero_add _).symm rfl
  · rw [dif_neg h]
    exact View.read_writes_cons_rows_of_mem (d := ![2056, 256]) (o := 8) v f inb u _ y
      (ix2 ⟨(y (0 : Fin 2)).val - 8, _⟩ (y (1 : Fin 2))) rfl (by show _ = 8 + ((y (0 : Fin 2)).val - 8); omega) rfl

theorem ld_from (o : ℕ) (ho : o ≤ 8) (v : View sig κ sp S2056x256 e) (f : v.ty.Contents Val) (inb) :
    v.readAt Val (Rect.unit (s := S2056x256) ![o, 0] ![2048, 256] inb).toLoadRect f = rowsFrom o ho (v.read Val f) := by
  funext x
  rw [View.readAt_apply]
  unfold rowsFrom
  exact congrArg (v.read Val f) (funext fun a => by
    match a with
    | 0 => exact Fin.ext (by show o + 1 * (x (0 : Fin 2)).val = o + (x (0 : Fin 2)).val; rw [Nat.one_mul])
    | 1 => exact Fin.ext (by show 0 + 1 * (x (1 : Fin 2)).val = (x (1 : Fin 2)).val; rw [Nat.zero_add, Nat.one_mul]))

end views

variable {F : FTy → Type} [FloatOps F]

/-- What a point leaves in the output block, from its rows, its taps and the three weights in the scratch. -/
def leaves (h : Vec F S2048x2048 .bf16) (cw : Vec F S3x256 .f32) (wb wc wv : Vec F S2048x256 .bf16) : Vec F S2048x256 .bf16 :=
  k0_pay1 h cw (k0_pay8 h wc wv cw) (k0_pay9 cw (rowsFrom 7 (by decide) (padded k0_pay6 (k0_pay7 h wc wv))))
    (rowsFrom 6 (by decide) (padded k0_pay6 (k0_pay7 h wc wv))) wb

variable (c : Dev nD) (i : grid0.Coords) (arg2 : Memref sig .tc .vmem S2048x2048 .bf16) (harg2 : arg2.IsWhole) (arg3 : Memref sig .tc .vmem S2048x256 .f32) (harg3 : arg3.IsWhole)
  (arg4 : Memref sig .tc .vmem S2048x256 .f32) (harg4 : arg4.IsWhole) (arg5 : Memref sig .tc .vmem S2048x256 .f32) (harg5 : arg5.IsWhole) (arg6 : Memref sig .tc .vmem S3x256 .f32) (harg6 : arg6.IsWhole)
  (arg7 : Memref sig .tc .vmem S2048x256 .bf16) (harg7 : arg7.IsWhole) (arg8 : Memref sig .tc .vmem S2056x256 .f32) (harg8 : arg8.IsWhole) (arg9 : Memref sig .tc .vmem S2048x256 .bf16) (harg9 : arg9.IsWhole)
  (arg10 : Memref sig .tc .vmem S2048x256 .bf16) (harg10 : arg10.IsWhole) (arg11 : Memref sig .tc .vmem S2048x256 .bf16) (harg11 : arg11.IsWhole)
  (x0 : Vec F S2048x2048 .bf16) (x1 : Vec F S2048x256 .f32) (x2 : Vec F S2048x256 .f32) (x3 : Vec F S2048x256 .f32) (x4 : Vec F S3x256 .f32)
  (xs1 : Vec F S2048x256 .bf16) (xs2 : Vec F S2048x256 .bf16) (xs3 : Vec F S2048x256 .bf16)

/-- Past the first point of a column block. -/
theorem out_next (hc0 : ¬cond0_0 i) (hc1 : ¬cond0_1 i) (hc2 : ¬cond0_2 i) :
    out0_B_5 c i arg2 harg2 arg3 harg3 arg4 harg4 arg5 harg5 arg6 harg6 arg7 harg7 arg8 harg8 arg9 harg9 arg10 harg10 arg11 harg11 hc0 hc1 hc2 x0 x1 x2 x3 x4 xs1 xs2 xs3
      = leaves x0 x4 xs1 xs2 xs3 := by
  unfold out0_B_5
  dsimp only [kernelRun0_B]
  rw [st_w]
  unfold kernelRun0_B.sl.r kernelRun0_B.sl.r_1 kernelRun0_B.sl.r_2 kernelRun0_B.sl.r_3 kernelRun0_B.sl.v32 kernelRun0_B.sl.v27 kernelRun0_B.sl.HS0_2
  simp only [View.readCov, ld_from 7 (by decide), ld_from 6 (by decide), st_padded, ld_h, ld_w, ld_t, Memref.IsWhole.read_unread]
  rfl

/-- At the first point of a column block. -/
theorem out_first (hc0 : cond0_0 i) (hc1 : cond0_1 i) (hc2 : cond0_2 i) :
    out0_A_5 c i arg2 harg2 arg3 harg3 arg4 harg4 arg5 harg5 arg6 harg6 arg7 harg7 arg8 harg8 arg9 harg9 arg10 harg10 arg11 harg11 hc0 hc1 hc2 x0 x1 x2 x3 x4
      = leaves x0 x4 (k0_pay2 x1) (k0_pay3 x2) (k0_pay4 x3) := by
  unfold out0_A_5
  dsimp only [kernelRun0_A]
  rw [st_w]
  unfold kernelRun0_A.sl.r kernelRun0_A.sl.r_1 kernelRun0_A.sl.r_2 kernelRun0_A.sl.r_3 kernelRun0_A.sl.v32 kernelRun0_A.sl.v36 kernelRun0_A.sl.v27 kernelRun0_A.sl.v10 kernelRun0_A.sl.v12 kernelRun0_A.sl.HS0_2 kernelRun0_A.sl.HS1_1
  unfold kernelRun0_A.sl.v10 kernelRun0_A.sl.v12 kernelRun0_A.sl.HS2_1 kernelRun0_A.sl.HS3_1
  simp only [View.readCov, ld_from 7 (by decide), ld_from 6 (by decide), st_padded, st_w, ld_h, ld_w, ld_t, Memref.IsWhole.read_unread]
  rfl

theorem keep_first1 (hc0 : cond0_0 i) (hc1 : cond0_1 i) (hc2 : cond0_2 i) :
    sout0_A_1 c i arg2 harg2 arg3 harg3 arg4 harg4 arg5 harg5 arg6 harg6 arg7 harg7 arg8 harg8 arg9 harg9 arg10 harg10 arg11 harg11 hc0 hc1 hc2 x0 x1 x2 x3 x4 = k0_pay2 x1 := by
  unfold sout0_A_1
  dsimp only [kernelRun0_A]
  unfold kernelRun0_A.sl.HS1_1
  simp only [st_w, ld_w, Memref.IsWhole.read_unread]

theorem keep_first2 (hc0 : cond0_0 i) (hc1 : cond0_1 i) (hc2 : cond0_2 i) :
    sout0_A_2 c i arg2 harg2 arg3 harg3 arg4 harg4 arg5 harg5 arg6 harg6 arg7 harg7 arg8 harg8 arg9 harg9 arg10 harg10 arg11 harg11 hc0 hc1 hc2 x0 x1 x2 x3 x4 = k0_pay3 x2 := by
  unfold sout0_A_2
  dsimp only [kernelRun0_A]
  unfold kernelRun0_A.sl.HS2_1
  simp only [st_w, ld_w, Memref.IsWhole.read_unread]

theorem keep_first3 (hc0 : cond0_0 i) (hc1 : cond0_1 i) (hc2 : cond0_2 i) :
    sout0_A_3 c i arg2 harg2 arg3 harg3 arg4 harg4 arg5 harg5 arg6 harg6 arg7 harg7 arg8 harg8 arg9 harg9 arg10 harg10 arg11 harg11 hc0 hc1 hc2 x0 x1 x2 x3 x4 = k0_pay4 x3 := by
  unfold sout0_A_3
  dsimp only [kernelRun0_A]
  unfold kernelRun0_A.sl.HS3_1
  simp only [st_w, ld_w, Memref.IsWhole.read_unread]

end Cert.ConvIdeal.Hand

end
-- ==== Proof.ConvSpec.lean ====
/-
  The short convolution up to its output projection: what the kernel and the reference both compute.
-/
module

public import Idealize.ShloMosaic.Lib.Pointwise
public import proofs.«01_k».proof.Proof.FfnSpec

@[expose] public section

noncomputable section

namespace Cert.Cnv

open Idealize.ShloMosaic

/-- The array's row of place `s` of sequence `b`. -/
def row (b : Fin 8) (s : Fin 2048) : Fin 16384 := ⟨b.val * 2048 + s.val, by omega⟩

/-- Column `d` of part `j` of the projection. -/
def col (j : Fin 3) (d : Fin 2048) : Fin 6144 := ⟨j.val * 2048 + d.val, by omega⟩

section Arrays

variable (h : (⟨2, ![16384, 2048]⟩ : Shape).Idx → EReal) (w : (⟨2, ![2048, 6144]⟩ : Shape).Idx → EReal)
  (cw : (⟨2, ![3, 2048]⟩ : Shape).Idx → EReal) (b : Fin 8) (s : Fin 2048) (d : Fin 2048)

/-- A row of the projection. -/
def proj (n : Fin 6144) : EReal := ∑ k, h (ix2 (row b s) k) * w (ix2 k n)

/-- The convolution's input: the second part times the third. -/
def gated : EReal := proj h w b s (col 1 d) * proj h w b s (col 2 d)

/-- The input `k` places before, nothing before the sequence's start. -/
def lag (k : ℕ) : EReal := if k ≤ s.val then gated h w b ⟨s.val - k, by omega⟩ d else 0

/-- The gate times the convolution. -/
def value : EReal :=
  proj h w b s (col 0 d) * (cw (ix2 0 d) * lag h w b s d 2 + cw (ix2 1 d) * lag h w b s d 1 + cw (ix2 2 d) * lag h w b s d 0)

end Arrays

end Cert.Cnv

end
-- ==== Proof.ConvElem.lean ====
/-
  The payloads of the short convolution's body, read at an index.
-/
module

public import proofs.«01_k».proof.Proof.ConvRun
public import proofs.«01_k».proof.Proof.ConvSpec
public import proofs.«01_k».proof.Proof.FfnElem

@[expose] public section

set_option maxRecDepth 16384

noncomputable section

namespace Cert.ConvIdeal.Hand

open Idealize.ShloMosaic Idealize.ShloMosaic.TcCoe Idealize.ShloMosaic.Tactic
open Cert.ConvIdeal Cert.ConvIdeal.Gen

variable (h : Vec Ideal S2048x2048 .bf16) (cw : Vec Ideal S3x256 .f32) (wb wc wv : Vec Ideal S2048x256 .bf16)
  (p q u : Vec Ideal S2048x256 .f32) (w : Vec Ideal S2048x256 .f32) (r k : Fin 2048) (d : Fin 256)

theorem pay2_apply : k0_pay2 (F := Ideal) w (ix2 r d) = w (ix2 r d) := by pointwise [k0_pay2]
theorem pay3_apply : k0_pay3 (F := Ideal) w (ix2 r d) = w (ix2 r d) := by pointwise [k0_pay3]
theorem pay4_apply : k0_pay4 (F := Ideal) w (ix2 r d) = w (ix2 r d) := by pointwise [k0_pay4]

/-- A block's convolution input. -/
def input : EReal := (∑ k, h (ix2 r k) * wc (ix2 k d)) * ∑ k, h (ix2 r k) * wv (ix2 k d)

theorem pay5_apply : k0_pay5 (F := Ideal) h wc wv (ix2 r d) = input h wc wv r d := by
  pointwise [k0_pay5]
  rfl

theorem pay6_apply (j : Fin 8) : k0_pay6 (F := Ideal) (ix2 j d) = (0 : EReal) := by
  pointwise [k0_pay6]

theorem pay7_apply : k0_pay7 (F := Ideal) h wc wv (ix2 r d) = input h wc wv r d := by
  unfold k0_pay7
  have e : k0_pay5 (F := Ideal) h wc wv (ix2 r d) = input h wc wv r d := pay5_apply h wc wv r d
  generalize k0_pay5 (F := Ideal) h wc wv = y at e
  pointwise
  exact e

theorem pay8_apply : k0_pay8 (F := Ideal) h wc wv cw (ix2 r d) = cw (ix2 2 d) * input h wc wv r d := by
  unfold k0_pay8
  have e : k0_pay5 (F := Ideal) h wc wv (ix2 r d) = input h wc wv r d := pay5_apply h wc wv r d
  generalize k0_pay5 (F := Ideal) h wc wv = y at e
  pointwise
  rw [e]

theorem pay9_apply : k0_pay9 (F := Ideal) cw u (ix2 r d) = cw (ix2 1 d) * u (ix2 r d) := by
  pointwise [k0_pay9]

theorem pay1_apply : k0_pay1 (F := Ideal) h cw p q u wb (ix2 r d)
    = (∑ k, h (ix2 r k) * wb (ix2 k d)) * (p (ix2 r d) + q (ix2 r d) + cw (ix2 0 d) * u (ix2 r d)) := by
  pointwise [k0_pay1]

/-- The rows from `8 - k` on of the zeros and the input below them: the input `k` rows before. -/
theorem rows_apply (o : ℕ) (ho : o ≤ 8) : rowsFrom o ho (padded (k0_pay6 (F := Ideal)) (k0_pay7 (F := Ideal) h wc wv)) (ix2 r d)
    = if 8 - o ≤ r.val then input h wc wv ⟨r.val - (8 - o), by omega⟩ d else (0 : EReal) := by
  by_cases hr : 8 - o ≤ r.val
  · rw [if_pos hr, ← pay7_apply]
    refine (dif_neg (show ¬ o + r.val < 8 by omega)).trans (congrArg (k0_pay7 (F := Ideal) h wc wv) (funext fun a => Fin.ext ?_))
    match a with
    | 0 => show o + r.val - 8 = r.val - (8 - o); omega
    | 1 => rfl
  · rw [if_neg hr]
    exact (dif_pos (show o + r.val < 8 by omega)).trans (pay6_apply d ⟨o + r.val, by omega⟩)

theorem leaves_apply : leaves (F := Ideal) h cw wb wc wv (ix2 r d)
    = (∑ k, h (ix2 r k) * wb (ix2 k d)) * (cw (ix2 2 d) * input h wc wv r d
        + cw (ix2 1 d) * (if 1 ≤ r.val then input h wc wv ⟨r.val - 1, by omega⟩ d else (0 : EReal))
        + cw (ix2 0 d) * (if 2 ≤ r.val then input h wc wv ⟨r.val - 2, by omega⟩ d else (0 : EReal))) := by
  unfold leaves
  rw [pay1_apply, pay8_apply, pay9_apply, rows_apply, rows_apply]

end Cert.ConvIdeal.Hand

end
-- ==== Proof.ConvKer.lean ====
/-
  The short convolution's result array after the run, read at an index.
-/
module

public import proofs.«01_k».proof.Proof.ConvElem

@[expose] public section

set_option maxRecDepth 16384

noncomputable section

namespace Cert.ConvIdeal.Hand

open Idealize.ShloMosaic Idealize.ShloMosaic.TcCoe Idealize.ShloMosaic.Tactic
open Idealize.ShloMosaic.Pipeline (Dat)
open Cert.ConvIdeal Cert.ConvIdeal.Gen
open Cert.Cnv (row col proj gated lag value)

variable (m : (ℓ : Loc nD τ sig) → Buf (Elt Ideal) ℓ) (c : Dev nD)

theorem index0 : ∀ t : Fin cfg0.N, win0_0.index t (0 : Fin 2) = t.val % 8 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val / 8 :=
  (by decide +kernel : ∀ t : Fin grid0.N, _)
theorem index2 : ∀ t : Fin cfg0.N, win0_2.index t (0 : Fin 2) = 0 ∧ win0_2.index t (1 : Fin 2) = t.val / 8 + 8 :=
  (by decide +kernel : ∀ t : Fin grid0.N, _)
theorem index3 : ∀ t : Fin cfg0.N, win0_3.index t (0 : Fin 2) = 0 ∧ win0_3.index t (1 : Fin 2) = t.val / 8 + 16 :=
  (by decide +kernel : ∀ t : Fin grid0.N, _)
theorem index4 : ∀ t : Fin cfg0.N, win0_4.index t (0 : Fin 2) = 0 ∧ win0_4.index t (1 : Fin 2) = t.val / 8 :=
  (by decide +kernel : ∀ t : Fin grid0.N, _)
theorem index5 : ∀ t : Fin cfg0.N, win0_5.index t (0 : Fin 2) = t.val % 8 ∧ win0_5.index t (1 : Fin 2) = t.val / 8 :=
  (by decide +kernel : ∀ t : Fin grid0.N, _)

theorem lt_N (t : Fin cfg0.N) : t.val < 64 := t.isLt.trans_eq N_0

/-- A point's sequence, and its block's columns. -/
def seqOf (t : Fin cfg0.N) : Fin 8 := ⟨t.val % 8, by omega⟩
def colOf (t : Fin cfg0.N) (l : Fin 256) : Fin 2048 := ⟨t.val / 8 * 256 + l.val, by have := lt_N t; omega⟩

section Emb

variable (t : Fin cfg0.N) (r k : Fin 2048) (l : Fin 256) (j : Fin 3)

theorem emb0 : ((cfg0.win 0).blk t).view.emb (ix2 r k : S2048x2048.Idx) = (ix2 (row (seqOf t) r) k : S16384x2048.Idx) := by
  obtain ⟨e0, e1⟩ := index0 t
  funext a
  apply Fin.ext
  match a with
  | 0 => show win0_0.index t (0 : Fin 2) * 2048 + 1 * r.val = t.val % 8 * 2048 + r.val; omega
  | 1 => show win0_0.index t (1 : Fin 2) * 2048 + 1 * k.val = k.val; omega

theorem emb1 : ((cfg0.win 1).blk t).view.emb (ix2 k l : S2048x256.Idx) = (ix2 k (col 0 (colOf t l)) : S2048x6144.Idx) := by
  obtain ⟨e0, e1⟩ := index1 t
  funext a
  apply Fin.ext
  match a with
  | 0 => show win0_1.index t (0 : Fin 2) * 2048 + 1 * k.val = k.val; omega
  | 1 => show win0_1.index t (1 : Fin 2) * 256 + 1 * l.val = 0 * 2048 + (t.val / 8 * 256 + l.val); omega

theorem emb2 : ((cfg0.win 2).blk t).view.emb (ix2 k l : S2048x256.Idx) = (ix2 k (col 1 (colOf t l)) : S2048x6144.Idx) := by
  obtain ⟨e0, e1⟩ := index2 t
  funext a
  apply Fin.ext
  match a with
  | 0 => show win0_2.index t (0 : Fin 2) * 2048 + 1 * k.val = k.val; omega
  | 1 => show win0_2.index t (1 : Fin 2) * 256 + 1 * l.val = 1 * 2048 + (t.val / 8 * 256 + l.val); omega

theorem emb3 : ((cfg0.win 3).blk t).view.emb (ix2 k l : S2048x256.Idx) = (ix2 k (col 2 (colOf t l)) : S2048x6144.Idx) := by
  obtain ⟨e0, e1⟩ := index3 t
  funext a
  apply Fin.ext
  match a with
  | 0 => show win0_3.index t (0 : Fin 2) * 2048 + 1 * k.val = k.val; omega
  | 1 => show win0_3.index t (1 : Fin 2) * 256 + 1 * l.val = 2 * 2048 + (t.val / 8 * 256 + l.val); omega

theorem emb4 : ((cfg0.win 4).blk t).view.emb (ix2 j l : S3x256.Idx) = (ix2 j (colOf t l) : S3x2048.Idx) := by
  obtain ⟨e0, e1⟩ := index4 t
  funext a
  apply Fin.ext
  match a with
  | 0 => show win0_4.index t (0 : Fin 2) * 3 + 1 * j.val = j.val; omega
  | 1 => show win0_4.index t (1 : Fin 2) * 256 + 1 * l.val = t.val / 8 * 256 + l.val; omega

theorem emb5 : ((cfg0.win 5).blk t).view.emb (ix2 r l : S2048x256.Idx) = (ix2 (row (seqOf t) r) (colOf t l) : S16384x2048.Idx) := by
  obtain ⟨e0, e1⟩ := index5 t
  funext a
  apply Fin.ext
  match a with
  | 0 => show win0_5.index t (0 : Fin 2) * 2048 + 1 * r.val = t.val % 8 * 2048 + r.val; omega
  | 1 => show win0_5.index t (1 : Fin 2) * 256 + 1 * l.val = t.val / 8 * 256 + l.val; omega

/-- The launched arguments. -/
abbrev argH : FVec Ideal S16384x2048 .bf16 := m ((c : Thread nD τ).loc main_arg0)
abbrev argW : FVec Ideal S2048x6144 .f32 := m ((c : Thread nD τ).loc main_arg1)
abbrev argT : FVec Ideal S3x2048 .f32 := m ((c : Thread nD τ).loc main_arg2)

theorem blk0 : (iblk m c 0 t : Vec Ideal S2048x2048 .bf16) (ix2 r k) = argH m c (ix2 (row (seqOf t) r) k) := by
  show (V m c main_arg0 : FVec Ideal S16384x2048 .bf16) (((cfg0.win 0).blk t).view.emb (ix2 r k)) = _
  rw [emb0]

theorem blk1 : (iblk m c 1 t : Vec Ideal S2048x256 .f32) (ix2 k l) = argW m c (ix2 k (col 0 (colOf t l))) := by
  show (V m c main_arg1 : FVec Ideal S2048x6144 .f32) (((cfg0.win 1).blk t).view.emb (ix2 k l)) = _
  rw [emb1]

theorem blk2 : (iblk m c 2 t : Vec Ideal S2048x256 .f32) (ix2 k l) = argW m c (ix2 k (col 1 (colOf t l))) := by
  show (V m c main_arg1 : FVec Ideal S2048x6144 .f32) (((cfg0.win 2).blk t).view.emb (ix2 k l)) = _
  rw [emb2]

theorem blk3 : (iblk m c 3 t : Vec Ideal S2048x256 .f32) (ix2 k l) = argW m c (ix2 k (col 2 (colOf t l))) := by
  show (V m c main_arg1 : FVec Ideal S2048x6144 .f32) (((cfg0.win 3).blk t).view.emb (ix2 k l)) = _
  rw [emb3]

theorem blk4 : (iblk m c 4 t : Vec Ideal S3x256 .f32) (ix2 j l) = argT m c (ix2 j (colOf t l)) := by
  show (V m c main_arg2 : FVec Ideal S3x2048 .f32) (((cfg0.win 4).blk t).view.emb (ix2 j l)) = _
  rw [emb4]

end Emb

/-- A kept weight is part `j` of the point's columns. -/
def Holds (t : Fin cfg0.N) (j : Fin 3) (w : Vec Ideal S2048x256 .bf16) : Prop :=
  ∀ (k : Fin 2048) (l : Fin 256), w (ix2 k l) = argW m c (ix2 k (col j (colOf t l)))

theorem holds_first (t : Fin cfg0.N) : Holds m c t 0 (k0_pay2 (F := Ideal) (iblk m c 1 t)) ∧ Holds m c t 1 (k0_pay3 (F := Ideal) (iblk m c 2 t))
    ∧ Holds m c t 2 (k0_pay4 (F := Ideal) (iblk m c 3 t)) :=
  ⟨fun k l => (pay2_apply _ k l).trans (blk1 m c t k l), fun k l => (pay3_apply _ k l).trans (blk2 m c t k l),
    fun k l => (pay4_apply _ k l).trans (blk3 m c t k l)⟩

/-- After every point the scratch holds its three column blocks of the weight. -/
theorem kept (n : ℕ) (hn : n < 8) : ∀ t : Fin cfg0.N, t.val % 8 = n → Holds m c t 0 (outsAt0 m c t.val t.isLt).2.1
    ∧ Holds m c t 1 (outsAt0 m c t.val t.isLt).2.2.1 ∧ Holds m c t 2 (outsAt0 m c t.val t.isLt).2.2.2 := by
  induction n with
  | zero =>
    intro t ht
    rw [outsAt0_A m c t ht ht ht]
    dsimp only
    rw [keep_first1, keep_first2, keep_first3]
    exact holds_first m c t
  | succ n ih =>
    intro t ht
    have hlt : t.val - 1 < cfg0.N := Nat.lt_of_le_of_lt (Nat.sub_le _ _) t.isLt
    have hc : ∀ l, colOf ⟨t.val - 1, hlt⟩ l = colOf t l := fun l => by
      apply Fin.ext; show (t.val - 1) / 8 * 256 + l.val = t.val / 8 * 256 + l.val; omega
    obtain ⟨h0, h1, h2⟩ := ih (by omega) ⟨t.val - 1, hlt⟩ (by show (t.val - 1) % 8 = n; omega)
    rw [outsAt0_B m c t (by omega) (by omega) (by omega)]
    dsimp only [sout0_B_1, sout0_B_2, sout0_B_3]
    exact ⟨fun k l => (h0 k l).trans (by rw [hc]), fun k l => (h1 k l).trans (by rw [hc]), fun k l => (h2 k l).trans (by rw [hc])⟩

theorem input_blk (t : Fin cfg0.N) (wc wv : Vec Ideal S2048x256 .bf16) (hc : Holds m c t 1 wc) (hv : Holds m c t 2 wv) (r : Fin 2048) (l : Fin 256) :
    input (iblk m c 0 t) wc wv r l = gated (argH m c) (argW m c) (seqOf t) r (colOf t l) := by
  unfold input gated proj
  simp only [blk0, hc _ _, hv _ _]

/-- What a point leaves, with its weights in the scratch. -/
theorem leaves_blk (t : Fin cfg0.N) (wb wc wv : Vec Ideal S2048x256 .bf16) (hb : Holds m c t 0 wb) (hc : Holds m c t 1 wc) (hv : Holds m c t 2 wv)
    (r : Fin 2048) (l : Fin 256) :
    leaves (F := Ideal) (iblk m c 0 t) (iblk m c 4 t) wb wc wv (ix2 r l) = value (argH m c) (argW m c) (argT m c) (seqOf t) r (colOf t l) := by
  rw [leaves_apply]
  simp only [input_blk m c t wc wv hc hv, blk4, blk0, hb _ _]
  unfold value lag
  rw [if_pos (Nat.zero_le _), show (⟨r.val - 0, by omega⟩ : Fin 2048) = r from rfl]
  unfold proj
  rw [add_comm (_ + _) (argT m c (ix2 0 (colOf t l)) * _), add_comm (argT m c (ix2 2 (colOf t l)) * _), ← add_assoc]

theorem out_apply (t : Fin cfg0.N) (r : Fin 2048) (l : Fin 256) :
    (outsAt0 m c t.val t.isLt).1 (ix2 r l) = value (argH m c) (argW m c) (argT m c) (seqOf t) r (colOf t l) := by
  by_cases ht : t.val % 8 = 0
  · rw [outsAt0_A m c t ht ht ht]
    dsimp only
    rw [out_first]
    obtain ⟨h0, h1, h2⟩ := holds_first m c t
    exact leaves_blk m c t _ _ _ h0 h1 h2 r l
  · have hlt : t.val - 1 < cfg0.N := Nat.lt_of_le_of_lt (Nat.sub_le _ _) t.isLt
    obtain ⟨h0, h1, h2⟩ := kept m c (t.val % 8) (by omega) t rfl
    rw [outsAt0_B m c t ht ht ht] at h0 h1 h2 ⊢
    dsimp only [sout0_B_1, sout0_B_2, sout0_B_3] at h0 h1 h2 ⊢
    rw [out_next]
    exact leaves_blk m c t _ _ _ h0 h1 h2 r l

/-- The result array, index by index. -/
def outArr : FVec Ideal S16384x2048 .bf16 := fun y =>
  value (argH m c) (argW m c) (argT m c) ⟨(y 0).val / 2048, by have h : (y 0).val < 16384 := (y 0).isLt; omega⟩ ⟨(y 0).val % 2048, by omega⟩ (y 1)

theorem outArr_row (b : Fin 8) (s d : Fin 2048) : outArr m c (ix2 (row b s) d) = value (argH m c) (argW m c) (argT m c) b s d := by
  show value _ _ _ ⟨(b.val * 2048 + s.val) / 2048, _⟩ ⟨(b.val * 2048 + s.val) % 2048, _⟩ d = _
  congr 1 <;> exact Fin.ext (by dsimp only; omega)

theorem split_idx (j : S2048x256.Idx) : ∃ (r : Fin 2048) (l : Fin 256), j = ix2 r l :=
  ⟨j 0, j 1, funext fun a => match a with | 0 => rfl | 1 => rfl⟩

theorem flushed_eq (t : Fin cfg0.N) : (dats m 0 c).flushed 5 t = ((cfg0.win 5).blk t).view.read (Elt Ideal) (outArr m c) := by
  show (cfg0.win 5).cut (grid0.coords t) ((dats m 0 c).after 5 t) = _
  rw [after0_5]
  funext j
  obtain ⟨r, l, rfl⟩ := split_idx j
  exact (out_apply m c t r l).trans ((outArr_row m c _ _ _).symm.trans (congrArg (outArr m c) (emb5 t r l).symm))

/-- The point that writes an element back. -/
def pointOf (y : S16384x2048.Idx) : Fin cfg0.N :=
  ⟨(y 1).val / 256 * 8 + (y 0).val / 2048, lt_of_lt_of_eq (by
    have h0 : (y 0).val < 16384 := (y 0).isLt
    have h1 : (y 1).val < 2048 := (y 1).isLt
    omega : _ < 64) N_0.symm⟩

theorem at_pointOf (y : S16384x2048.Idx) :
    (ix2 (row (seqOf (pointOf y)) ⟨(y 0).val % 2048, by omega⟩) (colOf (pointOf y) ⟨(y 1).val % 256, by omega⟩) : S16384x2048.Idx) = y := by
  have h0 : (y 0).val < 16384 := (y 0).isLt
  funext a
  apply Fin.ext
  match a with
  | 0 => show ((y 1).val / 256 * 8 + (y 0).val / 2048) % 8 * 2048 + (y 0).val % 2048 = (y 0).val; omega
  | 1 => show ((y 1).val / 256 * 8 + (y 0).val / 2048) / 8 * 256 + (y 1).val % 256 = (y 1).val; omega

theorem covered (y : S16384x2048.Idx) : ∃ t : Fin cfg0.N, (cfg0.win 5).flush t = true ∧ y ∈ ((cfg0.win 5).blk t).view.set := by
  refine ⟨pointOf y, flush0_5 _, ?_⟩
  have h := ((cfg0.win 5).blk (pointOf y)).view.emb_mem_set (ix2 ⟨(y 0).val % 2048, by omega⟩ ⟨(y 1).val % 256, by omega⟩)
  rw [emb5 (pointOf y) ⟨(y 0).val % 2048, by omega⟩ ⟨(y 1).val % 256, by omega⟩, at_pointOf] at h
  exact h

/-- The result array after the run. -/
theorem final : (dats m 0 c).arrAt 5 cfg0.N = outArr m c :=
  (dats m 0 c).arrAt_eq_of_cover 5 _ (fun t _ => flushed_eq m c t) covered

end Cert.ConvIdeal.Hand

end
-- ==== Proof.ConvRef.lean ====
/-
  The reference convolution's result read at an index.
-/
module

public import proofs.«01_k».proof.Proof.Gen.ReferenceConvIdeal.Read
public import proofs.«01_k».proof.Proof.ConvSpec

@[expose] public section

set_option maxRecDepth 16384

noncomputable section

namespace Cert.ReferenceConvIdeal.Hand

open Idealize.ShloMosaic Idealize.ShloMosaic.TcCoe
open Cert.ReferenceConvIdeal Cert.ReferenceConvIdeal.Gen Cert.ReferenceConvIdeal.Read
open Cert.Cnv (row col proj gated lag value)

variable (x0 : FVec Ideal S16384x2048 .bf16) (x1 : FVec Ideal S2048x6144 .f32) (x2 : FVec Ideal S3x2048 .f32)
  (b : Fin 8) (s : Fin 2048) (d : Fin 2048)

theorem rows_apply (k : Fin 2048) : val_main_v1 (F := Ideal) x0 (ix3 b s k) = x0 (ix2 (row b s) k) := by
  rw [val_main_v1_apply, val_main_v0_apply]
  refine congrArg x0 (funext fun a => Fin.ext ?_)
  match a with
  | 0 => show ((b.val * 2048 + s.val) * 2048 + k.val) / 2048 = b.val * 2048 + s.val; omega
  | 1 => show ((b.val * 2048 + s.val) * 2048 + k.val) % 2048 = k.val; omega

theorem proj_apply (n : Fin 6144) : val_main_v2 (F := Ideal) x0 x1 (ix3 b s n) = proj x0 x1 b s n := by
  rw [val_main_v2_apply]
  refine Finset.sum_congr rfl fun k _ => ?_
  rw [show lidx_main_v2 (ix3 b s n) k = ix3 b s k from funext fun a => match a with | 0 => rfl | 1 => rfl | 2 => rfl,
    show ridx_main_v2 (ix3 b s n) k = ix2 k n from funext fun a => match a with | 0 => rfl | 1 => rfl, rows_apply]

theorem gate_apply : val_main_v3 (F := Ideal) x0 x1 (ix3 b s d) = proj x0 x1 b s (col 0 d) := by
  rw [val_main_v3_apply, ← proj_apply]
  refine congrArg (val_main_v2 (F := Ideal) x0 x1) (funext fun a => Fin.ext ?_)
  match a with
  | 0 => rfl
  | 1 => rfl
  | 2 => show d.val = 0 * 2048 + d.val; omega

theorem second_apply : val_main_v4 (F := Ideal) x0 x1 (ix3 b s d) = proj x0 x1 b s (col 1 d) := by
  rw [val_main_v4_apply, ← proj_apply]
  refine congrArg (val_main_v2 (F := Ideal) x0 x1) (funext fun a => Fin.ext ?_)
  match a with
  | 0 => rfl
  | 1 => rfl
  | 2 => show 2048 + d.val = 1 * 2048 + d.val; omega

theorem third_apply : val_main_v5 (F := Ideal) x0 x1 (ix3 b s d) = proj x0 x1 b s (col 2 d) := by
  rw [val_main_v5_apply, ← proj_apply]
  refine congrArg (val_main_v2 (F := Ideal) x0 x1) (funext fun a => Fin.ext ?_)
  match a with
  | 0 => rfl
  | 1 => rfl
  | 2 => show 4096 + d.val = 2 * 2048 + d.val; omega

theorem gated_apply : val_main_v7 (F := Ideal) x0 x1 (ix3 b s d) = gated x0 x1 b s d := by
  rw [val_main_v7_apply, second_apply, third_apply]
  rfl

/-- The input with two rows of zeros ahead, `2 - k` rows on. -/
theorem padded_apply (k : ℕ) (hk : k ≤ 2) (p : Fin 2050) (hp : p.val = s.val + (2 - k)) :
    val_main_v8 (F := Ideal) x0 x1 (ix3 b p d) = lag x0 x1 b s d k := by
  unfold val_main_v8 lag
  by_cases h : k ≤ s.val
  · rw [if_pos h, ← gated_apply]
    refine concatenate_pair_apply_right (s₁ := S8x2x2048) (s₂ := S8x2048x2048) 1 _ _ _ (ix3 b p d) rfl rfl (ix3 b ⟨s.val - k, _⟩ d) (fun a ha => ?_) ?_
    · match a with
      | 0 => rfl
      | 1 => exact absurd rfl ha
      | 2 => rfl
    · show s.val - k + 2 = p.val; omega
  · rw [if_neg h]
    refine (concatenate_pair_apply_left (s₁ := S8x2x2048) (s₂ := S8x2048x2048) 1 _ _ _ (ix3 b p d) rfl (ix3 b ⟨p.val, by omega⟩ d) (fun a => ?_)).trans ?_
    · match a with
      | 0 => rfl
      | 1 => rfl
      | 2 => rfl
    · rw [val_main_v6_apply, val_main_cst_apply]
      exact Cert.Ffw.bits_zero

theorem lag2_apply : val_main_v11 (F := Ideal) x0 x1 (ix3 b s d) = lag x0 x1 b s d 2 := by
  rw [val_main_v11_apply, ← padded_apply x0 x1 b s d 2 (by omega) ⟨s.val, by omega⟩ rfl]
  exact congrArg (val_main_v8 (F := Ideal) x0 x1) (funext fun a => match a with | 0 => rfl | 1 => rfl | 2 => rfl)

theorem lag1_apply : val_main_v17 (F := Ideal) x0 x1 (ix3 b s d) = lag x0 x1 b s d 1 := by
  rw [val_main_v17_apply, ← padded_apply x0 x1 b s d 1 (by omega) ⟨s.val + 1, by omega⟩ rfl]
  refine congrArg (val_main_v8 (F := Ideal) x0 x1) (funext fun a => Fin.ext ?_)
  match a with
  | 0 => rfl
  | 1 => show 1 + s.val = s.val + 1; omega
  | 2 => rfl

theorem lag0_apply : val_main_v24 (F := Ideal) x0 x1 (ix3 b s d) = lag x0 x1 b s d 0 := by
  rw [val_main_v24_apply, ← padded_apply x0 x1 b s d 0 (by omega) ⟨s.val + 2, by omega⟩ rfl]
  refine congrArg (val_main_v8 (F := Ideal) x0 x1) (funext fun a => Fin.ext ?_)
  match a with
  | 0 => rfl
  | 1 => show 2 + s.val = s.val + 2; omega
  | 2 => rfl

theorem tap0_apply : val_main_v13 (F := Ideal) x2 (ix3 b s d) = x2 (ix2 0 d) := by
  rw [val_main_v13_apply, val_main_v12_apply, val_main_v10_apply, val_main_v9_apply]
  refine congrArg x2 (funext fun a => Fin.ext ?_)
  match a with
  | 0 => rfl
  | 1 => show d.val % 2048 = d.val; omega

theorem tap1_apply : val_main_v19 (F := Ideal) x2 (ix3 b s d) = x2 (ix2 1 d) := by
  rw [val_main_v19_apply, val_main_v18_apply, val_main_v16_apply, val_main_v15_apply]
  refine congrArg x2 (funext fun a => Fin.ext ?_)
  match a with
  | 0 => rfl
  | 1 => show d.val % 2048 = d.val; omega

theorem tap2_apply : val_main_v26 (F := Ideal) x2 (ix3 b s d) = x2 (ix2 2 d) := by
  rw [val_main_v26_apply, val_main_v25_apply, val_main_v23_apply, val_main_v22_apply]
  refine congrArg x2 (funext fun a => Fin.ext ?_)
  match a with
  | 0 => rfl
  | 1 => show d.val % 2048 = d.val; omega

theorem result (r : Fin 16384) : val_main_v31 (F := Ideal) x0 x1 x2 (ix2 r d)
    = value x0 x1 x2 ⟨r.val / 2048, by omega⟩ ⟨r.val % 2048, by omega⟩ d := by
  rw [val_main_v31_apply, val_main_v30_apply]
  have e : idx_main_v30 (ix2 r d) = ix3 ⟨r.val / 2048, by omega⟩ ⟨r.val % 2048, by omega⟩ d := by
    funext a
    apply Fin.ext
    match a with
    | 0 => show (r.val * 2048 + d.val) / 4194304 = r.val / 2048; omega
    | 1 => show (r.val * 2048 + d.val) / 2048 % 2048 = r.val % 2048; omega
    | 2 => show (r.val * 2048 + d.val) % 2048 = d.val; omega
  rw [e, val_main_v29_apply, val_main_v28_apply, val_main_v21_apply, val_main_v14_apply, val_main_v20_apply, val_main_v27_apply,
    gate_apply, tap0_apply, tap1_apply, tap2_apply, lag0_apply, lag1_apply, lag2_apply]
  rfl

end Cert.ReferenceConvIdeal.Hand

end
-- ==== Proof.ConvAlg.lean ====
/-
  The short convolution's value claim: the kernel's array and the reference's are the same.
-/
module

public import proofs.«01_k».proof.Defs
public import proofs.«01_k».proof.Proof.ConvFrames
public import proofs.«01_k».proof.Proof.ConvKer
public import proofs.«01_k».proof.Proof.ConvRef

@[expose] public section

noncomputable section

namespace Cert.Proof

open Idealize.ShloMosaic Idealize.ShloMosaic.TcCoe Idealize.SL.Sem

theorem algebraic_conv : Cert.algebraic_ConvIdeal_ReferenceConvIdeal := by
  intro m g m' g' _ hargs
  refine ⟨Cert.ConvIdeal.Hand.outArr m, ?_, ?_⟩
  · refine (θ_run Cert.ConvIdeal.defs _ _).mono (fun r h c => ?_)
      (θ_run_and (Cert.ConvIdeal.Gen.frame m g) (Cert.ConvIdeal.Gen.run_main m g))
    exact ⟨((h.2 c).1 5).trans (Cert.ConvIdeal.Hand.final m c), h.1.1 c⟩
  · refine (θ_run Cert.ReferenceConvIdeal.defs _ _).mono (fun r h c => ?_) (Cert.ReferenceConvIdeal.Value.run (F := Ideal) m' g')
    obtain ⟨hv, hk⟩ := h c
    obtain ⟨e0, e1, e2⟩ := hargs c
    refine ⟨hv.trans ?_, hk⟩
    refine (Cert.ReferenceConvIdeal.Read.val_main_v31_eq _ _).trans ?_
    rw [e0, e1, e2]
    funext y
    refine (congrArg _ (?_ : y = ix2 (y 0) (y 1))).trans (Cert.ReferenceConvIdeal.Hand.result _ _ _ (y 1) (y 0))
    exact funext fun a => match a with | 0 => rfl | 1 => rfl

end Cert.Proof

end
-- ==== Proof.lean ====
module

public import proofs.«01_k».proof.Defs
public import proofs.«01_k».proof.Proof.Frames
public import proofs.«01_k».proof.Proof.KV
public import proofs.«01_k».proof.Proof.Alg
public import proofs.«01_k».proof.Proof.FfnFrames
public import proofs.«01_k».proof.Proof.FfnAlg
public import proofs.«01_k».proof.Proof.ExpertFrames
public import proofs.«01_k».proof.Proof.ExpertsAlg
public import proofs.«01_k».proof.Proof.TailFrames
public import proofs.«01_k».proof.Proof.TailsAlg
public import proofs.«01_k».proof.Proof.ConvFrames
public import proofs.«01_k».proof.Proof.ConvAlg

@[expose] public section

noncomputable section

namespace Cert.Proof

theorem claim : Cert.Claim :=
  ⟨Cert.Kernel.Gen.facts, Cert.KernelIdeal.Gen.facts, Cert.ReferenceIdeal.Gen.facts,
    Cert.Ffn.Gen.facts, Cert.FfnIdeal.Gen.facts, Cert.ReferenceFfnIdeal.Gen.facts,
    Cert.Experts.Gen.facts, Cert.ExpertsIdeal.Gen.facts, Cert.ReferenceExpertsIdeal.Gen.facts,
    Cert.Tails.Gen.facts, Cert.TailsIdeal.Gen.facts, Cert.ReferenceTailsIdeal.Gen.facts,
    Cert.Conv.Gen.facts, Cert.ConvIdeal.Gen.facts, Cert.ReferenceConvIdeal.Gen.facts,
    Cert.Pre_finite_q_k.facts, Cert.Pre_tables_in_range.Gen.facts, Cert.Pre_tails_in_range.Gen.facts,
    frame_p, frame_pi, fun m g _ => frame_pi m g trivial, frame_ri, fun m g _ => frame_ri m g trivial,
    frame_pf, frame_pfi, frame_rfi, frame_pe, frame_pei, frame_rei, fun m g _ => frame_rei m g trivial,
    frame_pt, frame_pti, frame_rti, fun m g _ => frame_rti m g trivial,
    frame_pc, frame_pci, frame_rci,
    preserves, algebraic, trivial, algebraic_ffn, trivial, algebraic_experts, trivial, algebraic_tails, trivial, algebraic_conv⟩

end Cert.Proof

end
